-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_FfnFinal (m : (ℓ : Loc Cert.FfnFinal.nD Cert.FfnFinal.τ Cert.FfnFinal.sig) → Buf (Elt Bits) ℓ) : Prop :=
  True

def Pre_FfnFinalIdeal (m : (ℓ : Loc Cert.FfnFinalIdeal.nD Cert.FfnFinalIdeal.τ Cert.FfnFinalIdeal.sig) → Buf (Elt Ideal) ℓ) : Prop :=
  True

def Pre_FfnFinalRefIdeal (m : (ℓ : Loc Cert.FfnFinalRefIdeal.nD Cert.FfnFinalRefIdeal.τ Cert.FfnFinalRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnRefIdeal (m : (ℓ : Loc Cert.XattnRefIdeal.nD Cert.XattnRefIdeal.τ Cert.XattnRefIdeal.sig) → Buf (Elt Ideal) ℓ) : Prop :=
  True

def Pre_MixXattn (m : (ℓ : Loc Cert.MixXattn.nD Cert.MixXattn.τ Cert.MixXattn.sig) → Buf (Elt Bits) ℓ) : Prop :=
  True

def Pre_MixXattnIdeal (m : (ℓ : Loc Cert.MixXattnIdeal.nD Cert.MixXattnIdeal.τ Cert.MixXattnIdeal.sig) → Buf (Elt Ideal) ℓ) : Prop :=
  True

def Pre_MixXattnRefIdeal (m : (ℓ : Loc Cert.MixXattnRefIdeal.nD Cert.MixXattnRefIdeal.τ Cert.MixXattnRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_FfnFinal [hFfnFinal : Cert.FfnFinal.Facts] : Prop :=
  ∀ (m : (ℓ : Loc Cert.FfnFinal.nD Cert.FfnFinal.τ Cert.FfnFinal.sig) → Buf (Elt Bits) ℓ) (g : Dev Cert.FfnFinal.nD → PrngReg), Pre_FfnFinal m →
    θ_run (Cert.FfnFinal.defs (F := Bits)) (onTc (τ := Cert.FfnFinal.τ) (Cert.FfnFinal.main (F := Bits))) ⟨m, fun _ => 0, g⟩ (fun r => (∀ c : Dev Cert.FfnFinal.nD,
      r.2.mem ((c.tc : Thread Cert.FfnFinal.nD Cert.FfnFinal.τ).loc Cert.FfnFinal.main_arg0) = m ((c.tc : Thread Cert.FfnFinal.nD Cert.FfnFinal.τ).loc Cert.FfnFinal.main_arg0)
      ∧ r.2.mem ((c.tc : Thread Cert.FfnFinal.nD Cert.FfnFinal.τ).loc Cert.FfnFinal.main_arg1) = m ((c.tc : Thread Cert.FfnFinal.nD Cert.FfnFinal.τ).loc Cert.FfnFinal.main_arg1)
      ∧ r.2.mem ((c.tc : Thread Cert.FfnFinal.nD Cert.FfnFinal.τ).loc Cert.FfnFinal.main_arg2) = m ((c.tc : Thread Cert.FfnFinal.nD Cert.FfnFinal.τ).loc Cert.FfnFinal.main_arg2)
      ∧ r.2.mem ((c.tc : Thread Cert.FfnFinal.nD Cert.FfnFinal.τ).loc Cert.FfnFinal.main_arg3) = m ((c.tc : Thread Cert.FfnFinal.nD Cert.FfnFinal.τ).loc Cert.FfnFinal.main_arg3)
      ∧ r.2.mem ((c.tc : Thread Cert.FfnFinal.nD Cert.FfnFinal.τ).loc Cert.FfnFinal.main_arg4) = m ((c.tc : Thread Cert.FfnFinal.nD Cert.FfnFinal.τ).loc Cert.FfnFinal.main_arg4))
      ∧ r.2.sem = fun _ => 0)

def quiescent_FfnFinalIdeal [hFfnFinalIdeal : Cert.FfnFinalIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg), Pre_FfnFinalIdeal m →
    θ_run (Cert.FfnFinalIdeal.defs (F := Ideal)) (onTc (τ := Cert.FfnFinalIdeal.τ) (Cert.FfnFinalIdeal.main (F := Ideal))) ⟨m, fun _ => 0, g⟩ (fun r => (∀ c : Dev Cert.FfnFinalIdeal.nD,
      r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
      ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
      ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
      ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
      ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4))
      ∧ r.2.sem = fun _ => 0)

def quiescent_FfnFinalRefIdeal [hFfnFinalRefIdeal : Cert.FfnFinalRefIdeal.Facts] : Prop :=
  ∀ (m : (ℓ : Loc Cert.FfnFinalRefIdeal.nD Cert.FfnFinalRefIdeal.τ Cert.FfnFinalRefIdeal.sig) → Buf (Elt Ideal) ℓ) (g : Dev Cert.FfnFinalRefIdeal.nD → PrngReg), Pre_FfnFinalRefIdeal m →
    θ_run (Cert.FfnFinalRefIdeal.defs (F := Ideal)) (onTc (τ := Cert.FfnFinalRefIdeal.τ) (Cert.FfnFinalRefIdeal.main (F := Ideal))) ⟨m, fun _ => 0, g⟩ (fun r => (∀ c : Dev Cert.FfnFinalRefIdeal.nD,
      r.2.mem ((c.tc : Thread Cert.FfnFinalRefIdeal.nD Cert.FfnFinalRefIdeal.τ).loc Cert.FfnFinalRefIdeal.main_arg0) = m ((c.tc : Thread Cert.FfnFinalRefIdeal.nD Cert.FfnFinalRefIdeal.τ).loc Cert.FfnFinalRefIdeal.main_arg0)
      ∧ r.2.mem ((c.tc : Thread Cert.FfnFinalRefIdeal.nD Cert.FfnFinalRefIdeal.τ).loc Cert.FfnFinalRefIdeal.main_arg1) = m ((c.tc : Thread Cert.FfnFinalRefIdeal.nD Cert.FfnFinalRefIdeal.τ).loc Cert.FfnFinalRefIdeal.main_arg1)
      ∧ r.2.mem ((c.tc : Thread Cert.FfnFinalRefIdeal.nD Cert.FfnFinalRefIdeal.τ).loc Cert.FfnFinalRefIdeal.main_arg2) = m ((c.tc : Thread Cert.FfnFinalRefIdeal.nD Cert.FfnFinalRefIdeal.τ).loc Cert.FfnFinalRefIdeal.main_arg2)
      ∧ r.2.mem ((c.tc : Thread Cert.FfnFinalRefIdeal.nD Cert.FfnFinalRefIdeal.τ).loc Cert.FfnFinalRefIdeal.main_arg3) = m ((c.tc : Thread Cert.FfnFinalRefIdeal.nD Cert.FfnFinalRefIdeal.τ).loc Cert.FfnFinalRefIdeal.main_arg3)
      ∧ r.2.mem ((c.tc : Thread Cert.FfnFinalRefIdeal.nD Cert.FfnFinalRefIdeal.τ).loc Cert.FfnFinalRefIdeal.main_arg4) = m ((c.tc : Thread Cert.FfnFinalRefIdeal.nD Cert.FfnFinalRefIdeal.τ).loc Cert.FfnFinalRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2)
      ∧ r.2.mem ((c.tc : Thread Cert.Xattn.nD Cert.Xattn.τ).loc Cert.Xattn.main_arg3) = m ((c.tc : Thread Cert.Xattn.nD Cert.Xattn.τ).loc Cert.Xattn.main_arg3)
      ∧ r.2.mem ((c.tc : Thread Cert.Xattn.nD Cert.Xattn.τ).loc Cert.Xattn.main_arg4) = m ((c.tc : Thread Cert.Xattn.nD Cert.Xattn.τ).loc Cert.Xattn.main_arg4)
      ∧ r.2.mem ((c.tc : Thread Cert.Xattn.nD Cert.Xattn.τ).loc Cert.Xattn.main_arg5) = m ((c.tc : Thread Cert.Xattn.nD Cert.Xattn.τ).loc Cert.Xattn.main_arg5))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
      ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4)
      ∧ r.2.mem ((c.tc : Thread Cert.XattnRefIdeal.nD Cert.XattnRefIdeal.τ).loc Cert.XattnRefIdeal.main_arg5) = m ((c.tc : Thread Cert.XattnRefIdeal.nD Cert.XattnRefIdeal.τ).loc Cert.XattnRefIdeal.main_arg5))
      ∧ r.2.sem = fun _ => 0)

def quiescent_MixXattn [hMixXattn : Cert.MixXattn.Facts] : Prop :=
  ∀ (m : (ℓ : Loc Cert.MixXattn.nD Cert.MixXattn.τ Cert.MixXattn.sig) → Buf (Elt Bits) ℓ) (g : Dev Cert.MixXattn.nD → PrngReg), Pre_MixXattn m →
    θ_run (Cert.MixXattn.defs (F := Bits)) (onTc (τ := Cert.MixXattn.τ) (Cert.MixXattn.main (F := Bits))) ⟨m, fun _ => 0, g⟩ (fun r => (∀ c : Dev Cert.MixXattn.nD,
      r.2.mem ((c.tc : Thread Cert.MixXattn.nD Cert.MixXattn.τ).loc Cert.MixXattn.main_arg0) = m ((c.tc : Thread Cert.MixXattn.nD Cert.MixXattn.τ).loc Cert.MixXattn.main_arg0)
      ∧ r.2.mem ((c.tc : Thread Cert.MixXattn.nD Cert.MixXattn.τ).loc Cert.MixXattn.main_arg1) = m ((c.tc : Thread Cert.MixXattn.nD Cert.MixXattn.τ).loc Cert.MixXattn.main_arg1)
      ∧ r.2.mem ((c.tc : Thread Cert.MixXattn.nD Cert.MixXattn.τ).loc Cert.MixXattn.main_arg2) = m ((c.tc : Thread Cert.MixXattn.nD Cert.MixXattn.τ).loc Cert.MixXattn.main_arg2)
      ∧ r.2.mem ((c.tc : Thread Cert.MixXattn.nD Cert.MixXattn.τ).loc Cert.MixXattn.main_arg3) = m ((c.tc : Thread Cert.MixXattn.nD Cert.MixXattn.τ).loc Cert.MixXattn.main_arg3)
      ∧ r.2.mem ((c.tc : Thread Cert.MixXattn.nD Cert.MixXattn.τ).loc Cert.MixXattn.main_arg4) = m ((c.tc : Thread Cert.MixXattn.nD Cert.MixXattn.τ).loc Cert.MixXattn.main_arg4)
      ∧ r.2.mem ((c.tc : Thread Cert.MixXattn.nD Cert.MixXattn.τ).loc Cert.MixXattn.main_arg5) = m ((c.tc : Thread Cert.MixXattn.nD Cert.MixXattn.τ).loc Cert.MixXattn.main_arg5)
      ∧ r.2.mem ((c.tc : Thread Cert.MixXattn.nD Cert.MixXattn.τ).loc Cert.MixXattn.main_arg6) = m ((c.tc : Thread Cert.MixXattn.nD Cert.MixXattn.τ).loc Cert.MixXattn.main_arg6)
      ∧ r.2.mem ((c.tc : Thread Cert.MixXattn.nD Cert.MixXattn.τ).loc Cert.MixXattn.main_arg7) = m ((c.tc : Thread Cert.MixXattn.nD Cert.MixXattn.τ).loc Cert.MixXattn.main_arg7)
      ∧ r.2.mem ((c.tc : Thread Cert.MixXattn.nD Cert.MixXattn.τ).loc Cert.MixXattn.main_arg8) = m ((c.tc : Thread Cert.MixXattn.nD Cert.MixXattn.τ).loc Cert.MixXattn.main_arg8))
      ∧ r.2.sem = fun _ => 0)

def quiescent_MixXattnIdeal [hMixXattnIdeal : Cert.MixXattnIdeal.Facts] : Prop :=
  ∀ (m : (ℓ : Loc Cert.MixXattnIdeal.nD Cert.MixXattnIdeal.τ Cert.MixXattnIdeal.sig) → Buf (Elt Ideal) ℓ) (g : Dev Cert.MixXattnIdeal.nD → PrngReg), Pre_MixXattnIdeal m →
    θ_run (Cert.MixXattnIdeal.defs (F := Ideal)) (onTc (τ := Cert.MixXattnIdeal.τ) (Cert.MixXattnIdeal.main (F := Ideal))) ⟨m, fun _ => 0, g⟩ (fun r => (∀ c : Dev Cert.MixXattnIdeal.nD,
      r.2.mem ((c.tc : Thread Cert.MixXattnIdeal.nD Cert.MixXattnIdeal.τ).loc Cert.MixXattnIdeal.main_arg0) = m ((c.tc : Thread Cert.MixXattnIdeal.nD Cert.MixXattnIdeal.τ).loc Cert.MixXattnIdeal.main_arg0)
      ∧ r.2.mem ((c.tc : Thread Cert.MixXattnIdeal.nD Cert.MixXattnIdeal.τ).loc Cert.MixXattnIdeal.main_arg1) = m ((c.tc : Thread Cert.MixXattnIdeal.nD Cert.MixXattnIdeal.τ).loc Cert.MixXattnIdeal.main_arg1)
      ∧ r.2.mem ((c.tc : Thread Cert.MixXattnIdeal.nD Cert.MixXattnIdeal.τ).loc Cert.MixXattnIdeal.main_arg2) = m ((c.tc : Thread Cert.MixXattnIdeal.nD Cert.MixXattnIdeal.τ).loc Cert.MixXattnIdeal.main_arg2)
      ∧ r.2.mem ((c.tc : Thread Cert.MixXattnIdeal.nD Cert.MixXattnIdeal.τ).loc Cert.MixXattnIdeal.main_arg3) = m ((c.tc : Thread Cert.MixXattnIdeal.nD Cert.MixXattnIdeal.τ).loc Cert.MixXattnIdeal.main_arg3)
      ∧ r.2.mem ((c.tc : Thread Cert.MixXattnIdeal.nD Cert.MixXattnIdeal.τ).loc Cert.MixXattnIdeal.main_arg4) = m ((c.tc : Thread Cert.MixXattnIdeal.nD Cert.MixXattnIdeal.τ).loc Cert.MixXattnIdeal.main_arg4)
      ∧ r.2.mem ((c.tc : Thread Cert.MixXattnIdeal.nD Cert.MixXattnIdeal.τ).loc Cert.MixXattnIdeal.main_arg5) = m ((c.tc : Thread Cert.MixXattnIdeal.nD Cert.MixXattnIdeal.τ).loc Cert.MixXattnIdeal.main_arg5)
      ∧ r.2.mem ((c.tc : Thread Cert.MixXattnIdeal.nD Cert.MixXattnIdeal.τ).loc Cert.MixXattnIdeal.main_arg6) = m ((c.tc : Thread Cert.MixXattnIdeal.nD Cert.MixXattnIdeal.τ).loc Cert.MixXattnIdeal.main_arg6)
      ∧ r.2.mem ((c.tc : Thread Cert.MixXattnIdeal.nD Cert.MixXattnIdeal.τ).loc Cert.MixXattnIdeal.main_arg7) = m ((c.tc : Thread Cert.MixXattnIdeal.nD Cert.MixXattnIdeal.τ).loc Cert.MixXattnIdeal.main_arg7)
      ∧ r.2.mem ((c.tc : Thread Cert.MixXattnIdeal.nD Cert.MixXattnIdeal.τ).loc Cert.MixXattnIdeal.main_arg8) = m ((c.tc : Thread Cert.MixXattnIdeal.nD Cert.MixXattnIdeal.τ).loc Cert.MixXattnIdeal.main_arg8))
      ∧ r.2.sem = fun _ => 0)

def quiescent_MixXattnRefIdeal [hMixXattnRefIdeal : Cert.MixXattnRefIdeal.Facts] : Prop :=
  ∀ (m : (ℓ : Loc Cert.MixXattnRefIdeal.nD Cert.MixXattnRefIdeal.τ Cert.MixXattnRefIdeal.sig) → Buf (Elt Ideal) ℓ) (g : Dev Cert.MixXattnRefIdeal.nD → PrngReg), Pre_MixXattnRefIdeal m →
    θ_run (Cert.MixXattnRefIdeal.defs (F := Ideal)) (onTc (τ := Cert.MixXattnRefIdeal.τ) (Cert.MixXattnRefIdeal.main (F := Ideal))) ⟨m, fun _ => 0, g⟩ (fun r => (∀ c : Dev Cert.MixXattnRefIdeal.nD,
      r.2.mem ((c.tc : Thread Cert.MixXattnRefIdeal.nD Cert.MixXattnRefIdeal.τ).loc Cert.MixXattnRefIdeal.main_arg0) = m ((c.tc : Thread Cert.MixXattnRefIdeal.nD Cert.MixXattnRefIdeal.τ).loc Cert.MixXattnRefIdeal.main_arg0)
      ∧ r.2.mem ((c.tc : Thread Cert.MixXattnRefIdeal.nD Cert.MixXattnRefIdeal.τ).loc Cert.MixXattnRefIdeal.main_arg1) = m ((c.tc : Thread Cert.MixXattnRefIdeal.nD Cert.MixXattnRefIdeal.τ).loc Cert.MixXattnRefIdeal.main_arg1)
      ∧ r.2.mem ((c.tc : Thread Cert.MixXattnRefIdeal.nD Cert.MixXattnRefIdeal.τ).loc Cert.MixXattnRefIdeal.main_arg2) = m ((c.tc : Thread Cert.MixXattnRefIdeal.nD Cert.MixXattnRefIdeal.τ).loc Cert.MixXattnRefIdeal.main_arg2)
      ∧ r.2.mem ((c.tc : Thread Cert.MixXattnRefIdeal.nD Cert.MixXattnRefIdeal.τ).loc Cert.MixXattnRefIdeal.main_arg3) = m ((c.tc : Thread Cert.MixXattnRefIdeal.nD Cert.MixXattnRefIdeal.τ).loc Cert.MixXattnRefIdeal.main_arg3)
      ∧ r.2.mem ((c.tc : Thread Cert.MixXattnRefIdeal.nD Cert.MixXattnRefIdeal.τ).loc Cert.MixXattnRefIdeal.main_arg4) = m ((c.tc : Thread Cert.MixXattnRefIdeal.nD Cert.MixXattnRefIdeal.τ).loc Cert.MixXattnRefIdeal.main_arg4)
      ∧ r.2.mem ((c.tc : Thread Cert.MixXattnRefIdeal.nD Cert.MixXattnRefIdeal.τ).loc Cert.MixXattnRefIdeal.main_arg5) = m ((c.tc : Thread Cert.MixXattnRefIdeal.nD Cert.MixXattnRefIdeal.τ).loc Cert.MixXattnRefIdeal.main_arg5)
      ∧ r.2.mem ((c.tc : Thread Cert.MixXattnRefIdeal.nD Cert.MixXattnRefIdeal.τ).loc Cert.MixXattnRefIdeal.main_arg6) = m ((c.tc : Thread Cert.MixXattnRefIdeal.nD Cert.MixXattnRefIdeal.τ).loc Cert.MixXattnRefIdeal.main_arg6)
      ∧ r.2.mem ((c.tc : Thread Cert.MixXattnRefIdeal.nD Cert.MixXattnRefIdeal.τ).loc Cert.MixXattnRefIdeal.main_arg7) = m ((c.tc : Thread Cert.MixXattnRefIdeal.nD Cert.MixXattnRefIdeal.τ).loc Cert.MixXattnRefIdeal.main_arg7)
      ∧ r.2.mem ((c.tc : Thread Cert.MixXattnRefIdeal.nD Cert.MixXattnRefIdeal.τ).loc Cert.MixXattnRefIdeal.main_arg8) = m ((c.tc : Thread Cert.MixXattnRefIdeal.nD Cert.MixXattnRefIdeal.τ).loc Cert.MixXattnRefIdeal.main_arg8))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6)
      ∧ r.2.mem ((c.tc : Thread Cert.Conv.nD Cert.Conv.τ).loc Cert.Conv.main_arg7) = m ((c.tc : Thread Cert.Conv.nD Cert.Conv.τ).loc Cert.Conv.main_arg7)
      ∧ r.2.mem ((c.tc : Thread Cert.Conv.nD Cert.Conv.τ).loc Cert.Conv.main_arg8) = m ((c.tc : Thread Cert.Conv.nD Cert.Conv.τ).loc Cert.Conv.main_arg8)
      ∧ r.2.mem ((c.tc : Thread Cert.Conv.nD Cert.Conv.τ).loc Cert.Conv.main_arg9) = m ((c.tc : Thread Cert.Conv.nD Cert.Conv.τ).loc Cert.Conv.main_arg9))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
      ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
      ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8)
      ∧ r.2.mem ((c.tc : Thread Cert.ConvIdeal.nD Cert.ConvIdeal.τ).loc Cert.ConvIdeal.main_arg9) = m ((c.tc : Thread Cert.ConvIdeal.nD Cert.ConvIdeal.τ).loc Cert.ConvIdeal.main_arg9))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6)
      ∧ r.2.mem ((c.tc : Thread Cert.ConvRefIdeal.nD Cert.ConvRefIdeal.τ).loc Cert.ConvRefIdeal.main_arg7) = m ((c.tc : Thread Cert.ConvRefIdeal.nD Cert.ConvRefIdeal.τ).loc Cert.ConvRefIdeal.main_arg7)
      ∧ r.2.mem ((c.tc : Thread Cert.ConvRefIdeal.nD Cert.ConvRefIdeal.τ).loc Cert.ConvRefIdeal.main_arg8) = m ((c.tc : Thread Cert.ConvRefIdeal.nD Cert.ConvRefIdeal.τ).loc Cert.ConvRefIdeal.main_arg8)
      ∧ r.2.mem ((c.tc : Thread Cert.ConvRefIdeal.nD Cert.ConvRefIdeal.τ).loc Cert.ConvRefIdeal.main_arg9) = m ((c.tc : Thread Cert.ConvRefIdeal.nD Cert.ConvRefIdeal.τ).loc Cert.ConvRefIdeal.main_arg9))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2)
      ∧ r.2.mem ((c.tc : Thread Cert.EvenIn.nD Cert.EvenIn.τ).loc Cert.EvenIn.main_arg3) = m ((c.tc : Thread Cert.EvenIn.nD Cert.EvenIn.τ).loc Cert.EvenIn.main_arg3)
      ∧ r.2.mem ((c.tc : Thread Cert.EvenIn.nD Cert.EvenIn.τ).loc Cert.EvenIn.main_arg4) = m ((c.tc : Thread Cert.EvenIn.nD Cert.EvenIn.τ).loc Cert.EvenIn.main_arg4)
      ∧ r.2.mem ((c.tc : Thread Cert.EvenIn.nD Cert.EvenIn.τ).loc Cert.EvenIn.main_arg5) = m ((c.tc : Thread Cert.EvenIn.nD Cert.EvenIn.τ).loc Cert.EvenIn.main_arg5)
      ∧ r.2.mem ((c.tc : Thread Cert.EvenIn.nD Cert.EvenIn.τ).loc Cert.EvenIn.main_arg6) = m ((c.tc : Thread Cert.EvenIn.nD Cert.EvenIn.τ).loc Cert.EvenIn.main_arg6)
      ∧ r.2.mem ((c.tc : Thread Cert.EvenIn.nD Cert.EvenIn.τ).loc Cert.EvenIn.main_arg7) = m ((c.tc : Thread Cert.EvenIn.nD Cert.EvenIn.τ).loc Cert.EvenIn.main_arg7))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
      ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
      ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4)
      ∧ r.2.mem ((c.tc : Thread Cert.EvenInIdeal.nD Cert.EvenInIdeal.τ).loc Cert.EvenInIdeal.main_arg5) = m ((c.tc : Thread Cert.EvenInIdeal.nD Cert.EvenInIdeal.τ).loc Cert.EvenInIdeal.main_arg5)
      ∧ r.2.mem ((c.tc : Thread Cert.EvenInIdeal.nD Cert.EvenInIdeal.τ).loc Cert.EvenInIdeal.main_arg6) = m ((c.tc : Thread Cert.EvenInIdeal.nD Cert.EvenInIdeal.τ).loc Cert.EvenInIdeal.main_arg6)
      ∧ r.2.mem ((c.tc : Thread Cert.EvenInIdeal.nD Cert.EvenInIdeal.τ).loc Cert.EvenInIdeal.main_arg7) = m ((c.tc : Thread Cert.EvenInIdeal.nD Cert.EvenInIdeal.τ).loc Cert.EvenInIdeal.main_arg7))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2)
      ∧ r.2.mem ((c.tc : Thread Cert.EvenInRefIdeal.nD Cert.EvenInRefIdeal.τ).loc Cert.EvenInRefIdeal.main_arg3) = m ((c.tc : Thread Cert.EvenInRefIdeal.nD Cert.EvenInRefIdeal.τ).loc Cert.EvenInRefIdeal.main_arg3)
      ∧ r.2.mem ((c.tc : Thread Cert.EvenInRefIdeal.nD Cert.EvenInRefIdeal.τ).loc Cert.EvenInRefIdeal.main_arg4) = m ((c.tc : Thread Cert.EvenInRefIdeal.nD Cert.EvenInRefIdeal.τ).loc Cert.EvenInRefIdeal.main_arg4)
      ∧ r.2.mem ((c.tc : Thread Cert.EvenInRefIdeal.nD Cert.EvenInRefIdeal.τ).loc Cert.EvenInRefIdeal.main_arg5) = m ((c.tc : Thread Cert.EvenInRefIdeal.nD Cert.EvenInRefIdeal.τ).loc Cert.EvenInRefIdeal.main_arg5)
      ∧ r.2.mem ((c.tc : Thread Cert.EvenInRefIdeal.nD Cert.EvenInRefIdeal.τ).loc Cert.EvenInRefIdeal.main_arg6) = m ((c.tc : Thread Cert.EvenInRefIdeal.nD Cert.EvenInRefIdeal.τ).loc Cert.EvenInRefIdeal.main_arg6)
      ∧ r.2.mem ((c.tc : Thread Cert.EvenInRefIdeal.nD Cert.EvenInRefIdeal.τ).loc Cert.EvenInRefIdeal.main_arg7) = m ((c.tc : Thread Cert.EvenInRefIdeal.nD Cert.EvenInRefIdeal.τ).loc Cert.EvenInRefIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_FfnFinal_FfnFinalIdeal : Prop :=
  True

def algebraic_FfnFinalIdeal_FfnFinalRefIdeal [hFfnFinalIdeal : Cert.FfnFinalIdeal.Facts] [hFfnFinalRefIdeal : Cert.FfnFinalRefIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg)
    (m' : (ℓ : Loc Cert.FfnFinalRefIdeal.nD Cert.FfnFinalRefIdeal.τ Cert.FfnFinalRefIdeal.sig) → Buf (Elt Ideal) ℓ) (g' : Dev Cert.FfnFinalRefIdeal.nD → PrngReg), Pre_FfnFinalIdeal m →
    (∀ c : Dev Cert.FfnFinalIdeal.nD,
      m' ((c.tc : Thread Cert.FfnFinalRefIdeal.nD Cert.FfnFinalRefIdeal.τ).loc Cert.FfnFinalRefIdeal.main_arg0) = m ((c.tc : Thread Cert.FfnFinalIdeal.nD Cert.FfnFinalIdeal.τ).loc Cert.FfnFinalIdeal.main_arg0)
      ∧ m' ((c.tc : Thread Cert.FfnFinalRefIdeal.nD Cert.FfnFinalRefIdeal.τ).loc Cert.FfnFinalRefIdeal.main_arg1) = m ((c.tc : Thread Cert.FfnFinalIdeal.nD Cert.FfnFinalIdeal.τ).loc Cert.FfnFinalIdeal.main_arg1)
      ∧ m' ((c.tc : Thread Cert.FfnFinalRefIdeal.nD Cert.FfnFinalRefIdeal.τ).loc Cert.FfnFinalRefIdeal.main_arg2) = m ((c.tc : Thread Cert.FfnFinalIdeal.nD Cert.FfnFinalIdeal.τ).loc Cert.FfnFinalIdeal.main_arg2)
      ∧ m' ((c.tc : Thread Cert.FfnFinalRefIdeal.nD Cert.FfnFinalRefIdeal.τ).loc Cert.FfnFinalRefIdeal.main_arg3) = m ((c.tc : Thread Cert.FfnFinalIdeal.nD Cert.FfnFinalIdeal.τ).loc Cert.FfnFinalIdeal.main_arg3)
      ∧ m' ((c.tc : Thread Cert.FfnFinalRefIdeal.nD Cert.FfnFinalRefIdeal.τ).loc Cert.FfnFinalRefIdeal.main_arg4) = m ((c.tc : Thread Cert.FfnFinalIdeal.nD Cert.FfnFinalIdeal.τ).loc Cert.FfnFinalIdeal.main_arg4)) →
    ∃ (v0 : (c : Dev Cert.FfnFinalIdeal.nD) → Buf (Elt Ideal) ((c.tc : Thread Cert.FfnFinalIdeal.nD Cert.FfnFinalIdeal.τ).loc Cert.FfnFinalIdeal.main_v4)),
      θ_run (Cert.FfnFinalIdeal.defs (F := Ideal)) (onTc (τ := Cert.FfnFinalIdeal.τ) (Cert.FfnFinalIdeal.main (F := Ideal))) ⟨m, fun _ => 0, g⟩ (fun r => ∀ c : Dev Cert.FfnFinalIdeal.nD,
          r.2.mem ((c.tc : Thread Cert.FfnFinalIdeal.nD Cert.FfnFinalIdeal.τ).loc Cert.FfnFinalIdeal.main_v4) = v0 c
          ∧ r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
          ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
          ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
          ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
          ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4))
      ∧ θ_run (Cert.FfnFinalRefIdeal.defs (F := Ideal)) (onTc (τ := Cert.FfnFinalRefIdeal.τ) (Cert.FfnFinalRefIdeal.main (F := Ideal))) ⟨m', fun _ => 0, g'⟩ (fun r => ∀ c : Dev Cert.FfnFinalRefIdeal.nD,
          r.2.mem ((c.tc : Thread Cert.FfnFinalRefIdeal.nD Cert.FfnFinalRefIdeal.τ).loc Cert.FfnFinalRefIdeal.main_v32) = v0 c
          ∧ r.2.mem ((c.tc : Thread Cert.FfnFinalRefIdeal.nD Cert.FfnFinalRefIdeal.τ).loc Cert.FfnFinalRefIdeal.main_arg0) = m' ((c.tc : Thread Cert.FfnFinalRefIdeal.nD Cert.FfnFinalRefIdeal.τ).loc Cert.FfnFinalRefIdeal.main_arg0)
          ∧ r.2.mem ((c.tc : Thread Cert.FfnFinalRefIdeal.nD Cert.FfnFinalRefIdeal.τ).loc Cert.FfnFinalRefIdeal.main_arg1) = m' ((c.tc : Thread Cert.FfnFinalRefIdeal.nD Cert.FfnFinalRefIdeal.τ).loc Cert.FfnFinalRefIdeal.main_arg1)
          ∧ r.2.mem ((c.tc : Thread Cert.FfnFinalRefIdeal.nD Cert.FfnFinalRefIdeal.τ).loc Cert.FfnFinalRefIdeal.main_arg2) = m' ((c.tc : Thread Cert.FfnFinalRefIdeal.nD Cert.FfnFinalRefIdeal.τ).loc Cert.FfnFinalRefIdeal.main_arg2)
          ∧ r.2.mem ((c.tc : Thread Cert.FfnFinalRefIdeal.nD Cert.FfnFinalRefIdeal.τ).loc Cert.FfnFinalRefIdeal.main_arg3) = m' ((c.tc : Thread Cert.FfnFinalRefIdeal.nD Cert.FfnFinalRefIdeal.τ).loc Cert.FfnFinalRefIdeal.main_arg3)
          ∧ r.2.mem ((c.tc : Thread Cert.FfnFinalRefIdeal.nD Cert.FfnFinalRefIdeal.τ).loc Cert.FfnFinalRefIdeal.main_arg4) = m' ((c.tc : Thread Cert.FfnFinalRefIdeal.nD Cert.FfnFinalRefIdeal.τ).loc Cert.FfnFinalRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v19) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Xattn_XattnIdeal : Prop :=
  True

def algebraic_XattnIdeal_XattnRefIdeal [hXattnIdeal : Cert.XattnIdeal.Facts] [hXattnRefIdeal : Cert.XattnRefIdeal.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)
      ∧ m' ((c.tc : Thread Cert.XattnRefIdeal.nD Cert.XattnRefIdeal.τ).loc Cert.XattnRefIdeal.main_arg2) = m ((c.tc : Thread Cert.XattnIdeal.nD Cert.XattnIdeal.τ).loc Cert.XattnIdeal.main_arg2)
      ∧ m' ((c.tc : Thread Cert.XattnRefIdeal.nD Cert.XattnRefIdeal.τ).loc Cert.XattnRefIdeal.main_arg3) = m ((c.tc : Thread Cert.XattnIdeal.nD Cert.XattnIdeal.τ).loc Cert.XattnIdeal.main_arg3)
      ∧ m' ((c.tc : Thread Cert.XattnRefIdeal.nD Cert.XattnRefIdeal.τ).loc Cert.XattnRefIdeal.main_arg4) = m ((c.tc : Thread Cert.XattnIdeal.nD Cert.XattnIdeal.τ).loc Cert.XattnIdeal.main_arg4)
      ∧ m' ((c.tc : Thread Cert.XattnRefIdeal.nD Cert.XattnRefIdeal.τ).loc Cert.XattnRefIdeal.main_arg5) = m ((c.tc : Thread Cert.XattnIdeal.nD Cert.XattnIdeal.τ).loc Cert.XattnIdeal.main_arg5)) →
    ∃ (v0 : (c : Dev Cert.XattnIdeal.nD) → Buf (Elt Ideal) ((c.tc : Thread Cert.XattnIdeal.nD Cert.XattnIdeal.τ).loc Cert.XattnIdeal.main_v6)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v6) = v0 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
          ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
          ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
          ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v35) = v0 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2)
          ∧ r.2.mem ((c.tc : Thread Cert.XattnRefIdeal.nD Cert.XattnRefIdeal.τ).loc Cert.XattnRefIdeal.main_arg3) = m' ((c.tc : Thread Cert.XattnRefIdeal.nD Cert.XattnRefIdeal.τ).loc Cert.XattnRefIdeal.main_arg3)
          ∧ r.2.mem ((c.tc : Thread Cert.XattnRefIdeal.nD Cert.XattnRefIdeal.τ).loc Cert.XattnRefIdeal.main_arg4) = m' ((c.tc : Thread Cert.XattnRefIdeal.nD Cert.XattnRefIdeal.τ).loc Cert.XattnRefIdeal.main_arg4)
          ∧ r.2.mem ((c.tc : Thread Cert.XattnRefIdeal.nD Cert.XattnRefIdeal.τ).loc Cert.XattnRefIdeal.main_arg5) = m' ((c.tc : Thread Cert.XattnRefIdeal.nD Cert.XattnRefIdeal.τ).loc Cert.XattnRefIdeal.main_arg5))

def preserves_MixXattn_MixXattnIdeal : Prop :=
  True

def algebraic_MixXattnIdeal_MixXattnRefIdeal [hMixXattnIdeal : Cert.MixXattnIdeal.Facts] [hMixXattnRefIdeal : Cert.MixXattnRefIdeal.Facts] : Prop :=
  ∀ (m : (ℓ : Loc Cert.MixXattnIdeal.nD Cert.MixXattnIdeal.τ Cert.MixXattnIdeal.sig) → Buf (Elt Ideal) ℓ) (g : Dev Cert.MixXattnIdeal.nD → PrngReg)
    (m' : (ℓ : Loc Cert.MixXattnRefIdeal.nD Cert.MixXattnRefIdeal.τ Cert.MixXattnRefIdeal.sig) → Buf (Elt Ideal) ℓ) (g' : Dev Cert.MixXattnRefIdeal.nD → PrngReg), Pre_MixXattnIdeal m →
    (∀ c : Dev Cert.MixXattnIdeal.nD,
      m' ((c.tc : Thread Cert.MixXattnRefIdeal.nD Cert.MixXattnRefIdeal.τ).loc Cert.MixXattnRefIdeal.main_arg0) = m ((c.tc : Thread Cert.MixXattnIdeal.nD Cert.MixXattnIdeal.τ).loc Cert.MixXattnIdeal.main_arg0)
      ∧ m' ((c.tc : Thread Cert.MixXattnRefIdeal.nD Cert.MixXattnRefIdeal.τ).loc Cert.MixXattnRefIdeal.main_arg1) = m ((c.tc : Thread Cert.MixXattnIdeal.nD Cert.MixXattnIdeal.τ).loc Cert.MixXattnIdeal.main_arg1)
      ∧ m' ((c.tc : Thread Cert.MixXattnRefIdeal.nD Cert.MixXattnRefIdeal.τ).loc Cert.MixXattnRefIdeal.main_arg2) = m ((c.tc : Thread Cert.MixXattnIdeal.nD Cert.MixXattnIdeal.τ).loc Cert.MixXattnIdeal.main_arg2)
      ∧ m' ((c.tc : Thread Cert.MixXattnRefIdeal.nD Cert.MixXattnRefIdeal.τ).loc Cert.MixXattnRefIdeal.main_arg3) = m ((c.tc : Thread Cert.MixXattnIdeal.nD Cert.MixXattnIdeal.τ).loc Cert.MixXattnIdeal.main_arg3)
      ∧ m' ((c.tc : Thread Cert.MixXattnRefIdeal.nD Cert.MixXattnRefIdeal.τ).loc Cert.MixXattnRefIdeal.main_arg4) = m ((c.tc : Thread Cert.MixXattnIdeal.nD Cert.MixXattnIdeal.τ).loc Cert.MixXattnIdeal.main_arg4)
      ∧ m' ((c.tc : Thread Cert.MixXattnRefIdeal.nD Cert.MixXattnRefIdeal.τ).loc Cert.MixXattnRefIdeal.main_arg5) = m ((c.tc : Thread Cert.MixXattnIdeal.nD Cert.MixXattnIdeal.τ).loc Cert.MixXattnIdeal.main_arg5)
      ∧ m' ((c.tc : Thread Cert.MixXattnRefIdeal.nD Cert.MixXattnRefIdeal.τ).loc Cert.MixXattnRefIdeal.main_arg6) = m ((c.tc : Thread Cert.MixXattnIdeal.nD Cert.MixXattnIdeal.τ).loc Cert.MixXattnIdeal.main_arg6)
      ∧ m' ((c.tc : Thread Cert.MixXattnRefIdeal.nD Cert.MixXattnRefIdeal.τ).loc Cert.MixXattnRefIdeal.main_arg7) = m ((c.tc : Thread Cert.MixXattnIdeal.nD Cert.MixXattnIdeal.τ).loc Cert.MixXattnIdeal.main_arg7)
      ∧ m' ((c.tc : Thread Cert.MixXattnRefIdeal.nD Cert.MixXattnRefIdeal.τ).loc Cert.MixXattnRefIdeal.main_arg8) = m ((c.tc : Thread Cert.MixXattnIdeal.nD Cert.MixXattnIdeal.τ).loc Cert.MixXattnIdeal.main_arg8)) →
    ∃ (v0 : (c : Dev Cert.MixXattnIdeal.nD) → Buf (Elt Ideal) ((c.tc : Thread Cert.MixXattnIdeal.nD Cert.MixXattnIdeal.τ).loc Cert.MixXattnIdeal.main_v9)),
      θ_run (Cert.MixXattnIdeal.defs (F := Ideal)) (onTc (τ := Cert.MixXattnIdeal.τ) (Cert.MixXattnIdeal.main (F := Ideal))) ⟨m, fun _ => 0, g⟩ (fun r => ∀ c : Dev Cert.MixXattnIdeal.nD,
          r.2.mem ((c.tc : Thread Cert.MixXattnIdeal.nD Cert.MixXattnIdeal.τ).loc Cert.MixXattnIdeal.main_v9) = v0 c
          ∧ r.2.mem ((c.tc : Thread Cert.MixXattnIdeal.nD Cert.MixXattnIdeal.τ).loc Cert.MixXattnIdeal.main_arg0) = m ((c.tc : Thread Cert.MixXattnIdeal.nD Cert.MixXattnIdeal.τ).loc Cert.MixXattnIdeal.main_arg0)
          ∧ r.2.mem ((c.tc : Thread Cert.MixXattnIdeal.nD Cert.MixXattnIdeal.τ).loc Cert.MixXattnIdeal.main_arg1) = m ((c.tc : Thread Cert.MixXattnIdeal.nD Cert.MixXattnIdeal.τ).loc Cert.MixXattnIdeal.main_arg1)
          ∧ r.2.mem ((c.tc : Thread Cert.MixXattnIdeal.nD Cert.MixXattnIdeal.τ).loc Cert.MixXattnIdeal.main_arg2) = m ((c.tc : Thread Cert.MixXattnIdeal.nD Cert.MixXattnIdeal.τ).loc Cert.MixXattnIdeal.main_arg2)
          ∧ r.2.mem ((c.tc : Thread Cert.MixXattnIdeal.nD Cert.MixXattnIdeal.τ).loc Cert.MixXattnIdeal.main_arg3) = m ((c.tc : Thread Cert.MixXattnIdeal.nD Cert.MixXattnIdeal.τ).loc Cert.MixXattnIdeal.main_arg3)
          ∧ r.2.mem ((c.tc : Thread Cert.MixXattnIdeal.nD Cert.MixXattnIdeal.τ).loc Cert.MixXattnIdeal.main_arg4) = m ((c.tc : Thread Cert.MixXattnIdeal.nD Cert.MixXattnIdeal.τ).loc Cert.MixXattnIdeal.main_arg4)
          ∧ r.2.mem ((c.tc : Thread Cert.MixXattnIdeal.nD Cert.MixXattnIdeal.τ).loc Cert.MixXattnIdeal.main_arg5) = m ((c.tc : Thread Cert.MixXattnIdeal.nD Cert.MixXattnIdeal.τ).loc Cert.MixXattnIdeal.main_arg5)
          ∧ r.2.mem ((c.tc : Thread Cert.MixXattnIdeal.nD Cert.MixXattnIdeal.τ).loc Cert.MixXattnIdeal.main_arg6) = m ((c.tc : Thread Cert.MixXattnIdeal.nD Cert.MixXattnIdeal.τ).loc Cert.MixXattnIdeal.main_arg6)
          ∧ r.2.mem ((c.tc : Thread Cert.MixXattnIdeal.nD Cert.MixXattnIdeal.τ).loc Cert.MixXattnIdeal.main_arg7) = m ((c.tc : Thread Cert.MixXattnIdeal.nD Cert.MixXattnIdeal.τ).loc Cert.MixXattnIdeal.main_arg7)
          ∧ r.2.mem ((c.tc : Thread Cert.MixXattnIdeal.nD Cert.MixXattnIdeal.τ).loc Cert.MixXattnIdeal.main_arg8) = m ((c.tc : Thread Cert.MixXattnIdeal.nD Cert.MixXattnIdeal.τ).loc Cert.MixXattnIdeal.main_arg8))
      ∧ θ_run (Cert.MixXattnRefIdeal.defs (F := Ideal)) (onTc (τ := Cert.MixXattnRefIdeal.τ) (Cert.MixXattnRefIdeal.main (F := Ideal))) ⟨m', fun _ => 0, g'⟩ (fun r => ∀ c : Dev Cert.MixXattnRefIdeal.nD,
          r.2.mem ((c.tc : Thread Cert.MixXattnRefIdeal.nD Cert.MixXattnRefIdeal.τ).loc Cert.MixXattnRefIdeal.main_v38) = v0 c
          ∧ r.2.mem ((c.tc : Thread Cert.MixXattnRefIdeal.nD Cert.MixXattnRefIdeal.τ).loc Cert.MixXattnRefIdeal.main_arg0) = m' ((c.tc : Thread Cert.MixXattnRefIdeal.nD Cert.MixXattnRefIdeal.τ).loc Cert.MixXattnRefIdeal.main_arg0)
          ∧ r.2.mem ((c.tc : Thread Cert.MixXattnRefIdeal.nD Cert.MixXattnRefIdeal.τ).loc Cert.MixXattnRefIdeal.main_arg1) = m' ((c.tc : Thread Cert.MixXattnRefIdeal.nD Cert.MixXattnRefIdeal.τ).loc Cert.MixXattnRefIdeal.main_arg1)
          ∧ r.2.mem ((c.tc : Thread Cert.MixXattnRefIdeal.nD Cert.MixXattnRefIdeal.τ).loc Cert.MixXattnRefIdeal.main_arg2) = m' ((c.tc : Thread Cert.MixXattnRefIdeal.nD Cert.MixXattnRefIdeal.τ).loc Cert.MixXattnRefIdeal.main_arg2)
          ∧ r.2.mem ((c.tc : Thread Cert.MixXattnRefIdeal.nD Cert.MixXattnRefIdeal.τ).loc Cert.MixXattnRefIdeal.main_arg3) = m' ((c.tc : Thread Cert.MixXattnRefIdeal.nD Cert.MixXattnRefIdeal.τ).loc Cert.MixXattnRefIdeal.main_arg3)
          ∧ r.2.mem ((c.tc : Thread Cert.MixXattnRefIdeal.nD Cert.MixXattnRefIdeal.τ).loc Cert.MixXattnRefIdeal.main_arg4) = m' ((c.tc : Thread Cert.MixXattnRefIdeal.nD Cert.MixXattnRefIdeal.τ).loc Cert.MixXattnRefIdeal.main_arg4)
          ∧ r.2.mem ((c.tc : Thread Cert.MixXattnRefIdeal.nD Cert.MixXattnRefIdeal.τ).loc Cert.MixXattnRefIdeal.main_arg5) = m' ((c.tc : Thread Cert.MixXattnRefIdeal.nD Cert.MixXattnRefIdeal.τ).loc Cert.MixXattnRefIdeal.main_arg5)
          ∧ r.2.mem ((c.tc : Thread Cert.MixXattnRefIdeal.nD Cert.MixXattnRefIdeal.τ).loc Cert.MixXattnRefIdeal.main_arg6) = m' ((c.tc : Thread Cert.MixXattnRefIdeal.nD Cert.MixXattnRefIdeal.τ).loc Cert.MixXattnRefIdeal.main_arg6)
          ∧ r.2.mem ((c.tc : Thread Cert.MixXattnRefIdeal.nD Cert.MixXattnRefIdeal.τ).loc Cert.MixXattnRefIdeal.main_arg7) = m' ((c.tc : Thread Cert.MixXattnRefIdeal.nD Cert.MixXattnRefIdeal.τ).loc Cert.MixXattnRefIdeal.main_arg7)
          ∧ r.2.mem ((c.tc : Thread Cert.MixXattnRefIdeal.nD Cert.MixXattnRefIdeal.τ).loc Cert.MixXattnRefIdeal.main_arg8) = m' ((c.tc : Thread Cert.MixXattnRefIdeal.nD Cert.MixXattnRefIdeal.τ).loc Cert.MixXattnRefIdeal.main_arg8))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v2_0)) (v1 : (c : Dev Cert.MemKvIdeal.nD) → Buf (Elt Ideal) ((c.tc : Thread Cert.MemKvIdeal.nD Cert.MemKvIdeal.τ).loc Cert.MemKvIdeal.main_v2_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v2_0) = v0 c
          ∧ r.2.mem ((c.tc : Thread Cert.MemKvIdeal.nD Cert.MemKvIdeal.τ).loc Cert.MemKvIdeal.main_v2_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v45) = v0 c
          ∧ r.2.mem ((c.tc : Thread Cert.MemKvRefIdeal.nD Cert.MemKvRefIdeal.τ).loc Cert.MemKvRefIdeal.main_v49) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)
      ∧ m' ((c.tc : Thread Cert.ConvRefIdeal.nD Cert.ConvRefIdeal.τ).loc Cert.ConvRefIdeal.main_arg6) = m ((c.tc : Thread Cert.ConvIdeal.nD Cert.ConvIdeal.τ).loc Cert.ConvIdeal.main_arg6)
      ∧ m' ((c.tc : Thread Cert.ConvRefIdeal.nD Cert.ConvRefIdeal.τ).loc Cert.ConvRefIdeal.main_arg7) = m ((c.tc : Thread Cert.ConvIdeal.nD Cert.ConvIdeal.τ).loc Cert.ConvIdeal.main_arg7)
      ∧ m' ((c.tc : Thread Cert.ConvRefIdeal.nD Cert.ConvRefIdeal.τ).loc Cert.ConvRefIdeal.main_arg8) = m ((c.tc : Thread Cert.ConvIdeal.nD Cert.ConvIdeal.τ).loc Cert.ConvIdeal.main_arg8)
      ∧ m' ((c.tc : Thread Cert.ConvRefIdeal.nD Cert.ConvRefIdeal.τ).loc Cert.ConvRefIdeal.main_arg9) = m ((c.tc : Thread Cert.ConvIdeal.nD Cert.ConvIdeal.τ).loc Cert.ConvIdeal.main_arg9)) →
    ∃ (v0 : (c : Dev Cert.ConvIdeal.nD) → Buf (Elt Ideal) ((c.tc : Thread Cert.ConvIdeal.nD Cert.ConvIdeal.τ).loc Cert.ConvIdeal.main_v9)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v9) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
          ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
          ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8)
          ∧ r.2.mem ((c.tc : Thread Cert.ConvIdeal.nD Cert.ConvIdeal.τ).loc Cert.ConvIdeal.main_arg9) = m ((c.tc : Thread Cert.ConvIdeal.nD Cert.ConvIdeal.τ).loc Cert.ConvIdeal.main_arg9))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v275) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5)
          ∧ r.2.mem ((c.tc : Thread Cert.ConvRefIdeal.nD Cert.ConvRefIdeal.τ).loc Cert.ConvRefIdeal.main_arg6) = m' ((c.tc : Thread Cert.ConvRefIdeal.nD Cert.ConvRefIdeal.τ).loc Cert.ConvRefIdeal.main_arg6)
          ∧ r.2.mem ((c.tc : Thread Cert.ConvRefIdeal.nD Cert.ConvRefIdeal.τ).loc Cert.ConvRefIdeal.main_arg7) = m' ((c.tc : Thread Cert.ConvRefIdeal.nD Cert.ConvRefIdeal.τ).loc Cert.ConvRefIdeal.main_arg7)
          ∧ r.2.mem ((c.tc : Thread Cert.ConvRefIdeal.nD Cert.ConvRefIdeal.τ).loc Cert.ConvRefIdeal.main_arg8) = m' ((c.tc : Thread Cert.ConvRefIdeal.nD Cert.ConvRefIdeal.τ).loc Cert.ConvRefIdeal.main_arg8)
          ∧ r.2.mem ((c.tc : Thread Cert.ConvRefIdeal.nD Cert.ConvRefIdeal.τ).loc Cert.ConvRefIdeal.main_arg9) = m' ((c.tc : Thread Cert.ConvRefIdeal.nD Cert.ConvRefIdeal.τ).loc Cert.ConvRefIdeal.main_arg9))

def preserves_EvenIn_EvenInIdeal : Prop :=
  IdealRules.named_const.Statement Cert.EvenInIdeal.κ "log2_e" .f32 0x3FB8AA3B#32 (((Real.log 2)⁻¹ : ℝ) : EReal)
  ∧ IdealRules.named_const.Statement Cert.EvenInIdeal.κ "scale" .f32 0x3E38AA3B#32 (((1 / 8) * (Real.log 2)⁻¹ : ℝ) : EReal)

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)
      ∧ m' ((c.tc : Thread Cert.EvenInRefIdeal.nD Cert.EvenInRefIdeal.τ).loc Cert.EvenInRefIdeal.main_arg2) = m ((c.tc : Thread Cert.EvenInIdeal.nD Cert.EvenInIdeal.τ).loc Cert.EvenInIdeal.main_arg2)
      ∧ m' ((c.tc : Thread Cert.EvenInRefIdeal.nD Cert.EvenInRefIdeal.τ).loc Cert.EvenInRefIdeal.main_arg3) = m ((c.tc : Thread Cert.EvenInIdeal.nD Cert.EvenInIdeal.τ).loc Cert.EvenInIdeal.main_arg3)
      ∧ m' ((c.tc : Thread Cert.EvenInRefIdeal.nD Cert.EvenInRefIdeal.τ).loc Cert.EvenInRefIdeal.main_arg4) = m ((c.tc : Thread Cert.EvenInIdeal.nD Cert.EvenInIdeal.τ).loc Cert.EvenInIdeal.main_arg4)
      ∧ m' ((c.tc : Thread Cert.EvenInRefIdeal.nD Cert.EvenInRefIdeal.τ).loc Cert.EvenInRefIdeal.main_arg5) = m ((c.tc : Thread Cert.EvenInIdeal.nD Cert.EvenInIdeal.τ).loc Cert.EvenInIdeal.main_arg5)
      ∧ m' ((c.tc : Thread Cert.EvenInRefIdeal.nD Cert.EvenInRefIdeal.τ).loc Cert.EvenInRefIdeal.main_arg6) = m ((c.tc : Thread Cert.EvenInIdeal.nD Cert.EvenInIdeal.τ).loc Cert.EvenInIdeal.main_arg6)
      ∧ m' ((c.tc : Thread Cert.EvenInRefIdeal.nD Cert.EvenInRefIdeal.τ).loc Cert.EvenInRefIdeal.main_arg7) = m ((c.tc : Thread Cert.EvenInIdeal.nD Cert.EvenInIdeal.τ).loc Cert.EvenInIdeal.main_arg7)) →
    ∃ (v0 : (c : Dev Cert.EvenInIdeal.nD) → Buf (Elt Ideal) ((c.tc : Thread Cert.EvenInIdeal.nD Cert.EvenInIdeal.τ).loc Cert.EvenInIdeal.main_v21_0)) (v1 : (c : Dev Cert.EvenInIdeal.nD) → Buf (Elt Ideal) ((c.tc : Thread Cert.EvenInIdeal.nD Cert.EvenInIdeal.τ).loc Cert.EvenInIdeal.main_v21_1)) (v2 : (c : Dev Cert.EvenInIdeal.nD) → Buf (Elt Ideal) ((c.tc : Thread Cert.EvenInIdeal.nD Cert.EvenInIdeal.τ).loc Cert.EvenInIdeal.main_v21_2)) (v3 : (c : Dev Cert.EvenInIdeal.nD) → Buf (Elt Ideal) ((c.tc : Thread Cert.EvenInIdeal.nD Cert.EvenInIdeal.τ).loc Cert.EvenInIdeal.main_v21_3)) (v4 : (c : Dev Cert.EvenInIdeal.nD) → Buf (Elt Ideal) ((c.tc : Thread Cert.EvenInIdeal.nD Cert.EvenInIdeal.τ).loc Cert.EvenInIdeal.main_v21_4)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v21_0) = v0 c
          ∧ r.2.mem ((c.tc : Thread Cert.EvenInIdeal.nD Cert.EvenInIdeal.τ).loc Cert.EvenInIdeal.main_v21_1) = v1 c
          ∧ r.2.mem ((c.tc : Thread Cert.EvenInIdeal.nD Cert.EvenInIdeal.τ).loc Cert.EvenInIdeal.main_v21_2) = v2 c
          ∧ r.2.mem ((c.tc : Thread Cert.EvenInIdeal.nD Cert.EvenInIdeal.τ).loc Cert.EvenInIdeal.main_v21_3) = v3 c
          ∧ r.2.mem ((c.tc : Thread Cert.EvenInIdeal.nD Cert.EvenInIdeal.τ).loc Cert.EvenInIdeal.main_v21_4) = v4 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
          ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
          ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4)
          ∧ r.2.mem ((c.tc : Thread Cert.EvenInIdeal.nD Cert.EvenInIdeal.τ).loc Cert.EvenInIdeal.main_arg5) = m ((c.tc : Thread Cert.EvenInIdeal.nD Cert.EvenInIdeal.τ).loc Cert.EvenInIdeal.main_arg5)
          ∧ r.2.mem ((c.tc : Thread Cert.EvenInIdeal.nD Cert.EvenInIdeal.τ).loc Cert.EvenInIdeal.main_arg6) = m ((c.tc : Thread Cert.EvenInIdeal.nD Cert.EvenInIdeal.τ).loc Cert.EvenInIdeal.main_arg6)
          ∧ r.2.mem ((c.tc : Thread Cert.EvenInIdeal.nD Cert.EvenInIdeal.τ).loc Cert.EvenInIdeal.main_arg7) = m ((c.tc : Thread Cert.EvenInIdeal.nD Cert.EvenInIdeal.τ).loc Cert.EvenInIdeal.main_arg7))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v83) = v0 c
          ∧ r.2.mem ((c.tc : Thread Cert.EvenInRefIdeal.nD Cert.EvenInRefIdeal.τ).loc Cert.EvenInRefIdeal.main_v84) = v1 c
          ∧ r.2.mem ((c.tc : Thread Cert.EvenInRefIdeal.nD Cert.EvenInRefIdeal.τ).loc Cert.EvenInRefIdeal.main_v86) = v2 c
          ∧ r.2.mem ((c.tc : Thread Cert.EvenInRefIdeal.nD Cert.EvenInRefIdeal.τ).loc Cert.EvenInRefIdeal.main_v88) = v3 c
          ∧ r.2.mem ((c.tc : Thread Cert.EvenInRefIdeal.nD Cert.EvenInRefIdeal.τ).loc Cert.EvenInRefIdeal.main_v89) = v4 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2)
          ∧ r.2.mem ((c.tc : Thread Cert.EvenInRefIdeal.nD Cert.EvenInRefIdeal.τ).loc Cert.EvenInRefIdeal.main_arg3) = m' ((c.tc : Thread Cert.EvenInRefIdeal.nD Cert.EvenInRefIdeal.τ).loc Cert.EvenInRefIdeal.main_arg3)
          ∧ r.2.mem ((c.tc : Thread Cert.EvenInRefIdeal.nD Cert.EvenInRefIdeal.τ).loc Cert.EvenInRefIdeal.main_arg4) = m' ((c.tc : Thread Cert.EvenInRefIdeal.nD Cert.EvenInRefIdeal.τ).loc Cert.EvenInRefIdeal.main_arg4)
          ∧ r.2.mem ((c.tc : Thread Cert.EvenInRefIdeal.nD Cert.EvenInRefIdeal.τ).loc Cert.EvenInRefIdeal.main_arg5) = m' ((c.tc : Thread Cert.EvenInRefIdeal.nD Cert.EvenInRefIdeal.τ).loc Cert.EvenInRefIdeal.main_arg5)
          ∧ r.2.mem ((c.tc : Thread Cert.EvenInRefIdeal.nD Cert.EvenInRefIdeal.τ).loc Cert.EvenInRefIdeal.main_arg6) = m' ((c.tc : Thread Cert.EvenInRefIdeal.nD Cert.EvenInRefIdeal.τ).loc Cert.EvenInRefIdeal.main_arg6)
          ∧ r.2.mem ((c.tc : Thread Cert.EvenInRefIdeal.nD Cert.EvenInRefIdeal.τ).loc Cert.EvenInRefIdeal.main_arg7) = m' ((c.tc : Thread Cert.EvenInRefIdeal.nD Cert.EvenInRefIdeal.τ).loc Cert.EvenInRefIdeal.main_arg7))

def Claim : Prop :=
  ∃ (hKernel : Cert.Kernel.Facts) (hKernelIdeal : Cert.KernelIdeal.Facts) (hReferenceIdeal : Cert.ReferenceIdeal.Facts) (hFfnFinal : Cert.FfnFinal.Facts) (hFfnFinalIdeal : Cert.FfnFinalIdeal.Facts) (hFfnFinalRefIdeal : Cert.FfnFinalRefIdeal.Facts) (hFfn : Cert.Ffn.Facts) (hFfnIdeal : Cert.FfnIdeal.Facts) (hFfnRefIdeal : Cert.FfnRefIdeal.Facts) (hXattn : Cert.Xattn.Facts) (hXattnIdeal : Cert.XattnIdeal.Facts) (hXattnRefIdeal : Cert.XattnRefIdeal.Facts) (hMixXattn : Cert.MixXattn.Facts) (hMixXattnIdeal : Cert.MixXattnIdeal.Facts) (hMixXattnRefIdeal : Cert.MixXattnRefIdeal.Facts) (hMemKv : Cert.MemKv.Facts) (hMemKvIdeal : Cert.MemKvIdeal.Facts) (hMemKvRefIdeal : Cert.MemKvRefIdeal.Facts) (hConv : Cert.Conv.Facts) (hConvIdeal : Cert.ConvIdeal.Facts) (hConvRefIdeal : Cert.ConvRefIdeal.Facts) (hEvenIn : Cert.EvenIn.Facts) (hEvenInIdeal : Cert.EvenInIdeal.Facts) (hEvenInRefIdeal : Cert.EvenInRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnFinal (hFfnFinal := hFfnFinal)
    ∧ quiescent_FfnFinalIdeal (hFfnFinalIdeal := hFfnFinalIdeal)
    ∧ quiescent_FfnFinalRefIdeal (hFfnFinalRefIdeal := hFfnFinalRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Xattn (hXattn := hXattn)
    ∧ quiescent_XattnIdeal (hXattnIdeal := hXattnIdeal)
    ∧ quiescent_XattnRefIdeal (hXattnRefIdeal := hXattnRefIdeal)
    ∧ quiescent_MixXattn (hMixXattn := hMixXattn)
    ∧ quiescent_MixXattnIdeal (hMixXattnIdeal := hMixXattnIdeal)
    ∧ quiescent_MixXattnRefIdeal (hMixXattnRefIdeal := hMixXattnRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Conv (hConv := hConv)
    ∧ quiescent_ConvIdeal (hConvIdeal := hConvIdeal)
    ∧ quiescent_ConvRefIdeal (hConvRefIdeal := hConvRefIdeal)
    ∧ quiescent_EvenIn (hEvenIn := hEvenIn)
    ∧ quiescent_EvenInIdeal (hEvenInIdeal := hEvenInIdeal)
    ∧ quiescent_EvenInRefIdeal (hEvenInRefIdeal := hEvenInRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnFinal_FfnFinalIdeal
    ∧ algebraic_FfnFinalIdeal_FfnFinalRefIdeal (hFfnFinalIdeal := hFfnFinalIdeal) (hFfnFinalRefIdeal := hFfnFinalRefIdeal)
    ∧ preserves_Ffn_FfnIdeal
    ∧ algebraic_FfnIdeal_FfnRefIdeal (hFfnIdeal := hFfnIdeal) (hFfnRefIdeal := hFfnRefIdeal)
    ∧ preserves_Xattn_XattnIdeal
    ∧ algebraic_XattnIdeal_XattnRefIdeal (hXattnIdeal := hXattnIdeal) (hXattnRefIdeal := hXattnRefIdeal)
    ∧ preserves_MixXattn_MixXattnIdeal
    ∧ algebraic_MixXattnIdeal_MixXattnRefIdeal (hMixXattnIdeal := hMixXattnIdeal) (hMixXattnRefIdeal := hMixXattnRefIdeal)
    ∧ preserves_MemKv_MemKvIdeal
    ∧ algebraic_MemKvIdeal_MemKvRefIdeal (hMemKvIdeal := hMemKvIdeal) (hMemKvRefIdeal := hMemKvRefIdeal)
    ∧ preserves_Conv_ConvIdeal
    ∧ algebraic_ConvIdeal_ConvRefIdeal (hConvIdeal := hConvIdeal) (hConvRefIdeal := hConvRefIdeal)
    ∧ preserves_EvenIn_EvenInIdeal
    ∧ algebraic_EvenInIdeal_EvenInRefIdeal (hEvenInIdeal := hEvenInIdeal) (hEvenInRefIdeal := hEvenInRefIdeal)
-- ==== Pre_finite.lean ====
abbrev S32x2048x512 : Shape := ⟨3, ![32, 2048, 512]⟩
abbrev S32x2048x8 : Shape := ⟨3, ![32, 2048, 8]⟩
abbrev S_ : Shape := ⟨0, ![]⟩

class Facts : Prop where
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  bcast_S_S32x2048x8 : S_.BroadcastsInDim S32x2048x8 (![] : Fin 0 → Fin S32x2048x8.rank)
  reducesTo_S32x2048x8_S_d0_1_2 : S32x2048x8.ReducesTo [0, 1, 2] S_

variable [Facts]

def fn {F : FTy → Type} [FloatOps F] (main_arg0 : FVec F S32x2048x512 .f32) (main_arg1 : FVec F S32x2048x512 .f32) (main_arg2 : FVec F S32x2048x512 .f32) (main_arg3 : FVec F S32x2048x8 .f32) : IVec S_ 1 :=
  let main_v0 : FVec F S32x2048x512 .f32 := Host.absf main_arg0
  let main_cst : FVec F S_ .f32 := constant S_ .f32 0x7F800000#32
  let main_v1 : FVec F S32x2048x512 .f32 := broadcastInDim S32x2048x512 ![] bcast_S_S32x2048x512 main_cst
  let main_v2 : IVec S32x2048x512 1 := cmpf .olt main_v0 main_v1
  let main_c : IVec S_ 1 := constantI S_ 1 1#1
  let main_v3 : IVec S_ 1 := (fun x v => Host.reduce IntOp.andi x v reducesTo_S32x2048x512_S_d0_1_2 h_S_) main_v2 main_c
  let main_v4 : FVec F S32x2048x512 .f32 := Host.absf main_arg1
  let main_cst_0 : FVec F S_ .f32 := constant S_ .f32 0x7F800000#32
  let main_v5 : FVec F S32x2048x512 .f32 := broadcastInDim S32x2048x512 ![] bcast_S_S32x2048x512 main_cst_0
  let main_v6 : IVec S32x2048x512 1 := cmpf .olt main_v4 main_v5
  let main_c_1 : IVec S_ 1 := constantI S_ 1 1#1
  let main_v7 : IVec S_ 1 := (fun x v => Host.reduce IntOp.andi x v reducesTo_S32x2048x512_S_d0_1_2 h_S_) main_v6 main_c_1
  let main_v8 : IVec S_ 1 := andi main_v3 main_v7
  let main_v9 : FVec F S32x2048x8 .f32 := Host.absf main_arg3
  let main_cst_2 : FVec F S_ .f32 := constant S_ .f32 0x7F800000#32
  let main_v10 : FVec F S32x2048x8 .f32 := broadcastInDim S32x2048x8 ![] bcast_S_S32x2048x8 main_cst_2
  let main_v11 : IVec S32x2048x8 1 := cmpf .olt main_v9 main_v10
  let main_c_3 : IVec S_ 1 := constantI S_ 1 1#1
  let main_v12 : IVec S_ 1 := (fun x v => Host.reduce IntOp.andi x v reducesTo_S32x2048x8_S_d0_1_2 h_S_) main_v11 main_c_3
  let main_v13 : IVec S_ 1 := andi main_v8 main_v12
  main_v13
-- ==== Kernel.lean ====
abbrev S32x2048x512 : Shape := ⟨3, ![32, 2048, 512]⟩
abbrev S32x2048x8 : Shape := ⟨3, ![32, 2048, 8]⟩
abbrev S_ : Shape := ⟨0, ![]⟩
abbrev S32x512x2048 : Shape := ⟨3, ![32, 512, 2048]⟩
abbrev S32x2048x128 : Shape := ⟨3, ![32, 2048, 128]⟩
abbrev S1x128x2048 : Shape := ⟨3, ![1, 128, 2048]⟩
abbrev S1x2048x128 : Shape := ⟨3, ![1, 2048, 128]⟩
abbrev S2048x128 : Shape := ⟨2, ![2048, 128]⟩
abbrev S256x256 : Shape := ⟨2, ![256, 256]⟩
abbrev S64x256 : Shape := ⟨2, ![64, 256]⟩
abbrev S2048 : Shape := ⟨1, ![2048]⟩
abbrev S2048x1 : Shape := ⟨2, ![2048, 1]⟩
abbrev S1x64x256 : Shape := ⟨3, ![1, 64, 256]⟩
abbrev S128x256 : Shape := ⟨2, ![128, 256]⟩
abbrev S1x256x128 : Shape := ⟨3, ![1, 256, 128]⟩
abbrev S256x128 : Shape := ⟨2, ![256, 128]⟩
abbrev S1x1792x128 : Shape := ⟨3, ![1, 1792, 128]⟩
abbrev S1792x128 : Shape := ⟨2, ![1792, 128]⟩
abbrev S1792x256 : Shape := ⟨2, ![1792, 256]⟩
abbrev S256x1 : Shape := ⟨2, ![256, 1]⟩
abbrev S256 : Shape := ⟨1, ![256]⟩
abbrev S1x256 : Shape := ⟨2, ![1, 256]⟩
abbrev S1792x1 : Shape := ⟨2, ![1792, 1]⟩
abbrev S1x64x1792 : Shape := ⟨3, ![1, 64, 1792]⟩
abbrev S64x1792 : Shape := ⟨2, ![64, 1792]⟩
abbrev S256x64 : Shape := ⟨2, ![256, 64]⟩
abbrev S1x1536x128 : Shape := ⟨3, ![1, 1536, 128]⟩
abbrev S1536x128 : Shape := ⟨2, ![1536, 128]⟩
abbrev S1536x256 : Shape := ⟨2, ![1536, 256]⟩
abbrev S1536x1 : Shape := ⟨2, ![1536, 1]⟩
abbrev S1x64x1536 : Shape := ⟨3, ![1, 64, 1536]⟩
abbrev S64x1536 : Shape := ⟨2, ![64, 1536]⟩
abbrev S1x1280x128 : Shape := ⟨3, ![1, 1280, 128]⟩
abbrev S1280x128 : Shape := ⟨2, ![1280, 128]⟩
abbrev S1280x256 : Shape := ⟨2, ![1280, 256]⟩
abbrev S1280x1 : Shape := ⟨2, ![1280, 1]⟩
abbrev S1x64x1280 : Shape := ⟨3, ![1, 64, 1280]⟩
abbrev S64x1280 : Shape := ⟨2, ![64, 1280]⟩
abbrev S1x1024x128 : Shape := ⟨3, ![1, 1024, 128]⟩
abbrev S1024x128 : Shape := ⟨2, ![1024, 128]⟩
abbrev S1024x256 : Shape := ⟨2, ![1024, 256]⟩
abbrev S1024x1 : Shape := ⟨2, ![1024, 1]⟩
abbrev S1x64x1024 : Shape := ⟨3, ![1, 64, 1024]⟩
abbrev S64x1024 : Shape := ⟨2, ![64, 1024]⟩
abbrev S1x768x128 : Shape := ⟨3, ![1, 768, 128]⟩
abbrev S768x128 : Shape := ⟨2, ![768, 128]⟩
abbrev S768x256 : Shape := ⟨2, ![768, 256]⟩
abbrev S768x1 : Shape := ⟨2, ![768, 1]⟩
abbrev S1x64x768 : Shape := ⟨3, ![1, 64, 768]⟩
abbrev S64x768 : Shape := ⟨2, ![64, 768]⟩
abbrev S1x512x128 : Shape := ⟨3, ![1, 512, 128]⟩
abbrev S512x128 : Shape := ⟨2, ![512, 128]⟩
abbrev S512x256 : Shape := ⟨2, ![512, 256]⟩
abbrev S512x1 : Shape := ⟨2, ![512, 1]⟩
abbrev S1x64x512 : Shape := ⟨3, ![1, 64, 512]⟩
abbrev S64x512 : Shape := ⟨2, ![64, 512]⟩

abbrev nBuf : Space → Nat
  | .hbm => 22
  | .vmem => 10
  | .smem => 0
  | _ => 0

abbrev bufTy : (tb : Table) → Fin (tcTables nBuf tb) → BufTy
  | .hbm, ⟨0, _⟩ => ⟨S32x2048x512, .f32⟩
  | .hbm, ⟨1, _⟩ => ⟨S32x2048x512, .f32⟩
  | .hbm, ⟨2, _⟩ => ⟨S32x2048x512, .f32⟩
  | .hbm, ⟨3, _⟩ => ⟨S32x2048x8, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S32x2048x512, .f32⟩
  | .hbm, ⟨8, _⟩ => ⟨S32x2048x512, .f32⟩
  | .hbm, ⟨9, _⟩ => ⟨S32x2048x512, .f32⟩
  | .hbm, ⟨10, _⟩ => ⟨S32x2048x512, .f32⟩
  | .hbm, ⟨11, _⟩ => ⟨S32x2048x512, .bf16⟩
  | .hbm, ⟨12, _⟩ => ⟨S32x512x2048, .bf16⟩
  | .hbm, ⟨13, _⟩ => ⟨S32x2048x512, .bf16⟩
  | .hbm, ⟨14, _⟩ => ⟨S32x512x2048, .bf16⟩
  | .hbm, ⟨15, _⟩ => ⟨S32x2048x8, .f32⟩
  | .hbm, ⟨16, _⟩ => ⟨S32x2048x8, .f32⟩
  | .hbm, ⟨17, _⟩ => ⟨S_, .i32⟩
  | .hbm, ⟨18, _⟩ => ⟨S_, .f32⟩
  | .hbm, ⟨19, _⟩ => ⟨S32x2048x128, .f32⟩
  | .hbm, ⟨20, _⟩ => ⟨S32x2048x512, .bf16⟩
  | .hbm, ⟨21, _⟩ => ⟨S32x2048x512, .bf16⟩
  | .local _ .vmem, ⟨0, _⟩ => ⟨S1x128x2048, .bf16⟩
  | .local _ .vmem, ⟨1, _⟩ => ⟨S1x128x2048, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x128x2048, .bf16⟩
  | .local _ .vmem, ⟨5, _⟩ => ⟨S1x128x2048, .bf16⟩
  | .local _ .vmem, ⟨6, _⟩ => ⟨S1x2048x128, .f32⟩
  | .local _ .vmem, ⟨7, _⟩ => ⟨S1x2048x128, .f32⟩
  | .local _ .vmem, ⟨8, _⟩ => ⟨S1x2048x128, .bf16⟩
  | .local _ .vmem, ⟨9, _⟩ => ⟨S1x2048x128, .bf16⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S32x2048x512 : Shape := ⟨3, ![32, 2048, 512]⟩
abbrev S32x2048x8 : Shape := ⟨3, ![32, 2048, 8]⟩
abbrev S32x2048x8x64 : Shape := ⟨4, ![32, 2048, 8, 64]⟩
abbrev S_ : Shape := ⟨0, ![]⟩
abbrev S32x8x2048 : Shape := ⟨3, ![32, 8, 2048]⟩
abbrev S32x8x2048x2048 : Shape := ⟨4, ![32, 8, 2048, 2048]⟩
abbrev S32x8x2048x1 : Shape := ⟨4, ![32, 8, 2048, 1]⟩
abbrev S32x8x1x2048 : Shape := ⟨4, ![32, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S32x8x64x2048 : Shape := ⟨4, ![32, 8, 64, 2048]⟩

abbrev nBuf : Space → Nat
  | .hbm => 48
  | .vmem => 0
  | .smem => 0
  | _ => 0

abbrev bufTy : (tb : Table) → Fin (tcTables nBuf tb) → BufTy
  | .hbm, ⟨0, _⟩ => ⟨S32x2048x512, .f32⟩
  | .hbm, ⟨1, _⟩ => ⟨S32x2048x512, .f32⟩
  | .hbm, ⟨2, _⟩ => ⟨S32x2048x512, .f32⟩
  | .hbm, ⟨3, _⟩ => ⟨S32x2048x8, .f32⟩
  | .hbm, ⟨4, _⟩ => ⟨S32x2048x8x64, .f32⟩
  | .hbm, ⟨5, _⟩ => ⟨S_, .f32⟩
  | .hbm, ⟨6, _⟩ => ⟨S32x2048x8x64, .f32⟩
  | .hbm, ⟨7, _⟩ => ⟨S32x2048x8x64, .f32⟩
  | .hbm, ⟨8, _⟩ => ⟨S32x2048x8x64, .f32⟩
  | .hbm, ⟨9, _⟩ => ⟨S32x2048x8x64, .f32⟩
  | .hbm, ⟨10, _⟩ => ⟨S32x8x2048, .f32⟩
  | .hbm, ⟨11, _⟩ => ⟨S32x8x2048x2048, .f32⟩
  | .hbm, ⟨12, _⟩ => ⟨S32x8x2048x1, .f32⟩
  | .hbm, ⟨13, _⟩ => ⟨S32x8x2048x2048, .f32⟩
  | .hbm, ⟨14, _⟩ => ⟨S32x8x2048x2048, .f32⟩
  | .hbm, ⟨15, _⟩ => ⟨S32x8x1x2048, .f32⟩
  | .hbm, ⟨16, _⟩ => ⟨S32x8x2048x2048, .f32⟩
  | .hbm, ⟨17, _⟩ => ⟨S32x8x2048x2048, .f32⟩
  | .hbm, ⟨18, _⟩ => ⟨S2048, .i32⟩
  | .hbm, ⟨19, _⟩ => ⟨S2048x1, .i32⟩
  | .hbm, ⟨20, _⟩ => ⟨S2048, .i32⟩
  | .hbm, ⟨21, _⟩ => ⟨S1x2048, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S_, .f32⟩
  | .hbm, ⟨26, _⟩ => ⟨S_, .f32⟩
  | .hbm, ⟨27, _⟩ => ⟨S32x8x2048x2048, .i1⟩
  | .hbm, ⟨28, _⟩ => ⟨S32x8x2048x2048, .f32⟩
  | .hbm, ⟨29, _⟩ => ⟨S32x8x2048x2048, .f32⟩
  | .hbm, ⟨30, _⟩ => ⟨S_, .f32⟩
  | .hbm, ⟨31, _⟩ => ⟨S32x8x2048, .f32⟩
  | .hbm, ⟨32, _⟩ => ⟨S_, .f32⟩
  | .hbm, ⟨33, _⟩ => ⟨S32x8x2048, .f32⟩
  | .hbm, ⟨34, _⟩ => ⟨S32x8x2048, .f32⟩
  | .hbm, ⟨35, _⟩ => ⟨S32x8x2048x1, .f32⟩
  | .hbm, ⟨36, _⟩ => ⟨S32x8x2048x2048, .f32⟩
  | .hbm, ⟨37, _⟩ => ⟨S32x8x2048x2048, .f32⟩
  | .hbm, ⟨38, _⟩ => ⟨S32x8x2048x2048, .f32⟩
  | .hbm, ⟨39, _⟩ => ⟨S_, .f32⟩
  | .hbm, ⟨40, _⟩ => ⟨S32x8x2048, .f32⟩
  | .hbm, ⟨41, _⟩ => ⟨S32x8x2048x1, .f32⟩
  | .hbm, ⟨42, _⟩ => ⟨S32x8x2048x2048, .f32⟩
  | .hbm, ⟨43, _⟩ => ⟨S32x8x2048x2048, .f32⟩
  | .hbm, ⟨44, _⟩ => ⟨S32x8x64x2048, .f32⟩
  | .hbm, ⟨45, _⟩ => ⟨S32x2048x8x64, .f32⟩
  | .hbm, ⟨46, _⟩ => ⟨S32x2048x512, .f32⟩
  | .hbm, ⟨47, _⟩ => ⟨S32x2048x512, .bf16⟩
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== FfnFinal.lean ====
abbrev S32x2048x1024 : Shape := ⟨3, ![32, 2048, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1x1024x1024 : Shape := ⟨3, ![1, 1024, 1024]⟩
abbrev S1024x1024 : Shape := ⟨2, ![1024, 1024]⟩
abbrev S1024x1 : Shape := ⟨2, ![1024, 1]⟩
abbrev S1024x1536 : Shape := ⟨2, ![1024, 1536]⟩
abbrev S1536x1024 : Shape := ⟨2, ![1536, 1024]⟩
abbrev S1024x1280 : Shape := ⟨2, ![1024, 1280]⟩
abbrev S1280x1024 : Shape := ⟨2, ![1280, 1024]⟩

abbrev nBuf : Space → Nat
  | .hbm => 10
  | .vmem => 8
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S32x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S1x1024x1024, .f32⟩
  | .local _ .vmem, ⟨7, _⟩ => ⟨S1x1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnFinalRefIdeal.lean ====
abbrev S32x2048x1024 : Shape := ⟨3, ![32, 2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x5632 : Shape := ⟨3, ![32, 2048, 5632]⟩
abbrev S32x2048x2816 : Shape := ⟨3, ![32, 2048, 2816]⟩

abbrev nBuf : Space → Nat
  | .hbm => 52
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S32x2048x1024, .f32⟩
  | .hbm, ⟨6, _⟩ => ⟨S_, .f32⟩
  | .hbm, ⟨7, _⟩ => ⟨S32x2048, .f32⟩
  | .hbm, ⟨8, _⟩ => ⟨S32x2048x1, .f32⟩
  | .hbm, ⟨9, _⟩ => ⟨S_, .f32⟩
  | .hbm, ⟨10, _⟩ => ⟨S32x2048x1, .f32⟩
  | .hbm, ⟨11, _⟩ => ⟨S32x2048x1, .f32⟩
  | .hbm, ⟨12, _⟩ => ⟨S_, .f32⟩
  | .hbm, ⟨13, _⟩ => ⟨S32x2048x1, .f32⟩
  | .hbm, ⟨14, _⟩ => ⟨S32x2048x1, .f32⟩
  | .hbm, ⟨15, _⟩ => ⟨S32x2048x1, .f32⟩
  | .hbm, ⟨16, _⟩ => ⟨S32x2048x1024, .f32⟩
  | .hbm, ⟨17, _⟩ => ⟨S32x2048x1024, .f32⟩
  | .hbm, ⟨18, _⟩ => ⟨S1x1x1024, .f32⟩
  | .hbm, ⟨19, _⟩ => ⟨S32x2048x1024, .f32⟩
  | .hbm, ⟨20, _⟩ => ⟨S32x2048x1024, .f32⟩
  | .hbm, ⟨21, _⟩ => ⟨S32x2048x5632, .f32⟩
  | .hbm, ⟨22, _⟩ => ⟨S32x2048x2816, .f32⟩
  | .hbm, ⟨23, _⟩ => ⟨S32x2048x2816, .f32⟩
  | .hbm, ⟨24, _⟩ => ⟨S32x2048x2816, .f32⟩
  | .hbm, ⟨25, _⟩ => ⟨S32x2048x2816, .f32⟩
  | .hbm, ⟨26, _⟩ => ⟨S_, .f32⟩
  | .hbm, ⟨27, _⟩ => ⟨S32x2048x2816, .f32⟩
  | .hbm, ⟨28, _⟩ => ⟨S32x2048x2816, .f32⟩
  | .hbm, ⟨29, _⟩ => ⟨S_, .f32⟩
  | .hbm, ⟨30, _⟩ => ⟨S32x2048x2816, .f32⟩
  | .hbm, ⟨31, _⟩ => ⟨S32x2048x2816, .f32⟩
  | .hbm, ⟨32, _⟩ => ⟨S32x2048x2816, .f32⟩
  | .hbm, ⟨33, _⟩ => ⟨S32x2048x2816, .f32⟩
  | .hbm, ⟨34, _⟩ => ⟨S32x2048x1024, .f32⟩
  | .hbm, ⟨35, _⟩ => ⟨S32x2048x1024, .f32⟩
  | .hbm, ⟨36, _⟩ => ⟨S32x2048x1024, .f32⟩
  | .hbm, ⟨37, _⟩ => ⟨S_, .f32⟩
  | .hbm, ⟨38, _⟩ => ⟨S32x2048, .f32⟩
  | .hbm, ⟨39, _⟩ => ⟨S32x2048x1, .f32⟩
  | .hbm, ⟨40, _⟩ => ⟨S_, .f32⟩
  | .hbm, ⟨41, _⟩ => ⟨S32x2048x1, .f32⟩
  | .hbm, ⟨42, _⟩ => ⟨S32x2048x1, .f32⟩
  | .hbm, ⟨43, _⟩ => ⟨S_, .f32⟩
  | .hbm, ⟨44, _⟩ => ⟨S32x2048x1, .f32⟩
  | .hbm, ⟨45, _⟩ => ⟨S32x2048x1, .f32⟩
  | .hbm, ⟨46, _⟩ => ⟨S32x2048x1, .f32⟩
  | .hbm, ⟨47, _⟩ => ⟨S32x2048x1024, .f32⟩
  | .hbm, ⟨48, _⟩ => ⟨S32x2048x1024, .f32⟩
  | .hbm, ⟨49, _⟩ => ⟨S1x1x1024, .f32⟩
  | .hbm, ⟨50, _⟩ => ⟨S32x2048x1024, .f32⟩
  | .hbm, ⟨51, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== Ffn.lean ====
abbrev S32x2048x1024 : Shape := ⟨3, ![32, 2048, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1x1024x1024 : Shape := ⟨3, ![1, 1024, 1024]⟩
abbrev S1024x1024 : Shape := ⟨2, ![1024, 1024]⟩
abbrev S1024x1 : Shape := ⟨2, ![1024, 1]⟩
abbrev S1024x1536 : Shape := ⟨2, ![1024, 1536]⟩
abbrev S1536x1024 : Shape := ⟨2, ![1536, 1024]⟩
abbrev S1024x1280 : Shape := ⟨2, ![1024, 1280]⟩
abbrev S1280x1024 : Shape := ⟨2, ![1280, 1024]⟩

abbrev nBuf : Space → Nat
  | .hbm => 10
  | .vmem => 8
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S32x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S1x1024x1024, .f32⟩
  | .local _ .vmem, ⟨7, _⟩ => ⟨S1x1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnRefIdeal.lean ====
abbrev S32x2048x1024 : Shape := ⟨3, ![32, 2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x5632 : Shape := ⟨3, ![32, 2048, 5632]⟩
abbrev S32x2048x2816 : Shape := ⟨3, ![32, 2048, 2816]⟩

abbrev nBuf : Space → Nat
  | .hbm => 36
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S32x2048x1024, .f32⟩
  | .hbm, ⟨6, _⟩ => ⟨S_, .f32⟩
  | .hbm, ⟨7, _⟩ => ⟨S32x2048, .f32⟩
  | .hbm, ⟨8, _⟩ => ⟨S32x2048x1, .f32⟩
  | .hbm, ⟨9, _⟩ => ⟨S_, .f32⟩
  | .hbm, ⟨10, _⟩ => ⟨S32x2048x1, .f32⟩
  | .hbm, ⟨11, _⟩ => ⟨S32x2048x1, .f32⟩
  | .hbm, ⟨12, _⟩ => ⟨S_, .f32⟩
  | .hbm, ⟨13, _⟩ => ⟨S32x2048x1, .f32⟩
  | .hbm, ⟨14, _⟩ => ⟨S32x2048x1, .f32⟩
  | .hbm, ⟨15, _⟩ => ⟨S32x2048x1, .f32⟩
  | .hbm, ⟨16, _⟩ => ⟨S32x2048x1024, .f32⟩
  | .hbm, ⟨17, _⟩ => ⟨S32x2048x1024, .f32⟩
  | .hbm, ⟨18, _⟩ => ⟨S1x1x1024, .f32⟩
  | .hbm, ⟨19, _⟩ => ⟨S32x2048x1024, .f32⟩
  | .hbm, ⟨20, _⟩ => ⟨S32x2048x1024, .f32⟩
  | .hbm, ⟨21, _⟩ => ⟨S32x2048x5632, .f32⟩
  | .hbm, ⟨22, _⟩ => ⟨S32x2048x2816, .f32⟩
  | .hbm, ⟨23, _⟩ => ⟨S32x2048x2816, .f32⟩
  | .hbm, ⟨24, _⟩ => ⟨S32x2048x2816, .f32⟩
  | .hbm, ⟨25, _⟩ => ⟨S32x2048x2816, .f32⟩
  | .hbm, ⟨26, _⟩ => ⟨S_, .f32⟩
  | .hbm, ⟨27, _⟩ => ⟨S32x2048x2816, .f32⟩
  | .hbm, ⟨28, _⟩ => ⟨S32x2048x2816, .f32⟩
  | .hbm, ⟨29, _⟩ => ⟨S_, .f32⟩
  | .hbm, ⟨30, _⟩ => ⟨S32x2048x2816, .f32⟩
  | .hbm, ⟨31, _⟩ => ⟨S32x2048x2816, .f32⟩
  | .hbm, ⟨32, _⟩ => ⟨S32x2048x2816, .f32⟩
  | .hbm, ⟨33, _⟩ => ⟨S32x2048x2816, .f32⟩
  | .hbm, ⟨34, _⟩ => ⟨S32x2048x1024, .f32⟩
  | .hbm, ⟨35, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]
-- ==== Xattn.lean ====
abbrev S32x2048x1024 : Shape := ⟨3, ![32, 2048, 1024]⟩
abbrev S1024 : Shape := ⟨1, ![1024]⟩
abbrev S1024x1024 : Shape := ⟨2, ![1024, 1024]⟩
abbrev S32x256x1024 : Shape := ⟨3, ![32, 256, 1024]⟩
abbrev S1x1024 : Shape := ⟨2, ![1, 1024]⟩
abbrev S32x1024x256 : Shape := ⟨3, ![32, 1024, 256]⟩
abbrev S1x1024x1024 : Shape := ⟨3, ![1, 1024, 1024]⟩
abbrev S1x1024x256 : Shape := ⟨3, ![1, 1024, 256]⟩
abbrev S1x256x1024 : Shape := ⟨3, ![1, 256, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 13
  | .vmem => 11
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x1024, .f32⟩
  | .hbm, ⟨3, _⟩ => ⟨S32x256x1024, .f32⟩
  | .hbm, ⟨4, _⟩ => ⟨S32x256x1024, .f32⟩
  | .hbm, ⟨5, _⟩ => ⟨S1024x1024, .f32⟩
  | .hbm, ⟨6, _⟩ => ⟨S1x1024, .f32⟩
  | .hbm, ⟨7, _⟩ => ⟨S1024x1024, .bf16⟩
  | .hbm, ⟨8, _⟩ => ⟨S32x1024x256, .f32⟩
  | .hbm, ⟨9, _⟩ => ⟨S32x1024x256, .bf16⟩
  | .hbm, ⟨10, _⟩ => ⟨S32x256x1024, .bf16⟩
  | .hbm, ⟨11, _⟩ => ⟨S1024x1024, .bf16⟩
  | .hbm, ⟨12, _⟩ => ⟨S32x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x1024, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x256x1024, .bf16⟩
  | .local _ .vmem, ⟨7, _⟩ => ⟨S1x256x1024, .bf16⟩
  | .local _ .vmem, ⟨8, _⟩ => ⟨S1024x1024, .bf16⟩
  | .local _ .vmem, ⟨9, _⟩ => ⟨S1x1024x1024, .f32⟩
  | .local _ .vmem, ⟨10, _⟩ => ⟨S1x1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== XattnRefIdeal.lean ====
abbrev S32x2048x1024 : Shape := ⟨3, ![32, 2048, 1024]⟩
abbrev S1024 : Shape := ⟨1, ![1024]⟩
abbrev S1024x1024 : Shape := ⟨2, ![1024, 1024]⟩
abbrev S32x256x1024 : Shape := ⟨3, ![32, 256, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x4x256 : Shape := ⟨4, ![32, 2048, 4, 256]⟩
abbrev S32x256x4x256 : Shape := ⟨4, ![32, 256, 4, 256]⟩
abbrev S32x4x2048x256 : Shape := ⟨4, ![32, 4, 2048, 256]⟩
abbrev S32x4x2048 : Shape := ⟨3, ![32, 4, 2048]⟩
abbrev S32x4x2048x1 : Shape := ⟨4, ![32, 4, 2048, 1]⟩
abbrev S32x4x256x2048 : Shape := ⟨4, ![32, 4, 256, 2048]⟩

abbrev nBuf : Space → Nat
  | .hbm => 49
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x1024, .f32⟩
  | .hbm, ⟨3, _⟩ => ⟨S32x256x1024, .f32⟩
  | .hbm, ⟨4, _⟩ => ⟨S32x256x1024, .f32⟩
  | .hbm, ⟨5, _⟩ => ⟨S1024x1024, .f32⟩
  | .hbm, ⟨6, _⟩ => ⟨S32x2048x1024, .f32⟩
  | .hbm, ⟨7, _⟩ => ⟨S_, .f32⟩
  | .hbm, ⟨8, _⟩ => ⟨S32x2048, .f32⟩
  | .hbm, ⟨9, _⟩ => ⟨S32x2048x1, .f32⟩
  | .hbm, ⟨10, _⟩ => ⟨S_, .f32⟩
  | .hbm, ⟨11, _⟩ => ⟨S32x2048x1, .f32⟩
  | .hbm, ⟨12, _⟩ => ⟨S32x2048x1, .f32⟩
  | .hbm, ⟨13, _⟩ => ⟨S_, .f32⟩
  | .hbm, ⟨14, _⟩ => ⟨S32x2048x1, .f32⟩
  | .hbm, ⟨15, _⟩ => ⟨S32x2048x1, .f32⟩
  | .hbm, ⟨16, _⟩ => ⟨S32x2048x1, .f32⟩
  | .hbm, ⟨17, _⟩ => ⟨S32x2048x1024, .f32⟩
  | .hbm, ⟨18, _⟩ => ⟨S32x2048x1024, .f32⟩
  | .hbm, ⟨19, _⟩ => ⟨S1x1x1024, .f32⟩
  | .hbm, ⟨20, _⟩ => ⟨S32x2048x1024, .f32⟩
  | .hbm, ⟨21, _⟩ => ⟨S32x2048x1024, .f32⟩
  | .hbm, ⟨22, _⟩ => ⟨S32x2048x1024, .f32⟩
  | .hbm, ⟨23, _⟩ => ⟨S32x2048x4x256, .f32⟩
  | .hbm, ⟨24, _⟩ => ⟨S_, .f32⟩
  | .hbm, ⟨25, _⟩ => ⟨S32x2048x4x256, .f32⟩
  | .hbm, ⟨26, _⟩ => ⟨S32x2048x4x256, .f32⟩
  | .hbm, ⟨27, _⟩ => ⟨S32x256x4x256, .f32⟩
  | .hbm, ⟨28, _⟩ => ⟨S32x256x4x256, .f32⟩
  | .hbm, ⟨29, _⟩ => ⟨S32x4x2048x256, .f32⟩
  | .hbm, ⟨30, _⟩ => ⟨S_, .f32⟩
  | .hbm, ⟨31, _⟩ => ⟨S32x4x2048, .f32⟩
  | .hbm, ⟨32, _⟩ => ⟨S_, .f32⟩
  | .hbm, ⟨33, _⟩ => ⟨S32x4x2048, .f32⟩
  | .hbm, ⟨34, _⟩ => ⟨S32x4x2048, .f32⟩
  | .hbm, ⟨35, _⟩ => ⟨S32x4x2048x1, .f32⟩
  | .hbm, ⟨36, _⟩ => ⟨S32x4x2048x256, .f32⟩
  | .hbm, ⟨37, _⟩ => ⟨S32x4x2048x256, .f32⟩
  | .hbm, ⟨38, _⟩ => ⟨S32x4x2048x256, .f32⟩
  | .hbm, ⟨39, _⟩ => ⟨S_, .f32⟩
  | .hbm, ⟨40, _⟩ => ⟨S32x4x2048, .f32⟩
  | .hbm, ⟨41, _⟩ => ⟨S32x4x2048x1, .f32⟩
  | .hbm, ⟨42, _⟩ => ⟨S32x4x2048x256, .f32⟩
  | .hbm, ⟨43, _⟩ => ⟨S32x4x2048x256, .f32⟩
  | .hbm, ⟨44, _⟩ => ⟨S32x4x256x2048, .f32⟩
  | .hbm, ⟨45, _⟩ => ⟨S32x2048x4x256, .f32⟩
  | .hbm, ⟨46, _⟩ => ⟨S32x2048x1024, .f32⟩
  | .hbm, ⟨47, _⟩ => ⟨S32x2048x1024, .f32⟩
  | .hbm, ⟨48, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== MixXattn.lean ====
abbrev S32x2048x1024 : Shape := ⟨3, ![32, 2048, 1024]⟩
abbrev S32x2048x512 : Shape := ⟨3, ![32, 2048, 512]⟩
abbrev S1024x1024 : Shape := ⟨2, ![1024, 1024]⟩
abbrev S1024 : Shape := ⟨1, ![1024]⟩
abbrev S32x256x1024 : Shape := ⟨3, ![32, 256, 1024]⟩
abbrev S1x1024 : Shape := ⟨2, ![1, 1024]⟩
abbrev S32x1024x256 : Shape := ⟨3, ![32, 1024, 256]⟩
abbrev S1x1024x1024 : Shape := ⟨3, ![1, 1024, 1024]⟩
abbrev S1x1024x512 : Shape := ⟨3, ![1, 1024, 512]⟩
abbrev S1x1024x256 : Shape := ⟨3, ![1, 1024, 256]⟩
abbrev S1x256x1024 : Shape := ⟨3, ![1, 256, 1024]⟩
abbrev S1x512x1024 : Shape := ⟨3, ![1, 512, 1024]⟩
abbrev S512x1024 : Shape := ⟨2, ![512, 1024]⟩
abbrev S1x512x512 : Shape := ⟨3, ![1, 512, 512]⟩
abbrev S512x512 : Shape := ⟨2, ![512, 512]⟩
abbrev S512 : Shape := ⟨1, ![512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 19
  | .vmem => 16
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .f32⟩
  | .hbm, ⟨2, _⟩ => ⟨S32x2048x512, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S32x256x1024, .f32⟩
  | .hbm, ⟨7, _⟩ => ⟨S32x256x1024, .f32⟩
  | .hbm, ⟨8, _⟩ => ⟨S1024x1024, .f32⟩
  | .hbm, ⟨9, _⟩ => ⟨S32x2048x512, .bf16⟩
  | .hbm, ⟨10, _⟩ => ⟨S32x2048x512, .bf16⟩
  | .hbm, ⟨11, _⟩ => ⟨S1024x1024, .bf16⟩
  | .hbm, ⟨12, _⟩ => ⟨S1x1024, .f32⟩
  | .hbm, ⟨13, _⟩ => ⟨S1024x1024, .bf16⟩
  | .hbm, ⟨14, _⟩ => ⟨S32x1024x256, .f32⟩
  | .hbm, ⟨15, _⟩ => ⟨S32x1024x256, .bf16⟩
  | .hbm, ⟨16, _⟩ => ⟨S32x256x1024, .bf16⟩
  | .hbm, ⟨17, _⟩ => ⟨S1024x1024, .bf16⟩
  | .hbm, ⟨18, _⟩ => ⟨S32x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1x1024x256, .bf16⟩
  | .local _ .vmem, ⟨10, _⟩ => ⟨S1x1024x256, .bf16⟩
  | .local _ .vmem, ⟨11, _⟩ => ⟨S1x256x1024, .bf16⟩
  | .local _ .vmem, ⟨12, _⟩ => ⟨S1x256x1024, .bf16⟩
  | .local _ .vmem, ⟨13, _⟩ => ⟨S1024x1024, .bf16⟩
  | .local _ .vmem, ⟨14, _⟩ => ⟨S1x1024x1024, .f32⟩
  | .local _ .vmem, ⟨15, _⟩ => ⟨S1x1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MixXattnRefIdeal.lean ====
abbrev S32x2048x1024 : Shape := ⟨3, ![32, 2048, 1024]⟩
abbrev S32x2048x512 : Shape := ⟨3, ![32, 2048, 512]⟩
abbrev S1024x1024 : Shape := ⟨2, ![1024, 1024]⟩
abbrev S1024 : Shape := ⟨1, ![1024]⟩
abbrev S32x256x1024 : Shape := ⟨3, ![32, 256, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x4x256 : Shape := ⟨4, ![32, 2048, 4, 256]⟩
abbrev S32x256x4x256 : Shape := ⟨4, ![32, 256, 4, 256]⟩
abbrev S32x4x2048x256 : Shape := ⟨4, ![32, 4, 2048, 256]⟩
abbrev S32x4x2048 : Shape := ⟨3, ![32, 4, 2048]⟩
abbrev S32x4x2048x1 : Shape := ⟨4, ![32, 4, 2048, 1]⟩
abbrev S32x4x256x2048 : Shape := ⟨4, ![32, 4, 256, 2048]⟩

abbrev nBuf : Space → Nat
  | .hbm => 55
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .f32⟩
  | .hbm, ⟨2, _⟩ => ⟨S32x2048x512, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S32x256x1024, .f32⟩
  | .hbm, ⟨7, _⟩ => ⟨S32x256x1024, .f32⟩
  | .hbm, ⟨8, _⟩ => ⟨S1024x1024, .f32⟩
  | .hbm, ⟨9, _⟩ => ⟨S32x2048x1024, .f32⟩
  | .hbm, ⟨10, _⟩ => ⟨S32x2048x1024, .f32⟩
  | .hbm, ⟨11, _⟩ => ⟨S32x2048x1024, .f32⟩
  | .hbm, ⟨12, _⟩ => ⟨S32x2048x1024, .f32⟩
  | .hbm, ⟨13, _⟩ => ⟨S_, .f32⟩
  | .hbm, ⟨14, _⟩ => ⟨S32x2048, .f32⟩
  | .hbm, ⟨15, _⟩ => ⟨S32x2048x1, .f32⟩
  | .hbm, ⟨16, _⟩ => ⟨S_, .f32⟩
  | .hbm, ⟨17, _⟩ => ⟨S32x2048x1, .f32⟩
  | .hbm, ⟨18, _⟩ => ⟨S32x2048x1, .f32⟩
  | .hbm, ⟨19, _⟩ => ⟨S_, .f32⟩
  | .hbm, ⟨20, _⟩ => ⟨S32x2048x1, .f32⟩
  | .hbm, ⟨21, _⟩ => ⟨S32x2048x1, .f32⟩
  | .hbm, ⟨22, _⟩ => ⟨S32x2048x1, .f32⟩
  | .hbm, ⟨23, _⟩ => ⟨S32x2048x1024, .f32⟩
  | .hbm, ⟨24, _⟩ => ⟨S32x2048x1024, .f32⟩
  | .hbm, ⟨25, _⟩ => ⟨S1x1x1024, .f32⟩
  | .hbm, ⟨26, _⟩ => ⟨S32x2048x1024, .f32⟩
  | .hbm, ⟨27, _⟩ => ⟨S32x2048x1024, .f32⟩
  | .hbm, ⟨28, _⟩ => ⟨S32x2048x1024, .f32⟩
  | .hbm, ⟨29, _⟩ => ⟨S32x2048x4x256, .f32⟩
  | .hbm, ⟨30, _⟩ => ⟨S_, .f32⟩
  | .hbm, ⟨31, _⟩ => ⟨S32x2048x4x256, .f32⟩
  | .hbm, ⟨32, _⟩ => ⟨S32x2048x4x256, .f32⟩
  | .hbm, ⟨33, _⟩ => ⟨S32x256x4x256, .f32⟩
  | .hbm, ⟨34, _⟩ => ⟨S32x256x4x256, .f32⟩
  | .hbm, ⟨35, _⟩ => ⟨S32x4x2048x256, .f32⟩
  | .hbm, ⟨36, _⟩ => ⟨S_, .f32⟩
  | .hbm, ⟨37, _⟩ => ⟨S32x4x2048, .f32⟩
  | .hbm, ⟨38, _⟩ => ⟨S_, .f32⟩
  | .hbm, ⟨39, _⟩ => ⟨S32x4x2048, .f32⟩
  | .hbm, ⟨40, _⟩ => ⟨S32x4x2048, .f32⟩
  | .hbm, ⟨41, _⟩ => ⟨S32x4x2048x1, .f32⟩
  | .hbm, ⟨42, _⟩ => ⟨S32x4x2048x256, .f32⟩
  | .hbm, ⟨43, _⟩ => ⟨S32x4x2048x256, .f32⟩
  | .hbm, ⟨44, _⟩ => ⟨S32x4x2048x256, .f32⟩
  | .hbm, ⟨45, _⟩ => ⟨S_, .f32⟩
  | .hbm, ⟨46, _⟩ => ⟨S32x4x2048, .f32⟩
  | .hbm, ⟨47, _⟩ => ⟨S32x4x2048x1, .f32⟩
  | .hbm, ⟨48, _⟩ => ⟨S32x4x2048x256, .f32⟩
  | .hbm, ⟨49, _⟩ => ⟨S32x4x2048x256, .f32⟩
  | .hbm, ⟨50, _⟩ => ⟨S32x4x256x2048, .f32⟩
  | .hbm, ⟨51, _⟩ => ⟨S32x2048x4x256, .f32⟩
  | .hbm, ⟨52, _⟩ => ⟨S32x2048x1024, .f32⟩
  | .hbm, ⟨53, _⟩ => ⟨S32x2048x1024, .f32⟩
  | .hbm, ⟨54, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== MemKv.lean ====
abbrev S32x256x1024 : Shape := ⟨3, ![32, 256, 1024]⟩
abbrev S2x1024 : Shape := ⟨2, ![2, 1024]⟩
abbrev S2x1024x2048 : Shape := ⟨3, ![2, 1024, 2048]⟩
abbrev S2x1x1024 : Shape := ⟨3, ![2, 1, 1024]⟩
abbrev S2x32x1024x256 : Shape := ⟨4, ![2, 32, 1024, 256]⟩
abbrev S2x32x256x1024 : Shape := ⟨4, ![2, 32, 256, 1024]⟩
abbrev S1x256x1024 : Shape := ⟨3, ![1, 256, 1024]⟩
abbrev S1x1x1024 : Shape := ⟨3, ![1, 1, 1024]⟩
abbrev S1x1024x2048 : Shape := ⟨3, ![1, 1024, 2048]⟩
abbrev S1x1x1024x256 : Shape := ⟨4, ![1, 1, 1024, 256]⟩
abbrev S1x1x256x1024 : Shape := ⟨4, ![1, 1, 256, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024x2048 : Shape := ⟨2, ![1024, 2048]⟩
abbrev S256x2048 : Shape := ⟨2, ![256, 2048]⟩
abbrev S1024x256 : Shape := ⟨2, ![1024, 256]⟩

abbrev nBuf : Space → Nat
  | .hbm => 7
  | .vmem => 10
  | .smem => 0
  | _ => 0

abbrev bufTy : (tb : Table) → Fin (tcTables nBuf tb) → BufTy
  | .hbm, ⟨0, _⟩ => ⟨S32x256x1024, .f32⟩
  | .hbm, ⟨1, _⟩ => ⟨S2x1024, .f32⟩
  | .hbm, ⟨2, _⟩ => ⟨S2x1024x2048, .f32⟩
  | .hbm, ⟨3, _⟩ => ⟨S2x1x1024, .f32⟩
  | .hbm, ⟨4, _⟩ => ⟨S2x1024x2048, .bf16⟩
  | .hbm, ⟨5, _⟩ => ⟨S2x32x1024x256, .bf16⟩
  | .hbm, ⟨6, _⟩ => ⟨S2x32x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024x2048, .bf16⟩
  | .local _ .vmem, ⟨5, _⟩ => ⟨S1x1024x2048, .bf16⟩
  | .local _ .vmem, ⟨6, _⟩ => ⟨S1x1x1024x256, .bf16⟩
  | .local _ .vmem, ⟨7, _⟩ => ⟨S1x1x1024x256, .bf16⟩
  | .local _ .vmem, ⟨8, _⟩ => ⟨S1x1x256x1024, .bf16⟩
  | .local _ .vmem, ⟨9, _⟩ => ⟨S1x1x256x1024, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MemKvRefIdeal.lean ====
abbrev S32x256x1024 : Shape := ⟨3, ![32, 256, 1024]⟩
abbrev S2x1024 : Shape := ⟨2, ![2, 1024]⟩
abbrev S2x1024x2048 : Shape := ⟨3, ![2, 1024, 2048]⟩
abbrev S1x1024 : Shape := ⟨2, ![1, 1024]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S1x1024x2048 : Shape := ⟨3, ![1, 1024, 2048]⟩
abbrev S1024x2048 : Shape := ⟨2, ![1024, 2048]⟩
abbrev S32x256x2048 : Shape := ⟨3, ![32, 256, 2048]⟩
abbrev S32x1024x256 : Shape := ⟨3, ![32, 1024, 256]⟩
abbrev S1x32x1024x256 : Shape := ⟨4, ![1, 32, 1024, 256]⟩
abbrev S2x32x1024x256 : Shape := ⟨4, ![2, 32, 1024, 256]⟩
abbrev S1x32x256x1024 : Shape := ⟨4, ![1, 32, 256, 1024]⟩
abbrev S2x32x256x1024 : Shape := ⟨4, ![2, 32, 256, 1024]⟩

abbrev nBuf : Space → Nat
  | .hbm => 59
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S2x1024, .f32⟩
  | .hbm, ⟨2, _⟩ => ⟨S2x1024x2048, .f32⟩
  | .hbm, ⟨3, _⟩ => ⟨S1x1024, .f32⟩
  | .hbm, ⟨4, _⟩ => ⟨S1024, .f32⟩
  | .hbm, ⟨5, _⟩ => ⟨S32x256x1024, .f32⟩
  | .hbm, ⟨6, _⟩ => ⟨S_, .f32⟩
  | .hbm, ⟨7, _⟩ => ⟨S32x256, .f32⟩
  | .hbm, ⟨8, _⟩ => ⟨S32x256x1, .f32⟩
  | .hbm, ⟨9, _⟩ => ⟨S_, .f32⟩
  | .hbm, ⟨10, _⟩ => ⟨S32x256x1, .f32⟩
  | .hbm, ⟨11, _⟩ => ⟨S32x256x1, .f32⟩
  | .hbm, ⟨12, _⟩ => ⟨S_, .f32⟩
  | .hbm, ⟨13, _⟩ => ⟨S32x256x1, .f32⟩
  | .hbm, ⟨14, _⟩ => ⟨S32x256x1, .f32⟩
  | .hbm, ⟨15, _⟩ => ⟨S32x256x1, .f32⟩
  | .hbm, ⟨16, _⟩ => ⟨S32x256x1024, .f32⟩
  | .hbm, ⟨17, _⟩ => ⟨S32x256x1024, .f32⟩
  | .hbm, ⟨18, _⟩ => ⟨S1x1x1024, .f32⟩
  | .hbm, ⟨19, _⟩ => ⟨S32x256x1024, .f32⟩
  | .hbm, ⟨20, _⟩ => ⟨S32x256x1024, .f32⟩
  | .hbm, ⟨21, _⟩ => ⟨S1x1024x2048, .f32⟩
  | .hbm, ⟨22, _⟩ => ⟨S1024x2048, .f32⟩
  | .hbm, ⟨23, _⟩ => ⟨S32x256x2048, .f32⟩
  | .hbm, ⟨24, _⟩ => ⟨S32x256x1024, .f32⟩
  | .hbm, ⟨25, _⟩ => ⟨S32x256x1024, .f32⟩
  | .hbm, ⟨26, _⟩ => ⟨S32x1024x256, .f32⟩
  | .hbm, ⟨27, _⟩ => ⟨S1x1024, .f32⟩
  | .hbm, ⟨28, _⟩ => ⟨S1024, .f32⟩
  | .hbm, ⟨29, _⟩ => ⟨S32x256x1024, .f32⟩
  | .hbm, ⟨30, _⟩ => ⟨S_, .f32⟩
  | .hbm, ⟨31, _⟩ => ⟨S32x256, .f32⟩
  | .hbm, ⟨32, _⟩ => ⟨S32x256x1, .f32⟩
  | .hbm, ⟨33, _⟩ => ⟨S_, .f32⟩
  | .hbm, ⟨34, _⟩ => ⟨S32x256x1, .f32⟩
  | .hbm, ⟨35, _⟩ => ⟨S32x256x1, .f32⟩
  | .hbm, ⟨36, _⟩ => ⟨S_, .f32⟩
  | .hbm, ⟨37, _⟩ => ⟨S32x256x1, .f32⟩
  | .hbm, ⟨38, _⟩ => ⟨S32x256x1, .f32⟩
  | .hbm, ⟨39, _⟩ => ⟨S32x256x1, .f32⟩
  | .hbm, ⟨40, _⟩ => ⟨S32x256x1024, .f32⟩
  | .hbm, ⟨41, _⟩ => ⟨S32x256x1024, .f32⟩
  | .hbm, ⟨42, _⟩ => ⟨S1x1x1024, .f32⟩
  | .hbm, ⟨43, _⟩ => ⟨S32x256x1024, .f32⟩
  | .hbm, ⟨44, _⟩ => ⟨S32x256x1024, .f32⟩
  | .hbm, ⟨45, _⟩ => ⟨S1x1024x2048, .f32⟩
  | .hbm, ⟨46, _⟩ => ⟨S1024x2048, .f32⟩
  | .hbm, ⟨47, _⟩ => ⟨S32x256x2048, .f32⟩
  | .hbm, ⟨48, _⟩ => ⟨S32x256x1024, .f32⟩
  | .hbm, ⟨49, _⟩ => ⟨S32x256x1024, .f32⟩
  | .hbm, ⟨50, _⟩ => ⟨S32x1024x256, .f32⟩
  | .hbm, ⟨51, _⟩ => ⟨S1x32x1024x256, .f32⟩
  | .hbm, ⟨52, _⟩ => ⟨S1x32x1024x256, .f32⟩
  | .hbm, ⟨53, _⟩ => ⟨S2x32x1024x256, .f32⟩
  | .hbm, ⟨54, _⟩ => ⟨S2x32x1024x256, .bf16⟩
  | .hbm, ⟨55, _⟩ => ⟨S1x32x256x1024, .f32⟩
  | .hbm, ⟨56, _⟩ => ⟨S1x32x256x1024, .f32⟩
  | .hbm, ⟨57, _⟩ => ⟨S2x32x256x1024, .f32⟩
  | .hbm, ⟨58, _⟩ => ⟨S2x32x256x1024, .bf16⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩

abbrev nD : Nat := 1
abbrev τ : Topo := Topo.v7x

variable {F : FTy → Type} [FloatOps F]
-- ==== Conv.lean ====
abbrev S32x2048x1024 : Shape := ⟨3, ![32, 2048, 1024]⟩
abbrev S1024 : Shape := ⟨1, ![1024]⟩
abbrev S1024x2048 : Shape := ⟨2, ![1024, 2048]⟩
abbrev S2048 : Shape := ⟨1, ![2048]⟩
abbrev S31x1024 : Shape := ⟨2, ![31, 1024]⟩
abbrev S1024x1024 : Shape := ⟨2, ![1024, 1024]⟩
abbrev S1x1024 : Shape := ⟨2, ![1, 1024]⟩
abbrev S1x2048 : Shape := ⟨2, ![1, 2048]⟩
abbrev S31x8x128 : Shape := ⟨3, ![31, 8, 128]⟩
abbrev S1x512x1024 : Shape := ⟨3, ![1, 512, 1024]⟩
abbrev S544x8x128 : Shape := ⟨3, ![544, 8, 128]⟩
abbrev S512x1024 : Shape := ⟨2, ![512, 1024]⟩
abbrev S32x8x128 : Shape := ⟨3, ![32, 8, 128]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S256x8x128 : Shape := ⟨3, ![256, 8, 128]⟩
abbrev S1x8x128 : Shape := ⟨3, ![1, 8, 128]⟩
abbrev S8x128 : Shape := ⟨2, ![8, 128]⟩
abbrev S1x256x1024 : Shape := ⟨3, ![1, 256, 1024]⟩

abbrev nBuf : Space → Nat
  | .hbm => 20
  | .vmem => 14
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x2048, .f32⟩
  | .hbm, ⟨3, _⟩ => ⟨S2048, .f32⟩
  | .hbm, ⟨4, _⟩ => ⟨S31x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1x1024, .f32⟩
  | .hbm, ⟨11, _⟩ => ⟨S1024x2048, .bf16⟩
  | .hbm, ⟨12, _⟩ => ⟨S1x2048, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1024x1024, .bf16⟩
  | .hbm, ⟨17, _⟩ => ⟨S1x1024, .f32⟩
  | .hbm, ⟨18, _⟩ => ⟨S31x8x128, .f32⟩
  | .hbm, ⟨19, _⟩ => ⟨S32x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2048, .bf16⟩
  | .local _ .vmem, ⟨4, _⟩ => ⟨S1x2048, .f32⟩
  | .local _ .vmem, ⟨5, _⟩ => ⟨S31x8x128, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .bf16⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | .local _ .vmem, ⟨13, _⟩ => ⟨S544x8x128, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S31x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ConvRefIdeal.lean ====
abbrev S32x2048x1024 : Shape := ⟨3, ![32, 2048, 1024]⟩
abbrev S1024 : Shape := ⟨1, ![1024]⟩
abbrev S1024x2048 : Shape := ⟨2, ![1024, 2048]⟩
abbrev S2048 : Shape := ⟨1, ![2048]⟩
abbrev S31x1024 : Shape := ⟨2, ![31, 1024]⟩
abbrev S1024x1024 : Shape := ⟨2, ![1024, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2048 : Shape := ⟨3, ![32, 2048, 2048]⟩
abbrev S1x1x2048 : Shape := ⟨3, ![1, 1, 2048]⟩
abbrev S32x2078x1024 : Shape := ⟨3, ![32, 2078, 1024]⟩
abbrev S1x1024 : Shape := ⟨2, ![1, 1024]⟩

abbrev nBuf : Space → Nat
  | .hbm => 307
  | .vmem => 0
  | .smem => 0
  | _ => 0

abbrev hbmTy0_0 (i : Nat) : BufTy := match i % 128 with
  | 0 => ⟨S32x2048x1024, .f32⟩
  | 1 => ⟨S1024, .f32⟩
  | 2 => ⟨S1024x2048, .f32⟩
  | 3 => ⟨S2048, .f32⟩
  | 4 => ⟨S31x1024, .f32⟩
  | 5 => ⟨S1024, .f32⟩
  | 6 => ⟨S1024, .f32⟩
  | 7 => ⟨S1024, .f32⟩
  | 8 => ⟨S1024x1024, .f32⟩
  | 9 => ⟨S1024, .f32⟩
  | 10 => ⟨S32x2048x1024, .f32⟩
  | 11 => ⟨S_, .f32⟩
  | 12 => ⟨S32x2048, .f32⟩
  | 13 => ⟨S32x2048x1, .f32⟩
  | 14 => ⟨S_, .f32⟩
  | 15 => ⟨S32x2048x1, .f32⟩
  | 16 => ⟨S32x2048x1, .f32⟩
  | 17 => ⟨S_, .f32⟩
  | 18 => ⟨S32x2048x1, .f32⟩
  | 19 => ⟨S32x2048x1, .f32⟩
  | 20 => ⟨S32x2048x1, .f32⟩
  | 21 => ⟨S32x2048x1024, .f32⟩
  | 22 => ⟨S32x2048x1024, .f32⟩
  | 23 => ⟨S1x1x1024, .f32⟩
  | 24 => ⟨S32x2048x1024, .f32⟩
  | 25 => ⟨S32x2048x1024, .f32⟩
  | 26 => ⟨S32x2048x2048, .f32⟩
  | 27 => ⟨S1x1x2048, .f32⟩
  | 28 => ⟨S32x2048x2048, .f32⟩
  | 29 => ⟨S32x2048x2048, .f32⟩
  | 30 => ⟨S32x2048x1024, .f32⟩
  | 31 => ⟨S32x2048x1024, .f32⟩
  | 32 => ⟨S32x2048x1024, .f32⟩
  | 33 => ⟨S32x2048x1024, .f32⟩
  | 34 => ⟨S_, .f32⟩
  | 35 => ⟨S32x2048x1024, .f32⟩
  | 36 => ⟨S32x2048x1024, .f32⟩
  | 37 => ⟨S_, .f32⟩
  | 38 => ⟨S32x2048x1024, .f32⟩
  | 39 => ⟨S32x2048x1024, .f32⟩
  | 40 => ⟨S32x2048x1024, .f32⟩
  | 41 => ⟨S_, .i32⟩
  | 42 => ⟨S_, .f32⟩
  | 43 => ⟨S32x2078x1024, .f32⟩
  | 44 => ⟨S32x2048x1024, .f32⟩
  | 45 => ⟨S1x1024, .f32⟩
  | 46 => ⟨S1024, .f32⟩
  | 47 => ⟨S1x1x1024, .f32⟩
  | 48 => ⟨S32x2048x1024, .f32⟩
  | 49 => ⟨S32x2048x1024, .f32⟩
  | 50 => ⟨S_, .f32⟩
  | 51 => ⟨S32x2048x1024, .f32⟩
  | 52 => ⟨S32x2048x1024, .f32⟩
  | 53 => ⟨S32x2048x1024, .f32⟩
  | 54 => ⟨S1x1024, .f32⟩
  | 55 => ⟨S1024, .f32⟩
  | 56 => ⟨S1x1x1024, .f32⟩
  | 57 => ⟨S32x2048x1024, .f32⟩
  | 58 => ⟨S32x2048x1024, .f32⟩
  | 59 => ⟨S32x2048x1024, .f32⟩
  | 60 => ⟨S32x2048x1024, .f32⟩
  | 61 => ⟨S1x1024, .f32⟩
  | 62 => ⟨S1024, .f32⟩
  | 63 => ⟨S1x1x1024, .f32⟩
  | 64 => ⟨S32x2048x1024, .f32⟩
  | 65 => ⟨S32x2048x1024, .f32⟩
  | 66 => ⟨S32x2048x1024, .f32⟩
  | 67 => ⟨S32x2048x1024, .f32⟩
  | 68 => ⟨S1x1024, .f32⟩
  | 69 => ⟨S1024, .f32⟩
  | 70 => ⟨S1x1x1024, .f32⟩
  | 71 => ⟨S32x2048x1024, .f32⟩
  | 72 => ⟨S32x2048x1024, .f32⟩
  | 73 => ⟨S32x2048x1024, .f32⟩
  | 74 => ⟨S32x2048x1024, .f32⟩
  | 75 => ⟨S1x1024, .f32⟩
  | 76 => ⟨S1024, .f32⟩
  | 77 => ⟨S1x1x1024, .f32⟩
  | 78 => ⟨S32x2048x1024, .f32⟩
  | 79 => ⟨S32x2048x1024, .f32⟩
  | 80 => ⟨S32x2048x1024, .f32⟩
  | 81 => ⟨S32x2048x1024, .f32⟩
  | 82 => ⟨S1x1024, .f32⟩
  | 83 => ⟨S1024, .f32⟩
  | 84 => ⟨S1x1x1024, .f32⟩
  | 85 => ⟨S32x2048x1024, .f32⟩
  | 86 => ⟨S32x2048x1024, .f32⟩
  | 87 => ⟨S32x2048x1024, .f32⟩
  | 88 => ⟨S32x2048x1024, .f32⟩
  | 89 => ⟨S1x1024, .f32⟩
  | 90 => ⟨S1024, .f32⟩
  | 91 => ⟨S1x1x1024, .f32⟩
  | 92 => ⟨S32x2048x1024, .f32⟩
  | 93 => ⟨S32x2048x1024, .f32⟩
  | 94 => ⟨S32x2048x1024, .f32⟩
  | 95 => ⟨S32x2048x1024, .f32⟩
  | 96 => ⟨S1x1024, .f32⟩
  | 97 => ⟨S1024, .f32⟩
  | 98 => ⟨S1x1x1024, .f32⟩
  | 99 => ⟨S32x2048x1024, .f32⟩
  | 100 => ⟨S32x2048x1024, .f32⟩
  | 101 => ⟨S32x2048x1024, .f32⟩
  | 102 => ⟨S32x2048x1024, .f32⟩
  | 103 => ⟨S1x1024, .f32⟩
  | 104 => ⟨S1024, .f32⟩
  | 105 => ⟨S1x1x1024, .f32⟩
  | 106 => ⟨S32x2048x1024, .f32⟩
  | 107 => ⟨S32x2048x1024, .f32⟩
  | 108 => ⟨S32x2048x1024, .f32⟩
  | 109 => ⟨S32x2048x1024, .f32⟩
  | 110 => ⟨S1x1024, .f32⟩
  | 111 => ⟨S1024, .f32⟩
  | 112 => ⟨S1x1x1024, .f32⟩
  | 113 => ⟨S32x2048x1024, .f32⟩
  | 114 => ⟨S32x2048x1024, .f32⟩
  | 115 => ⟨S32x2048x1024, .f32⟩
  | 116 => ⟨S32x2048x1024, .f32⟩
  | 117 => ⟨S1x1024, .f32⟩
  | 118 => ⟨S1024, .f32⟩
  | 119 => ⟨S1x1x1024, .f32⟩
  | 120 => ⟨S32x2048x1024, .f32⟩
  | 121 => ⟨S32x2048x1024, .f32⟩
  | 122 => ⟨S32x2048x1024, .f32⟩
  | 123 => ⟨S32x2048x1024, .f32⟩
  | 124 => ⟨S1x1024, .f32⟩
  | 125 => ⟨S1024, .f32⟩
  | 126 => ⟨S1x1x1024, .f32⟩
  | 127 => ⟨S32x2048x1024, .f32⟩
  | _ => ⟨S32x2048x1024, .f32⟩

abbrev hbmTy0_1 (i : Nat) : BufTy := match i % 128 with
  | 0 => ⟨S32x2048x1024, .f32⟩
  | 1 => ⟨S32x2048x1024, .f32⟩
  | 2 => ⟨S32x2048x1024, .f32⟩
  | 3 => ⟨S1x1024, .f32⟩
  | 4 => ⟨S1024, .f32⟩
  | 5 => ⟨S1x1x1024, .f32⟩
  | 6 => ⟨S32x2048x1024, .f32⟩
  | 7 => ⟨S32x2048x1024, .f32⟩
  | 8 => ⟨S32x2048x1024, .f32⟩
  | 9 => ⟨S32x2048x1024, .f32⟩
  | 10 => ⟨S1x1024, .f32⟩
  | 11 => ⟨S1024, .f32⟩
  | 12 => ⟨S1x1x1024, .f32⟩
  | 13 => ⟨S32x2048x1024, .f32⟩
  | 14 => ⟨S32x2048x1024, .f32⟩
  | 15 => ⟨S32x2048x1024, .f32⟩
  | 16 => ⟨S32x2048x1024, .f32⟩
  | 17 => ⟨S1x1024, .f32⟩
  | 18 => ⟨S1024, .f32⟩
  | 19 => ⟨S1x1x1024, .f32⟩
  | 20 => ⟨S32x2048x1024, .f32⟩
  | 21 => ⟨S32x2048x1024, .f32⟩
  | 22 => ⟨S32x2048x1024, .f32⟩
  | 23 => ⟨S32x2048x1024, .f32⟩
  | 24 => ⟨S1x1024, .f32⟩
  | 25 => ⟨S1024, .f32⟩
  | 26 => ⟨S1x1x1024, .f32⟩
  | 27 => ⟨S32x2048x1024, .f32⟩
  | 28 => ⟨S32x2048x1024, .f32⟩
  | 29 => ⟨S32x2048x1024, .f32⟩
  | 30 => ⟨S32x2048x1024, .f32⟩
  | 31 => ⟨S1x1024, .f32⟩
  | 32 => ⟨S1024, .f32⟩
  | 33 => ⟨S1x1x1024, .f32⟩
  | 34 => ⟨S32x2048x1024, .f32⟩
  | 35 => ⟨S32x2048x1024, .f32⟩
  | 36 => ⟨S32x2048x1024, .f32⟩
  | 37 => ⟨S32x2048x1024, .f32⟩
  | 38 => ⟨S1x1024, .f32⟩
  | 39 => ⟨S1024, .f32⟩
  | 40 => ⟨S1x1x1024, .f32⟩
  | 41 => ⟨S32x2048x1024, .f32⟩
  | 42 => ⟨S32x2048x1024, .f32⟩
  | 43 => ⟨S32x2048x1024, .f32⟩
  | 44 => ⟨S32x2048x1024, .f32⟩
  | 45 => ⟨S1x1024, .f32⟩
  | 46 => ⟨S1024, .f32⟩
  | 47 => ⟨S1x1x1024, .f32⟩
  | 48 => ⟨S32x2048x1024, .f32⟩
  | 49 => ⟨S32x2048x1024, .f32⟩
  | 50 => ⟨S32x2048x1024, .f32⟩
  | 51 => ⟨S32x2048x1024, .f32⟩
  | 52 => ⟨S1x1024, .f32⟩
  | 53 => ⟨S1024, .f32⟩
  | 54 => ⟨S1x1x1024, .f32⟩
  | 55 => ⟨S32x2048x1024, .f32⟩
  | 56 => ⟨S32x2048x1024, .f32⟩
  | 57 => ⟨S32x2048x1024, .f32⟩
  | 58 => ⟨S32x2048x1024, .f32⟩
  | 59 => ⟨S1x1024, .f32⟩
  | 60 => ⟨S1024, .f32⟩
  | 61 => ⟨S1x1x1024, .f32⟩
  | 62 => ⟨S32x2048x1024, .f32⟩
  | 63 => ⟨S32x2048x1024, .f32⟩
  | 64 => ⟨S32x2048x1024, .f32⟩
  | 65 => ⟨S32x2048x1024, .f32⟩
  | 66 => ⟨S1x1024, .f32⟩
  | 67 => ⟨S1024, .f32⟩
  | 68 => ⟨S1x1x1024, .f32⟩
  | 69 => ⟨S32x2048x1024, .f32⟩
  | 70 => ⟨S32x2048x1024, .f32⟩
  | 71 => ⟨S32x2048x1024, .f32⟩
  | 72 => ⟨S32x2048x1024, .f32⟩
  | 73 => ⟨S1x1024, .f32⟩
  | 74 => ⟨S1024, .f32⟩
  | 75 => ⟨S1x1x1024, .f32⟩
  | 76 => ⟨S32x2048x1024, .f32⟩
  | 77 => ⟨S32x2048x1024, .f32⟩
  | 78 => ⟨S32x2048x1024, .f32⟩
  | 79 => ⟨S32x2048x1024, .f32⟩
  | 80 => ⟨S1x1024, .f32⟩
  | 81 => ⟨S1024, .f32⟩
  | 82 => ⟨S1x1x1024, .f32⟩
  | 83 => ⟨S32x2048x1024, .f32⟩
  | 84 => ⟨S32x2048x1024, .f32⟩
  | 85 => ⟨S32x2048x1024, .f32⟩
  | 86 => ⟨S32x2048x1024, .f32⟩
  | 87 => ⟨S1x1024, .f32⟩
  | 88 => ⟨S1024, .f32⟩
  | 89 => ⟨S1x1x1024, .f32⟩
  | 90 => ⟨S32x2048x1024, .f32⟩
  | 91 => ⟨S32x2048x1024, .f32⟩
  | 92 => ⟨S32x2048x1024, .f32⟩
  | 93 => ⟨S32x2048x1024, .f32⟩
  | 94 => ⟨S1x1024, .f32⟩
  | 95 => ⟨S1024, .f32⟩
  | 96 => ⟨S1x1x1024, .f32⟩
  | 97 => ⟨S32x2048x1024, .f32⟩
  | 98 => ⟨S32x2048x1024, .f32⟩
  | 99 => ⟨S32x2048x1024, .f32⟩
  | 100 => ⟨S32x2048x1024, .f32⟩
  | 101 => ⟨S1x1024, .f32⟩
  | 102 => ⟨S1024, .f32⟩
  | 103 => ⟨S1x1x1024, .f32⟩
  | 104 => ⟨S32x2048x1024, .f32⟩
  | 105 => ⟨S32x2048x1024, .f32⟩
  | 106 => ⟨S32x2048x1024, .f32⟩
  | 107 => ⟨S32x2048x1024, .f32⟩
  | 108 => ⟨S1x1024, .f32⟩
  | 109 => ⟨S1024, .f32⟩
  | 110 => ⟨S1x1x1024, .f32⟩
  | 111 => ⟨S32x2048x1024, .f32⟩
  | 112 => ⟨S32x2048x1024, .f32⟩
  | 113 => ⟨S32x2048x1024, .f32⟩
  | 114 => ⟨S32x2048x1024, .f32⟩
  | 115 => ⟨S1x1024, .f32⟩
  | 116 => ⟨S1024, .f32⟩
  | 117 => ⟨S1x1x1024, .f32⟩
  | 118 => ⟨S32x2048x1024, .f32⟩
  | 119 => ⟨S32x2048x1024, .f32⟩
  | 120 => ⟨S32x2048x1024, .f32⟩
  | 121 => ⟨S32x2048x1024, .f32⟩
  | 122 => ⟨S1x1024, .f32⟩
  | 123 => ⟨S1024, .f32⟩
  | 124 => ⟨S1x1x1024, .f32⟩
  | 125 => ⟨S32x2048x1024, .f32⟩
  | 126 => ⟨S32x2048x1024, .f32⟩
  | 127 => ⟨S32x2048x1024, .f32⟩
  | _ => ⟨S32x2048x1024, .f32⟩

abbrev hbmTy0_2 (i : Nat) : BufTy := match i % 128 with
  | 0 => ⟨S32x2048x1024, .f32⟩
  | 1 => ⟨S1x1024, .f32⟩
  | 2 => ⟨S1024, .f32⟩
  | 3 => ⟨S1x1x1024, .f32⟩
  | 4 => ⟨S32x2048x1024, .f32⟩
  | 5 => ⟨S32x2048x1024, .f32⟩
  | 6 => ⟨S32x2048x1024, .f32⟩
  | 7 => ⟨S1x1x1024, .f32⟩
  | 8 => ⟨S32x2048x1024, .f32⟩
  | 9 => ⟨S32x2048x1024, .f32⟩
  | 10 => ⟨S_, .f32⟩
  | 11 => ⟨S32x2048, .f32⟩
  | 12 => ⟨S32x2048x1, .f32⟩
  | 13 => ⟨S_, .f32⟩
  | 14 => ⟨S32x2048x1, .f32⟩
  | 15 => ⟨S32x2048x1, .f32⟩
  | 16 => ⟨S32x2048x1024, .f32⟩
  | 17 => ⟨S32x2048x1024, .f32⟩
  | 18 => ⟨S32x2048x1024, .f32⟩
  | 19 => ⟨S_, .f32⟩
  | 20 => ⟨S32x2048, .f32⟩
  | 21 => ⟨S32x2048x1, .f32⟩
  | 22 => ⟨S_, .f32⟩
  | 23 => ⟨S32x2048x1, .f32⟩
  | 24 => ⟨S32x2048x1, .f32⟩
  | 25 => ⟨S_, .f32⟩
  | 26 => ⟨S32x2048x1, .f32⟩
  | 27 => ⟨S32x2048x1, .f32⟩
  | 28 => ⟨S32x2048x1, .f32⟩
  | 29 => ⟨S32x2048x1024, .f32⟩
  | 30 => ⟨S32x2048x1024, .f32⟩
  | 31 => ⟨S1x1x1024, .f32⟩
  | 32 => ⟨S32x2048x1024, .f32⟩
  | 33 => ⟨S32x2048x1024, .f32⟩
  | 34 => ⟨S1x1x1024, .f32⟩
  | 35 => ⟨S32x2048x1024, .f32⟩
  | 36 => ⟨S32x2048x1024, .f32⟩
  | 37 => ⟨S32x2048x1024, .f32⟩
  | 38 => ⟨S32x2048x1024, .f32⟩
  | 39 => ⟨S_, .f32⟩
  | 40 => ⟨S32x2048x1024, .f32⟩
  | 41 => ⟨S32x2048x1024, .f32⟩
  | 42 => ⟨S_, .f32⟩
  | 43 => ⟨S32x2048x1024, .f32⟩
  | 44 => ⟨S32x2048x1024, .f32⟩
  | 45 => ⟨S32x2048x1024, .f32⟩
  | 46 => ⟨S32x2048x1024, .f32⟩
  | 47 => ⟨S1x1x1024, .f32⟩
  | 48 => ⟨S32x2048x1024, .f32⟩
  | 49 => ⟨S32x2048x1024, .f32⟩
  | 50 => ⟨S32x2048x1024, .f32⟩
  | _ => ⟨S32x2048x1024, .f32⟩

abbrev hbmTy (i : Nat) : BufTy := match i / 128 with
  | 0 => hbmTy0_0 i
  | 1 => hbmTy0_1 i
  | 2 => hbmTy0_2 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c : Ref sig .tc := ⟨.hbm, 41, rfl⟩
abbrev main_call0_v0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_v184 : Ref sig .tc := ⟨.hbm, 202, rfl⟩
abbrev main_v185 : Ref sig .tc := ⟨.hbm, 203, rfl⟩
abbrev main_v186 : Ref sig .tc := ⟨.hbm, 204, rfl⟩
abbrev main_v187 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩
abbrev main_v192 : Ref sig .tc := ⟨.hbm, 210, rfl⟩
abbrev main_v193 : Ref sig .tc := ⟨.hbm, 211, rfl⟩
abbrev main_v194 : Ref sig .tc := ⟨.hbm, 212, rfl⟩
abbrev main_v195 : Ref sig .tc := ⟨.hbm, 213, rfl⟩
abbrev main_v196 : Ref sig .tc := ⟨.hbm, 214, rfl⟩
abbrev main_v197 : Ref sig .tc := ⟨.hbm, 215, rfl⟩
abbrev main_v198 : Ref sig .tc := ⟨.hbm, 216, rfl⟩
abbrev main_v199 : Ref sig .tc := ⟨.hbm, 217, rfl⟩
abbrev main_v200 : Ref sig .tc := ⟨.hbm, 218, rfl⟩
abbrev main_v201 : Ref sig .tc := ⟨.hbm, 219, rfl⟩
abbrev main_v202 : Ref sig .tc := ⟨.hbm, 220, rfl⟩
abbrev main_v203 : Ref sig .tc := ⟨.hbm, 221, rfl⟩
abbrev main_v204 : Ref sig .tc := ⟨.hbm, 222, rfl⟩
abbrev main_v205 : Ref sig .tc := ⟨.hbm, 223, rfl⟩
abbrev main_v206 : Ref sig .tc := ⟨.hbm, 224, rfl⟩
abbrev main_v207 : Ref sig .tc := ⟨.hbm, 225, rfl⟩
abbrev main_v208 : Ref sig .tc := ⟨.hbm, 226, rfl⟩
abbrev main_v209 : Ref sig .tc := ⟨.hbm, 227, rfl⟩
abbrev main_v210 : Ref sig .tc := ⟨.hbm, 228, rfl⟩
abbrev main_v211 : Ref sig .tc := ⟨.hbm, 229, rfl⟩
abbrev main_v212 : Ref sig .tc := ⟨.hbm, 230, rfl⟩
abbrev main_v213 : Ref sig .tc := ⟨.hbm, 231, rfl⟩
abbrev main_v214 : Ref sig .tc := ⟨.hbm, 232, rfl⟩
abbrev main_v215 : Ref sig .tc := ⟨.hbm, 233, rfl⟩
abbrev main_v216 : Ref sig .tc := ⟨.hbm, 234, rfl⟩
abbrev main_v217 : Ref sig .tc := ⟨.hbm, 235, rfl⟩
abbrev main_v218 : Ref sig .tc := ⟨.hbm, 236, rfl⟩
abbrev main_v219 : Ref sig .tc := ⟨.hbm, 237, rfl⟩
abbrev main_v220 : Ref sig .tc := ⟨.hbm, 238, rfl⟩
abbrev main_v221 : Ref sig .tc := ⟨.hbm, 239, rfl⟩
abbrev main_v222 : Ref sig .tc := ⟨.hbm, 240, rfl⟩
abbrev main_v223 : Ref sig .tc := ⟨.hbm, 241, rfl⟩
abbrev main_v224 : Ref sig .tc := ⟨.hbm, 242, rfl⟩
abbrev main_v225 : Ref sig .tc := ⟨.hbm, 243, rfl⟩
abbrev main_v226 : Ref sig .tc := ⟨.hbm, 244, rfl⟩
abbrev main_v227 : Ref sig .tc := ⟨.hbm, 245, rfl⟩
abbrev main_v228 : Ref sig .tc := ⟨.hbm, 246, rfl⟩
abbrev main_v229 : Ref sig .tc := ⟨.hbm, 247, rfl⟩
abbrev main_v230 : Ref sig .tc := ⟨.hbm, 248, rfl⟩
abbrev main_v231 : Ref sig .tc := ⟨.hbm, 249, rfl⟩
abbrev main_v232 : Ref sig .tc := ⟨.hbm, 250, rfl⟩
abbrev main_v233 : Ref sig .tc := ⟨.hbm, 251, rfl⟩
abbrev main_v234 : Ref sig .tc := ⟨.hbm, 252, rfl⟩
abbrev main_v235 : Ref sig .tc := ⟨.hbm, 253, rfl⟩
abbrev main_v236 : Ref sig .tc := ⟨.hbm, 254, rfl⟩
abbrev main_v237 : Ref sig .tc := ⟨.hbm, 255, rfl⟩
abbrev main_v238 : Ref sig .tc := ⟨.hbm, 256, rfl⟩
abbrev main_v239 : Ref sig .tc := ⟨.hbm, 257, rfl⟩
abbrev main_v240 : Ref sig .tc := ⟨.hbm, 258, rfl⟩
abbrev main_v241 : Ref sig .tc := ⟨.hbm, 259, rfl⟩
abbrev main_v242 : Ref sig .tc := ⟨.hbm, 260, rfl⟩
abbrev main_v243 : Ref sig .tc := ⟨.hbm, 261, rfl⟩
abbrev main_v244 : Ref sig .tc := ⟨.hbm, 262, rfl⟩
abbrev main_v245 : Ref sig .tc := ⟨.hbm, 263, rfl⟩
abbrev main_v246 : Ref sig .tc := ⟨.hbm, 264, rfl⟩
abbrev main_v247 : Ref sig .tc := ⟨.hbm, 265, rfl⟩
abbrev main_cst_5 : Ref sig .tc := ⟨.hbm, 266, rfl⟩
abbrev main_v248 : Ref sig .tc := ⟨.hbm, 267, rfl⟩
abbrev main_v249 : Ref sig .tc := ⟨.hbm, 268, rfl⟩
abbrev main_cst_6 : Ref sig .tc := ⟨.hbm, 269, rfl⟩
abbrev main_v250 : Ref sig .tc := ⟨.hbm, 270, rfl⟩
abbrev main_v251 : Ref sig .tc := ⟨.hbm, 271, rfl⟩
abbrev main_v252 : Ref sig .tc := ⟨.hbm, 272, rfl⟩
abbrev main_v253 : Ref sig .tc := ⟨.hbm, 273, rfl⟩
abbrev main_v254 : Ref sig .tc := ⟨.hbm, 274, rfl⟩
abbrev main_cst_7 : Ref sig .tc := ⟨.hbm, 275, rfl⟩
abbrev main_v255 : Ref sig .tc := ⟨.hbm, 276, rfl⟩
abbrev main_v256 : Ref sig .tc := ⟨.hbm, 277, rfl⟩
abbrev main_cst_8 : Ref sig .tc := ⟨.hbm, 278, rfl⟩
abbrev main_v257 : Ref sig .tc := ⟨.hbm, 279, rfl⟩
abbrev main_v258 : Ref sig .tc := ⟨.hbm, 280, rfl⟩
abbrev main_cst_9 : Ref sig .tc := ⟨.hbm, 281, rfl⟩
abbrev main_v259 : Ref sig .tc := ⟨.hbm, 282, rfl⟩
abbrev main_v260 : Ref sig .tc := ⟨.hbm, 283, rfl⟩
abbrev main_v261 : Ref sig .tc := ⟨.hbm, 284, rfl⟩
abbrev main_v262 : Ref sig .tc := ⟨.hbm, 285, rfl⟩
abbrev main_v263 : Ref sig .tc := ⟨.hbm, 286, rfl⟩
abbrev main_v264 : Ref sig .tc := ⟨.hbm, 287, rfl⟩
abbrev main_v265 : Ref sig .tc := ⟨.hbm, 288, rfl⟩
abbrev main_v266 : Ref sig .tc := ⟨.hbm, 289, rfl⟩
abbrev main_v267 : Ref sig .tc := ⟨.hbm, 290, rfl⟩
abbrev main_v268 : Ref sig .tc := ⟨.hbm, 291, rfl⟩
abbrev main_v269 : Ref sig .tc := ⟨.hbm, 292, rfl⟩
abbrev main_call1_v0 : Ref sig .tc := ⟨.hbm, 293, rfl⟩
abbrev main_call1_v1 : Ref sig .tc := ⟨.hbm, 294, rfl⟩
abbrev main_call1_cst : Ref sig .tc := ⟨.hbm, 295, rfl⟩
abbrev main_call1_v2 : Ref sig .tc := ⟨.hbm, 296, rfl⟩
abbrev main_call1_v3 : Ref sig .tc := ⟨.hbm, 297, rfl⟩
abbrev main_call1_cst_0 : Ref sig .tc := ⟨.hbm, 298, rfl⟩
abbrev main_call1_v4 : Ref sig .tc := ⟨.hbm, 299, rfl⟩
abbrev main_call1_v5 : Ref sig .tc := ⟨.hbm, 300, rfl⟩
abbrev main_v270 : Ref sig .tc := ⟨.hbm, 301, rfl⟩
abbrev main_v271 : Ref sig .tc := ⟨.hbm, 302, rfl⟩
abbrev main_v272 : Ref sig .tc := ⟨.hbm, 303, rfl⟩
abbrev main_v273 : Ref sig .tc := ⟨.hbm, 304, rfl⟩
abbrev main_v274 : Ref sig .tc := ⟨.hbm, 305, rfl⟩
abbrev main_v275 : Ref sig .tc := ⟨.hbm, 306, rfl⟩

abbrev nD : Nat := 1
abbrev τ : Topo := Topo.v7x

variable {F : FTy → Type} [FloatOps F]
-- ==== EvenIn.lean ====
abbrev S32x2048x1024 : Shape := ⟨3, ![32, 2048, 1024]⟩
abbrev S1024 : Shape := ⟨1, ![1024]⟩
abbrev S1024x2568 : Shape := ⟨2, ![1024, 2568]⟩
abbrev S8 : Shape := ⟨1, ![8]⟩
abbrev S512 : Shape := ⟨1, ![512]⟩
abbrev S8x128x128 : Shape := ⟨3, ![8, 128, 128]⟩
abbrev S8x128 : Shape := ⟨2, ![8, 128]⟩
abbrev S1024x8 : Shape := ⟨2, ![1024, 8]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S128x8 : Shape := ⟨2, ![128, 8]⟩
abbrev S128x8x64 : Shape := ⟨3, ![128, 8, 64]⟩
abbrev S128x512 : Shape := ⟨2, ![128, 512]⟩
abbrev S1x1024 : Shape := ⟨2, ![1, 1024]⟩
abbrev S1024x512 : Shape := ⟨2, ![1024, 512]⟩
abbrev S512x1024 : Shape := ⟨2, ![512, 1024]⟩
abbrev S1024x1024 : Shape := ⟨2, ![1024, 1024]⟩
abbrev S1x512 : Shape := ⟨2, ![1, 512]⟩
abbrev S32x512x2048 : Shape := ⟨3, ![32, 512, 2048]⟩
abbrev S32x2048x512 : Shape := ⟨3, ![32, 2048, 512]⟩
abbrev S32x2048x128 : Shape := ⟨3, ![32, 2048, 128]⟩
abbrev S1x1024x1024 : Shape := ⟨3, ![1, 1024, 1024]⟩
abbrev S1x512x1024 : Shape := ⟨3, ![1, 512, 1024]⟩
abbrev S1x1024x512 : Shape := ⟨3, ![1, 1024, 512]⟩
abbrev S1x1024x128 : Shape := ⟨3, ![1, 1024, 128]⟩
abbrev S1024x1 : Shape := ⟨2, ![1024, 1]⟩
abbrev S128x128 : Shape := ⟨2, ![128, 128]⟩
abbrev S1x128x128 : Shape := ⟨3, ![1, 128, 128]⟩
abbrev S128x256 : Shape := ⟨2, ![128, 256]⟩
abbrev S1x128x512 : Shape := ⟨3, ![1, 128, 512]⟩

abbrev nBuf : Space → Nat
  | .hbm => 38
  | .vmem => 24
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x2568, .f32⟩
  | .hbm, ⟨3, _⟩ => ⟨S8, .f32⟩
  | .hbm, ⟨4, _⟩ => ⟨S512, .f32⟩
  | .hbm, ⟨5, _⟩ => ⟨S512, .f32⟩
  | .hbm, ⟨6, _⟩ => ⟨S8x128x128, .f32⟩
  | .hbm, ⟨7, _⟩ => ⟨S8x128, .f32⟩
  | .hbm, ⟨8, _⟩ => ⟨S1024x8, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S128x8, .f32⟩
  | .hbm, ⟨17, _⟩ => ⟨S128x8x64, .f32⟩
  | .hbm, ⟨18, _⟩ => ⟨S128x512, .f32⟩
  | .hbm, ⟨19, _⟩ => ⟨S1x1024, .f32⟩
  | .hbm, ⟨20, _⟩ => ⟨S1024x512, .f32⟩
  | .hbm, ⟨21, _⟩ => ⟨S512x1024, .f32⟩
  | .hbm, ⟨22, _⟩ => ⟨S512x1024, .bf16⟩
  | .hbm, ⟨23, _⟩ => ⟨S1024x512, .f32⟩
  | .hbm, ⟨24, _⟩ => ⟨S1024x512, .bf16⟩
  | .hbm, ⟨25, _⟩ => ⟨S1024x512, .f32⟩
  | .hbm, ⟨26, _⟩ => ⟨S512x1024, .f32⟩
  | .hbm, ⟨27, _⟩ => ⟨S512x1024, .bf16⟩
  | .hbm, ⟨28, _⟩ => ⟨S1024x128, .bf16⟩
  | .hbm, ⟨29, _⟩ => ⟨S1024x1024, .f32⟩
  | .hbm, ⟨30, _⟩ => ⟨S1024x1024, .bf16⟩
  | .hbm, ⟨31, _⟩ => ⟨S1x512, .f32⟩
  | .hbm, ⟨32, _⟩ => ⟨S1x512, .f32⟩
  | .hbm, ⟨33, _⟩ => ⟨S32x512x2048, .bf16⟩
  | .hbm, ⟨34, _⟩ => ⟨S32x2048x512, .bf16⟩
  | .hbm, ⟨35, _⟩ => ⟨S32x512x2048, .bf16⟩
  | .hbm, ⟨36, _⟩ => ⟨S32x2048x128, .f32⟩
  | .hbm, ⟨37, _⟩ => ⟨S32x2048x512, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S512x1024, .bf16⟩
  | .local _ .vmem, ⟨4, _⟩ => ⟨S1024x512, .bf16⟩
  | .local _ .vmem, ⟨5, _⟩ => ⟨S512x1024, .bf16⟩
  | .local _ .vmem, ⟨6, _⟩ => ⟨S1024x128, .bf16⟩
  | .local _ .vmem, ⟨7, _⟩ => ⟨S1x128, .f32⟩
  | .local _ .vmem, ⟨8, _⟩ => ⟨S1024x1024, .bf16⟩
  | .local _ .vmem, ⟨9, _⟩ => ⟨S1x512, .f32⟩
  | .local _ .vmem, ⟨10, _⟩ => ⟨S1x512, .f32⟩
  | .local _ .vmem, ⟨11, _⟩ => ⟨S8x128x128, .f32⟩
  | .local _ .vmem, ⟨12, _⟩ => ⟨S128x512, .f32⟩
  | .local _ .vmem, ⟨13, _⟩ => ⟨S1x512x1024, .bf16⟩
  | .local _ .vmem, ⟨14, _⟩ => ⟨S1x512x1024, .bf16⟩
  | .local _ .vmem, ⟨15, _⟩ => ⟨S1x1024x512, .bf16⟩
  | .local _ .vmem, ⟨16, _⟩ => ⟨S1x1024x512, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x1024x128, .f32⟩
  | .local _ .vmem, ⟨20, _⟩ => ⟨S1x1024x128, .f32⟩
  | .local _ .vmem, ⟨21, _⟩ => ⟨S1x1024x512, .bf16⟩
  | .local _ .vmem, ⟨22, _⟩ => ⟨S1x1024x512, .bf16⟩
  | .local _ .vmem, ⟨23, _⟩ => ⟨S8x128, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_c_0 : Ref sig .tc := ⟨.hbm, 12, rfl⟩
abbrev main_call1_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21_0 : Ref sig .tc := ⟨.hbm, 33, rfl⟩
abbrev main_v21_1 : Ref sig .tc := ⟨.hbm, 34, rfl⟩
abbrev main_v21_2 : Ref sig .tc := ⟨.hbm, 35, rfl⟩
abbrev main_v21_3 : Ref sig .tc := ⟨.hbm, 36, rfl⟩
abbrev main_v21_4 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== EvenInIdeal.lean ====
variable {F : FTy → Type} [FloatOps F] [Named F]
def κ : String → Option EReal := fun
  | "log2_e" => some (((Real.log 2)⁻¹ : ℝ) : EReal)
  | "scale" => some (((1 / 8) * (Real.log 2)⁻¹ : ℝ) : EReal)
  | _ => none
-- ==== EvenInRefIdeal.lean ====
abbrev S32x2048x1024 : Shape := ⟨3, ![32, 2048, 1024]⟩
abbrev S1024 : Shape := ⟨1, ![1024]⟩
abbrev S1024x2568 : Shape := ⟨2, ![1024, 2568]⟩
abbrev S8 : Shape := ⟨1, ![8]⟩
abbrev S512 : Shape := ⟨1, ![512]⟩
abbrev S8x128x128 : Shape := ⟨3, ![8, 128, 128]⟩
abbrev S8x128 : Shape := ⟨2, ![8, 128]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2568 : Shape := ⟨3, ![32, 2048, 2568]⟩
abbrev S32x2048x512 : Shape := ⟨3, ![32, 2048, 512]⟩
abbrev S32x2048x8 : Shape := ⟨3, ![32, 2048, 8]⟩
abbrev S1x1x512 : Shape := ⟨3, ![1, 1, 512]⟩
abbrev S32x16x128x8x64 : Shape := ⟨5, ![32, 16, 128, 8, 64]⟩
abbrev S128x128 : Shape := ⟨2, ![128, 128]⟩
abbrev S1x128x128 : Shape := ⟨3, ![1, 128, 128]⟩
abbrev S8x32x16x64x128 : Shape := ⟨5, ![8, 32, 16, 64, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S1x1x8 : Shape := ⟨3, ![1, 1, 8]⟩
abbrev S32x2048x128 : Shape := ⟨3, ![32, 2048, 128]⟩
abbrev S32x512x2048 : Shape := ⟨3, ![32, 512, 2048]⟩

abbrev nBuf : Space → Nat
  | .hbm => 140
  | .vmem => 0
  | .smem => 0
  | _ => 0

abbrev hbmTy0_0 (i : Nat) : BufTy := match i % 128 with
  | 0 => ⟨S32x2048x1024, .f32⟩
  | 1 => ⟨S1024, .f32⟩
  | 2 => ⟨S1024x2568, .f32⟩
  | 3 => ⟨S8, .f32⟩
  | 4 => ⟨S512, .f32⟩
  | 5 => ⟨S512, .f32⟩
  | 6 => ⟨S8x128x128, .f32⟩
  | 7 => ⟨S8x128, .f32⟩
  | 8 => ⟨S_, .f32⟩
  | 9 => ⟨S_, .f32⟩
  | 10 => ⟨S32x2048x1024, .f32⟩
  | 11 => ⟨S_, .f32⟩
  | 12 => ⟨S32x2048, .f32⟩
  | 13 => ⟨S32x2048x1, .f32⟩
  | 14 => ⟨S_, .f32⟩
  | 15 => ⟨S32x2048x1, .f32⟩
  | 16 => ⟨S32x2048x1, .f32⟩
  | 17 => ⟨S_, .f32⟩
  | 18 => ⟨S32x2048x1, .f32⟩
  | 19 => ⟨S32x2048x1, .f32⟩
  | 20 => ⟨S32x2048x1, .f32⟩
  | 21 => ⟨S32x2048x1024, .f32⟩
  | 22 => ⟨S32x2048x1024, .f32⟩
  | 23 => ⟨S1x1x1024, .f32⟩
  | 24 => ⟨S32x2048x1024, .f32⟩
  | 25 => ⟨S32x2048x1024, .f32⟩
  | 26 => ⟨S32x2048x2568, .f32⟩
  | 27 => ⟨S32x2048x512, .f32⟩
  | 28 => ⟨S32x2048x512, .f32⟩
  | 29 => ⟨S32x2048x512, .f32⟩
  | 30 => ⟨S32x2048x8, .f32⟩
  | 31 => ⟨S32x2048x1024, .f32⟩
  | 32 => ⟨S32x2048x1024, .f32⟩
  | 33 => ⟨S32x2048x1024, .f32⟩
  | 34 => ⟨S_, .f32⟩
  | 35 => ⟨S32x2048x1024, .f32⟩
  | 36 => ⟨S32x2048x1024, .f32⟩
  | 37 => ⟨S32x2048x1024, .f32⟩
  | 38 => ⟨S_, .f32⟩
  | 39 => ⟨S32x2048x1024, .f32⟩
  | 40 => ⟨S32x2048x1024, .f32⟩
  | 41 => ⟨S32x2048x1024, .f32⟩
  | 42 => ⟨S_, .f32⟩
  | 43 => ⟨S32x2048x1024, .f32⟩
  | 44 => ⟨S32x2048x1024, .f32⟩
  | 45 => ⟨S_, .f32⟩
  | 46 => ⟨S32x2048x1024, .f32⟩
  | 47 => ⟨S32x2048x1024, .f32⟩
  | 48 => ⟨S32x2048x1024, .f32⟩
  | 49 => ⟨S32x2048x512, .f32⟩
  | 50 => ⟨S32x2048x512, .f32⟩
  | 51 => ⟨S_, .f32⟩
  | 52 => ⟨S32x2048, .f32⟩
  | 53 => ⟨S32x2048x1, .f32⟩
  | 54 => ⟨S_, .f32⟩
  | 55 => ⟨S32x2048x1, .f32⟩
  | 56 => ⟨S32x2048x1, .f32⟩
  | 57 => ⟨S32x2048x512, .f32⟩
  | 58 => ⟨S32x2048x512, .f32⟩
  | 59 => ⟨S32x2048x512, .f32⟩
  | 60 => ⟨S_, .f32⟩
  | 61 => ⟨S32x2048, .f32⟩
  | 62 => ⟨S32x2048x1, .f32⟩
  | 63 => ⟨S_, .f32⟩
  | 64 => ⟨S32x2048x1, .f32⟩
  | 65 => ⟨S32x2048x1, .f32⟩
  | 66 => ⟨S_, .f32⟩
  | 67 => ⟨S32x2048x1, .f32⟩
  | 68 => ⟨S32x2048x1, .f32⟩
  | 69 => ⟨S32x2048x1, .f32⟩
  | 70 => ⟨S32x2048x512, .f32⟩
  | 71 => ⟨S32x2048x512, .f32⟩
  | 72 => ⟨S1x1x512, .f32⟩
  | 73 => ⟨S32x2048x512, .f32⟩
  | 74 => ⟨S32x2048x512, .f32⟩
  | 75 => ⟨S1x1x512, .f32⟩
  | 76 => ⟨S32x2048x512, .f32⟩
  | 77 => ⟨S32x2048x512, .f32⟩
  | 78 => ⟨S32x16x128x8x64, .f32⟩
  | 79 => ⟨S_, .f32⟩
  | 80 => ⟨S128x128, .f32⟩
  | 81 => ⟨S128x128, .i32⟩
  | 82 => ⟨S_, .i32⟩
  | 83 => ⟨S128x128, .i32⟩
  | 84 => ⟨S128x128, .i32⟩
  | 85 => ⟨S128x128, .i32⟩
  | 86 => ⟨S128x128, .i1⟩
  | 87 => ⟨S_, .f32⟩
  | 88 => ⟨S128x128, .f32⟩
  | 89 => ⟨S128x128, .f32⟩
  | 90 => ⟨S1x128x128, .f32⟩
  | 91 => ⟨S8x128x128, .f32⟩
  | 92 => ⟨S8x128x128, .f32⟩
  | 93 => ⟨S8x32x16x64x128, .f32⟩
  | 94 => ⟨S32x16x128x8x64, .f32⟩
  | 95 => ⟨S128x8, .f32⟩
  | 96 => ⟨S128x8x1, .f32⟩
  | 97 => ⟨S1x1x128x8x1, .f32⟩
  | 98 => ⟨S32x16x128x8x64, .f32⟩
  | 99 => ⟨S32x16x128x8x64, .f32⟩
  | 100 => ⟨S32x2048x512, .f32⟩
  | 101 => ⟨S32x2048x512, .f32⟩
  | 102 => ⟨S1x1x8, .f32⟩
  | 103 => ⟨S32x2048x8, .f32⟩
  | 104 => ⟨S32x2048x8, .f32⟩
  | 105 => ⟨S_, .i32⟩
  | 106 => ⟨S_, .f32⟩
  | 107 => ⟨S32x2048x128, .f32⟩
  | 108 => ⟨S32x2048x128, .f32⟩
  | 109 => ⟨S_, .f32⟩
  | 110 => ⟨S32x2048x128, .f32⟩
  | 111 => ⟨S32x2048x128, .f32⟩
  | 112 => ⟨S32x2048x128, .f32⟩
  | 113 => ⟨S32x2048x128, .f32⟩
  | 114 => ⟨S32x2048x128, .i1⟩
  | 115 => ⟨S32x2048x128, .f32⟩
  | 116 => ⟨S32x2048x128, .f32⟩
  | 117 => ⟨S32x2048x128, .f32⟩
  | 118 => ⟨S32x2048x128, .f32⟩
  | 119 => ⟨S32x2048x128, .f32⟩
  | 120 => ⟨S32x2048x128, .f32⟩
  | 121 => ⟨S32x2048x128, .f32⟩
  | 122 => ⟨S32x2048x128, .f32⟩
  | 123 => ⟨S32x2048x128, .f32⟩
  | 124 => ⟨S_, .f32⟩
  | 125 => ⟨S_, .f32⟩
  | 126 => ⟨S32x2048x128, .f32⟩
  | 127 => ⟨S_, .f32⟩
  | _ => ⟨S32x2048x1024, .f32⟩

abbrev hbmTy0_1 (i : Nat) : BufTy := match i % 128 with
  | 0 => ⟨S32x2048x512, .f32⟩
  | 1 => ⟨S32x2048x512, .f32⟩
  | 2 => ⟨S32x2048x512, .f32⟩
  | 3 => ⟨S32x2048x512, .f32⟩
  | 4 => ⟨S32x2048x512, .bf16⟩
  | 5 => ⟨S32x512x2048, .bf16⟩
  | 6 => ⟨S32x2048x512, .bf16⟩
  | 7 => ⟨S32x2048x512, .bf16⟩
  | 8 => ⟨S32x512x2048, .bf16⟩
  | 9 => ⟨S32x2048x128, .f32⟩
  | 10 => ⟨S32x2048x128, .f32⟩
  | 11 => ⟨S32x2048x512, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_cst_11 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_12 : Ref sig .tc := ⟨.hbm, 79, rfl⟩
abbrev main_v58 : Ref sig .tc := ⟨.hbm, 80, rfl⟩
abbrev main_call0_v0 : Ref sig .tc := ⟨.hbm, 81, rfl⟩
abbrev main_call0_c : Ref sig .tc := ⟨.hbm, 82, rfl⟩
abbrev main_call0_v1 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_call0_cst : Ref sig .tc := ⟨.hbm, 87, rfl⟩
abbrev main_call0_v5 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c : Ref sig .tc := ⟨.hbm, 105, rfl⟩
abbrev main_call1_v0 : Ref sig .tc := ⟨.hbm, 106, rfl⟩
abbrev main_v75 : Ref sig .tc := ⟨.hbm, 107, rfl⟩
abbrev main_call2_v0 : Ref sig .tc := ⟨.hbm, 108, rfl⟩
abbrev main_call2_call0_cst : Ref sig .tc := ⟨.hbm, 109, rfl⟩
abbrev main_call2_call0_v0 : Ref sig .tc := ⟨.hbm, 110, rfl⟩
abbrev main_call2_call0_v1 : Ref sig .tc := ⟨.hbm, 111, rfl⟩
abbrev main_call2_call0_v2 : Ref sig .tc := ⟨.hbm, 112, rfl⟩
abbrev main_call2_call0_v3 : Ref sig .tc := ⟨.hbm, 113, rfl⟩
abbrev main_call2_call0_v4 : Ref sig .tc := ⟨.hbm, 114, rfl⟩
abbrev main_call2_call0_v5 : Ref sig .tc := ⟨.hbm, 115, rfl⟩
abbrev main_call2_call0_v6 : Ref sig .tc := ⟨.hbm, 116, rfl⟩
abbrev main_call2_call0_v7 : Ref sig .tc := ⟨.hbm, 117, rfl⟩
abbrev main_call2_call0_v8 : Ref sig .tc := ⟨.hbm, 118, rfl⟩
abbrev main_call2_call0_v9 : Ref sig .tc := ⟨.hbm, 119, rfl⟩
abbrev main_call2_call0_v10 : Ref sig .tc := ⟨.hbm, 120, rfl⟩
abbrev main_call2_call0_v11 : Ref sig .tc := ⟨.hbm, 121, rfl⟩
abbrev main_call2_v1 : Ref sig .tc := ⟨.hbm, 122, rfl⟩
abbrev main_v76 : Ref sig .tc := ⟨.hbm, 123, rfl⟩
abbrev main_call3_call0_cst : Ref sig .tc := ⟨.hbm, 124, rfl⟩
abbrev main_call3_call0_v0 : Ref sig .tc := ⟨.hbm, 125, rfl⟩
abbrev main_v77 : Ref sig .tc := ⟨.hbm, 126, rfl⟩
abbrev main_cst_13 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩

abbrev nD : Nat := 1
abbrev τ : Topo := Topo.v7x

variable {F : FTy → Type} [FloatOps F]
-- ==== Proof.Fox.Soft.lean ====
/-
  The softmax average over extended reals, once and for all: however the weights are scaled, by whichever shift and in
  whichever base, the average is the sum of the values times the normalised real weights.
-/
module

public import Idealize.ShloMosaic.Lib.Pipeline.ValueKit

@[expose] public section

namespace Cert.Fox
open Idealize.ShloMosaic

/-- A nonnegative real factor goes into a sum of extended reals. -/
theorem sum_mul_real {ι : Type*} (s : Finset ι) (f : ι → EReal) (k : ℝ) (hk : 0 ≤ k) :
    (∑ i ∈ s, f i) * (k : EReal) = ∑ i ∈ s, f i * (k : EReal) := by
  classical
  induction s using Finset.induction_on with
  | empty => simp
  | insert a s ha ih =>
    rw [Finset.sum_insert ha, Finset.sum_insert ha, ← ih]
    exact EReal.right_distrib_of_nonneg_of_ne_top (by exact_mod_cast hk) (EReal.coe_ne_top k) _ _

/-- The sum of real numbers, in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals, the divisor nonzero. -/
theorem div_real (x y : ℝ) (h : y ≠ 0) : Ideal.div (x : EReal) (y : EReal) = ((x / y : ℝ) : EReal) := by
  rw [Ideal.div_coe h, ← EReal.coe_mul, mul_one_div]

/-- Scaled weights, normalised after the sum: the scale cancels. -/
theorem average_after {ι : Type*} (s : Finset ι) (v : ι → EReal) (w : ι → ℝ) (k : ℝ) (hk : 0 < k) (hw : 0 < ∑ i ∈ s, w i) :
    (∑ i ∈ s, v i * ((w i * k : ℝ) : EReal)) * Ideal.div 1 ((∑ i ∈ s, w i * k : ℝ) : EReal)
      = ∑ i ∈ s, v i * ((w i / ∑ i ∈ s, w i : ℝ) : EReal) := by
  have hs : ∑ i ∈ s, w i * k = (∑ i ∈ s, w i) * k := (Finset.sum_mul ..).symm
  have hne : (∑ i ∈ s, w i) * k ≠ 0 := (mul_pos hw hk).ne'
  rw [hs, show (1 : EReal) = ((1 : ℝ) : EReal) from rfl, div_real _ _ hne,
    sum_mul_real _ _ _ (by have := mul_pos hw hk; positivity)]
  refine Finset.sum_congr rfl fun i _ => ?_
  rw [mul_assoc, ← EReal.coe_mul]
  congr 2
  field_simp

/-- Scaled weights, normalised before the sum. -/
theorem average_before {ι : Type*} (s : Finset ι) (v : ι → EReal) (w : ι → ℝ) (k : ℝ) (hk : 0 < k) (hw : 0 < ∑ i ∈ s, w i) :
    ∑ i ∈ s, v i * Ideal.div ((w i * k : ℝ) : EReal) ((∑ i ∈ s, w i * k : ℝ) : EReal)
      = ∑ i ∈ s, v i * ((w i / ∑ i ∈ s, w i : ℝ) : EReal) := by
  have hs : ∑ i ∈ s, w i * k = (∑ i ∈ s, w i) * k := (Finset.sum_mul ..).symm
  have hne : (∑ i ∈ s, w i) * k ≠ 0 := (mul_pos hw hk).ne'
  refine Finset.sum_congr rfl fun i _ => ?_
  rw [hs, div_real _ _ hne, mul_div_mul_right _ _ hk.ne']

/-- The running maximum is the supremum. -/
theorem fold_max_eq_sup {ι : Type*} (s : Finset ι) (f : ι → EReal) : s.fold max ⊥ f = s.sup f := rfl

/-- The supremum of finitely many scores that are minus infinity or real, one of them real, is real. -/
theorem sup_real {ι : Type*} (s : Finset ι) (f : ι → EReal) (hf : ∀ i ∈ s, f i ≠ ⊤) (i : ι) (hi : i ∈ s) (hne : f i ≠ ⊥) :
    ∃ M : ℝ, s.sup f = (M : EReal) := by
  have h1 : s.sup f ≠ ⊤ := ((Finset.sup_lt_iff (by exact bot_lt_top)).2 fun j hj => lt_top_iff_ne_top.2 (hf j hj)).ne
  have h2 : s.sup f ≠ ⊥ := fun h => hne (le_bot_iff.1 (h ▸ Finset.le_sup (f := f) hi))
  exact ⟨(s.sup f).toReal, (EReal.coe_toReal h1 h2).symm⟩

/-- Two raised to a masked score less a real shift. -/
theorem exp2_masked (p : Prop) [Decidable p] (x M : ℝ) :
    Ideal.exp2 ((if p then (x : EReal) else ⊥) - (M : EReal)) = (((if p then Real.rpow 2 x else 0) * Real.rpow 2 (-M) : ℝ) : EReal) := by
  split
  · rw [← EReal.coe_sub, Ideal.exp2_coe, sub_eq_add_neg]
    congr 1
    exact Real.rpow_add (by norm_num) x (-M)
  · simp [Ideal.exp2_bot]

/-- e raised to a masked score less a real shift. -/
theorem exp_masked (p : Prop) [Decidable p] (x M : ℝ) :
    Ideal.exp ((if p then (x : EReal) else ⊥) - (M : EReal)) = (((if p then Real.exp x else 0) * Real.exp (-M) : ℝ) : EReal) := by
  split
  · rw [← EReal.coe_sub, Ideal.exp_coe, sub_eq_add_neg, Real.exp_add]
  · simp [Ideal.exp_bot]

/-- A sum over all keys, of terms that vanish past the block's own keys, is the sum over the n keys before the block and
    over the block's own. -/
theorem sum_block {M : Type*} [AddCommMonoid M] {N n k : ℕ} (h : n + k ≤ N) (f : Fin N → M)
    (hf : ∀ i : Fin N, n + k ≤ i.val → f i = 0) :
    ∑ i, f i = (∑ a : Fin k, f ⟨n + a, by omega⟩) + ∑ a : Fin n, f ⟨a, by omega⟩ := by
  obtain ⟨e, rfl⟩ : ∃ e, N = n + k + e := ⟨N - (n + k), by omega⟩
  rw [Fin.sum_univ_add, Fin.sum_univ_add, add_comm (∑ i : Fin n, _)]
  rw [show ∑ i : Fin e, f (Fin.natAdd (n + k) i) = 0 from Finset.sum_eq_zero fun i _ => hf _ (by simp), add_zero]
  rfl

/-- One query's attention as the kernel takes it: a maximum, a sum of weights and a weighted sum of values over the
    block's own keys, the same over the n keys before it, then one quotient. -/
noncomputable def att {k n : ℕ} (sD : Fin k → EReal) (sO : Fin n → EReal) (vD : Fin k → EReal) (vO : Fin n → EReal) : EReal :=
  let m := max (Finset.univ.sup sD) (Finset.univ.sup sO)
  ((∑ a, vD a * Ideal.exp2 (sD a - m)) + ∑ a, vO a * Ideal.exp2 (sO a - m)) *
    Ideal.div 1 ((∑ a, Ideal.exp2 (sD a - m)) + ∑ a, Ideal.exp2 (sO a - m))

/-- The normalised weights of the first keys, up to and including key t, for real scores. -/
noncomputable def weight {N : ℕ} (x : Fin N → ℝ) (t : Fin N) (i : Fin N) : ℝ :=
  (if i ≤ t then Real.exp (x i) else 0) / ∑ i, if i ≤ t then Real.exp (x i) else 0

theorem weight_pos {N : ℕ} (x : Fin N → ℝ) (t : Fin N) : 0 < ∑ i, if i ≤ t then Real.exp (x i) else 0 :=
  Finset.sum_pos' (fun i _ => by split <;> positivity) ⟨t, Finset.mem_univ _, by simpa using Real.exp_pos _⟩

/-- The reference's average: a masked softmax over all keys, normalised before the weighted sum. -/
theorem average_ref {N : ℕ} (x : Fin N → ℝ) (t : Fin N) (v : Fin N → EReal) (s : Fin N → EReal)
    (hs : ∀ i, s i = if i ≤ t then (x i : EReal) else ⊥) :
    ∑ i, v i * Ideal.div (Ideal.exp (s i - Finset.univ.sup s)) (∑ i, Ideal.exp (s i - Finset.univ.sup s))
      = ∑ i, v i * (weight x t i : EReal) := by
  obtain ⟨M, hM⟩ := sup_real Finset.univ s (fun i _ => by rw [hs]; split <;> simp) t (Finset.mem_univ _) (by rw [hs]; simp)
  rw [hM]
  simp only [hs, exp_masked]
  rw [← coe_sum]
  exact average_before _ _ _ _ (Real.exp_pos _) (weight_pos x t)

/-- The kernel's average of one query, its own block masked: the same average with the same weights, when its scores are
    the reference's in base-2 units up to a shift c of the query. -/
theorem average_att {N n k : ℕ} (h : n + k ≤ N) (x : Fin N → ℝ) (y : Fin N → ℝ) (c : ℝ) (hy : ∀ i, Real.log 2 * y i = x i - c)
    (r : Fin k) (v : Fin N → EReal) (sD : Fin k → EReal) (sO : Fin n → EReal) (vD : Fin k → EReal) (vO : Fin n → EReal)
    (hD : ∀ a, sD a = if a ≤ r then (y ⟨n + a, by omega⟩ : EReal) else ⊥) (hO : ∀ a, sO a = (y ⟨a, by omega⟩ : EReal))
    (hvD : ∀ a, vD a = v ⟨n + a, by omega⟩) (hvO : ∀ a, vO a = v ⟨a, by omega⟩) :
    att sD sO vD vO = ∑ i, v i * (weight x ⟨n + r, by omega⟩ i : EReal) := by
  obtain ⟨A, hA⟩ := sup_real Finset.univ sD (fun i _ => by rw [hD]; split <;> simp) r (Finset.mem_univ _) (by rw [hD]; simp)
  have hB : Finset.univ.sup sO ≠ ⊤ := ((Finset.sup_lt_iff (by exact bot_lt_top)).2 fun j _ =>
    lt_top_iff_ne_top.2 (by rw [hO]; simp)).ne
  obtain ⟨M, hM⟩ : ∃ M : ℝ, max (Finset.univ.sup sD) (Finset.univ.sup sO) = (M : EReal) := by
    have h1 : max (Finset.univ.sup sD) (Finset.univ.sup sO) ≠ ⊤ := (max_lt (hA ▸ EReal.coe_lt_top A) (lt_top_iff_ne_top.2 hB)).ne
    have h2 : max (Finset.univ.sup sD) (Finset.univ.sup sO) ≠ ⊥ := fun h => by
      have := (le_max_left (Finset.univ.sup sD) (Finset.univ.sup sO)).trans_eq h
      rw [hA] at this
      exact EReal.coe_ne_bot A (le_bot_iff.1 this)
    exact ⟨_, (EReal.coe_toReal h1 h2).symm⟩
  set t : Fin N := ⟨n + r, by omega⟩ with ht
  set w : Fin N → ℝ := fun i => if i ≤ t then Real.exp (x i) else 0 with hw
  set K : ℝ := Real.exp (-c) * Real.rpow 2 (-M) with hK
  have hKpos : 0 < K := mul_pos (Real.exp_pos _) (Real.rpow_pos_of_pos (by norm_num) _)
  have hpow : ∀ i, Real.rpow 2 (y i) = Real.exp (x i) * Real.exp (-c) := fun i => by
    change (2 : ℝ) ^ (y i) = _
    rw [Real.rpow_def_of_pos (by norm_num), hy, sub_eq_add_neg, Real.exp_add]
  have eD : ∀ a, Ideal.exp2 (sD a - (M : EReal)) = ((w ⟨n + a, by omega⟩ * K : ℝ) : EReal) := fun a => by
    rw [hD, exp2_masked, hpow]
    have : (⟨n + a, by omega⟩ : Fin N) ≤ t ↔ a ≤ r := Nat.add_le_add_iff_left
    simp only [hw, this]
    congr 1
    split <;> simp [hK, mul_assoc]
  have eO : ∀ a, Ideal.exp2 (sO a - (M : EReal)) = ((w ⟨a, by omega⟩ * K : ℝ) : EReal) := fun a => by
    have := exp2_masked True (y ⟨a, by omega⟩) M
    rw [if_pos trivial, if_pos trivial, hpow] at this
    rw [hO, this]
    have : (⟨a, by omega⟩ : Fin N) ≤ t := by simp [ht, Fin.le_def]; omega
    simp only [hw, this, if_true, hK, mul_assoc]
  have hz : ∀ i : Fin N, n + k ≤ i.val → w i = 0 := fun i hi => by
    have : ¬ i ≤ t := by simp [ht, Fin.le_def]; omega
    simp [hw, this]
  unfold att
  simp only [hM, eD, eO, hvD, hvO]
  rw [← sum_block h (fun i => v i * ((w i * K : ℝ) : EReal)) (fun i hi => by simp [hz i hi]),
    ← sum_block h (fun i => ((w i * K : ℝ) : EReal)) (fun i hi => by simp [hz i hi]), ← coe_sum]
  exact average_after _ _ _ _ hKpos (weight_pos x t)

end Cert.Fox
-- ==== Proof.Fox.Attend.lean ====
/-
  One head of one block of queries, generic in the number n of keys before the block: the kernel body's operations on
  tensors, and what they are worth at an index.
-/
module

public import Idealize.ShloMosaic.Lib.Pipeline.ValueKit
public import proofs.«01_k».proof.Proof.Gen.KernelIdeal.Value
public import proofs.«01_k».proof.Proof.Fox.Soft
public import Idealize.ShloMosaic.Lib.ValueLayout
public import Idealize.ShloMosaic.Lib.WordCmp

@[expose] public section
set_option maxRecDepth 16384

namespace Cert.Fox
open Idealize.ShloMosaic Cert.KernelIdeal Cert.KernelIdeal.Gen

/-- A matrix shape. -/
abbrev Sh (a b : Nat) : Shape := ⟨2, ![a, b]⟩

/-- The plain matrix product's axes. -/
abbrev mmDims {m k n : Nat} (wf : DotDims.WF (Sh m k) (Sh k n) (Sh m n) [1] [0] [0] [1] [] []) : DotDims (Sh m k) (Sh k n) (Sh m n) :=
  ⟨[1], [0], [0], [1], [], [], wf⟩

/-- A matrix product at an index. -/
theorem mm_apply {m k n : Nat} (wf) (x : FVec Ideal (Sh m k) .bf16) (y : FVec Ideal (Sh k n) .bf16)
    (z : FVec Ideal (Sh m n) .f32) (r : Fin m) (l : Fin n) :
    matmul (mmDims wf) none x y z (ix2 r l) = (z (ix2 r l) + ∑ c : Fin k, x (ix2 r c) * y (ix2 c l) : EReal) := by
  refine Ideal.matmul_apply₁_of (mmDims wf) (a := 1) rfl rfl x y z (ix2 r l) (fun c => ix2 r c) (fun c => ix2 c l) ?_ ?_ <;>
  · intro c
    funext a
    fin_cases a <;> rfl

/-- The mask's select on the block's own scores, after the subtraction of the keys' log-forgets. -/
noncomputable def ownScores (mask : IVec S256x256 1) (s : FVec Ideal S256x256 .f32) (ck : FVec Ideal S2048x1 .f32) (r0 : Nat)
    (hs : S2048x1.Slices ![r0, 0] S256x1) : FVec Ideal S256x256 .f32 :=
  select mask (subf s (broadcastTo S256x256 (extractStridedSlice S256x1 ![r0, 0] ck hs) broadcasts_S256x1_S256x256))
    (broadcast S256x256 (Scalar.ofBits .f32 0xFF800000#32))

/-- The earlier keys' scores, after the subtraction of their log-forgets. -/
noncomputable def pastScores {n : Nat} (s : FVec Ideal (Sh n 256) .f32) (ck : FVec Ideal S2048x1 .f32)
    (hs : S2048x1.Slices ![0, 0] (Sh n 1)) (hb : (Sh n 1).Broadcasts (Sh n 256)) : FVec Ideal (Sh n 256) .f32 :=
  subf s (broadcastTo (Sh n 256) (extractStridedSlice (Sh n 1) ![0, 0] ck hs) hb)

/-- The columns' maxima, as a row. -/
noncomputable def colMax {n : Nat} (x : FVec Ideal (Sh n 256) .f32) (h : (Sh n 256).Reduces [0] S256) : FVec Ideal S1x256 .f32 :=
  shapeCast S1x256 (multiReduction .maximumf [0] S256 x 0xFF800000#32 h (.inl rfl) rfl) shapeCasts_S256_S1x256

/-- The columns' sums, as a row. -/
noncomputable def colSum {n : Nat} (x : FVec Ideal (Sh n 256) .f32) (h : (Sh n 256).Reduces [0] S256) : FVec Ideal S1x256 .f32 :=
  shapeCast S1x256 (multiReduction .add [0] S256 x 0x00000000#32 h (.inl rfl) rfl) shapeCasts_S256_S1x256

/-- The weights: two raised to the scores less the columns' shift. -/
noncomputable def weigh {n : Nat} (x : FVec Ideal (Sh n 256) .f32) (m : FVec Ideal S1x256 .f32) (h : S1x256.Broadcasts (Sh n 256)) :
    FVec Ideal (Sh n 256) .f32 := exp2 (subf x (broadcastTo (Sh n 256) m h))

/-- The values weighed. -/
noncomputable def mix {n : Nat} (v : FVec Ideal (Sh 64 n) .bf16) (p : FVec Ideal (Sh n 256) .f32)
    (wf : DotDims.WF (Sh 64 n) (Sh n 256) (Sh 64 256) [1] [0] [0] [1] [] []) : FVec Ideal S64x256 .f32 :=
  matmul (mmDims wf) none v (truncf .bf16 p bitsLt_bf16_f32) (constant S64x256 .f32 0x00000000#32)

/-- The weighted values over the sum of the weights, a query to a row. -/
noncomputable def finish (acc : FVec Ideal S64x256 .f32) (l : FVec Ideal S1x256 .f32) : FVec Ideal S256x64 .f32 :=
  transpose S256x64 [1, 0] (mulf acc (broadcastTo S64x256 (divf (broadcast S1x256 (Scalar.ofBits .f32 0x3F800000#32)) l)
    broadcasts_S1x256_S64x256)) transposes_S64x256_p1_0_S256x64

/-- A block of queries with keys before it. -/
noncomputable def headPast {n : Nat} (sD : FVec Ideal (Sh 256 256) .f32) (sO : FVec Ideal (Sh n 256) .f32)
    (vD : FVec Ideal (Sh 64 256) .bf16) (vO : FVec Ideal (Sh 64 n) .bf16) (h : (Sh n 256).Reduces [0] S256)
    (hb : S1x256.Broadcasts (Sh n 256)) (wf : DotDims.WF (Sh 64 n) (Sh n 256) (Sh 64 256) [1] [0] [0] [1] [] []) :
    FVec Ideal S256x64 .f32 :=
  let m := maximumf (colMax sD reduces_S256x256_S256) (colMax sO h)
  let pD := weigh sD m broadcasts_S1x256_S256x256
  let pO := weigh sO m hb
  finish (addf (mix vD pD dot_S64x256_S256x256_S64x256_1_0_0_1_n_n.wf) (mix vO pO wf))
    (addf (colSum pD reduces_S256x256_S256) (colSum pO h))

/-- The first block of queries. -/
noncomputable def headFirst (sD : FVec Ideal (Sh 256 256) .f32) (vD : FVec Ideal (Sh 64 256) .bf16) : FVec Ideal S256x64 .f32 :=
  let pD := weigh sD (colMax sD reduces_S256x256_S256) broadcasts_S1x256_S256x256
  finish (mix vD pD dot_S64x256_S256x256_S64x256_1_0_0_1_n_n.wf) (colSum pD reduces_S256x256_S256)

theorem ofBits_negInf : Ideal.ofBits FTy.f32 4286578688#32 = ⊥ := by
  simp [Ideal.ofBits, Ideal.ieee]

theorem colMax_apply {n : Nat} (x : FVec Ideal (Sh n 256) .f32) (h) (c : Fin 256) :
    colMax x h (ix2 0 c) = Finset.univ.sup fun a : Fin n => x (ix2 a c) := by
  pointwise [colMax]
  rw [ofBits_negInf]
  rfl

theorem colSum_apply {n : Nat} (x : FVec Ideal (Sh n 256) .f32) (h) (c : Fin 256) :
    colSum x h (ix2 0 c) = (∑ a : Fin n, x (ix2 a c) : EReal) := by
  pointwise [colSum]

theorem weigh_apply {n : Nat} (x : FVec Ideal (Sh n 256) .f32) (m) (h) (a : Fin n) (c : Fin 256) :
    weigh x m h (ix2 a c) = Ideal.exp2 (x (ix2 a c) - m (ix2 0 c)) := by
  pointwise [weigh]
  rfl

theorem mix_apply {n : Nat} (v : FVec Ideal (Sh 64 n) .bf16) (p : FVec Ideal (Sh n 256) .f32) (wf) (d : Fin 64) (c : Fin 256) :
    mix v p wf (ix2 d c) = (∑ a : Fin n, v (ix2 d a) * p (ix2 a c) : EReal) := by
  unfold mix
  rw [mm_apply]
  pointwise

theorem finish_apply (acc : FVec Ideal S64x256 .f32) (l : FVec Ideal S1x256 .f32) (r : Fin 256) (d : Fin 64) :
    finish acc l (ix2 r d) = (acc (ix2 d r) * Ideal.div 1 (l (ix2 0 r)) : EReal) := by
  pointwise [finish]

theorem headPast_apply {n : Nat} (sD sO vD vO) (h) (hb) (wf) (r : Fin 256) (d : Fin 64) :
    headPast (n := n) sD sO vD vO h hb wf (ix2 r d)
      = att (fun a => sD (ix2 a r)) (fun a => sO (ix2 a r)) (fun a => vD (ix2 d a)) (fun a => vO (ix2 d a)) := by
  unfold headPast
  rw [finish_apply]
  pointwise [mix_apply, colSum_apply, weigh_apply, colMax_apply, att]

theorem headFirst_apply (sD vD) (r : Fin 256) (d : Fin 64) :
    headFirst sD vD (ix2 r d)
      = att (fun a => sD (ix2 a r)) (fun _ : Fin 0 => ⊥) (fun a => vD (ix2 d a)) (fun _ : Fin 0 => ⊥) := by
  unfold headFirst
  rw [finish_apply]
  pointwise [mix_apply, colSum_apply, weigh_apply, colMax_apply, att]
  simp

theorem ownScores_apply (s ck) (r0 : Nat) (hs) (r c : Fin 256) (h : r0 + r.val < 2048) :
    ownScores k0_pay2 s ck r0 hs (ix2 r c) = if r ≤ c then (s (ix2 r c) - ck (ix2 ⟨r0 + r, h⟩ 0) : EReal) else ⊥ := by
  pointwise [ownScores, k0_pay2]
  rw [ofBits_negInf]
  unfold Scalar.select
  refine if_congr ?_ rfl rfl
  exact (WordCmp.cmpi_sle_ofNat_eq_one_iff (by omega) (by omega)).trans Fin.val_fin_le

theorem pastScores_apply {n : Nat} (s : FVec Ideal (Sh n 256) .f32) (ck hs hb) (r : Fin n) (c : Fin 256) (h : r.val < 2048) :
    pastScores s ck hs hb (ix2 r c) = (s (ix2 r c) - ck (ix2 ⟨r, h⟩ 0) : EReal) := by
  pointwise [pastScores]
  congr 3
  apply Fin.ext
  change (if _ : n = 1 then _ else _ : Fin n).val = r.val
  by_cases hn : n = 1
  · subst hn
    omega
  · exact congrArg Fin.val (dif_neg (c := n = 1) hn)

/-- The raw scores: keys by queries. -/
noncomputable def raw {n : Nat} (k : FVec Ideal (Sh n 128) .bf16) (q : FVec Ideal (Sh 128 256) .bf16)
    (wf : DotDims.WF (Sh n 128) (Sh 128 256) (Sh n 256) [1] [0] [0] [1] [] []) : FVec Ideal (Sh n 256) .f32 :=
  matmul (mmDims wf) none k q (constant (Sh n 256) .f32 0x00000000#32)

theorem raw_apply {n : Nat} (k : FVec Ideal (Sh n 128) .bf16) (q wf) (a : Fin n) (c : Fin 256) :
    raw k q wf (ix2 a c) = (∑ d : Fin 128, k (ix2 a d) * q (ix2 d c) : EReal) := by
  unfold raw
  rw [mm_apply]
  pointwise

/-- The first head's queries, the second head's lanes zero. -/
noncomputable def lead (q : FVec Ideal S64x256 .bf16) : FVec Ideal S128x256 .bf16 :=
  concatenate S128x256 0 [⟨S64x256, q⟩, ⟨S64x256, k0_pay3 (F := Ideal)⟩] concatenates_S64x256_S64x256_S128x256_d0

/-- The second head's queries, the first head's lanes zero. -/
noncomputable def trail (q : FVec Ideal S64x256 .bf16) : FVec Ideal S128x256 .bf16 :=
  concatenate S128x256 0 [⟨S64x256, k0_pay3 (F := Ideal)⟩, ⟨S64x256, q⟩] concatenates_S64x256_S64x256_S128x256_d0

theorem sum_halves (f : Fin 128 → EReal) :
    ∑ d, f d = (∑ d : Fin 64, f ⟨d, by omega⟩) + ∑ d : Fin 64, f ⟨64 + d, by omega⟩ :=
  Fin.sum_univ_add (a := 64) (b := 64) f

theorem raw_lead {n : Nat} (k : FVec Ideal (Sh n 128) .bf16) (q wf) (a : Fin n) (c : Fin 256) :
    raw k (lead q) wf (ix2 a c) = (∑ d : Fin 64, k (ix2 a ⟨d, by omega⟩) * q (ix2 d c) : EReal) := by
  rw [raw_apply, sum_halves]
  have h1 : ∀ d : Fin 64, lead q (ix2 ⟨d, by omega⟩ c) = q (ix2 d c) := fun d => by
    pointwise [lead]
  have h2 : ∀ d : Fin 64, lead q (ix2 ⟨64 + d, by omega⟩ c) = (0 : EReal) := fun d => by
    pointwise [lead, k0_pay3]
  simp only [h1, h2, mul_zero, Finset.sum_const_zero, add_zero]

theorem raw_trail {n : Nat} (k : FVec Ideal (Sh n 128) .bf16) (q wf) (a : Fin n) (c : Fin 256) :
    raw k (trail q) wf (ix2 a c) = (∑ d : Fin 64, k (ix2 a ⟨64 + d, by omega⟩) * q (ix2 d c) : EReal) := by
  rw [raw_apply, sum_halves]
  have h1 : ∀ d : Fin 64, trail q (ix2 ⟨d, by omega⟩ c) = (0 : EReal) := fun d => by
    pointwise [trail, k0_pay3]
  have h2 : ∀ d : Fin 64, trail q (ix2 ⟨64 + d, by omega⟩ c) = q (ix2 d c) := fun d => by
    pointwise [trail]
  simp only [h1, h2, mul_zero, Finset.sum_const_zero, zero_add]

/-- Two heads side by side, as the block that is stored. -/
noncomputable def pair (a b : FVec Ideal S256x64 .f32) : FVec Ideal S1x256x128 .bf16 :=
  shapeCast S1x256x128 (truncf .bf16 (concatenate S256x128 1 [⟨S256x64, a⟩, ⟨S256x64, b⟩] concatenates_S256x64_S256x64_S256x128_d1)
    bitsLt_bf16_f32) shapeCasts_S256x128_S1x256x128

theorem pair_left (a b) (r : Fin 256) (d : Fin 64) : pair a b (ix3 0 r ⟨d, by omega⟩) = a (ix2 r d) := by
  pointwise [pair]

theorem pair_right (a b) (r : Fin 256) (d : Fin 64) : pair a b (ix3 0 r ⟨64 + d, by omega⟩) = b (ix2 r d) := by
  pointwise [pair]

/-- The sum over the lanes of the one lane picked. -/
theorem sum_pick (f : Fin 128 → EReal) (e : Fin 128) :
    ∑ a : Fin 128, Scalar.select (IntOp.cmpi CmpIPredicate.eq (BitVec.ofNat 32 a.val) (BitVec.ofNat 32 e.val)) (f a) 0 = f e := by
  have h : ∀ a : Fin 128, Scalar.select (IntOp.cmpi CmpIPredicate.eq (BitVec.ofNat 32 a.val) (BitVec.ofNat 32 e.val)) (f a) 0
      = if a = e then f a else 0 := fun a => by
    unfold Scalar.select
    refine if_congr ?_ rfl rfl
    exact (WordCmp.cmpi_eq_ofNat_eq_one_iff (by omega) (by omega)).trans Fin.val_inj
  simp only [h, Finset.sum_ite_eq', Finset.mem_univ, if_true]

/-- A head's column of the cumulative log-forgets, picked out of the lanes. -/
theorem forget_first (i : grid0.Coords) (x : Vec Ideal S1x2048x128 .f32) (s : Fin 2048) (e : Fin 128) (he : e.val = 2 * (i 1).val) :
    k0_pay4 i (View.ld x r0_0) (ix2 s 0) = x (ix3 0 s e) := by
  pointwise [k0_pay4, k0_pay1]
  have hk : (i 1).val < 4 := (i 1).isLt
  rw [show Scalar.addi (Scalar.muli (2#32) (BitVec.ofNat 32 (i 1).val)) 0#32 = BitVec.ofNat 32 e.val by
    rw [he]; generalize (i 1).val = k at hk; interval_cases k <;> rfl]
  exact sum_pick _ e

theorem forget_second (i : grid0.Coords) (x : Vec Ideal S1x2048x128 .f32) (s : Fin 2048) (e : Fin 128) (he : e.val = 2 * (i 1).val + 1) :
    k0_pay5 i (View.ld x r0_0) (ix2 s 0) = x (ix3 0 s e) := by
  pointwise [k0_pay5, k0_pay1]
  have hk : (i 1).val < 4 := (i 1).isLt
  rw [show Scalar.addi (Scalar.muli (2#32) (BitVec.ofNat 32 (i 1).val)) 1#32 = BitVec.ofNat 32 e.val by
    rw [he]; generalize (i 1).val = k at hk; interval_cases k <;> rfl]
  exact sum_pick _ e

theorem rows_apply {n o : Nat} (x : Vec Ideal S1x2048x128 .bf16) (inb) (h) (a : Fin n) (c : Fin 128) (ha : o + a.val < 2048) :
    shapeCast (Sh n 128) (View.ld x (Rect.unit (s := S1x2048x128) ![0, o, 0] ![1, n, 128] inb)) h (ix2 a c) = x (ix3 0 ⟨o + a, ha⟩ c) := by
  have e : Shape.reshapeEquiv h (ix2 a c) = ix3 ⟨0, Nat.one_pos⟩ a c := ValueIdx.reshapeEquiv_ix2_1ab h a c
  pointwise
  rw [e]
  rfl

theorem cols_apply {n o p : Nat} (x : Vec Ideal S1x128x2048 .bf16) (inb) (h) (d : Fin 64) (a : Fin n) (hd : p + d.val < 128) (ha : o + a.val < 2048) :
    shapeCast (Sh 64 n) (View.ld x (Rect.unit (s := S1x128x2048) ![0, p, o] ![1, 64, n] inb)) h (ix2 d a) = x (ix3 0 ⟨p + d, hd⟩ ⟨o + a, ha⟩) := by
  have e : Shape.reshapeEquiv h (ix2 d a) = ix3 ⟨0, Nat.one_pos⟩ d a := ValueIdx.reshapeEquiv_ix2_1ab h d a
  pointwise
  rw [e]
  rfl

end Cert.Fox
-- ==== Proof.Fox.Pieces.lean ====
/-
  The eight blocks of queries of one grid point, each the same function of the number of keys before it, and what a
  block's stored value is worth when the scores are real.
-/
module

public import proofs.«01_k».proof.Proof.Fox.Attend

@[expose] public section
set_option maxRecDepth 16384

namespace Cert.Fox
open Idealize.ShloMosaic Cert.KernelIdeal Cert.KernelIdeal.Gen

/-- What the shapes of a block with n keys before it must satisfy. -/
structure Fits (n : Nat) : Prop where
  le : n + 256 ≤ 2048
  own : S2048x1.Slices ![n, 0] S256x1
  past : S2048x1.Slices ![0, 0] (Sh n 1)
  col : (Sh n 1).Broadcasts (Sh n 256)
  row : S1x256.Broadcasts (Sh n 256)
  red : (Sh n 256).Reduces [0] S256
  score : DotDims.WF (Sh n 128) (Sh 128 256) (Sh n 256) [1] [0] [0] [1] [] []
  value : DotDims.WF (Sh 64 n) (Sh n 256) (Sh 64 256) [1] [0] [0] [1] [] []
  keysD : ∀ a, (![0, n, 0] : Fin 3 → Nat) a + ![1, 256, 128] a ≤ S1x2048x128.size a
  keysO : ∀ a, (![0, 0, 0] : Fin 3 → Nat) a + ![1, n, 128] a ≤ S1x2048x128.size a
  firstD : ∀ a, (![0, 0, n] : Fin 3 → Nat) a + ![1, 64, 256] a ≤ S1x128x2048.size a
  firstO : ∀ a, (![0, 0, 0] : Fin 3 → Nat) a + ![1, 64, n] a ≤ S1x128x2048.size a
  secondD : ∀ a, (![0, 64, n] : Fin 3 → Nat) a + ![1, 64, 256] a ≤ S1x128x2048.size a
  secondO : ∀ a, (![0, 64, 0] : Fin 3 → Nat) a + ![1, 64, n] a ≤ S1x128x2048.size a
  castK : (⟨3, ![1, n, 128]⟩ : Shape).ShapeCasts (Sh n 128)
  castV : (⟨3, ![1, 64, n]⟩ : Shape).ShapeCasts (Sh 64 n)

/-- n consecutive keys, a key to a row. -/
noncomputable abbrev rows (x : Vec Ideal S1x2048x128 .bf16) (o n : Nat)
    (inb : ∀ a, (![0, o, 0] : Fin 3 → Nat) a + ![1, n, 128] a ≤ S1x2048x128.size a)
    (h : (⟨3, ![1, n, 128]⟩ : Shape).ShapeCasts (Sh n 128)) : FVec Ideal (Sh n 128) .bf16 :=
  shapeCast (Sh n 128) (View.ld x (Rect.unit (s := S1x2048x128) ![0, o, 0] ![1, n, 128] inb)) h

/-- n consecutive columns of a head's 64 rows. -/
noncomputable abbrev cols (x : Vec Ideal S1x128x2048 .bf16) (p o n : Nat)
    (inb : ∀ a, (![0, p, o] : Fin 3 → Nat) a + ![1, 64, n] a ≤ S1x128x2048.size a)
    (h : (⟨3, ![1, 64, n]⟩ : Shape).ShapeCasts (Sh 64 n)) : FVec Ideal (Sh 64 n) .bf16 :=
  shapeCast (Sh 64 n) (View.ld x (Rect.unit (s := S1x128x2048) ![0, p, o] ![1, 64, n] inb)) h

theorem rows_at {n o : Nat} (x : Vec Ideal S1x2048x128 .bf16) (inb) (h) (a : Fin n) (c : Fin 128) (ha : o + a.val < 2048) :
    rows x o n inb h (ix2 a c) = x (ix3 0 ⟨o + a, ha⟩ c) := rows_apply ..

theorem cols_at {n o p : Nat} (x : Vec Ideal S1x128x2048 .bf16) (inb) (h) (d : Fin 64) (a : Fin n) (hd : p + d.val < 128) (ha : o + a.val < 2048) :
    cols x p o n inb h (ix2 d a) = x (ix3 0 ⟨p + d, hd⟩ ⟨o + a, ha⟩) := cols_apply ..

/-- The own keys' score product's axes. -/
theorem wf_own : DotDims.WF (Sh 256 128) (Sh 128 256) (Sh 256 256) [1] [0] [0] [1] [] [] := by decide

/-- A block with n keys before it. -/
noncomputable def piecePast {n : Nat} (f : Fits n) (i : grid0.Coords) (x0 : Vec Ideal S1x128x2048 .bf16)
    (x1 : Vec Ideal S1x2048x128 .bf16) (x2 : Vec Ideal S1x128x2048 .bf16) (x3 : Vec Ideal S1x2048x128 .f32) :
    FVec Ideal S1x256x128 .bf16 :=
  let kD := rows x1 n 256 f.keysD shapeCasts_S1x256x128_S256x128
  let kO := rows x1 0 n f.keysO f.castK
  let q0 := lead (cols x0 0 n 256 f.firstD shapeCasts_S1x64x256_S64x256)
  let q1 := trail (cols x0 64 n 256 f.secondD shapeCasts_S1x64x256_S64x256)
  let c0 := k0_pay4 i (View.ld x3 r0_0)
  let c1 := k0_pay5 i (View.ld x3 r0_0)
  pair
    (headPast (ownScores k0_pay2 (raw kD q0 wf_own) c0 n f.own) (pastScores (raw kO q0 f.score) c0 f.past f.col)
      (cols x2 0 n 256 f.firstD shapeCasts_S1x64x256_S64x256) (cols x2 0 0 n f.firstO f.castV) f.red f.row f.value)
    (headPast (ownScores k0_pay2 (raw kD q1 wf_own) c1 n f.own) (pastScores (raw kO q1 f.score) c1 f.past f.col)
      (cols x2 64 n 256 f.secondD shapeCasts_S1x64x256_S64x256) (cols x2 64 0 n f.secondO f.castV) f.red f.row f.value)

/-- The first block. -/
noncomputable def pieceFirst (i : grid0.Coords) (x0 : Vec Ideal S1x128x2048 .bf16)
    (x1 : Vec Ideal S1x2048x128 .bf16) (x2 : Vec Ideal S1x128x2048 .bf16) (x3 : Vec Ideal S1x2048x128 .f32) :
    FVec Ideal S1x256x128 .bf16 :=
  let kD := shapeCast S256x128 (View.ld x1 r0_38) shapeCasts_S1x256x128_S256x128
  let q0 := lead (shapeCast S64x256 (View.ld x0 r0_41) shapeCasts_S1x64x256_S64x256)
  let q1 := trail (shapeCast S64x256 (View.ld x0 r0_42) shapeCasts_S1x64x256_S64x256)
  let c0 := k0_pay4 i (View.ld x3 r0_0)
  let c1 := k0_pay5 i (View.ld x3 r0_0)
  pair
    (headFirst (ownScores k0_pay2 (raw kD q0 wf_own) c0 0 slices_S2048x1_o0_0_S256x1)
      (shapeCast S64x256 (View.ld x2 r0_41) shapeCasts_S1x64x256_S64x256))
    (headFirst (ownScores k0_pay2 (raw kD q1 wf_own) c1 0 slices_S2048x1_o0_0_S256x1)
      (shapeCast S64x256 (View.ld x2 r0_42) shapeCasts_S1x64x256_S64x256))

/-- A head's score of a query and a key, in the units of the kernel. -/
noncomputable def score (x0 : Vec Ideal S1x128x2048 .bf16) (x1 : Vec Ideal S1x2048x128 .bf16) (x3 : Vec Ideal S1x2048x128 .f32)
    (hp : Fin 4) (j : Fin 2) (t s : Fin 2048) : EReal :=
  (∑ d : Fin 64, x1 (ix3 0 s ⟨64 * j + d, by omega⟩) * x0 (ix3 0 ⟨64 * j + d, by omega⟩ t)) - x3 (ix3 0 s ⟨2 * hp + j, by omega⟩)

variable {i : grid0.Coords} {x0 : Vec Ideal S1x128x2048 .bf16} {x1 : Vec Ideal S1x2048x128 .bf16}
  {x2 : Vec Ideal S1x128x2048 .bf16} {x3 : Vec Ideal S1x2048x128 .f32}

/-- The output block: its eight pieces. -/
theorem out_eq (f1 : Fits 1792) (f2 : Fits 1536) (f3 : Fits 1280) (f4 : Fits 1024) (f5 : Fits 768) (f6 : Fits 512) (f7 : Fits 256) :
    out0_4 i x0 x1 x2 x3 = View.canon [⟨r0_38, pieceFirst i x0 x1 x2 x3⟩, ⟨r0_37, piecePast f7 i x0 x1 x2 x3⟩,
      ⟨r0_31, piecePast f6 i x0 x1 x2 x3⟩, ⟨r0_25, piecePast f5 i x0 x1 x2 x3⟩, ⟨r0_19, piecePast f4 i x0 x1 x2 x3⟩,
      ⟨r0_13, piecePast f3 i x0 x1 x2 x3⟩, ⟨r0_7, piecePast f2 i x0 x1 x2 x3⟩, ⟨r0_2, piecePast f1 i x0 x1 x2 x3⟩] := rfl

/-- The first head's score, read off m keys from the o-th on and 256 queries from the n-th on. -/
theorem score_first {n o m : Nat} (hk hc hq wf) (r : Fin 256) (a : Fin m) (t s : Fin 2048) (ht : t.val = n + r) (hs : s.val = o + a) :
    (raw (rows x1 o m hk hc) (lead (cols x0 0 n 256 hq shapeCasts_S1x64x256_S64x256)) wf (ix2 a r)
      - k0_pay4 i (View.ld x3 r0_0) (ix2 s 0) : EReal) = score x0 x1 x3 (i 1) 0 t s := by
  obtain ⟨t, h1⟩ := t
  obtain ⟨s, h2⟩ := s
  subst ht hs
  rw [raw_lead, forget_first _ _ _ ⟨2 * (i 1).val, by have : (i 1).val < 4 := (i 1).isLt; omega⟩ rfl]
  refine congrArg₂ _ (Finset.sum_congr rfl fun d _ => ?_) rfl
  rw [rows_at x1 _ _ a _ h2, cols_at x0 _ _ d r (by omega) h1]
  refine congrArg₂ _ (congrArg x1 (congrArg (ix3 0 _) (Fin.ext ?_))) (congrArg x0 (congrArg (ix3 0 · _) (Fin.ext ?_))) <;>
  · change _ = 64 * 0 + d.val
    simp

/-- The second head's. -/
theorem score_second {n o m : Nat} (hk hc hq wf) (r : Fin 256) (a : Fin m) (t s : Fin 2048) (ht : t.val = n + r) (hs : s.val = o + a) :
    (raw (rows x1 o m hk hc) (trail (cols x0 64 n 256 hq shapeCasts_S1x64x256_S64x256)) wf (ix2 a r)
      - k0_pay5 i (View.ld x3 r0_0) (ix2 s 0) : EReal) = score x0 x1 x3 (i 1) 1 t s := by
  obtain ⟨t, h1⟩ := t
  obtain ⟨s, h2⟩ := s
  subst ht hs
  rw [raw_trail, forget_second _ _ _ ⟨2 * (i 1).val + 1, by have : (i 1).val < 4 := (i 1).isLt; omega⟩ rfl]
  refine congrArg₂ _ (Finset.sum_congr rfl fun d _ => ?_) rfl
  rw [rows_at x1 _ _ a _ h2, cols_at x0 _ _ d r (by omega) h1]
  rfl

/-- The stored block at a row and a lane, when the scores are real: the softmax average of the values. -/
theorem piecePast_value {n : Nat} (f : Fits n) (y x : Fin 2 → Fin 2048 → Fin 2048 → ℝ) (c : Fin 2 → Fin 2048 → ℝ)
    (hy : ∀ j t s, score x0 x1 x3 (i 1) j t s = (y j t s : EReal)) (hx : ∀ j t s, Real.log 2 * y j t s = x j t s - c j t)
    (r : Fin 256) (j : Fin 2) (d : Fin 64) (l : Fin 128) (hl : l.val = 64 * j + d) (t : Fin 2048) (ht : t.val = n + r) :
    piecePast f i x0 x1 x2 x3 (ix3 0 r l) = ∑ s, x2 (ix3 0 l s) * (weight (x j t) t s : EReal) := by
  have hle := f.le
  obtain ⟨t, h1⟩ := t
  obtain ⟨l, h2⟩ := l
  obtain rfl : t = n + r := ht
  fin_cases j
  · obtain rfl : l = d := hl.trans (by simp)
    refine (pair_left _ _ r d).trans ((headPast_apply ..).trans
      (average_att (n := n) (k := 256) hle _ (y 0 ⟨n + r, by omega⟩) _ (hx 0 _) r _ _ _ _ _ (fun a => ?_) (fun a => ?_)
        (fun a => ?_) (fun a => ?_)))
    · rw [ownScores_apply _ _ _ _ _ _ (by omega), score_first _ _ _ _ r a ⟨n + r, by omega⟩ _ rfl rfl, hy]
    · rw [pastScores_apply _ _ _ _ _ _ (by omega), score_first _ _ _ _ r a ⟨n + r, by omega⟩ _ rfl (Nat.zero_add _).symm, hy]
    · rw [cols_at x2 _ _ d a (by omega) (by omega)]
      exact congrArg x2 (congrArg (ix3 0 · _) (Fin.ext (Nat.zero_add _)))
    · rw [cols_at x2 _ _ d a (by omega) (by omega)]
      exact congrArg x2 (congrArg₂ (ix3 0) (Fin.ext (Nat.zero_add _)) (Fin.ext (Nat.zero_add _)))
  · obtain rfl : l = 64 + d := hl.trans (by simp)
    refine (pair_right _ _ r d).trans ((headPast_apply ..).trans
      (average_att (n := n) (k := 256) hle _ (y 1 ⟨n + r, by omega⟩) _ (hx 1 _) r _ _ _ _ _ (fun a => ?_) (fun a => ?_)
        (fun a => ?_) (fun a => ?_)))
    · rw [ownScores_apply _ _ _ _ _ _ (by omega), score_second _ _ _ _ r a ⟨n + r, by omega⟩ _ rfl rfl, hy]
    · rw [pastScores_apply _ _ _ _ _ _ (by omega), score_second _ _ _ _ r a ⟨n + r, by omega⟩ _ rfl (Nat.zero_add _).symm, hy]
    · rw [cols_at x2 _ _ d a (by omega) (by omega)]
    · rw [cols_at x2 _ _ d a (by omega) (by omega)]
      exact congrArg x2 (congrArg (ix3 0 _) (Fin.ext (Nat.zero_add _)))

/-- The same for the first block. -/
theorem pieceFirst_value (y x : Fin 2 → Fin 2048 → Fin 2048 → ℝ) (c : Fin 2 → Fin 2048 → ℝ)
    (hy : ∀ j t s, score x0 x1 x3 (i 1) j t s = (y j t s : EReal)) (hx : ∀ j t s, Real.log 2 * y j t s = x j t s - c j t)
    (r : Fin 256) (j : Fin 2) (d : Fin 64) (l : Fin 128) (hl : l.val = 64 * j + d) (t : Fin 2048) (ht : t.val = 0 + r) :
    pieceFirst i x0 x1 x2 x3 (ix3 0 r l) = ∑ s, x2 (ix3 0 l s) * (weight (x j t) t s : EReal) := by
  obtain ⟨t, h1⟩ := t
  obtain ⟨l, h2⟩ := l
  obtain rfl : t = 0 + r := ht
  fin_cases j
  · obtain rfl : l = d := hl.trans (by simp)
    refine (pair_left _ _ r d).trans ((headFirst_apply ..).trans
      (average_att (n := 0) (k := 256) (by omega) _ (y 0 ⟨0 + r, by omega⟩) _ (hx 0 _) r _ _ _ _ _ (fun a => ?_) (fun a => a.elim0)
        (fun a => ?_) (fun a => a.elim0)))
    · rw [ownScores_apply _ _ _ _ _ _ (by omega)]
      exact if_congr Iff.rfl ((score_first _ _ _ _ r a ⟨0 + r, by omega⟩ _ rfl rfl).trans (hy ..)) rfl
    · refine (cols_at x2 _ _ d a (by omega) (by omega)).trans ?_
      exact congrArg x2 (congrArg (ix3 0 · _) (Fin.ext (Nat.zero_add _)))
  · obtain rfl : l = 64 + d := hl.trans (by simp)
    refine (pair_right _ _ r d).trans ((headFirst_apply ..).trans
      (average_att (n := 0) (k := 256) (by omega) _ (y 1 ⟨0 + r, by omega⟩) _ (hx 1 _) r _ _ _ _ _ (fun a => ?_) (fun a => a.elim0)
        (fun a => ?_) (fun a => a.elim0)))
    · rw [ownScores_apply _ _ _ _ _ _ (by omega)]
      exact if_congr Iff.rfl ((score_second _ _ _ _ r a ⟨0 + r, by omega⟩ _ rfl rfl).trans (hy ..)) rfl
    · exact cols_at x2 _ _ d a (by omega) (by omega)

end Cert.Fox
-- ==== Proof.Fox.KernelValue.lean ====
/-
  The kernel's output array: at every batch, query and lane, the softmax average of the values.
-/
module

public import proofs.«01_k».proof.Proof.Fox.Pieces

@[expose] public section
set_option maxRecDepth 16384

namespace Cert.Fox
open Idealize.ShloMosaic Cert.KernelIdeal Cert.KernelIdeal.Gen

/-- Every element of an array is a real number. -/
def AllReal {s : Shape} (x : s.Idx → EReal) : Prop := ∀ i, ((x i).toReal : EReal) = x i

/-- The logit of a query t and a key s of head h. -/
noncomputable def logit (Q K : S32x2048x512.Idx → EReal) (C : S32x2048x8.Idx → EReal) (b : Fin 32) (h : Fin 8) (t s : Fin 2048) : ℝ :=
  (∑ d : Fin 64, (Q (ix3 b t ⟨64 * h + d, by omega⟩)).toReal * (1 / 8) * (K (ix3 b s ⟨64 * h + d, by omega⟩)).toReal)
    + (C (ix3 b t h)).toReal - (C (ix3 b s h)).toReal

/-- The layer's attention: at lane e, head e / 64. -/
noncomputable def attention (Q K V : S32x2048x512.Idx → EReal) (C : S32x2048x8.Idx → EReal) (b : Fin 32) (t : Fin 2048) (e : Fin 512) : EReal :=
  ∑ s, V (ix3 b s e) * (weight (logit Q K C b ⟨e / 64, by omega⟩ t) t s : EReal)

variable (m : (ℓ : Loc nD τ sig) → Buf (Elt Ideal) ℓ) (c : Dev nD)

/-- The argument arrays. -/
noncomputable abbrev aQ : FVec Ideal S32x2048x512 .f32 := m ((c.tc : Thread nD τ).loc main_arg0)
noncomputable abbrev aK : FVec Ideal S32x2048x512 .f32 := m ((c.tc : Thread nD τ).loc main_arg1)
noncomputable abbrev aV : FVec Ideal S32x2048x512 .f32 := m ((c.tc : Thread nD τ).loc main_arg2)
noncomputable abbrev aC : FVec Ideal S32x2048x8 .f32 := m ((c.tc : Thread nD τ).loc main_arg3)

theorem idx : ∀ t : Fin cfg0.N, win0_0.index t = ![(grid0.coords t 0).val, (grid0.coords t 1).val, 0]
    ∧ win0_1.index t = ![(grid0.coords t 0).val, 0, (grid0.coords t 1).val]
    ∧ win0_2.index t = ![(grid0.coords t 0).val, (grid0.coords t 1).val, 0]
    ∧ win0_3.index t = ![(grid0.coords t 0).val, 0, 0]
    ∧ win0_4.index t = ![(grid0.coords t 0).val, 0, (grid0.coords t 1).val] :=
  (by decide +kernel : ∀ t : Fin grid0.N, _)

/-- What the host lines before the launch put into the call's operands. -/
theorem entry_q : V m c main_v6 = (transpose S32x512x2048 [0, 2, 1] (truncf .bf16 (Host.divf (mulf (aQ m c)
    (broadcastInDim S32x2048x512 ![] bcast_S_S32x2048x512 (constant S_ .f32 0x3E000000#32)))
    (broadcastInDim S32x2048x512 ![] bcast_S_S32x2048x512 (Host.log (constant S_ .f32 0x40000000#32)))) bitsLt_bf16_f32)
    transposes_S32x2048x512_S32x512x2048_0_2_1 : FVec Ideal S32x512x2048 .bf16) := by
  unfold V
  simp only [hostOps0, hostOps0_1, hostOps0_2, List.flatten_cons, List.flatten_nil, List.append_nil, List.cons_append, List.nil_append]
  after_results

theorem entry_k : V m c main_v12 = (truncf .bf16 (aK m c) bitsLt_bf16_f32 : FVec Ideal S32x2048x512 .bf16) := by
  unfold V
  simp only [hostOps0, hostOps0_1, hostOps0_2, List.flatten_cons, List.flatten_nil, List.append_nil, List.cons_append, List.nil_append]
  after_results

theorem entry_v : V m c main_v8 = (transpose S32x512x2048 [0, 2, 1] (truncf .bf16 (aV m c) bitsLt_bf16_f32)
    transposes_S32x2048x512_S32x512x2048_0_2_1 : FVec Ideal S32x512x2048 .bf16) := by
  unfold V
  simp only [hostOps0, hostOps0_1, hostOps0_2, List.flatten_cons, List.flatten_nil, List.append_nil, List.cons_append, List.nil_append]
  after_results

theorem entry_c : V m c main_v11 = (pad S32x2048x128 ![0, 0, 0] ![0, 0, 120] ![0, 0, 0] (Host.divf (aC m c)
    (broadcastInDim S32x2048x8 ![] bcast_S_S32x2048x8 (Host.log (constant S_ .f32 0x40000000#32)))) (sitofp .f32 (constantI S_ 32 0#32))
    pads_S32x2048x8_S32x2048x128_000_000_01200 h_S_ : FVec Ideal S32x2048x128 .f32) := by
  unfold V
  simp only [hostOps0, hostOps0_1, hostOps0_2, List.flatten_cons, List.flatten_nil, List.append_nil, List.cons_append, List.nil_append]
  after_results
  rfl

theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee, -EReal.coe_mul]; norm_num
  rw [h, Ideal.log_coe, if_neg (by norm_num)]

theorem eighth : Ideal.ofBits .f32 0x3E000000#32 = ((1 / 8 : ℝ) : EReal) := by
  simp [Ideal.ofBits, Ideal.ieee, -EReal.coe_mul]; norm_num

theorem q_at (b : Fin 32) (r : Fin 512) (t : Fin 2048) : (V m c main_v6 : FVec Ideal S32x512x2048 .bf16) (ix3 b r t)
    = Ideal.div (aQ m c (ix3 b t r) * ((1 / 8 : ℝ) : EReal)) ((Real.log 2 : ℝ) : EReal) := by
  rw [entry_q]
  pointwise
  rw [log_two, eighth]

theorem k_at (b : Fin 32) (s : Fin 2048) (r : Fin 512) : (V m c main_v12 : FVec Ideal S32x2048x512 .bf16) (ix3 b s r) = aK m c (ix3 b s r) := by
  rw [entry_k]
  rfl

theorem v_at (b : Fin 32) (r : Fin 512) (t : Fin 2048) : (V m c main_v8 : FVec Ideal S32x512x2048 .bf16) (ix3 b r t) = aV m c (ix3 b t r) := by
  rw [entry_v]
  pointwise

theorem c_at (b : Fin 32) (s : Fin 2048) (h : Fin 8) : (V m c main_v11 : FVec Ideal S32x2048x128 .f32) (ix3 b s ⟨h, by omega⟩)
    = Ideal.div (aC m c (ix3 b s h)) ((Real.log 2 : ℝ) : EReal) := by
  rw [entry_c]
  pointwise
  rw [log_two]

/-- An instance's batch and its pair of heads. -/
def batch (t : Fin cfg0.N) : Fin 32 := grid0.coords t 0
def duo (t : Fin cfg0.N) : Fin 4 := grid0.coords t 1

/-- The blocks of an instance. -/
noncomputable abbrev bQ (t : Fin cfg0.N) : Vec Ideal S1x128x2048 .bf16 := iblk m c 0 t
noncomputable abbrev bK (t : Fin cfg0.N) : Vec Ideal S1x2048x128 .bf16 := iblk m c 1 t
noncomputable abbrev bV (t : Fin cfg0.N) : Vec Ideal S1x128x2048 .bf16 := iblk m c 2 t
noncomputable abbrev bC (t : Fin cfg0.N) : Vec Ideal S1x2048x128 .f32 := iblk m c 3 t

theorem bQ_at (t : Fin cfg0.N) (r : Fin 128) (s : Fin 2048) (r' : Fin 512) (hr : r'.val = 128 * (duo t).val + r) :
    bQ m c t (ix3 0 r s) = Ideal.div (aQ m c (ix3 (batch t) s r') * ((1 / 8 : ℝ) : EReal)) ((Real.log 2 : ℝ) : EReal) := by
  have hr : r'.val = 128 * (grid0.coords t 1).val + r := hr
  refine Eq.trans ?_ (q_at m c (batch t) r' s)
  unfold batch
  blk_ext [iblk, V, idx t]

theorem bK_at (t : Fin cfg0.N) (s : Fin 2048) (r : Fin 128) (r' : Fin 512) (hr : r'.val = 128 * (duo t).val + r) :
    bK m c t (ix3 0 s r) = aK m c (ix3 (batch t) s r') := by
  have hr : r'.val = 128 * (grid0.coords t 1).val + r := hr
  refine Eq.trans ?_ (k_at m c (batch t) s r')
  unfold batch
  blk_ext [iblk, V, idx t]

theorem bV_at (t : Fin cfg0.N) (r : Fin 128) (s : Fin 2048) (r' : Fin 512) (hr : r'.val = 128 * (duo t).val + r) :
    bV m c t (ix3 0 r s) = aV m c (ix3 (batch t) s r') := by
  have hr : r'.val = 128 * (grid0.coords t 1).val + r := hr
  refine Eq.trans ?_ (v_at m c (batch t) r' s)
  unfold batch
  blk_ext [iblk, V, idx t]

theorem bC_at (t : Fin cfg0.N) (s : Fin 2048) (h : Fin 8) :
    bC m c t (ix3 0 s ⟨h, by omega⟩) = Ideal.div (aC m c (ix3 (batch t) s h)) ((Real.log 2 : ℝ) : EReal) := by
  refine Eq.trans ?_ (c_at m c (batch t) s h)
  unfold batch
  blk_ext [iblk, V, idx t]

/-- The scores in the units of the kernel, as real numbers. -/
noncomputable def unit (Q K : S32x2048x512.Idx → EReal) (C : S32x2048x8.Idx → EReal) (b : Fin 32) (h : Fin 8) (t s : Fin 2048) : ℝ :=
  (∑ d : Fin 64, (K (ix3 b s ⟨64 * h + d, by omega⟩)).toReal * ((Q (ix3 b t ⟨64 * h + d, by omega⟩)).toReal * (1 / 8) / Real.log 2))
    - (C (ix3 b s h)).toReal / Real.log 2

theorem unit_logit (Q K : S32x2048x512.Idx → EReal) (C : S32x2048x8.Idx → EReal) (b : Fin 32) (h : Fin 8) (t s : Fin 2048) :
    Real.log 2 * unit Q K C b h t s = logit Q K C b h t s - (C (ix3 b t h)).toReal := by
  have h2 : Real.log 2 ≠ 0 := (Real.log_pos (by norm_num)).ne'
  unfold unit logit
  rw [mul_sub, mul_div_cancel₀ _ h2, Finset.mul_sum]
  have : ∀ d : Fin 64, Real.log 2 * ((K (ix3 b s ⟨64 * h + d, by omega⟩)).toReal * ((Q (ix3 b t ⟨64 * h + d, by omega⟩)).toReal * (1 / 8) / Real.log 2))
      = (Q (ix3 b t ⟨64 * h + d, by omega⟩)).toReal * (1 / 8) * (K (ix3 b s ⟨64 * h + d, by omega⟩)).toReal := fun d => by
    field_simp
  rw [Finset.sum_congr rfl fun d _ => this d]
  ring

/-- The two heads of a pair. -/
def headOf (g : Fin 4) (j : Fin 2) : Fin 8 := ⟨2 * g + j, by omega⟩

theorem score_unit (hq : AllReal (aQ m c)) (hk : AllReal (aK m c)) (hc : AllReal (aC m c)) (t : Fin cfg0.N) (j : Fin 2) (a s : Fin 2048) :
    score (bQ m c t) (bK m c t) (bC m c t) (duo t) j a s
      = (unit (aQ m c) (aK m c) (aC m c) (batch t) (headOf (duo t) j) a s : EReal) := by
  have h2 : Real.log 2 ≠ 0 := (Real.log_pos (by norm_num)).ne'
  unfold score unit
  rw [EReal.coe_sub, coe_sum]
  refine congrArg₂ _ (Finset.sum_congr rfl fun d _ => ?_) ?_
  · have hr : 64 * (headOf (duo t) j).val + d.val = 128 * (duo t).val + (64 * j.val + d.val) := by
      show 64 * (2 * _ + _) + _ = _; ring
    rw [bK_at m c t s ⟨64 * j + d, by omega⟩ ⟨64 * (headOf (duo t) j).val + d.val, by omega⟩ hr,
      bQ_at m c t ⟨64 * j + d, by omega⟩ a ⟨64 * (headOf (duo t) j).val + d.val, by omega⟩ hr,
      ← hk, ← hq, ← EReal.coe_mul, div_real _ _ h2, ← EReal.coe_mul]
    rfl
  · refine (bC_at m c t s (headOf (duo t) j)).trans ?_
    rw [← hc, div_real _ _ h2]
    rfl

theorem three (x : S1x256x128.Idx) : ∃ (a : Fin 1) (b : Fin 256) (d : Fin 128), x = ix3 a b d :=
  ⟨x 0, x 1, x 2, by funext k; fin_cases k <;> rfl⟩

theorem point (hq : AllReal (aQ m c)) (hk : AllReal (aK m c)) (hc : AllReal (aC m c)) (t : Fin cfg0.N) (y : S1x2048x128.Idx) (e : Fin 512)
    (he : e.val = 128 * (duo t).val + (y 2).val) :
    out0_4 (grid0.coords t) (bQ m c t) (bK m c t) (bV m c t) (bC m c t) y
      = attention (aQ m c) (aK m c) (aV m c) (aC m c) (batch t) (y 1) e := by
  have hl : (y 2).val < 128 := (y 2).isLt
  -- the value a piece's row and lane has to have
  have key : ∀ a : Fin 2048, ∀ l : Fin 128, l.val = (y 2).val → a.val = (y 1).val →
      (∑ s, bV m c t (ix3 0 l s)
        * (weight (logit (aQ m c) (aK m c) (aC m c) (batch t) (headOf (duo t) ⟨l / 64, by omega⟩) a) a s : EReal))
      = attention (aQ m c) (aK m c) (aV m c) (aC m c) (batch t) (y 1) e := by
    intro a l h1 h2
    obtain rfl : a = y 1 := Fin.ext h2
    unfold attention
    refine Finset.sum_congr rfl fun s _ => ?_
    have hh : headOf (duo t) ⟨l / 64, by omega⟩ = ⟨e / 64, by omega⟩ := Fin.ext (by show 2 * _ + _ / 64 = _ / 64; omega)
    rw [bV_at m c t l s e (by omega), hh]
  have past : ∀ (n : Nat) (f : Fits n) (x : S1x256x128.Idx), (y 1).val = n + (x 1).val → (y 2).val = (x 2).val →
      piecePast f (grid0.coords t) (bQ m c t) (bK m c t) (bV m c t) (bC m c t) x
        = attention (aQ m c) (aK m c) (aV m c) (aC m c) (batch t) (y 1) e := by
    intro n f x h1 h2
    obtain ⟨x0, r, l, rfl⟩ := three x
    have h2 : (y 2).val = l.val := h2
    obtain rfl : x0 = 0 := Subsingleton.elim _ _
    refine (piecePast_value f (fun j a s => unit (aQ m c) (aK m c) (aC m c) (batch t) (headOf (duo t) j) a s)
      (fun j a s => logit (aQ m c) (aK m c) (aC m c) (batch t) (headOf (duo t) j) a s)
      (fun j a => (aC m c (ix3 (batch t) a (headOf (duo t) j))).toReal)
      (score_unit m c hq hk hc t) (fun j a s => unit_logit ..) r ⟨l / 64, by omega⟩ ⟨l % 64, by omega⟩ l ?_ (y 1) h1).trans ?_
    · show l.val = 64 * (l.val / 64) + l.val % 64
      omega
    · exact key (y 1) l h2.symm rfl
  have first : ∀ (x : S1x256x128.Idx), (y 1).val = (x 1).val → (y 2).val = (x 2).val →
      pieceFirst (grid0.coords t) (bQ m c t) (bK m c t) (bV m c t) (bC m c t) x
        = attention (aQ m c) (aK m c) (aV m c) (aC m c) (batch t) (y 1) e := by
    intro x h1 h2
    obtain ⟨x0, r, l, rfl⟩ := three x
    have h2 : (y 2).val = l.val := h2
    obtain rfl : x0 = 0 := Subsingleton.elim _ _
    refine (pieceFirst_value (fun j a s => unit (aQ m c) (aK m c) (aC m c) (batch t) (headOf (duo t) j) a s)
      (fun j a s => logit (aQ m c) (aK m c) (aC m c) (batch t) (headOf (duo t) j) a s)
      (fun j a => (aC m c (ix3 (batch t) a (headOf (duo t) j))).toReal)
      (score_unit m c hq hk hc t) (fun j a s => unit_logit ..) r ⟨l / 64, by omega⟩ ⟨l % 64, by omega⟩ l ?_ (y 1) (by rw [Nat.zero_add]; exact h1)).trans ?_
    · show l.val = 64 * (l.val / 64) + l.val % 64
      omega
    · exact key (y 1) l h2.symm rfl
  clear hl he key hq hk hc
  rw [out_eq (by constructor <;> decide) (by constructor <;> decide) (by constructor <;> decide) (by constructor <;> decide)
    (by constructor <;> decide) (by constructor <;> decide) (by constructor <;> decide)]
  canon_tiles x h
  · exact first x h1 h2
  all_goals exact past _ _ x h1 h2

theorem final (hq : AllReal (aQ m c)) (hk : AllReal (aK m c)) (hc : AllReal (aC m c)) :
    (dats m 0 c).arrAt 4 (cfgs 0).N = fun i => attention (aQ m c) (aK m c) (aV m c) (aC m c) (i 0) (i 1) (i 2) := by
  refine (dats m 0 c).arrAt_eq_of_covers 4 _ (by decide +kernel) fun t _ y => ?_
  blk_simp
  rw [after0_4]
  refine (point m c hq hk hc t y ((win0_4.blk t).view.emb y 2) ?_).trans ?_
  · unfold duo
    idx_vars y
    blk_simp [idx t]
    omega
  · unfold batch
    have h0 : (win0_4.blk t).view.emb y 0 = grid0.coords t 0 := by
      idx_vars y
      apply Fin.ext
      blk_simp [idx t]
    have h1 : (win0_4.blk t).view.emb y 1 = y 1 := by
      idx_vars y
      apply Fin.ext
      blk_simp [idx t]
    rw [h0, h1]

end Cert.Fox
-- ==== Proof.Fox.RefValue.lean ====
/-
  The reference's result: at every batch, query and lane, the softmax average of the values.
-/
module

public import proofs.«01_k».proof.Proof.Fox.KernelValue
public import proofs.«01_k».proof.Proof.Gen.ReferenceIdeal.Run

@[expose] public section
set_option maxRecDepth 16384

namespace Cert.Fox
open Idealize.ShloMosaic Cert.ReferenceIdeal Cert.ReferenceIdeal.Gen

variable (q k v : FVec Ideal S32x2048x512 .f32) (c : FVec Ideal S32x2048x8 .f32)

theorem reduce_max {a b c n : Nat} (s : FVec Ideal (⟨4, ![a, b, c, n]⟩ : Shape) .f32) (h : (⟨4, ![a, b, c, n]⟩ : Shape).ReducesTo [3] ⟨3, ![a, b, c]⟩)
    (x : Fin a) (y : Fin b) (z : Fin c) :
    Host.reduce FloatOps.maximumf s (constant S_ .f32 0xFF800000#32) h h_S_ (ix3 x y z)
      = Finset.univ.sup fun i : Fin n => s (ix4 x y z i) := by
  pointwise
  rw [ofBits_negInf]
  rfl

/-- Queries and keys by head. -/
noncomputable def heads (x : FVec Ideal S32x2048x512 .f32) : FVec Ideal S32x2048x8x64 .f32 := shapeCast _ x shapeCasts_S32x2048x512_S32x2048x8x64

/-- The masked scores. -/
noncomputable def logits : FVec Ideal S32x8x2048x2048 .f32 :=
  select (broadcastInDim S32x8x2048x2048 ![2, 3] bcast_S2048x2048_S32x8x2048x2048_2_3 (cmpi .sge (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))))
    (subf (addf (Host.dotGeneral dot_S32x2048x8x64_S32x2048x8x64_S32x8x2048x2048_3_3_1_1_02_02 none (mulf (heads q) (broadcastInDim S32x2048x8x64 ![] bcast_S_S32x2048x8x64 (constant S_ .f32 0x3E000000#32))) (heads k))
      (broadcastInDim S32x8x2048x2048 ![0, 1, 2, 3] bcast_S32x8x2048x1_S32x8x2048x2048_0_1_2_3 (broadcastInDim S32x8x2048x1 ![0, 1, 2] bcast_S32x8x2048_S32x8x2048x1_0_1_2 (transpose S32x8x2048 [0, 2, 1] c transposes_S32x2048x8_S32x8x2048_0_2_1))))
      (broadcastInDim S32x8x2048x2048 ![0, 1, 2, 3] bcast_S32x8x1x2048_S32x8x2048x2048_0_1_2_3 (broadcastInDim S32x8x1x2048 ![0, 1, 3] bcast_S32x8x2048_S32x8x1x2048_0_1_3 (transpose S32x8x2048 [0, 2, 1] c transposes_S32x2048x8_S32x8x2048_0_2_1))))
    (broadcastInDim S32x8x2048x2048 ![] bcast_S_S32x8x2048x2048 (id (constant S_ .f32 0xFF800000#32)))

/-- The largest score of a query. -/
noncomputable def rowMax (s : FVec Ideal S32x8x2048x2048 .f32) : FVec Ideal S32x8x2048 .f32 :=
  Host.reduce FloatOps.maximumf s (constant S_ .f32 0xFF800000#32) reducesTo_S32x8x2048x2048_S32x8x2048_d3 h_S_

/-- The unnormalised weights of the scores s. -/
noncomputable def shifted (s : FVec Ideal S32x8x2048x2048 .f32) (r : FVec Ideal S32x8x2048 .f32) : FVec Ideal S32x8x2048x2048 .f32 :=
  Host.exp (subf s (broadcastInDim S32x8x2048x2048 ![0, 1, 2, 3] bcast_S32x8x2048x1_S32x8x2048x2048_0_1_2_3 (broadcastInDim S32x8x2048x1 ![0, 1, 2] bcast_S32x8x2048_S32x8x2048x1_0_1_2 (maximumf (broadcastInDim S32x8x2048 ![] bcast_S_S32x8x2048 (constant S_ .f32 0xFF800000#32)) r))))

noncomputable def unnorm (s : FVec Ideal S32x8x2048x2048 .f32) : FVec Ideal S32x8x2048x2048 .f32 := shifted s (rowMax s)

/-- The softmax. -/
noncomputable def softmax (s : FVec Ideal S32x8x2048x2048 .f32) : FVec Ideal S32x8x2048x2048 .f32 :=
  Host.divf (unnorm s) (broadcastInDim S32x8x2048x2048 ![0, 1, 2, 3] bcast_S32x8x2048x1_S32x8x2048x2048_0_1_2_3 (broadcastInDim S32x8x2048x1 ![0, 1, 2] bcast_S32x8x2048_S32x8x2048x1_0_1_2 (Host.reduceAdd (unnorm s) (constant S_ .f32 0x00000000#32) reducesTo_S32x8x2048x2048_S32x8x2048_d3 h_S_)))

/-- The averaged values of a head, by head. -/
noncomputable def averaged (p : FVec Ideal S32x8x2048x2048 .f32) : FVec Ideal S32x8x64x2048 .f32 :=
  Host.dotGeneral dot_S32x2048x8x64_S32x8x2048x2048_S32x8x64x2048_1_3_3_2_02_01 none (heads v) p

noncomputable def result (x : FVec Ideal S32x8x64x2048 .f32) : FVec Ideal S32x2048x512 .bf16 :=
  truncf .bf16 (shapeCast _ (transpose S32x2048x8x64 [0, 3, 1, 2] x transposes_S32x8x64x2048_S32x2048x8x64_0_3_1_2) shapeCasts_S32x2048x8x64_S32x2048x512) bitsLt_bf16_f32

theorem ref_eq (m : (ℓ : Loc nD τ sig) → Buf (Elt Ideal) ℓ) (d : Dev nD) :
    Cert.ReferenceIdeal.Value.res_out0 m d = result (averaged (m ((d.tc : Thread nD τ).loc main_arg2))
      (softmax (logits (m ((d.tc : Thread nD τ).loc main_arg0)) (m ((d.tc : Thread nD τ).loc main_arg1)) (m ((d.tc : Thread nD τ).loc main_arg3))))) := rfl

theorem heads_at (x : FVec Ideal S32x2048x512 .f32) (b : Fin 32) (t : Fin 2048) (h : Fin 8) (d : Fin 64) :
    heads x (ix4 b t h d) = x (ix3 b t ⟨64 * h + d, by omega⟩) := by
  have e : (⟨64 * h + d, by omega⟩ : Fin 512) = ⟨h * 64 + d, by omega⟩ := Fin.ext (by show 64 * h.val + d.val = h.val * 64 + d.val; ring)
  rw [e]
  unfold heads
  pointwise

theorem result_at (x : FVec Ideal S32x8x64x2048 .f32) (b : Fin 32) (t : Fin 2048) (e : Fin 512) :
    result x (ix3 b t e) = x (ix4 b ⟨e / 64, by omega⟩ ⟨e % 64, by omega⟩ t) := by
  unfold result
  pointwise

theorem averaged_at (p) (b : Fin 32) (h : Fin 8) (d : Fin 64) (t : Fin 2048) :
    averaged v p (ix4 b h d t) = ∑ s : Fin 2048, v (ix3 b s ⟨64 * h + d, by omega⟩) * p (ix4 b h t s) := by
  unfold averaged
  pointwise
  exact Finset.sum_congr rfl fun s _ => by rw [heads_at]

theorem rowMax_at (s : FVec Ideal S32x8x2048x2048 .f32) (b : Fin 32) (h : Fin 8) (t : Fin 2048) :
    rowMax s (ix3 b h t) = Finset.univ.sup fun i : Fin 2048 => s (ix4 b h t i) := by
  unfold rowMax
  exact reduce_max (a := 32) (b := 8) (c := 2048) (n := 2048) s reducesTo_S32x8x2048x2048_S32x8x2048_d3 b h t

theorem shifted_at (s r) (b : Fin 32) (h : Fin 8) (t i : Fin 2048) :
    shifted s r (ix4 b h t i) = Ideal.exp (s (ix4 b h t i) - r (ix3 b h t)) := by
  unfold shifted
  pointwise
  rw [ofBits_negInf, max_eq_right bot_le]

theorem unnorm_at (s) (b : Fin 32) (h : Fin 8) (t i : Fin 2048) :
    unnorm s (ix4 b h t i) = Ideal.exp (s (ix4 b h t i) - Finset.univ.sup fun i : Fin 2048 => s (ix4 b h t i)) := by
  unfold unnorm
  rw [shifted_at, rowMax_at]

theorem softmax_at (s) (b : Fin 32) (h : Fin 8) (t i : Fin 2048) :
    softmax s (ix4 b h t i) = Ideal.div (unnorm s (ix4 b h t i)) (∑ i, unnorm s (ix4 b h t i)) := by
  unfold softmax
  pointwise

theorem logits_at (b : Fin 32) (h : Fin 8) (t i : Fin 2048) :
    logits q k c (ix4 b h t i) = if i ≤ t then (∑ d : Fin 64, (q (ix3 b t ⟨64 * h + d, by omega⟩) * ((1 / 8 : ℝ) : EReal)) * k (ix3 b i ⟨64 * h + d, by omega⟩))
      + c (ix3 b t h) - c (ix3 b i h) else ⊥ := by
  unfold logits
  pointwise
  simp only [heads_at, eighth]
  have e : (id (constant (F := Ideal) S_ .f32 0xFF800000#32) ix0 : EReal) = ⊥ := ofBits_negInf
  rw [e]
  unfold Scalar.select
  have ht := t.isLt
  have hi := i.isLt
  rw [WordCmp.cmpi_sge_ofNat (by omega) (by omega)]
  by_cases hit : i ≤ t
  · have hn : i.val ≤ t.val := hit
    rw [if_pos hit, if_pos (by simp [hn])]
  · have hn : ¬ i.val ≤ t.val := hit
    rw [if_neg hit, if_neg (by simp [hn])]

theorem logits_real (hq : AllReal q) (hk : AllReal k) (hc : AllReal c) (b : Fin 32) (h : Fin 8) (t i : Fin 2048) :
    logits q k c (ix4 b h t i) = if i ≤ t then (logit q k c b h t i : EReal) else ⊥ := by
  rw [logits_at]
  congr 1
  unfold logit
  rw [EReal.coe_sub, EReal.coe_add, coe_sum, hc, hc]
  refine congrArg₂ _ (congrArg₂ _ (Finset.sum_congr rfl fun d _ => ?_) rfl) rfl
  rw [EReal.coe_mul, EReal.coe_mul, hq, hk]

/-- The reference's result is the attention. -/
theorem ref_value (hq : AllReal q) (hk : AllReal k) (hc : AllReal c) :
    result (averaged v (softmax (logits q k c))) = fun i => attention q k v c (i 0) (i 1) (i 2) := by
  funext i
  obtain ⟨b, t, e, rfl⟩ : ∃ (b : Fin 32) (t : Fin 2048) (e : Fin 512), i = ix3 b t e :=
    ⟨i 0, i 1, i 2, by funext k; fin_cases k <;> rfl⟩
  refine (result_at ..).trans ((averaged_at ..).trans ?_)
  simp only [softmax_at, unnorm_at]
  refine (average_ref (logit q k c b ⟨e / 64, by omega⟩ t) t _ _ (logits_real q k c hq hk hc b ⟨e / 64, by omega⟩ t)).trans ?_
  have he : (⟨64 * (e.val / 64) + e.val % 64, by omega⟩ : Fin 512) = e := Fin.ext (by show 64 * (e.val / 64) + e.val % 64 = e.val; omega)
  unfold attention
  exact Finset.sum_congr rfl fun s _ => by rw [he]; rfl

end Cert.Fox
-- ==== Proof.Fox.Finite.lean ====
/-
  What the precondition says: every query, key and cumulative gate is a real number.
-/
module

public import proofs.«01_k».proof.Proof.Fox.KernelValue
public import proofs.«01_k».proof.Proof.Gen.Pre_finite
public import Idealize.ShloMosaic.Lib.ReduceAll

@[expose] public section
set_option maxRecDepth 16384

namespace Cert.Fox
open Idealize.ShloMosaic Cert.Pre_finite Cert.Pre_finite.Gen

theorem ofBits_inf : Ideal.ofBits .f32 0x7F800000#32 = ⊤ := by simp [Ideal.ofBits, Ideal.ieee]

theorem real_of_abs (x : EReal) (h : FloatOps.absf (F := Ideal) (φ := .f32) x < (⊤ : EReal)) : ((x.toReal : ℝ) : EReal) = x := by
  have h : max x (-x) < ⊤ := h
  refine EReal.coe_toReal ?_ ?_
  · rintro rfl
    simp at h
  · rintro rfl
    simp at h

/-- An array whose elements' absolute values are all below infinity holds real numbers. -/
theorem real_of_all {s : Shape} (x : FVec Ideal s .f32) {axes} (hb) (hr : s.ReducesTo axes S_) (j : S_.Idx)
    (h : Host.reduce IntOp.andi (cmpf .olt (Host.absf x) (broadcastInDim s ![] hb (constant (F := Ideal) S_ .f32 0x7F800000#32)))
      (constantI S_ 1 1#1) hr h_S_ j = 1#1) : AllReal x := by
  intro i
  haveI : Subsingleton S_.Idx := ⟨fun a b => funext fun k => k.elim0⟩
  have e := Host.reduce_andi_all _ _ hr _ j h i
  have e : BitVec.ofBool (decide (FloatOps.absf (F := Ideal) (φ := .f32) (x i) < Ideal.ofBits .f32 0x7F800000#32)) = 1#1 := e
  rw [ofBits_inf] at e
  refine real_of_abs (x i) ?_
  by_contra hn
  simp [hn] at e

/-- The precondition's function is all ones only on real queries, keys and cumulative gates. -/
theorem of_fn (q k v : FVec Ideal S32x2048x512 .f32) (c : FVec Ideal S32x2048x8 .f32) (h : Cert.Pre_finite.fn q k v c = fun _ => 1#1) :
    AllReal q ∧ AllReal k ∧ AllReal c := by
  have h0 := congrFun h ix0
  obtain ⟨h1, h2⟩ := IntOp.andi_eq_one.1 h0
  obtain ⟨h3, h4⟩ := IntOp.andi_eq_one.1 h1
  exact ⟨real_of_all _ _ _ _ h3, real_of_all _ _ _ _ h4, real_of_all _ _ _ _ h2⟩

end Cert.Fox
-- ==== Proof.Layer.Norm.lean ====
/-
  The root-mean-square norm and the gated feed-forward product, as plain sums over a row, and what the kernels'
  operations on tensors are worth at an index. The sizes are symbols.
-/
module

public import proofs.«01_k».proof.Proof.Fox.Attend
public import Idealize.ShloMosaic.Lib.ValueLayoutCasts

@[expose] public section
set_option maxRecDepth 16384

namespace Cert.Layer
open Idealize.ShloMosaic Cert.Fox

/-- A list of numbers. -/
abbrev Li (a : Nat) : Shape := ⟨1, ![a]⟩

/-- An index of three axes by its coordinates. -/
theorem three {a b n : Nat} (x : (⟨3, ![a, b, n]⟩ : Shape).Idx) : ∃ (i : Fin a) (j : Fin b) (k : Fin n), x = ix3 i j k :=
  ⟨x 0, x 1, x 2, by funext k; fin_cases k <;> rfl⟩

/-- The reciprocal root of a row's mean square, the guard added. -/
noncomputable def scale {n : Nat} (x : Fin n → EReal) : EReal :=
  Ideal.rsqrt (Ideal.div (∑ c, x c * x c) (Ideal.ofBits .f32 0x44800000#32) + Ideal.ofBits .f32 0x358637BD#32)

/-- The norm of a row of 1024 lanes with its gain. -/
noncomputable def rms {n : Nat} (x g : Fin n → EReal) (e : Fin n) : EReal := x e * scale x * g e

/-- The feed-forward branch's gated value of a lane: the gate's column w, the other column u. -/
noncomputable def gated {n : Nat} (h w u : Fin n → EReal) : EReal :=
  (∑ c, h c * w c) * Ideal.logistic (∑ c, h c * w c) * ∑ c, h c * u c

/-- The kernels' norm of the rows of a block. -/
noncomputable def rows {a n : Nat} (hr : (Sh a n).Reduces [1] (Li a)) (hc : (Li a).ShapeCasts (Sh a 1)) (hb : (Sh a 1).Broadcasts (Sh a n))
    (hg : (Sh 1 n).Broadcasts (Sh a n)) (x : FVec Ideal (Sh a n) .f32) (g : FVec Ideal (Sh 1 n) .f32) : FVec Ideal (Sh a n) .f32 :=
  mulf (mulf x (broadcastTo (Sh a n) (rsqrt (addf (divf (shapeCast (Sh a 1) (multiReduction .add [1] (Li a) (mulf x x) 0x00000000#32 hr (.inl rfl) rfl) hc)
    (broadcast (Sh a 1) (Scalar.ofBits .f32 0x44800000#32))) (broadcast (Sh a 1) (Scalar.ofBits .f32 0x358637BD#32)))) hb)) (broadcastTo (Sh a n) g hg)

/-- One column spread over the lanes reads the row's number. -/
theorem spread_at {α : Type} {a n : Nat} (y : (Sh a 1).Idx → α) (hb : (Sh a 1).Broadcasts (Sh a n)) (r : Fin a) (e : Fin n) :
    broadcastTo (Sh a n) y hb (ix2 r e) = y (ix2 r 0) := by
  refine broadcastTo_apply y hb (ix2 r e) (ix2 r 0) fun ax => ?_
  match ax with
  | ⟨0, _⟩ =>
    show r.val = if a = 1 then 0 else r.val
    have := r.isLt
    split <;> omega
  | ⟨1, _⟩ => rfl

/-- One row spread over the rows reads the lane's number. -/
theorem repeat_at {α : Type} {a n : Nat} (y : (Sh 1 n).Idx → α) (hb : (Sh 1 n).Broadcasts (Sh a n)) (r : Fin a) (e : Fin n) :
    broadcastTo (Sh a n) y hb (ix2 r e) = y (ix2 0 e) := ValueIdx.broadcastTo_1b_ab_apply y hb r e

/-- A list as one column. -/
theorem column_at {α : Type} {a : Nat} (y : (Li a).Idx → α) (hc : (Li a).ShapeCasts (Sh a 1)) (r : Fin a) :
    shapeCast (Sh a 1) y hc (ix2 r 0) = y (ix1 r) := ValueIdx.shapeCast_a_a1_apply y hc r 0

/-- The sum of a row. -/
theorem rowSum_at {a n : Nat} (hr : (Sh a n).Reduces [1] (Li a)) (y : FVec Ideal (Sh a n) .f32) (r : Fin a) :
    multiReduction .add [1] (Li a) y 0x00000000#32 hr (.inl rfl) rfl (ix1 r) = ∑ c, y (ix2 r c) := by
  pointwise

/-- The largest of a row. -/
theorem rowMax_at {a n : Nat} (hr : (Sh a n).Reduces [1] (Li a)) (y : FVec Ideal (Sh a n) .f32) (r : Fin a) :
    multiReduction .maximumf [1] (Li a) y 0xFF800000#32 hr (.inl rfl) rfl (ix1 r) = Finset.univ.sup fun c => y (ix2 r c) := by
  pointwise
  rw [ofBits_negInf]
  rfl

theorem rows_at {a n : Nat} (hr hc hb hg) (x : FVec Ideal (Sh a n) .f32) (g : FVec Ideal (Sh 1 n) .f32) (r : Fin a) (e : Fin n) :
    rows hr hc hb hg x g (ix2 r e) = rms (fun e => x (ix2 r e)) (fun e => g (ix2 0 e)) e := by
  unfold rows
  rw [mulf_apply, mulf_apply, repeat_at, spread_at, rsqrt_apply, addf_apply, divf_apply, column_at, rowSum_at]
  rfl

end Cert.Layer
-- ==== Proof.Layer.FeedForward.lean ====
/-
  The gated feed-forward layer: its value as sums, one chunk of the hidden lanes as the kernel's operations on tensors,
  and the reference's operations on tensors.
-/
module

public import proofs.«01_k».proof.Proof.Layer.Norm
public import Idealize.ShloMosaic.Lib.IdealHost

@[expose] public section
set_option maxRecDepth 16384

namespace Cert.Layer
open Idealize.ShloMosaic Cert.Fox

/-- A plain product with a zero accumulator. -/
noncomputable abbrev mm {a n k : Nat} (wf : DotDims.WF (Sh a n) (Sh n k) (Sh a k) [1] [0] [0] [1] [] []) (x : FVec Ideal (Sh a n) .bf16)
    (y : FVec Ideal (Sh n k) .bf16) : FVec Ideal (Sh a k) .f32 :=
  matmul (mmDims wf) none x y (constant (Sh a k) .f32 0x00000000#32)

theorem mm_at {a n k : Nat} (wf) (x : FVec Ideal (Sh a n) .bf16) (y : FVec Ideal (Sh n k) .bf16) (r : Fin a) (l : Fin k) :
    mm wf x y (ix2 r l) = ∑ c : Fin n, x (ix2 r c) * y (ix2 c l) := by
  unfold mm
  rw [mm_apply]
  have : (constant (F := Ideal) (Sh a k) .f32 0x00000000#32 (ix2 r l) : EReal) = 0 := by pointwise
  rw [this, zero_add]

/-- One chunk of k hidden lanes: what it adds to y. -/
noncomputable def chunk {a n k e : Nat} (w1 : DotDims.WF (Sh a n) (Sh n k) (Sh a k) [1] [0] [0] [1] [] [])
    (w2 : DotDims.WF (Sh a k) (Sh k e) (Sh a e) [1] [0] [0] [1] [] []) (hl : FTy.bits .bf16 < FTy.bits .f32)
    (y : FVec Ideal (Sh a e) .f32) (h : FVec Ideal (Sh a n) .bf16) (g u : FVec Ideal (Sh n k) .bf16) (d : FVec Ideal (Sh k e) .bf16) :
    FVec Ideal (Sh a e) .f32 :=
  addf y (mm w2 (truncf .bf16 (mulf (mulf (mm w1 h g) (logistic (mm w1 h g))) (mm w1 h u)) hl) d)

theorem chunk_at {a n k e : Nat} (w1 w2 hl) (y : FVec Ideal (Sh a e) .f32) (h : FVec Ideal (Sh a n) .bf16) (g u : FVec Ideal (Sh n k) .bf16)
    (d : FVec Ideal (Sh k e) .bf16) (r : Fin a) (l : Fin e) :
    chunk w1 w2 hl y h g u d (ix2 r l) = y (ix2 r l)
      + ∑ j : Fin k, gated (fun c : Fin n => h (ix2 r c)) (fun c => g (ix2 c j)) (fun c => u (ix2 c j)) * d (ix2 j l) := by
  have e : ∀ j : Fin k, (truncf .bf16 (mulf (mulf (mm w1 h g) (logistic (mm w1 h g))) (mm w1 h u)) hl : FVec Ideal (Sh a k) .bf16) (ix2 r j)
      = gated (fun c : Fin n => h (ix2 r c)) (fun c => g (ix2 c j)) (fun c => u (ix2 c j)) := fun j => by
    show mm w1 h g (ix2 r j) * Ideal.logistic (mm w1 h g (ix2 r j)) * mm w1 h u (ix2 r j) = _
    simp only [mm_at]
    rfl
  unfold chunk
  rw [addf_apply, mm_at]
  simp only [e]
  rfl

/-- A sum over two consecutive stretches. -/
theorem sum_split {n : Nat} (a b : Nat) (h : n = a + b) (f : Fin n → EReal) :
    ∑ j, f j = ∑ j : Fin a, f ⟨j, by omega⟩ + ∑ j : Fin b, f ⟨a + j, by omega⟩ := by
  subst h
  exact Fin.sum_univ_add f

/-- Shapes of the layer's arrays. -/
abbrev Tok : Shape := ⟨3, ![32, 2048, 1024]⟩
abbrev GateUp : Shape := ⟨2, ![1024, 5632]⟩
abbrev Down : Shape := ⟨2, ![2816, 1024]⟩

/-- The norm of a token's row. -/
noncomputable def normed (x : Tok.Idx → EReal) (g : (Li 1024).Idx → EReal) (b : Fin 32) (t : Fin 2048) (e : Fin 1024) : EReal :=
  rms (fun e => x (ix3 b t e)) (fun e => g (ix1 e)) e

/-- The feed-forward layer's value with its residual. -/
noncomputable def feed (x : Tok.Idx → EReal) (g : (Li 1024).Idx → EReal) (w : GateUp.Idx → EReal) (d : Down.Idx → EReal)
    (b : Fin 32) (t : Fin 2048) (e : Fin 1024) : EReal :=
  x (ix3 b t e) + ∑ j : Fin 2816, gated (normed x g b t) (fun c => w (ix2 c ⟨j, by omega⟩)) (fun c => w (ix2 c ⟨2816 + j, by omega⟩)) * d (ix2 j e)

/-- The feed-forward layer's value with the final norm. -/
noncomputable def feedNormed (x : Tok.Idx → EReal) (g : (Li 1024).Idx → EReal) (w : GateUp.Idx → EReal) (d : Down.Idx → EReal)
    (f : (Li 1024).Idx → EReal) (b : Fin 32) (t : Fin 2048) (e : Fin 1024) : EReal :=
  rms (feed x g w d b t) (fun e => f (ix1 e)) e

/-- The two chunks of 1536 and 1280 hidden lanes give the layer's value of the token of the row. -/
theorem two_chunks (w1 w2 w3 w4 hl) (y : FVec Ideal (Sh 1024 1024) .f32) (h : FVec Ideal (Sh 1024 1024) .bf16)
    (g1 u1 : FVec Ideal (Sh 1024 1536) .bf16) (d1 : FVec Ideal (Sh 1536 1024) .bf16) (g2 u2 : FVec Ideal (Sh 1024 1280) .bf16)
    (d2 : FVec Ideal (Sh 1280 1024) .bf16) (x : Tok.Idx → EReal) (g : (Li 1024).Idx → EReal) (w : GateUp.Idx → EReal) (d : Down.Idx → EReal)
    (b : Fin 32) (t : Fin 2048) (r : Fin 1024)
    (hy : ∀ e, y (ix2 r e) = x (ix3 b t e)) (hh : ∀ e, h (ix2 r e) = normed x g b t e)
    (hg1 : ∀ c (j : Fin 1536), g1 (ix2 c j) = w (ix2 c ⟨j, by omega⟩)) (hu1 : ∀ c (j : Fin 1536), u1 (ix2 c j) = w (ix2 c ⟨2816 + j, by omega⟩))
    (hd1 : ∀ (j : Fin 1536) e, d1 (ix2 j e) = d (ix2 ⟨j, by omega⟩ e))
    (hg2 : ∀ c (j : Fin 1280), g2 (ix2 c j) = w (ix2 c ⟨1536 + j, by omega⟩)) (hu2 : ∀ c (j : Fin 1280), u2 (ix2 c j) = w (ix2 c ⟨4352 + j, by omega⟩))
    (hd2 : ∀ (j : Fin 1280) e, d2 (ix2 j e) = d (ix2 ⟨1536 + j, by omega⟩ e)) (e : Fin 1024) :
    chunk w3 w4 hl (chunk w1 w2 hl y h g1 u1 d1) h g2 u2 d2 (ix2 r e) = feed x g w d b t e := by
  rw [chunk_at, chunk_at]
  simp only [hy, hh, hg1, hu1, hd1, hg2, hu2, hd2]
  unfold feed
  rw [sum_split 1536 1280 rfl, ← add_assoc]
  refine congrArg₂ _ rfl (Finset.sum_congr rfl fun j _ => ?_)
  have : ∀ c : Fin 1024, w (ix2 c ⟨4352 + j.val, by omega⟩) = w (ix2 c ⟨2816 + (1536 + j.val), by omega⟩) := fun c =>
    congrArg w (congrArg (ix2 c) (Fin.ext (by show 4352 + j.val = 2816 + (1536 + j.val); omega)))
  simp only [this]

end Cert.Layer
-- ==== Proof.Layer.FfnFinal.lean ====
/-
  The last feed-forward call's output array: the layer's value with the final norm.
-/
module

public import Idealize.ShloMosaic.Lib.Pipeline.ValueKit
public import proofs.«01_k».proof.Proof.Gen.FfnFinalIdeal.Value
public import proofs.«01_k».proof.Proof.Layer.FeedForward

@[expose] public section
set_option maxRecDepth 16384

namespace Cert.Layer.Final
open Idealize.ShloMosaic Cert.Fox Cert.Layer Cert.FfnFinalIdeal Cert.FfnFinalIdeal.Gen

variable (m : (ℓ : Loc nD τ sig) → Buf (Elt Ideal) ℓ) (c : Dev nD)

/-- The argument arrays. -/
noncomputable abbrev aX : FVec Ideal S32x2048x1024 .f32 := m ((c.tc : Thread nD τ).loc main_arg0)
noncomputable abbrev aG : FVec Ideal S1024 .f32 := m ((c.tc : Thread nD τ).loc main_arg1)
noncomputable abbrev aW : FVec Ideal S1024x5632 .f32 := m ((c.tc : Thread nD τ).loc main_arg2)
noncomputable abbrev aD : FVec Ideal S2816x1024 .f32 := m ((c.tc : Thread nD τ).loc main_arg3)
noncomputable abbrev aF : FVec Ideal S1024 .f32 := m ((c.tc : Thread nD τ).loc main_arg4)

theorem idx : ∀ t : Fin cfg0.N, win0_0.index t = ![(grid0.coords t 0).val, (grid0.coords t 1).val, 0]
    ∧ win0_1.index t = ![0, 0] ∧ win0_2.index t = ![0, 0] ∧ win0_3.index t = ![0, 0] ∧ win0_4.index t = ![0, 0]
    ∧ win0_5.index t = ![(grid0.coords t 0).val, (grid0.coords t 1).val, 0] :=
  (by decide +kernel : ∀ t : Fin grid0.N, _)

/-- What the host lines before the launch put into the call's operands. -/
theorem entry_g : V m c main_v0 = (shapeCast S1x1024 (aG m c) shapeCasts_S1024_S1x1024 : FVec Ideal S1x1024 .f32) := by
  unfold V
  simp only [hostOps0]
  after_results
  rfl

theorem entry_w : V m c main_v1 = (truncf .bf16 (aW m c) bitsLt_bf16_f32 : FVec Ideal S1024x5632 .bf16) := by
  unfold V
  simp only [hostOps0]
  after_results

theorem entry_d : V m c main_v2 = (truncf .bf16 (aD m c) bitsLt_bf16_f32 : FVec Ideal S2816x1024 .bf16) := by
  unfold V
  simp only [hostOps0]
  after_results

theorem entry_f : V m c main_v3 = (shapeCast S1x1024 (aF m c) shapeCasts_S1024_S1x1024 : FVec Ideal S1x1024 .f32) := by
  unfold V
  simp only [hostOps0]
  after_results
  rfl

theorem g_at (e : Fin 1024) : (V m c main_v0 : FVec Ideal S1x1024 .f32) (ix2 0 e) = aG m c (ix1 e) := by
  rw [entry_g]
  pointwise

theorem w_at (i) : (V m c main_v1 : FVec Ideal S1024x5632 .bf16) i = aW m c i := by
  rw [entry_w]
  rfl

theorem d_at (i) : (V m c main_v2 : FVec Ideal S2816x1024 .bf16) i = aD m c i := by
  rw [entry_d]
  rfl

theorem f_at (e : Fin 1024) : (V m c main_v3 : FVec Ideal S1x1024 .f32) (ix2 0 e) = aF m c (ix1 e) := by
  rw [entry_f]
  pointwise

/-- An instance's batch and its half of the tokens. -/
def batch (t : Fin cfg0.N) : Fin 32 := grid0.coords t 0
def half (t : Fin cfg0.N) : Fin 2 := grid0.coords t 1

/-- The blocks of an instance. -/
noncomputable abbrev bX (t : Fin cfg0.N) : Vec Ideal S1x1024x1024 .f32 := iblk m c 0 t
noncomputable abbrev bG (t : Fin cfg0.N) : Vec Ideal S1x1024 .f32 := iblk m c 1 t
noncomputable abbrev bW (t : Fin cfg0.N) : Vec Ideal S1024x5632 .bf16 := iblk m c 2 t
noncomputable abbrev bD (t : Fin cfg0.N) : Vec Ideal S2816x1024 .bf16 := iblk m c 3 t
noncomputable abbrev bF (t : Fin cfg0.N) : Vec Ideal S1x1024 .f32 := iblk m c 4 t

theorem bX_at (t : Fin cfg0.N) (r e : Fin 1024) (s : Fin 2048) (hs : s.val = 1024 * (half t).val + r) :
    bX m c t (ix3 0 r e) = aX m c (ix3 (batch t) s e) := by
  have hs : s.val = 1024 * (grid0.coords t 1).val + r := hs
  unfold batch
  blk_ext [iblk, V, idx t]

theorem bG_at (t : Fin cfg0.N) (e : Fin 1024) : bG m c t (ix2 0 e) = aG m c (ix1 e) := by
  refine Eq.trans ?_ (g_at m c e)
  blk_ext [iblk, V, idx t]

theorem bW_at (t : Fin cfg0.N) (i : Fin 1024) (j : Fin 5632) : bW m c t (ix2 i j) = aW m c (ix2 i j) := by
  refine Eq.trans ?_ (w_at m c _)
  blk_ext [iblk, V, idx t]

theorem bD_at (t : Fin cfg0.N) (i : Fin 2816) (j : Fin 1024) : bD m c t (ix2 i j) = aD m c (ix2 i j) := by
  refine Eq.trans ?_ (d_at m c _)
  blk_ext [iblk, V, idx t]

theorem bF_at (t : Fin cfg0.N) (e : Fin 1024) : bF m c t (ix2 0 e) = aF m c (ix1 e) := by
  refine Eq.trans ?_ (f_at m c e)
  blk_ext [iblk, V, idx t]

section Body
variable (x0 : Vec Ideal S1x1024x1024 .f32) (x1 : Vec Ideal S1x1024 .f32) (x2 : Vec Ideal S1024x5632 .bf16) (x3 : Vec Ideal S2816x1024 .bf16) (x4 : Vec Ideal S1x1024 .f32)

/-- The block's rows, and their norm. -/
noncomputable def tokens : FVec Ideal S1024x1024 .f32 := k0_pay2 (View.ld x0 r0_0)
noncomputable def hidden : FVec Ideal S1024x1024 .bf16 := k0_pay3 (View.ld x0 r0_0) (View.ld x1 r0_1)

/-- The layer's value before the final norm. -/
noncomputable def summed : FVec Ideal S1024x1024 .f32 :=
  chunk dot_S1024x1024_S1024x1280_S1024x1280_1_0_0_1_n_n_wf dot_S1024x1280_S1280x1024_S1024x1024_1_0_0_1_n_n_wf bitsLt_bf16_f32
    (chunk dot_S1024x1024_S1024x1536_S1024x1536_1_0_0_1_n_n_wf dot_S1024x1536_S1536x1024_S1024x1024_1_0_0_1_n_n_wf bitsLt_bf16_f32
      (tokens x0) (hidden x0 x1) (View.ld x2 r0_2) (View.ld x2 r0_3) (View.ld x3 r0_4))
    (hidden x0 x1) (View.ld x2 r0_5) (View.ld x2 r0_6) (View.ld x3 r0_7)

theorem out_eq : out0_5 x0 x1 x2 x3 x4 = View.canon [⟨r0_0, shapeCast S1x1024x1024 (rows reduces_S1024x1024_S1024 shapeCasts_S1024_S1024x1
    broadcasts_S1024x1_S1024x1024 broadcasts_S1x1024_S1024x1024 (summed x0 x1 x2 x3) (View.ld x4 r0_1)) shapeCasts_S1024x1024_S1x1024x1024⟩] := by
  unfold out0_5 k0_pay1 k0_pay4 k0_pay5
  simp only [shapeCast_self]
  rfl

theorem tokens_at (r e : Fin 1024) : tokens x0 (ix2 r e) = x0 (ix3 0 r e) := by
  unfold tokens k0_pay2
  pointwise

theorem hidden_at (r e : Fin 1024) : hidden x0 x1 (ix2 r e) = rms (fun e => x0 (ix3 0 r e)) (fun e => x1 (ix2 0 e)) e := by
  have h : hidden x0 x1 = rows reduces_S1024x1024_S1024 shapeCasts_S1024_S1024x1 broadcasts_S1024x1_S1024x1024 broadcasts_S1x1024_S1024x1024
      (tokens x0) (View.ld x1 r0_1) := by
    unfold hidden k0_pay3
    simp only [shapeCast_self]
    rfl
  rw [h, rows_at]
  simp only [tokens_at]
  refine congrArg (rms _ · e) (funext fun e => ?_)
  pointwise

end Body

theorem summed_at (t : Fin cfg0.N) (r : Fin 1024) (s : Fin 2048) (hs : s.val = 1024 * (half t).val + r) (e : Fin 1024) :
    summed (bX m c t) (bG m c t) (bW m c t) (bD m c t) (ix2 r e) = feed (aX m c) (aG m c) (aW m c) (aD m c) (batch t) s e := by
  refine two_chunks _ _ _ _ _ _ _ _ _ _ _ _ _ (aX m c) (aG m c) (aW m c) (aD m c) (batch t) s r ?_ ?_ ?_ ?_ ?_ ?_ ?_ ?_ e
  · intro e
    rw [tokens_at, bX_at m c t r e s hs]
  · intro e
    rw [hidden_at]
    unfold normed
    simp only [bX_at m c t r _ s hs, bG_at]
  · intro i j
    rw [← bW_at m c t]
    pointwise
  · intro i j
    rw [← bW_at m c t]
    pointwise
  · intro i j
    rw [← bD_at m c t]
    pointwise
  · intro i j
    rw [← bW_at m c t]
    pointwise
  · intro i j
    rw [← bW_at m c t]
    pointwise
  · intro i j
    rw [← bD_at m c t]
    pointwise

theorem point (t : Fin cfg0.N) (y : S1x1024x1024.Idx) (s : Fin 2048) (hs : s.val = 1024 * (half t).val + (y 1).val) :
    out0_5 (bX m c t) (bG m c t) (bW m c t) (bD m c t) (bF m c t) y
      = feedNormed (aX m c) (aG m c) (aW m c) (aD m c) (aF m c) (batch t) s (y 2) := by
  rw [out_eq]
  canon_tiles x h
  obtain ⟨x0, r, e, rfl⟩ := three (a := 1) (b := 1024) (n := 1024) x
  obtain rfl : x0 = 0 := Subsingleton.elim _ _
  have e2 : y 2 = e := Fin.ext h2
  have hs' : s.val = 1024 * (half t).val + r := by rw [hs, h1]; rfl
  rw [e2]
  refine (ValueIdx.shapeCast_ab_1ab_apply _ _ 0 r e).trans ((rows_at _ _ _ _ _ _ r e).trans ?_)
  unfold feedNormed
  simp only [summed_at m c t r s hs']
  refine congrArg (rms _ · e) (funext fun e => ?_)
  rw [← bF_at m c t]
  pointwise

theorem final : (dats m 0 c).arrAt 5 (cfgs 0).N
    = fun i => feedNormed (aX m c) (aG m c) (aW m c) (aD m c) (aF m c) (i 0) (i 1) (i 2) := by
  refine (dats m 0 c).arrAt_eq_of_covers 5 _ (by decide +kernel) fun t _ y => ?_
  blk_simp
  rw [after0_5]
  refine (point m c t y ((win0_5.blk t).view.emb y 1) ?_).trans ?_
  · unfold half
    idx_vars y
    blk_simp [idx t]
    omega
  · unfold batch
    have h0 : (win0_5.blk t).view.emb y 0 = grid0.coords t 0 := by
      idx_vars y
      apply Fin.ext
      blk_simp [idx t]
    have h1 : (win0_5.blk t).view.emb y 2 = y 2 := by
      idx_vars y
      apply Fin.ext
      blk_simp [idx t]
    rw [h0, h1]

end Cert.Layer.Final
-- ==== Proof.Layer.Ffn.lean ====
/-
  The first feed-forward call's output array: the layer's value.
-/
module

public import Idealize.ShloMosaic.Lib.Pipeline.ValueKit
public import proofs.«01_k».proof.Proof.Gen.FfnIdeal.Value
public import proofs.«01_k».proof.Proof.Layer.FeedForward

@[expose] public section
set_option maxRecDepth 16384

namespace Cert.Layer.First
open Idealize.ShloMosaic Cert.Fox Cert.Layer Cert.FfnIdeal Cert.FfnIdeal.Gen

variable (m : (ℓ : Loc nD τ sig) → Buf (Elt Ideal) ℓ) (c : Dev nD)

/-- The argument arrays. -/
noncomputable abbrev aX : FVec Ideal S32x2048x1024 .f32 := m ((c.tc : Thread nD τ).loc main_arg0)
noncomputable abbrev aG : FVec Ideal S1024 .f32 := m ((c.tc : Thread nD τ).loc main_arg1)
noncomputable abbrev aW : FVec Ideal S1024x5632 .f32 := m ((c.tc : Thread nD τ).loc main_arg2)
noncomputable abbrev aD : FVec Ideal S2816x1024 .f32 := m ((c.tc : Thread nD τ).loc main_arg3)

theorem idx : ∀ t : Fin cfg0.N, win0_0.index t = ![(grid0.coords t 0).val, (grid0.coords t 1).val, 0]
    ∧ win0_1.index t = ![0, 0] ∧ win0_2.index t = ![0, 0] ∧ win0_3.index t = ![0, 0] ∧ win0_4.index t = ![0, 0]
    ∧ win0_5.index t = ![(grid0.coords t 0).val, (grid0.coords t 1).val, 0] :=
  (by decide +kernel : ∀ t : Fin grid0.N, _)

/-- What the host lines before the launch put into the call's operands. -/
theorem entry_g : V m c main_v0 = (shapeCast S1x1024 (aG m c) shapeCasts_S1024_S1x1024 : FVec Ideal S1x1024 .f32) := by
  unfold V
  simp only [hostOps0]
  after_results
  rfl

theorem entry_w : V m c main_v1 = (truncf .bf16 (aW m c) bitsLt_bf16_f32 : FVec Ideal S1024x5632 .bf16) := by
  unfold V
  simp only [hostOps0]
  after_results

theorem entry_d : V m c main_v2 = (truncf .bf16 (aD m c) bitsLt_bf16_f32 : FVec Ideal S2816x1024 .bf16) := by
  unfold V
  simp only [hostOps0]
  after_results

theorem g_at (e : Fin 1024) : (V m c main_v0 : FVec Ideal S1x1024 .f32) (ix2 0 e) = aG m c (ix1 e) := by
  rw [entry_g]
  pointwise

theorem w_at (i) : (V m c main_v1 : FVec Ideal S1024x5632 .bf16) i = aW m c i := by
  rw [entry_w]
  rfl

theorem d_at (i) : (V m c main_v2 : FVec Ideal S2816x1024 .bf16) i = aD m c i := by
  rw [entry_d]
  rfl

/-- An instance's batch and its half of the tokens. -/
def batch (t : Fin cfg0.N) : Fin 32 := grid0.coords t 0
def half (t : Fin cfg0.N) : Fin 2 := grid0.coords t 1

/-- The blocks of an instance. -/
noncomputable abbrev bX (t : Fin cfg0.N) : Vec Ideal S1x1024x1024 .f32 := iblk m c 0 t
noncomputable abbrev bG (t : Fin cfg0.N) : Vec Ideal S1x1024 .f32 := iblk m c 1 t
noncomputable abbrev bW (t : Fin cfg0.N) : Vec Ideal S1024x5632 .bf16 := iblk m c 2 t
noncomputable abbrev bD (t : Fin cfg0.N) : Vec Ideal S2816x1024 .bf16 := iblk m c 3 t

theorem bX_at (t : Fin cfg0.N) (r e : Fin 1024) (s : Fin 2048) (hs : s.val = 1024 * (half t).val + r) :
    bX m c t (ix3 0 r e) = aX m c (ix3 (batch t) s e) := by
  have hs : s.val = 1024 * (grid0.coords t 1).val + r := hs
  unfold batch
  blk_ext [iblk, V, idx t]

theorem bG_at (t : Fin cfg0.N) (e : Fin 1024) : bG m c t (ix2 0 e) = aG m c (ix1 e) := by
  refine Eq.trans ?_ (g_at m c e)
  blk_ext [iblk, V, idx t]

theorem bW_at (t : Fin cfg0.N) (i : Fin 1024) (j : Fin 5632) : bW m c t (ix2 i j) = aW m c (ix2 i j) := by
  refine Eq.trans ?_ (w_at m c _)
  blk_ext [iblk, V, idx t]

theorem bD_at (t : Fin cfg0.N) (i : Fin 2816) (j : Fin 1024) : bD m c t (ix2 i j) = aD m c (ix2 i j) := by
  refine Eq.trans ?_ (d_at m c _)
  blk_ext [iblk, V, idx t]

section Body
variable (x0 : Vec Ideal S1x1024x1024 .f32) (x1 : Vec Ideal S1x1024 .f32) (x2 : Vec Ideal S1024x5632 .bf16) (x3 : Vec Ideal S2816x1024 .bf16) (x4 : Vec Ideal S1x1024 .f32)

/-- The block's rows, and their norm. -/
noncomputable def tokens : FVec Ideal S1024x1024 .f32 := k0_pay2 (View.ld x0 r0_0)
noncomputable def hidden : FVec Ideal S1024x1024 .bf16 := k0_pay3 (View.ld x0 r0_0) (View.ld x1 r0_1)

/-- The layer's value of the block. -/
noncomputable def summed : FVec Ideal S1024x1024 .f32 :=
  chunk dot_S1024x1024_S1024x1280_S1024x1280_1_0_0_1_n_n_wf dot_S1024x1280_S1280x1024_S1024x1024_1_0_0_1_n_n_wf bitsLt_bf16_f32
    (chunk dot_S1024x1024_S1024x1536_S1024x1536_1_0_0_1_n_n_wf dot_S1024x1536_S1536x1024_S1024x1024_1_0_0_1_n_n_wf bitsLt_bf16_f32
      (tokens x0) (hidden x0 x1) (View.ld x2 r0_2) (View.ld x2 r0_3) (View.ld x3 r0_4))
    (hidden x0 x1) (View.ld x2 r0_5) (View.ld x2 r0_6) (View.ld x3 r0_7)

theorem out_eq : out0_5 x0 x1 x2 x3 x4 = View.canon [⟨r0_0, shapeCast S1x1024x1024 (summed x0 x1 x2 x3) shapeCasts_S1024x1024_S1x1024x1024⟩] := by
  unfold out0_5 k0_pay1 k0_pay4 k0_pay5
  simp only [shapeCast_self]
  rfl

theorem tokens_at (r e : Fin 1024) : tokens x0 (ix2 r e) = x0 (ix3 0 r e) := by
  unfold tokens k0_pay2
  pointwise

theorem hidden_at (r e : Fin 1024) : hidden x0 x1 (ix2 r e) = rms (fun e => x0 (ix3 0 r e)) (fun e => x1 (ix2 0 e)) e := by
  have h : hidden x0 x1 = rows reduces_S1024x1024_S1024 shapeCasts_S1024_S1024x1 broadcasts_S1024x1_S1024x1024 broadcasts_S1x1024_S1024x1024
      (tokens x0) (View.ld x1 r0_1) := by
    unfold hidden k0_pay3
    simp only [shapeCast_self]
    rfl
  rw [h, rows_at]
  simp only [tokens_at]
  refine congrArg (rms _ · e) (funext fun e => ?_)
  pointwise

end Body

theorem summed_at (t : Fin cfg0.N) (r : Fin 1024) (s : Fin 2048) (hs : s.val = 1024 * (half t).val + r) (e : Fin 1024) :
    summed (bX m c t) (bG m c t) (bW m c t) (bD m c t) (ix2 r e) = feed (aX m c) (aG m c) (aW m c) (aD m c) (batch t) s e := by
  refine two_chunks _ _ _ _ _ _ _ _ _ _ _ _ _ (aX m c) (aG m c) (aW m c) (aD m c) (batch t) s r ?_ ?_ ?_ ?_ ?_ ?_ ?_ ?_ e
  · intro e
    rw [tokens_at, bX_at m c t r e s hs]
  · intro e
    rw [hidden_at]
    unfold normed
    simp only [bX_at m c t r _ s hs, bG_at]
  · intro i j
    rw [← bW_at m c t]
    pointwise
  · intro i j
    rw [← bW_at m c t]
    pointwise
  · intro i j
    rw [← bD_at m c t]
    pointwise
  · intro i j
    rw [← bW_at m c t]
    pointwise
  · intro i j
    rw [← bW_at m c t]
    pointwise
  · intro i j
    rw [← bD_at m c t]
    pointwise

theorem point (t : Fin cfg0.N) (y : S1x1024x1024.Idx) (s : Fin 2048) (hs : s.val = 1024 * (half t).val + (y 1).val) :
    out0_5 (bX m c t) (bG m c t) (bW m c t) (bD m c t) (iblk m c 4 t) y
      = feed (aX m c) (aG m c) (aW m c) (aD m c) (batch t) s (y 2) := by
  rw [out_eq]
  canon_tiles x h
  obtain ⟨x0, r, e, rfl⟩ := three (a := 1) (b := 1024) (n := 1024) x
  obtain rfl : x0 = 0 := Subsingleton.elim _ _
  have e2 : y 2 = e := Fin.ext h2
  have hs' : s.val = 1024 * (half t).val + r := by rw [hs, h1]; rfl
  rw [e2]
  exact (ValueIdx.shapeCast_ab_1ab_apply _ _ 0 r e).trans (summed_at m c t r s hs' e)

theorem final : (dats m 0 c).arrAt 5 (cfgs 0).N
    = fun i => feed (aX m c) (aG m c) (aW m c) (aD m c) (i 0) (i 1) (i 2) := by
  refine (dats m 0 c).arrAt_eq_of_covers 5 _ (by decide +kernel) fun t _ y => ?_
  blk_simp
  rw [after0_5]
  refine (point m c t y ((win0_5.blk t).view.emb y 1) ?_).trans ?_
  · unfold half
    idx_vars y
    blk_simp [idx t]
    omega
  · unfold batch
    have h0 : (win0_5.blk t).view.emb y 0 = grid0.coords t 0 := by
      idx_vars y
      apply Fin.ext
      blk_simp [idx t]
    have h1 : (win0_5.blk t).view.emb y 2 = y 2 := by
      idx_vars y
      apply Fin.ext
      blk_simp [idx t]
    rw [h0, h1]

end Cert.Layer.First
-- ==== Proof.Layer.Cross.lean ====
/-
  The attention of the tokens to a memory: its value as sums, and the kernels' operations on tensors for a block of
  rows. The number of rows is a symbol.
-/
module

public import proofs.«01_k».proof.Proof.Layer.FeedForward

@[expose] public section
set_option maxRecDepth 16384

namespace Cert.Layer
open Idealize.ShloMosaic Cert.Fox

/-- The share of key i among the scores s. -/
noncomputable def soft {n : Nat} (s : Fin n → EReal) (i : Fin n) : EReal :=
  Ideal.div (Ideal.exp (s i - Finset.univ.sup s)) (∑ j, Ideal.exp (s j - Finset.univ.sup s))

/-- The scaled query of a lane. -/
noncomputable def query (h : Fin 1024 → EReal) (w : Fin 1024 → Fin 1024 → EReal) (e : Fin 1024) : EReal :=
  (∑ c, h c * w c e) * Ideal.ofBits .f32 0x3D800000#32

/-- The lane d of head o. -/
abbrev lane (o : Fin 4) (d : Fin 256) : Fin 1024 := ⟨256 * o + d, by omega⟩

/-- The score of the memory's key i for head o; k is the memory's keys. -/
noncomputable def near (q : Fin 1024 → EReal) (k : Fin 256 → Fin 1024 → EReal) (o : Fin 4) (i : Fin 256) : EReal :=
  ∑ d : Fin 256, q (lane o d) * k i (lane o d)

/-- The attention's lane e: head e / 256. -/
noncomputable def recall (q : Fin 1024 → EReal) (k v : Fin 256 → Fin 1024 → EReal) (e : Fin 1024) : EReal :=
  ∑ i, soft (near q k ⟨e / 256, by omega⟩) i * v i e

/-- The layer's value of a row x of the tokens. -/
noncomputable def crossed (x g : Fin 1024 → EReal) (wq : Fin 1024 → Fin 1024 → EReal) (k v : Fin 256 → Fin 1024 → EReal)
    (wo : Fin 1024 → Fin 1024 → EReal) (e : Fin 1024) : EReal :=
  x e + ∑ j, recall (query (rms x g) wq) k v j * wo j e

/-- A row of the tokens with the two mixers' rows b and a, side by side, through w. -/
noncomputable def mixed (x : Fin 1024 → EReal) (b a : Fin 512 → EReal) (w : Fin 1024 → Fin 1024 → EReal) (e : Fin 1024) : EReal :=
  x e + ∑ c : Fin 1024, (if h : c.val < 512 then b ⟨c, h⟩ else a ⟨c - 512, by omega⟩) * w c e

theorem mixed_halves (x b a w e) : mixed x b a w e
    = x e + ∑ c : Fin 512, b c * w ⟨c, by omega⟩ e + ∑ c : Fin 512, a c * w ⟨512 + c, by omega⟩ e := by
  unfold mixed
  rw [sum_split 512 512 rfl, add_assoc]
  refine congrArg (x e + ·) (congrArg₂ (· + ·) (Finset.sum_congr rfl fun c _ => ?_) (Finset.sum_congr rfl fun c _ => ?_))
  · rw [dif_pos c.isLt]
  · rw [dif_neg (by simp)]
    simp only [Nat.add_sub_cancel_left]

section Tensors
variable {a : Nat}

/-- The scaled queries of the rows. -/
noncomputable def queries (w1 : DotDims.WF (Sh a 1024) (Sh 1024 1024) (Sh a 1024) [1] [0] [0] [1] [] []) (hl : FTy.bits .bf16 < FTy.bits .f32)
    (h : FVec Ideal (Sh a 1024) .bf16) (w : FVec Ideal (Sh 1024 1024) .bf16) : FVec Ideal (Sh a 1024) .bf16 :=
  truncf .bf16 (mulf (mm w1 h w) (broadcast (Sh a 1024) (Scalar.ofBits .f32 0x3D800000#32))) hl

theorem queries_at (w1 hl) (h : FVec Ideal (Sh a 1024) .bf16) (w) (r : Fin a) (e : Fin 1024) :
    queries w1 hl h w (ix2 r e) = query (fun c => h (ix2 r c)) (fun c e => w (ix2 c e)) e := by
  show mm w1 h w (ix2 r e) * _ = _
  rw [mm_at]
  rfl

/-- The scores' shares by rows. -/
noncomputable def shares (hr : (Sh a 256).Reduces [1] (Li a)) (hc : (Li a).ShapeCasts (Sh a 1)) (hb : (Sh a 1).Broadcasts (Sh a 256))
    (s : FVec Ideal (Sh a 256) .f32) : FVec Ideal (Sh a 256) .f32 :=
  let p := exp (subf s (broadcastTo (Sh a 256) (shapeCast (Sh a 1) (multiReduction .maximumf [1] (Li a) s 0xFF800000#32 hr (.inl rfl) rfl) hc) hb))
  divf p (broadcastTo (Sh a 256) (shapeCast (Sh a 1) (multiReduction .add [1] (Li a) p 0x00000000#32 hr (.inl rfl) rfl) hc) hb)

theorem shares_at (hr : (Sh a 256).Reduces [1] (Li a)) (hc : (Li a).ShapeCasts (Sh a 1)) (hb : (Sh a 1).Broadcasts (Sh a 256)) (s : FVec Ideal (Sh a 256) .f32) (r : Fin a) (i : Fin 256) :
    shares hr hc hb s (ix2 r i) = soft (fun i => s (ix2 r i)) i := by
  have e : ∀ i, exp (subf s (broadcastTo (Sh a 256) (shapeCast (Sh a 1) (multiReduction .maximumf [1] (Li a) s 0xFF800000#32 hr (.inl rfl) rfl) hc) hb)) (ix2 r i)
      = Ideal.exp (s (ix2 r i) - Finset.univ.sup fun i => s (ix2 r i)) := fun i => by
    rw [exp_apply, subf_apply, spread_at, column_at, rowMax_at]
    rfl
  unfold shares
  show FloatOps.divf (exp _ (ix2 r i)) (broadcastTo (Sh a 256) _ hb (ix2 r i)) = _
  rw [spread_at, column_at, rowSum_at]
  simp only [e]
  rfl

/-- One head: lanes o .. o+256 of the queries q, the memory's keys k, a lane to a row, and its values v. -/
noncomputable def head (hr : (Sh a 256).Reduces [1] (Li a)) (hc : (Li a).ShapeCasts (Sh a 1)) (hb : (Sh a 1).Broadcasts (Sh a 256)) (w2 : DotDims.WF (Sh a 256) (Sh 256 256) (Sh a 256) [1] [0] [0] [1] [] []) (hl : FTy.bits .bf16 < FTy.bits .f32)
    (q : FVec Ideal (Sh a 1024) .bf16) (o : Nat) (hs : (Sh a 1024).Slices ![0, o] (Sh a 256)) (k v : FVec Ideal (Sh 256 256) .bf16) : FVec Ideal (Sh a 256) .bf16 :=
  truncf .bf16 (mm w2 (truncf .bf16 (shares hr hc hb (mm w2 (extractStridedSlice (Sh a 256) ![0, o] q hs) k)) hl) v) hl

theorem head_at (hr : (Sh a 256).Reduces [1] (Li a)) (hc : (Li a).ShapeCasts (Sh a 1)) (hb : (Sh a 1).Broadcasts (Sh a 256)) (w2 hl) (q : FVec Ideal (Sh a 1024) .bf16) (o : Nat) (hs) (k v : FVec Ideal (Sh 256 256) .bf16) (p : Fin 4) (ho : o = 256 * p.val)
    (r : Fin a) (l : Fin 256) :
    head hr hc hb w2 hl q o hs k v (ix2 r l) = ∑ i : Fin 256, soft (fun i => ∑ d : Fin 256, q (ix2 r (lane p d)) * k (ix2 d i)) i * v (ix2 i l) := by
  subst ho
  have hq : ∀ d, extractStridedSlice (Sh a 256) ![0, 256 * p.val] q hs (ix2 r d) = q (ix2 r (lane p d)) := fun d => by
    refine congrArg q (funext fun ax => Fin.ext ?_)
    match ax with
    | ⟨0, _⟩ => exact Nat.zero_add _
    | ⟨1, _⟩ => rfl
  show mm w2 _ v (ix2 r l) = _
  rw [mm_at]
  refine Finset.sum_congr rfl fun i _ => congrArg (· * v (ix2 i l)) ?_
  show shares hr hc hb _ (ix2 r i) = _
  rw [shares_at]
  refine congrArg (soft · i) (funext fun i => ?_)
  rw [mm_at]
  simp only [hq]

/-- Four heads side by side. -/
theorem four_at (x : Fin 4 → FVec Ideal (Sh a 256) .bf16) (h : Shape.Concatenates [Sh a 256, Sh a 256, Sh a 256, Sh a 256] (Sh a 1024) 1)
    (r : Fin a) (e : Fin 1024) :
    concatenate (Sh a 1024) 1 [⟨Sh a 256, x 0⟩, ⟨Sh a 256, x 1⟩, ⟨Sh a 256, x 2⟩, ⟨Sh a 256, x 3⟩] h (ix2 r e)
      = x ⟨e / 256, by omega⟩ (ix2 r ⟨e % 256, by omega⟩) := by
  refine concatenate_ofFn_apply (t := Sh a 1024) (s₁ := Sh a 256) 1 x h rfl 256 rfl (ix2 r e) ⟨e / 256, by omega⟩ rfl _ rfl fun b hb => ?_
  match b, hb with
  | ⟨0, _⟩, _ => rfl
  | ⟨1, _⟩, hb => exact absurd rfl hb

/-- The layer's rows from the heads. -/
noncomputable def outward (w1 : DotDims.WF (Sh a 1024) (Sh 1024 1024) (Sh a 1024) [1] [0] [0] [1] [] [])
    (h : Shape.Concatenates [Sh a 256, Sh a 256, Sh a 256, Sh a 256] (Sh a 1024) 1) (y : FVec Ideal (Sh a 1024) .f32) (x : Fin 4 → FVec Ideal (Sh a 256) .bf16)
    (wo : FVec Ideal (Sh 1024 1024) .bf16) : FVec Ideal (Sh a 1024) .f32 :=
  addf y (mm w1 (concatenate (Sh a 1024) 1 [⟨Sh a 256, x 0⟩, ⟨Sh a 256, x 1⟩, ⟨Sh a 256, x 2⟩, ⟨Sh a 256, x 3⟩] h) wo)

/-- The kernel's layer on a block's rows y: k and v are the heads' keys and values. -/
noncomputable def body (w1 : DotDims.WF (Sh a 1024) (Sh 1024 1024) (Sh a 1024) [1] [0] [0] [1] [] []) (w2 : DotDims.WF (Sh a 256) (Sh 256 256) (Sh a 256) [1] [0] [0] [1] [] [])
    (hl : FTy.bits .bf16 < FTy.bits .f32) (nr : (Sh a 1024).Reduces [1] (Li a)) (hr : (Sh a 256).Reduces [1] (Li a)) (hc : (Li a).ShapeCasts (Sh a 1))
    (nb : (Sh a 1).Broadcasts (Sh a 1024)) (hb : (Sh a 1).Broadcasts (Sh a 256)) (hg : (Sh 1 1024).Broadcasts (Sh a 1024))
    (s0 : (Sh a 1024).Slices ![0, 0] (Sh a 256)) (s1 : (Sh a 1024).Slices ![0, 256] (Sh a 256)) (s2 : (Sh a 1024).Slices ![0, 512] (Sh a 256)) (s3 : (Sh a 1024).Slices ![0, 768] (Sh a 256))
    (hcat : Shape.Concatenates [Sh a 256, Sh a 256, Sh a 256, Sh a 256] (Sh a 1024) 1)
    (y : FVec Ideal (Sh a 1024) .f32) (g : FVec Ideal (Sh 1 1024) .f32) (wq : FVec Ideal (Sh 1024 1024) .bf16) (k v : Fin 4 → FVec Ideal (Sh 256 256) .bf16)
    (wo : FVec Ideal (Sh 1024 1024) .bf16) : FVec Ideal (Sh a 1024) .f32 :=
  let q := queries w1 hl (truncf .bf16 (rows nr hc nb hg y g) hl) wq
  outward w1 hcat y ![head hr hc hb w2 hl q 0 s0 (k 0) (v 0), head hr hc hb w2 hl q 256 s1 (k 1) (v 1),
    head hr hc hb w2 hl q 512 s2 (k 2) (v 2), head hr hc hb w2 hl q 768 s3 (k 3) (v 3)] wo

theorem body_at (w1 w2 hl nr hr hc nb hb hg s0 s1 s2 s3 hcat) (y : FVec Ideal (Sh a 1024) .f32) (g wq) (k v : Fin 4 → FVec Ideal (Sh 256 256) .bf16) (wo)
    (x : Fin 1024 → EReal) (K V : Fin 256 → Fin 1024 → EReal) (r : Fin a) (hx : ∀ e, y (ix2 r e) = x e)
    (hk : ∀ o d i, k o (ix2 d i) = K i (lane o d)) (hv : ∀ o i d, v o (ix2 i d) = V i (lane o d)) (e : Fin 1024) :
    body w1 w2 hl nr hr hc nb hb hg s0 s1 s2 s3 hcat y g wq k v wo (ix2 r e)
      = crossed x (fun e => g (ix2 0 e)) (fun c e => wq (ix2 c e)) K V (fun c e => wo (ix2 c e)) e := by
  unfold body
  set q := queries w1 hl (truncf .bf16 (rows nr hc nb hg y g) hl) wq with hq
  have eq : ∀ e, q (ix2 r e) = query (rms x fun e => g (ix2 0 e)) (fun c e => wq (ix2 c e)) e := fun e => by
    rw [hq, queries_at]
    refine congrArg (query · _ e) (funext fun e => ?_)
    show rows nr hc nb hg y g (ix2 r e) = _
    rw [rows_at]
    simp only [hx]
  have eh : ∀ (o : Fin 4) (l : Fin 256), (![head hr hc hb w2 hl q 0 s0 (k 0) (v 0), head hr hc hb w2 hl q 256 s1 (k 1) (v 1),
      head hr hc hb w2 hl q 512 s2 (k 2) (v 2), head hr hc hb w2 hl q 768 s3 (k 3) (v 3)] o) (ix2 r l)
      = ∑ i, soft (near (query (rms x fun e => g (ix2 0 e)) (fun c e => wq (ix2 c e))) K o) i * V i (lane o l) := fun o l => by
    have : ∀ n hs, n = 256 * o.val → head hr hc hb w2 hl q n hs (k o) (v o) (ix2 r l)
        = ∑ i, soft (near (query (rms x fun e => g (ix2 0 e)) (fun c e => wq (ix2 c e))) K o) i * V i (lane o l) := fun n hs hn => by
      rw [head_at hr hc hb w2 hl q n hs _ _ o hn]
      simp only [eq, hk, hv]
      rfl
    fin_cases o <;> exact this _ _ rfl
  unfold outward
  rw [addf_apply, mm_at, hx]
  refine congrArg (x e + ·) (Finset.sum_congr rfl fun j _ => congrArg (· * wo (ix2 j e)) ?_)
  rw [four_at, eh]
  unfold recall
  have : lane ⟨j / 256, by omega⟩ ⟨j % 256, by omega⟩ = j := Fin.ext (by show 256 * (j.val / 256) + j.val % 256 = j.val; omega)
  simp only [this]

end Tensors

end Cert.Layer
-- ==== Proof.Layer.Xattn.lean ====
/-
  The memory cross-attention call's output array: the layer's value.
-/
module

public import Idealize.ShloMosaic.Lib.Pipeline.ValueKit
public import proofs.«01_k».proof.Proof.Gen.XattnIdeal.Value
public import proofs.«01_k».proof.Proof.Layer.Cross

@[expose] public section
set_option maxRecDepth 16384

namespace Cert.Layer.Xattn
open Idealize.ShloMosaic Cert.Fox Cert.Layer Cert.XattnIdeal Cert.XattnIdeal.Gen

variable (m : (ℓ : Loc nD τ sig) → Buf (Elt Ideal) ℓ) (c : Dev nD)

/-- The argument arrays. -/
noncomputable abbrev aX : FVec Ideal S32x2048x1024 .f32 := m ((c.tc : Thread nD τ).loc main_arg0)
noncomputable abbrev aG : FVec Ideal S1024 .f32 := m ((c.tc : Thread nD τ).loc main_arg1)
noncomputable abbrev aQ : FVec Ideal S1024x1024 .f32 := m ((c.tc : Thread nD τ).loc main_arg2)
noncomputable abbrev aK : FVec Ideal S32x256x1024 .f32 := m ((c.tc : Thread nD τ).loc main_arg3)
noncomputable abbrev aV : FVec Ideal S32x256x1024 .f32 := m ((c.tc : Thread nD τ).loc main_arg4)
noncomputable abbrev aO : FVec Ideal S1024x1024 .f32 := m ((c.tc : Thread nD τ).loc main_arg5)

theorem idx : ∀ t : Fin cfg0.N, win0_0.index t = ![(grid0.coords t 0).val, (grid0.coords t 1).val, 0]
    ∧ win0_1.index t = ![0, 0] ∧ win0_2.index t = ![0, 0] ∧ win0_3.index t = ![(grid0.coords t 0).val, 0, 0]
    ∧ win0_4.index t = ![(grid0.coords t 0).val, 0, 0] ∧ win0_5.index t = ![0, 0]
    ∧ win0_6.index t = ![(grid0.coords t 0).val, (grid0.coords t 1).val, 0] :=
  (by decide +kernel : ∀ t : Fin grid0.N, _)

/-- What the host lines before the launch put into the call's operands. -/
theorem entry_g : V m c main_v0 = (shapeCast S1x1024 (aG m c) shapeCasts_S1024_S1x1024 : FVec Ideal S1x1024 .f32) := by
  unfold V
  simp only [hostOps0]
  after_results
  rfl

theorem entry_q : V m c main_v1 = (truncf .bf16 (aQ m c) bitsLt_bf16_f32 : FVec Ideal S1024x1024 .bf16) := by
  unfold V
  simp only [hostOps0]
  after_results

theorem entry_k : V m c main_v3 = (truncf .bf16 (transpose S32x1024x256 [0, 2, 1] (aK m c) transposes_S32x256x1024_S32x1024x256_0_2_1) bitsLt_bf16_f32 : FVec Ideal S32x1024x256 .bf16) := by
  unfold V
  simp only [hostOps0]
  after_results

theorem entry_v : V m c main_v4 = (truncf .bf16 (aV m c) bitsLt_bf16_f32 : FVec Ideal S32x256x1024 .bf16) := by
  unfold V
  simp only [hostOps0]
  after_results

theorem entry_o : V m c main_v5 = (truncf .bf16 (aO m c) bitsLt_bf16_f32 : FVec Ideal S1024x1024 .bf16) := by
  unfold V
  simp only [hostOps0]
  after_results

theorem g_at (e : Fin 1024) : (V m c main_v0 : FVec Ideal S1x1024 .f32) (ix2 0 e) = aG m c (ix1 e) := by
  rw [entry_g]
  pointwise

theorem q_at (i) : (V m c main_v1 : FVec Ideal S1024x1024 .bf16) i = aQ m c i := by
  rw [entry_q]
  rfl

theorem k_at (b : Fin 32) (e : Fin 1024) (i : Fin 256) : (V m c main_v3 : FVec Ideal S32x1024x256 .bf16) (ix3 b e i) = aK m c (ix3 b i e) := by
  rw [entry_k]
  pointwise

theorem v_at (i) : (V m c main_v4 : FVec Ideal S32x256x1024 .bf16) i = aV m c i := by
  rw [entry_v]
  rfl

theorem o_at (i) : (V m c main_v5 : FVec Ideal S1024x1024 .bf16) i = aO m c i := by
  rw [entry_o]
  rfl

/-- An instance's batch and its half of the tokens. -/
def batch (t : Fin cfg0.N) : Fin 32 := grid0.coords t 0
def half (t : Fin cfg0.N) : Fin 2 := grid0.coords t 1

/-- The blocks of an instance. -/
noncomputable abbrev bX (t : Fin cfg0.N) : Vec Ideal S1x1024x1024 .f32 := iblk m c 0 t
noncomputable abbrev bG (t : Fin cfg0.N) : Vec Ideal S1x1024 .f32 := iblk m c 1 t
noncomputable abbrev bQ (t : Fin cfg0.N) : Vec Ideal S1024x1024 .bf16 := iblk m c 2 t
noncomputable abbrev bK (t : Fin cfg0.N) : Vec Ideal S1x1024x256 .bf16 := iblk m c 3 t
noncomputable abbrev bV (t : Fin cfg0.N) : Vec Ideal S1x256x1024 .bf16 := iblk m c 4 t
noncomputable abbrev bO (t : Fin cfg0.N) : Vec Ideal S1024x1024 .bf16 := iblk m c 5 t

theorem bX_at (t : Fin cfg0.N) (r e : Fin 1024) (s : Fin 2048) (hs : s.val = 1024 * (half t).val + r) :
    bX m c t (ix3 0 r e) = aX m c (ix3 (batch t) s e) := by
  have hs : s.val = 1024 * (grid0.coords t 1).val + r := hs
  unfold batch
  blk_ext [iblk, V, idx t]

theorem bG_at (t : Fin cfg0.N) (e : Fin 1024) : bG m c t (ix2 0 e) = aG m c (ix1 e) := by
  refine Eq.trans ?_ (g_at m c e)
  blk_ext [iblk, V, idx t]

theorem bQ_at (t : Fin cfg0.N) (i j : Fin 1024) : bQ m c t (ix2 i j) = aQ m c (ix2 i j) := by
  refine Eq.trans ?_ (q_at m c _)
  blk_ext [iblk, V, idx t]

theorem bK_at (t : Fin cfg0.N) (e : Fin 1024) (i : Fin 256) : bK m c t (ix3 0 e i) = aK m c (ix3 (batch t) i e) := by
  refine Eq.trans ?_ (k_at m c _ _ _)
  unfold batch
  blk_ext [iblk, V, idx t]

theorem bV_at (t : Fin cfg0.N) (i : Fin 256) (e : Fin 1024) : bV m c t (ix3 0 i e) = aV m c (ix3 (batch t) i e) := by
  refine Eq.trans ?_ (v_at m c _)
  unfold batch
  blk_ext [iblk, V, idx t]

theorem bO_at (t : Fin cfg0.N) (i j : Fin 1024) : bO m c t (ix2 i j) = aO m c (ix2 i j) := by
  refine Eq.trans ?_ (o_at m c _)
  blk_ext [iblk, V, idx t]

/-- The heads' keys and values in a block. -/
noncomputable def keys (x3 : Vec Ideal S1x1024x256 .bf16) : Fin 4 → FVec Ideal (Sh 256 256) .bf16 :=
  ![(shapeCast S256x256 (View.ld x3 r0_4) shapeCasts_S1x256x256_S256x256 : FVec Ideal (Sh 256 256) .bf16), (shapeCast S256x256 (View.ld x3 r0_5) shapeCasts_S1x256x256_S256x256 : FVec Ideal (Sh 256 256) .bf16),
    (shapeCast S256x256 (View.ld x3 r0_6) shapeCasts_S1x256x256_S256x256 : FVec Ideal (Sh 256 256) .bf16), (shapeCast S256x256 (View.ld x3 r0_7) shapeCasts_S1x256x256_S256x256 : FVec Ideal (Sh 256 256) .bf16)]

noncomputable def vals (x4 : Vec Ideal S1x256x1024 .bf16) : Fin 4 → FVec Ideal (Sh 256 256) .bf16 :=
  ![(shapeCast S256x256 (View.ld x4 r0_8) shapeCasts_S1x256x256_S256x256 : FVec Ideal (Sh 256 256) .bf16), (shapeCast S256x256 (View.ld x4 r0_9) shapeCasts_S1x256x256_S256x256 : FVec Ideal (Sh 256 256) .bf16),
    (shapeCast S256x256 (View.ld x4 r0_10) shapeCasts_S1x256x256_S256x256 : FVec Ideal (Sh 256 256) .bf16), (shapeCast S256x256 (View.ld x4 r0_11) shapeCasts_S1x256x256_S256x256 : FVec Ideal (Sh 256 256) .bf16)]

theorem keys_at (x3 : Vec Ideal S1x1024x256 .bf16) (o : Fin 4) (d i : Fin 256) : keys x3 o (ix2 d i) = x3 (ix3 0 (lane o d) i) := by
  have h0 : shapeCast S256x256 (View.ld x3 r0_4) shapeCasts_S1x256x256_S256x256 (ix2 d i) = x3 (ix3 0 ⟨d, by omega⟩ i) := by pointwise
  have h1 : shapeCast S256x256 (View.ld x3 r0_5) shapeCasts_S1x256x256_S256x256 (ix2 d i) = x3 (ix3 0 ⟨256 + d, by omega⟩ i) := by pointwise
  have h2 : shapeCast S256x256 (View.ld x3 r0_6) shapeCasts_S1x256x256_S256x256 (ix2 d i) = x3 (ix3 0 ⟨512 + d, by omega⟩ i) := by pointwise
  have h3 : shapeCast S256x256 (View.ld x3 r0_7) shapeCasts_S1x256x256_S256x256 (ix2 d i) = x3 (ix3 0 ⟨768 + d, by omega⟩ i) := by pointwise
  have e0 : (⟨d, by omega⟩ : Fin 1024) = lane 0 d := Fin.ext (Nat.zero_add _).symm
  fin_cases o
  · exact h0.trans (congrArg (fun l => x3 (ix3 0 l i)) e0)
  · exact h1
  · exact h2
  · exact h3

theorem vals_at (x4 : Vec Ideal S1x256x1024 .bf16) (o : Fin 4) (i d : Fin 256) : vals x4 o (ix2 i d) = x4 (ix3 0 i (lane o d)) := by
  have h0 : shapeCast S256x256 (View.ld x4 r0_8) shapeCasts_S1x256x256_S256x256 (ix2 i d) = x4 (ix3 0 i ⟨d, by omega⟩) := by pointwise
  have h1 : shapeCast S256x256 (View.ld x4 r0_9) shapeCasts_S1x256x256_S256x256 (ix2 i d) = x4 (ix3 0 i ⟨256 + d, by omega⟩) := by pointwise
  have h2 : shapeCast S256x256 (View.ld x4 r0_10) shapeCasts_S1x256x256_S256x256 (ix2 i d) = x4 (ix3 0 i ⟨512 + d, by omega⟩) := by pointwise
  have h3 : shapeCast S256x256 (View.ld x4 r0_11) shapeCasts_S1x256x256_S256x256 (ix2 i d) = x4 (ix3 0 i ⟨768 + d, by omega⟩) := by pointwise
  have e0 : (⟨d, by omega⟩ : Fin 1024) = lane 0 d := Fin.ext (Nat.zero_add _).symm
  fin_cases o
  · exact h0.trans (congrArg (fun l => x4 (ix3 0 i l)) e0)
  · exact h1
  · exact h2
  · exact h3

/-- The body on half of a block's rows y. -/
noncomputable def part (y : FVec Ideal (Sh 512 1024) .f32) (x1 : Vec Ideal S1x1024 .f32) (x2 : Vec Ideal S1024x1024 .bf16) (x3 : Vec Ideal S1x1024x256 .bf16)
    (x4 : Vec Ideal S1x256x1024 .bf16) (x5 : Vec Ideal S1024x1024 .bf16) : FVec Ideal (Sh 512 1024) .f32 :=
  body dot_S512x1024_S1024x1024_S512x1024_1_0_0_1_n_n_wf dot_S512x256_S256x256_S512x256_1_0_0_1_n_n_wf bitsLt_bf16_f32 reduces_S512x1024_S512
    reduces_S512x256_S512 shapeCasts_S512_S512x1 broadcasts_S512x1_S512x1024 broadcasts_S512x1_S512x256 broadcasts_S1x1024_S512x1024
    slices_S512x1024_o0_0_S512x256 slices_S512x1024_o0_256_S512x256 slices_S512x1024_o0_512_S512x256 slices_S512x1024_o0_768_S512x256
    concatenates_S512x256_S512x256_S512x256_S512x256_S512x1024_d1 y (View.ld x1 r0_2) (View.ld x2 r0_3) (keys x3) (vals x4) (View.ld x5 r0_3)

theorem part_at (t : Fin cfg0.N) (y : FVec Ideal (Sh 512 1024) .f32) (x : Fin 1024 → EReal) (r : Fin 512) (hx : ∀ e, y (ix2 r e) = x e) (e : Fin 1024) :
    part y (bG m c t) (bQ m c t) (bK m c t) (bV m c t) (bO m c t) (ix2 r e)
      = crossed x (fun e => aG m c (ix1 e)) (fun i j => aQ m c (ix2 i j)) (fun i e => aK m c (ix3 (batch t) i e)) (fun i e => aV m c (ix3 (batch t) i e))
        (fun i j => aO m c (ix2 i j)) e := by
  unfold part
  have hk : ∀ o d i, keys (bK m c t) o (ix2 d i) = aK m c (ix3 (batch t) i (lane o d)) := fun o d i => by rw [keys_at, bK_at]
  have hv : ∀ o i d, vals (bV m c t) o (ix2 i d) = aV m c (ix3 (batch t) i (lane o d)) := fun o i d => by rw [vals_at, bV_at]
  refine (body_at _ _ _ _ _ _ _ _ _ _ _ _ _ _ y _ _ _ _ _ x (fun i e => aK m c (ix3 (batch t) i e)) (fun i e => aV m c (ix3 (batch t) i e)) r hx hk hv e).trans ?_
  have eg : ∀ e, View.ld (bG m c t) r0_2 (ix2 0 e) = aG m c (ix1 e) := fun e => by
    rw [← bG_at m c t]
    pointwise
  have eq : ∀ i j, View.ld (bQ m c t) r0_3 (ix2 i j) = aQ m c (ix2 i j) := fun i j => by
    rw [← bQ_at m c t]
    pointwise
  have eo : ∀ i j, View.ld (bO m c t) r0_3 (ix2 i j) = aO m c (ix2 i j) := fun i j => by
    rw [← bO_at m c t]
    pointwise
  rw [funext eg, funext fun i => funext (eq i), funext fun i => funext (eo i)]

/-- Half of a block's rows. -/
noncomputable def upper (x0 : Vec Ideal S1x1024x1024 .f32) : FVec Ideal (Sh 512 1024) .f32 := shapeCast S512x1024 (View.ld x0 r0_0) shapeCasts_S1x512x1024_S512x1024
noncomputable def lower (x0 : Vec Ideal S1x1024x1024 .f32) : FVec Ideal (Sh 512 1024) .f32 := shapeCast S512x1024 (View.ld x0 r0_1) shapeCasts_S1x512x1024_S512x1024

theorem upper_at (x0 : Vec Ideal S1x1024x1024 .f32) (r : Fin 512) (e : Fin 1024) : upper x0 (ix2 r e) = x0 (ix3 0 ⟨r, by omega⟩ e) := by
  unfold upper
  pointwise

theorem lower_at (x0 : Vec Ideal S1x1024x1024 .f32) (r : Fin 512) (e : Fin 1024) : lower x0 (ix2 r e) = x0 (ix3 0 ⟨512 + r, by omega⟩ e) := by
  unfold lower
  pointwise

/-- One head of half a block. -/
noncomputable abbrev one (q : FVec Ideal (Sh 512 1024) .bf16) (o : Nat) (hs : (Sh 512 1024).Slices ![0, o] (Sh 512 256)) (k v : Vec Ideal S1x256x256 .bf16) :
    FVec Ideal (Sh 512 256) .bf16 :=
  head reduces_S512x256_S512 shapeCasts_S512_S512x1 broadcasts_S512x1_S512x256 dot_S512x256_S256x256_S512x256_1_0_0_1_n_n_wf bitsLt_bf16_f32 q o hs
    (shapeCast S256x256 k shapeCasts_S1x256x256_S256x256) (shapeCast S256x256 v shapeCasts_S1x256x256_S256x256)

/-- The scaled queries of half a block. -/
noncomputable abbrev asks (y : FVec Ideal (Sh 512 1024) .f32) (g : Vec Ideal S1x1024 .f32) (w : Vec Ideal S1024x1024 .bf16) : FVec Ideal (Sh 512 1024) .bf16 :=
  queries dot_S512x1024_S1024x1024_S512x1024_1_0_0_1_n_n_wf bitsLt_bf16_f32
    (truncf .bf16 (rows reduces_S512x1024_S512 shapeCasts_S512_S512x1 broadcasts_S512x1_S512x1024 broadcasts_S1x1024_S512x1024 y g) bitsLt_bf16_f32) w

section Stages
variable (x0 : Vec Ideal S1x1024x1024 .f32) (x1 : Vec Ideal S1x1024 .f32) (x2 : Vec Ideal S1024x1024 .bf16)

theorem asks_upper : (k0_pay8 (k0_pay6 (View.ld x0 r0_0) (View.ld x1 r0_2) (View.ld x2 r0_3)) (k0_pay7 (F := Ideal)) : FVec Ideal S512x1024 .bf16)
    = asks (upper x0) (View.ld x1 r0_2) (View.ld x2 r0_3) := by
  unfold k0_pay8 k0_pay6 k0_pay7
  simp only [shapeCast_self]
  rfl

theorem asks_lower : (k0_pay9 (k0_pay5 (View.ld x0 r0_1) (View.ld x1 r0_2)) (View.ld x2 r0_3) : FVec Ideal S512x1024 .bf16)
    = asks (lower x0) (View.ld x1 r0_2) (View.ld x2 r0_3) := by
  unfold k0_pay9 k0_pay5
  simp only [shapeCast_self]
  rfl

variable (p z : FVec Ideal S512x1024 .f32) (h : FVec Ideal S512x1024 .bf16) (w : Vec Ideal S1024x1024 .bf16) (k v : Vec Ideal S1x256x256 .bf16)

theorem upper0 : k0_pay18 (k0_pay10 p z k) v = one (k0_pay8 p z) 0 slices_S512x1024_o0_0_S512x256 k v := rfl
theorem upper1 : k0_pay19 (k0_pay11 p z k) v = one (k0_pay8 p z) 256 slices_S512x1024_o0_256_S512x256 k v := rfl
theorem lower0 : k0_pay23 (k0_pay22 (k0_pay14 h w k)) v = one (k0_pay9 h w) 0 slices_S512x1024_o0_0_S512x256 k v := rfl
theorem lower1 : k0_pay24 (k0_pay15 h w k) v = one (k0_pay9 h w) 256 slices_S512x1024_o0_256_S512x256 k v := rfl
theorem lower2 : k0_pay25 (k0_pay16 h k) v = one h 512 slices_S512x1024_o0_512_S512x256 k v := rfl

/-- The rows from the heads. -/
noncomputable abbrev ending (y : FVec Ideal (Sh 512 1024) .f32) (a b c d : FVec Ideal (Sh 512 256) .bf16) (w : Vec Ideal S1024x1024 .bf16) : FVec Ideal (Sh 512 1024) .f32 :=
  outward dot_S512x1024_S1024x1024_S512x1024_1_0_0_1_n_n_wf concatenates_S512x256_S512x256_S512x256_S512x256_S512x1024_d1 y ![a, b, c, d] w

theorem upper_end (y : FVec Ideal S512x1024 .f32) (a b : FVec Ideal S512x256 .bf16) (k' v' : Vec Ideal S1x256x256 .bf16) :
    k0_pay21 y (k0_pay12 p z k) (k0_pay13 p z k') a b (k0_pay20 (k0_pay12 p z k)) v v' w
      = ending y a b (one (k0_pay8 p z) 512 slices_S512x1024_o0_512_S512x256 k v) (one (k0_pay8 p z) 768 slices_S512x1024_o0_768_S512x256 k' v') w := by
  unfold k0_pay21
  simp only [shapeCast_self]
  rfl

theorem lower_end (y : FVec Ideal S512x1024 .f32) (a b c : FVec Ideal S512x256 .bf16) :
    k0_pay2 y a b c (k0_pay26 (k0_pay17 h k)) v w
      = shapeCast S1x512x1024 (ending y a b c (one h 768 slices_S512x1024_o0_768_S512x256 k v) w) shapeCasts_S512x1024_S1x512x1024 := by
  unfold k0_pay2
  simp only [shapeCast_self]
  rfl

end Stages

theorem part_eq (y x1 x2 x3 x4 x5) : part y x1 x2 x3 x4 x5
    = ending y (one (asks y (View.ld x1 r0_2) (View.ld x2 r0_3)) 0 slices_S512x1024_o0_0_S512x256 (View.ld x3 r0_4) (View.ld x4 r0_8))
      (one (asks y (View.ld x1 r0_2) (View.ld x2 r0_3)) 256 slices_S512x1024_o0_256_S512x256 (View.ld x3 r0_5) (View.ld x4 r0_9))
      (one (asks y (View.ld x1 r0_2) (View.ld x2 r0_3)) 512 slices_S512x1024_o0_512_S512x256 (View.ld x3 r0_6) (View.ld x4 r0_10))
      (one (asks y (View.ld x1 r0_2) (View.ld x2 r0_3)) 768 slices_S512x1024_o0_768_S512x256 (View.ld x3 r0_7) (View.ld x4 r0_11)) (View.ld x5 r0_3) := rfl

theorem out_eq (x0 : Vec Ideal S1x1024x1024 .f32) (x1 : Vec Ideal S1x1024 .f32) (x2 : Vec Ideal S1024x1024 .bf16) (x3 : Vec Ideal S1x1024x256 .bf16)
    (x4 : Vec Ideal S1x256x1024 .bf16) (x5 : Vec Ideal S1024x1024 .bf16) :
    out0_6 x0 x1 x2 x3 x4 x5 = View.canon [⟨r0_1, shapeCast S1x512x1024 (part (lower x0) x1 x2 x3 x4 x5) shapeCasts_S512x1024_S1x512x1024⟩,
      ⟨r0_0, shapeCast S1x512x1024 (part (upper x0) x1 x2 x3 x4 x5) shapeCasts_S512x1024_S1x512x1024⟩] := by
  unfold_out out0_6
  rw [upper0, upper1, lower0, lower1, lower2, upper_end, lower_end, asks_upper, asks_lower, part_eq, part_eq]
  rfl

theorem point (t : Fin cfg0.N) (y : S1x1024x1024.Idx) (s : Fin 2048) (hs : s.val = 1024 * (half t).val + (y 1).val) :
    out0_6 (bX m c t) (bG m c t) (bQ m c t) (bK m c t) (bV m c t) (bO m c t) y
      = crossed (fun e => aX m c (ix3 (batch t) s e)) (fun e => aG m c (ix1 e)) (fun i j => aQ m c (ix2 i j)) (fun i e => aK m c (ix3 (batch t) i e))
        (fun i e => aV m c (ix3 (batch t) i e)) (fun i j => aO m c (ix2 i j)) (y 2) := by
  rw [out_eq]
  canon_tiles x h
  · obtain ⟨x0, r, e, rfl⟩ := three (a := 1) (b := 512) (n := 1024) x
    obtain rfl : x0 = 0 := Subsingleton.elim _ _
    have e2 : y 2 = e := Fin.ext h2
    have hs' : s.val = 1024 * (half t).val + (⟨512 + r, by omega⟩ : Fin 1024).val := by rw [hs, h1]; rfl
    rw [e2]
    refine (ValueIdx.shapeCast_ab_1ab_apply _ _ 0 r e).trans (part_at m c t _ _ r (fun e => ?_) e)
    rw [lower_at, bX_at m c t _ e s hs']
  · obtain ⟨x0, r, e, rfl⟩ := three (a := 1) (b := 512) (n := 1024) x
    obtain rfl : x0 = 0 := Subsingleton.elim _ _
    have e2 : y 2 = e := Fin.ext h2
    have hs' : s.val = 1024 * (half t).val + (⟨r, by omega⟩ : Fin 1024).val := by rw [hs, h1]; rfl
    rw [e2]
    refine (ValueIdx.shapeCast_ab_1ab_apply _ _ 0 r e).trans (part_at m c t _ _ r (fun e => ?_) e)
    rw [upper_at, bX_at m c t _ e s hs']

theorem final : (dats m 0 c).arrAt 6 (cfgs 0).N
    = fun i => crossed (fun e => aX m c (ix3 (i 0) (i 1) e)) (fun e => aG m c (ix1 e)) (fun j l => aQ m c (ix2 j l)) (fun j e => aK m c (ix3 (i 0) j e))
        (fun j e => aV m c (ix3 (i 0) j e)) (fun j l => aO m c (ix2 j l)) (i 2) := by
  refine (dats m 0 c).arrAt_eq_of_covers 6 _ (by decide +kernel) fun t _ y => ?_
  blk_simp
  rw [after0_6]
  refine (point m c t y ((win0_6.blk t).view.emb y 1) ?_).trans ?_
  · unfold half
    idx_vars y
    blk_simp [idx t]
    omega
  · unfold batch
    have h0 : (win0_6.blk t).view.emb y 0 = grid0.coords t 0 := by
      idx_vars y
      apply Fin.ext
      blk_simp [idx t]
    have h1 : (win0_6.blk t).view.emb y 2 = y 2 := by
      idx_vars y
      apply Fin.ext
      blk_simp [idx t]
    rw [h0, h1]

end Cert.Layer.Xattn
-- ==== Proof.Layer.MixXattn.lean ====
/-
  The first layer's mixer output and memory cross-attention call's output array: the layer's value.
-/
module

public import Idealize.ShloMosaic.Lib.Pipeline.ValueKit
public import proofs.«01_k».proof.Proof.Gen.MixXattnIdeal.Value
public import proofs.«01_k».proof.Proof.Layer.Cross

@[expose] public section
set_option maxRecDepth 16384

namespace Cert.Layer.Mix
open Idealize.ShloMosaic Cert.Fox Cert.Layer Cert.MixXattnIdeal Cert.MixXattnIdeal.Gen

variable (m : (ℓ : Loc nD τ sig) → Buf (Elt Ideal) ℓ) (c : Dev nD)

/-- The argument arrays. -/
noncomputable abbrev aX : FVec Ideal S32x2048x1024 .f32 := m ((c.tc : Thread nD τ).loc main_arg0)
noncomputable abbrev aB : FVec Ideal S32x2048x512 .f32 := m ((c.tc : Thread nD τ).loc main_arg1)
noncomputable abbrev aA : FVec Ideal S32x2048x512 .f32 := m ((c.tc : Thread nD τ).loc main_arg2)
noncomputable abbrev aW : FVec Ideal S1024x1024 .f32 := m ((c.tc : Thread nD τ).loc main_arg3)
noncomputable abbrev aG : FVec Ideal S1024 .f32 := m ((c.tc : Thread nD τ).loc main_arg4)
noncomputable abbrev aQ : FVec Ideal S1024x1024 .f32 := m ((c.tc : Thread nD τ).loc main_arg5)
noncomputable abbrev aK : FVec Ideal S32x256x1024 .f32 := m ((c.tc : Thread nD τ).loc main_arg6)
noncomputable abbrev aV : FVec Ideal S32x256x1024 .f32 := m ((c.tc : Thread nD τ).loc main_arg7)
noncomputable abbrev aO : FVec Ideal S1024x1024 .f32 := m ((c.tc : Thread nD τ).loc main_arg8)

theorem idx : ∀ t : Fin cfg0.N, win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![0, 0]
    ∧ win0_4.index t = ![0, 0]
    ∧ win0_5.index t = ![0, 0]
    ∧ win0_6.index t = ![(grid0.coords t 0).val, 0, 0]
    ∧ win0_7.index t = ![(grid0.coords t 0).val, 0, 0]
    ∧ win0_8.index t = ![0, 0]
    ∧ win0_9.index t = ![(grid0.coords t 0).val, (grid0.coords t 1).val, 0] :=
  (by decide +kernel : ∀ t : Fin grid0.N, _)

/-- What the host lines before the launch put into the call's operands. -/
theorem entry_g : V m c main_v3 = (shapeCast S1x1024 (aG m c) shapeCasts_S1024_S1x1024 : FVec Ideal S1x1024 .f32) := by
  unfold V
  simp only [hostOps0]
  after_results
  rfl

theorem entry_q : V m c main_v4 = (truncf .bf16 (aQ m c) bitsLt_bf16_f32 : FVec Ideal S1024x1024 .bf16) := by
  unfold V
  simp only [hostOps0]
  after_results

theorem entry_k : V m c main_v6 = (truncf .bf16 (transpose S32x1024x256 [0, 2, 1] (aK m c) transposes_S32x256x1024_S32x1024x256_0_2_1) bitsLt_bf16_f32 : FVec Ideal S32x1024x256 .bf16) := by
  unfold V
  simp only [hostOps0]
  after_results

theorem entry_v : V m c main_v7 = (truncf .bf16 (aV m c) bitsLt_bf16_f32 : FVec Ideal S32x256x1024 .bf16) := by
  unfold V
  simp only [hostOps0]
  after_results

theorem entry_o : V m c main_v8 = (truncf .bf16 (aO m c) bitsLt_bf16_f32 : FVec Ideal S1024x1024 .bf16) := by
  unfold V
  simp only [hostOps0]
  after_results

theorem g_at (e : Fin 1024) : (V m c main_v3 : FVec Ideal S1x1024 .f32) (ix2 0 e) = aG m c (ix1 e) := by
  rw [entry_g]
  pointwise

theorem q_at (i) : (V m c main_v4 : FVec Ideal S1024x1024 .bf16) i = aQ m c i := by
  rw [entry_q]
  rfl

theorem k_at (b : Fin 32) (e : Fin 1024) (i : Fin 256) : (V m c main_v6 : FVec Ideal S32x1024x256 .bf16) (ix3 b e i) = aK m c (ix3 b i e) := by
  rw [entry_k]
  pointwise

theorem v_at (i) : (V m c main_v7 : FVec Ideal S32x256x1024 .bf16) i = aV m c i := by
  rw [entry_v]
  rfl

theorem o_at (i) : (V m c main_v8 : FVec Ideal S1024x1024 .bf16) i = aO m c i := by
  rw [entry_o]
  rfl

/-- An instance's batch and its half of the tokens. -/
def batch (t : Fin cfg0.N) : Fin 32 := grid0.coords t 0
def half (t : Fin cfg0.N) : Fin 2 := grid0.coords t 1

/-- The blocks of an instance. -/
noncomputable abbrev bX (t : Fin cfg0.N) : Vec Ideal S1x1024x1024 .f32 := iblk m c 0 t
noncomputable abbrev bG (t : Fin cfg0.N) : Vec Ideal S1x1024 .f32 := iblk m c 4 t
noncomputable abbrev bQ (t : Fin cfg0.N) : Vec Ideal S1024x1024 .bf16 := iblk m c 5 t
noncomputable abbrev bK (t : Fin cfg0.N) : Vec Ideal S1x1024x256 .bf16 := iblk m c 6 t
noncomputable abbrev bV (t : Fin cfg0.N) : Vec Ideal S1x256x1024 .bf16 := iblk m c 7 t
noncomputable abbrev bO (t : Fin cfg0.N) : Vec Ideal S1024x1024 .bf16 := iblk m c 8 t

theorem bX_at (t : Fin cfg0.N) (r e : Fin 1024) (s : Fin 2048) (hs : s.val = 1024 * (half t).val + r) :
    bX m c t (ix3 0 r e) = aX m c (ix3 (batch t) s e) := by
  have hs : s.val = 1024 * (grid0.coords t 1).val + r := hs
  unfold batch
  blk_ext [iblk, V, idx t]

theorem bG_at (t : Fin cfg0.N) (e : Fin 1024) : bG m c t (ix2 0 e) = aG m c (ix1 e) := by
  refine Eq.trans ?_ (g_at m c e)
  blk_ext [iblk, V, idx t]

theorem bQ_at (t : Fin cfg0.N) (i j : Fin 1024) : bQ m c t (ix2 i j) = aQ m c (ix2 i j) := by
  refine Eq.trans ?_ (q_at m c _)
  blk_ext [iblk, V, idx t]

theorem bK_at (t : Fin cfg0.N) (e : Fin 1024) (i : Fin 256) : bK m c t (ix3 0 e i) = aK m c (ix3 (batch t) i e) := by
  refine Eq.trans ?_ (k_at m c _ _ _)
  unfold batch
  blk_ext [iblk, V, idx t]

theorem bV_at (t : Fin cfg0.N) (i : Fin 256) (e : Fin 1024) : bV m c t (ix3 0 i e) = aV m c (ix3 (batch t) i e) := by
  refine Eq.trans ?_ (v_at m c _)
  unfold batch
  blk_ext [iblk, V, idx t]

theorem bO_at (t : Fin cfg0.N) (i j : Fin 1024) : bO m c t (ix2 i j) = aO m c (ix2 i j) := by
  refine Eq.trans ?_ (o_at m c _)
  blk_ext [iblk, V, idx t]

theorem entry_b : V m c main_v0 = (truncf .bf16 (aB m c) bitsLt_bf16_f32 : FVec Ideal S32x2048x512 .bf16) := by
  unfold V
  simp only [hostOps0]
  after_results

theorem entry_a : V m c main_v1 = (truncf .bf16 (aA m c) bitsLt_bf16_f32 : FVec Ideal S32x2048x512 .bf16) := by
  unfold V
  simp only [hostOps0]
  after_results

theorem entry_w : V m c main_v2 = (truncf .bf16 (aW m c) bitsLt_bf16_f32 : FVec Ideal S1024x1024 .bf16) := by
  unfold V
  simp only [hostOps0]
  after_results

theorem b_at (i) : (V m c main_v0 : FVec Ideal S32x2048x512 .bf16) i = aB m c i := by
  rw [entry_b]
  rfl

theorem a_at (i) : (V m c main_v1 : FVec Ideal S32x2048x512 .bf16) i = aA m c i := by
  rw [entry_a]
  rfl

theorem w_at (i) : (V m c main_v2 : FVec Ideal S1024x1024 .bf16) i = aW m c i := by
  rw [entry_w]
  rfl

noncomputable abbrev bB (t : Fin cfg0.N) : Vec Ideal S1x1024x512 .bf16 := iblk m c 1 t
noncomputable abbrev bA (t : Fin cfg0.N) : Vec Ideal S1x1024x512 .bf16 := iblk m c 2 t
noncomputable abbrev bW (t : Fin cfg0.N) : Vec Ideal S1024x1024 .bf16 := iblk m c 3 t

theorem bB_at (t : Fin cfg0.N) (r : Fin 1024) (e : Fin 512) (s : Fin 2048) (hs : s.val = 1024 * (half t).val + r) :
    bB m c t (ix3 0 r e) = aB m c (ix3 (batch t) s e) := by
  have hs : s.val = 1024 * (grid0.coords t 1).val + r := hs
  refine Eq.trans ?_ (b_at m c _)
  unfold batch
  blk_ext [iblk, V, idx t]

theorem bA_at (t : Fin cfg0.N) (r : Fin 1024) (e : Fin 512) (s : Fin 2048) (hs : s.val = 1024 * (half t).val + r) :
    bA m c t (ix3 0 r e) = aA m c (ix3 (batch t) s e) := by
  have hs : s.val = 1024 * (grid0.coords t 1).val + r := hs
  refine Eq.trans ?_ (a_at m c _)
  unfold batch
  blk_ext [iblk, V, idx t]

theorem bW_at (t : Fin cfg0.N) (i j : Fin 1024) : bW m c t (ix2 i j) = aW m c (ix2 i j) := by
  refine Eq.trans ?_ (w_at m c _)
  blk_ext [iblk, V, idx t]

/-- The heads' keys and values in a block. -/
noncomputable def keys (x3 : Vec Ideal S1x1024x256 .bf16) : Fin 4 → FVec Ideal (Sh 256 256) .bf16 :=
  ![(shapeCast S256x256 (View.ld x3 r0_8) shapeCasts_S1x256x256_S256x256 : FVec Ideal (Sh 256 256) .bf16), (shapeCast S256x256 (View.ld x3 r0_9) shapeCasts_S1x256x256_S256x256 : FVec Ideal (Sh 256 256) .bf16),
    (shapeCast S256x256 (View.ld x3 r0_10) shapeCasts_S1x256x256_S256x256 : FVec Ideal (Sh 256 256) .bf16), (shapeCast S256x256 (View.ld x3 r0_11) shapeCasts_S1x256x256_S256x256 : FVec Ideal (Sh 256 256) .bf16)]

noncomputable def vals (x4 : Vec Ideal S1x256x1024 .bf16) : Fin 4 → FVec Ideal (Sh 256 256) .bf16 :=
  ![(shapeCast S256x256 (View.ld x4 r0_12) shapeCasts_S1x256x256_S256x256 : FVec Ideal (Sh 256 256) .bf16), (shapeCast S256x256 (View.ld x4 r0_13) shapeCasts_S1x256x256_S256x256 : FVec Ideal (Sh 256 256) .bf16),
    (shapeCast S256x256 (View.ld x4 r0_14) shapeCasts_S1x256x256_S256x256 : FVec Ideal (Sh 256 256) .bf16), (shapeCast S256x256 (View.ld x4 r0_15) shapeCasts_S1x256x256_S256x256 : FVec Ideal (Sh 256 256) .bf16)]

theorem keys_at (x3 : Vec Ideal S1x1024x256 .bf16) (o : Fin 4) (d i : Fin 256) : keys x3 o (ix2 d i) = x3 (ix3 0 (lane o d) i) := by
  have h0 : shapeCast S256x256 (View.ld x3 r0_8) shapeCasts_S1x256x256_S256x256 (ix2 d i) = x3 (ix3 0 ⟨d, by omega⟩ i) := by pointwise
  have h1 : shapeCast S256x256 (View.ld x3 r0_9) shapeCasts_S1x256x256_S256x256 (ix2 d i) = x3 (ix3 0 ⟨256 + d, by omega⟩ i) := by pointwise
  have h2 : shapeCast S256x256 (View.ld x3 r0_10) shapeCasts_S1x256x256_S256x256 (ix2 d i) = x3 (ix3 0 ⟨512 + d, by omega⟩ i) := by pointwise
  have h3 : shapeCast S256x256 (View.ld x3 r0_11) shapeCasts_S1x256x256_S256x256 (ix2 d i) = x3 (ix3 0 ⟨768 + d, by omega⟩ i) := by pointwise
  have e0 : (⟨d, by omega⟩ : Fin 1024) = lane 0 d := Fin.ext (Nat.zero_add _).symm
  fin_cases o
  · exact h0.trans (congrArg (fun l => x3 (ix3 0 l i)) e0)
  · exact h1
  · exact h2
  · exact h3

theorem vals_at (x4 : Vec Ideal S1x256x1024 .bf16) (o : Fin 4) (i d : Fin 256) : vals x4 o (ix2 i d) = x4 (ix3 0 i (lane o d)) := by
  have h0 : shapeCast S256x256 (View.ld x4 r0_12) shapeCasts_S1x256x256_S256x256 (ix2 i d) = x4 (ix3 0 i ⟨d, by omega⟩) := by pointwise
  have h1 : shapeCast S256x256 (View.ld x4 r0_13) shapeCasts_S1x256x256_S256x256 (ix2 i d) = x4 (ix3 0 i ⟨256 + d, by omega⟩) := by pointwise
  have h2 : shapeCast S256x256 (View.ld x4 r0_14) shapeCasts_S1x256x256_S256x256 (ix2 i d) = x4 (ix3 0 i ⟨512 + d, by omega⟩) := by pointwise
  have h3 : shapeCast S256x256 (View.ld x4 r0_15) shapeCasts_S1x256x256_S256x256 (ix2 i d) = x4 (ix3 0 i ⟨768 + d, by omega⟩) := by pointwise
  have e0 : (⟨d, by omega⟩ : Fin 1024) = lane 0 d := Fin.ext (Nat.zero_add _).symm
  fin_cases o
  · exact h0.trans (congrArg (fun l => x4 (ix3 0 i l)) e0)
  · exact h1
  · exact h2
  · exact h3

/-- The body on half of a block's rows y. -/
noncomputable def part (y : FVec Ideal (Sh 512 1024) .f32) (x1 : Vec Ideal S1x1024 .f32) (x2 : Vec Ideal S1024x1024 .bf16) (x3 : Vec Ideal S1x1024x256 .bf16)
    (x4 : Vec Ideal S1x256x1024 .bf16) (x5 : Vec Ideal S1024x1024 .bf16) : FVec Ideal (Sh 512 1024) .f32 :=
  body dot_S512x1024_S1024x1024_S512x1024_1_0_0_1_n_n_wf dot_S512x256_S256x256_S512x256_1_0_0_1_n_n_wf bitsLt_bf16_f32 reduces_S512x1024_S512
    reduces_S512x256_S512 shapeCasts_S512_S512x1 broadcasts_S512x1_S512x1024 broadcasts_S512x1_S512x256 broadcasts_S1x1024_S512x1024
    slices_S512x1024_o0_0_S512x256 slices_S512x1024_o0_256_S512x256 slices_S512x1024_o0_512_S512x256 slices_S512x1024_o0_768_S512x256
    concatenates_S512x256_S512x256_S512x256_S512x256_S512x1024_d1 y (View.ld x1 r0_6) (View.ld x2 r0_7) (keys x3) (vals x4) (View.ld x5 r0_7)

theorem part_at (t : Fin cfg0.N) (y : FVec Ideal (Sh 512 1024) .f32) (x : Fin 1024 → EReal) (r : Fin 512) (hx : ∀ e, y (ix2 r e) = x e) (e : Fin 1024) :
    part y (bG m c t) (bQ m c t) (bK m c t) (bV m c t) (bO m c t) (ix2 r e)
      = crossed x (fun e => aG m c (ix1 e)) (fun i j => aQ m c (ix2 i j)) (fun i e => aK m c (ix3 (batch t) i e)) (fun i e => aV m c (ix3 (batch t) i e))
        (fun i j => aO m c (ix2 i j)) e := by
  unfold part
  have hk : ∀ o d i, keys (bK m c t) o (ix2 d i) = aK m c (ix3 (batch t) i (lane o d)) := fun o d i => by rw [keys_at, bK_at]
  have hv : ∀ o i d, vals (bV m c t) o (ix2 i d) = aV m c (ix3 (batch t) i (lane o d)) := fun o i d => by rw [vals_at, bV_at]
  refine (body_at _ _ _ _ _ _ _ _ _ _ _ _ _ _ y _ _ _ _ _ x (fun i e => aK m c (ix3 (batch t) i e)) (fun i e => aV m c (ix3 (batch t) i e)) r hx hk hv e).trans ?_
  have eg : ∀ e, View.ld (bG m c t) r0_6 (ix2 0 e) = aG m c (ix1 e) := fun e => by
    rw [← bG_at m c t]
    pointwise
  have eq : ∀ i j, View.ld (bQ m c t) r0_7 (ix2 i j) = aQ m c (ix2 i j) := fun i j => by
    rw [← bQ_at m c t]
    pointwise
  have eo : ∀ i j, View.ld (bO m c t) r0_7 (ix2 i j) = aO m c (ix2 i j) := fun i j => by
    rw [← bO_at m c t]
    pointwise
  rw [funext eg, funext fun i => funext (eq i), funext fun i => funext (eo i)]

/-- Half of a block's rows with the mixers' rows. -/
noncomputable def mixing (x : Vec Ideal S1x512x1024 .f32) (b a : Vec Ideal S1x512x512 .bf16) (w w' : Vec Ideal S512x1024 .bf16) : FVec Ideal (Sh 512 1024) .f32 :=
  addf (addf (shapeCast S512x1024 x shapeCasts_S1x512x1024_S512x1024)
    (mm dot_S512x512_S512x1024_S512x1024_1_0_0_1_n_n_wf (shapeCast S512x512 b shapeCasts_S1x512x512_S512x512) w))
    (mm dot_S512x512_S512x1024_S512x1024_1_0_0_1_n_n_wf (shapeCast S512x512 a shapeCasts_S1x512x512_S512x512) w')

theorem mixing_at (x b a w w') (r : Fin 512) (e : Fin 1024) : mixing x b a w w' (ix2 r e)
    = x (ix3 0 r e) + ∑ c : Fin 512, b (ix3 0 r c) * w (ix2 c e) + ∑ c : Fin 512, a (ix3 0 r c) * w' (ix2 c e) := by
  have h : ∀ (b : Vec Ideal S1x512x512 .bf16) c, shapeCast S512x512 b shapeCasts_S1x512x512_S512x512 (ix2 r c) = b (ix3 0 r c) :=
    fun b c => ValueIdx.shapeCast_1ab_ab_apply b _ r c
  have h' : shapeCast S512x1024 x shapeCasts_S1x512x1024_S512x1024 (ix2 r e) = x (ix3 0 r e) := ValueIdx.shapeCast_1ab_ab_apply x _ r e
  unfold mixing
  rw [addf_apply, addf_apply, mm_at, mm_at, h']
  simp only [h]
  rfl

variable (x0 : Vec Ideal S1x1024x1024 .f32) (u u' : Vec Ideal S1x1024x512 .bf16) (n : Vec Ideal S1024x1024 .bf16)

noncomputable def upper : FVec Ideal (Sh 512 1024) .f32 := mixing (View.ld x0 r0_0) (View.ld u r0_1) (View.ld u' r0_1) (View.ld n r0_2) (View.ld n r0_3)
noncomputable def lower : FVec Ideal (Sh 512 1024) .f32 := mixing (View.ld x0 r0_4) (View.ld u r0_5) (View.ld u' r0_5) (View.ld n r0_2) (View.ld n r0_3)

theorem upper_at (t : Fin cfg0.N) (r : Fin 512) (s : Fin 2048) (hs : s.val = 1024 * (half t).val + (⟨r, by omega⟩ : Fin 1024).val) (e : Fin 1024) :
    upper (bX m c t) (bB m c t) (bA m c t) (bW m c t) (ix2 r e) = mixed (fun e => aX m c (ix3 (batch t) s e)) (fun e => aB m c (ix3 (batch t) s e))
      (fun e => aA m c (ix3 (batch t) s e)) (fun i j => aW m c (ix2 i j)) e := by
  have hx : View.ld (bX m c t) r0_0 (ix3 0 r e) = aX m c (ix3 (batch t) s e) := by
    rw [← bX_at m c t _ e s hs]
    pointwise
  have hb : ∀ e, View.ld (bB m c t) r0_1 (ix3 0 r e) = aB m c (ix3 (batch t) s e) := fun e => by
    rw [← bB_at m c t _ e s hs]
    pointwise
  have ha : ∀ e, View.ld (bA m c t) r0_1 (ix3 0 r e) = aA m c (ix3 (batch t) s e) := fun e => by
    rw [← bA_at m c t _ e s hs]
    pointwise
  have hw : ∀ i : Fin 512, View.ld (bW m c t) r0_2 (ix2 i e) = aW m c (ix2 ⟨i, by omega⟩ e) := fun i => by
    rw [← bW_at m c t]
    pointwise
  have hw' : ∀ i : Fin 512, View.ld (bW m c t) r0_3 (ix2 i e) = aW m c (ix2 ⟨512 + i, by omega⟩ e) := fun i => by
    rw [← bW_at m c t]
    pointwise
  rw [mixed_halves]
  unfold upper
  rw [mixing_at, hx]
  simp only [hb, ha, hw, hw']

theorem lower_at (t : Fin cfg0.N) (r : Fin 512) (s : Fin 2048) (hs : s.val = 1024 * (half t).val + (⟨512 + r, by omega⟩ : Fin 1024).val) (e : Fin 1024) :
    lower (bX m c t) (bB m c t) (bA m c t) (bW m c t) (ix2 r e) = mixed (fun e => aX m c (ix3 (batch t) s e)) (fun e => aB m c (ix3 (batch t) s e))
      (fun e => aA m c (ix3 (batch t) s e)) (fun i j => aW m c (ix2 i j)) e := by
  have hx : View.ld (bX m c t) r0_4 (ix3 0 r e) = aX m c (ix3 (batch t) s e) := by
    rw [← bX_at m c t _ e s hs]
    pointwise
  have hb : ∀ e, View.ld (bB m c t) r0_5 (ix3 0 r e) = aB m c (ix3 (batch t) s e) := fun e => by
    rw [← bB_at m c t _ e s hs]
    pointwise
  have ha : ∀ e, View.ld (bA m c t) r0_5 (ix3 0 r e) = aA m c (ix3 (batch t) s e) := fun e => by
    rw [← bA_at m c t _ e s hs]
    pointwise
  have hw : ∀ i : Fin 512, View.ld (bW m c t) r0_2 (ix2 i e) = aW m c (ix2 ⟨i, by omega⟩ e) := fun i => by
    rw [← bW_at m c t]
    pointwise
  have hw' : ∀ i : Fin 512, View.ld (bW m c t) r0_3 (ix2 i e) = aW m c (ix2 ⟨512 + i, by omega⟩ e) := fun i => by
    rw [← bW_at m c t]
    pointwise
  rw [mixed_halves]
  unfold lower
  rw [mixing_at, hx]
  simp only [hb, ha, hw, hw']

/-- One head of half a block. -/
noncomputable abbrev one (q : FVec Ideal (Sh 512 1024) .bf16) (o : Nat) (hs : (Sh 512 1024).Slices ![0, o] (Sh 512 256)) (k v : Vec Ideal S1x256x256 .bf16) :
    FVec Ideal (Sh 512 256) .bf16 :=
  head reduces_S512x256_S512 shapeCasts_S512_S512x1 broadcasts_S512x1_S512x256 dot_S512x256_S256x256_S512x256_1_0_0_1_n_n_wf bitsLt_bf16_f32 q o hs
    (shapeCast S256x256 k shapeCasts_S1x256x256_S256x256) (shapeCast S256x256 v shapeCasts_S1x256x256_S256x256)

/-- The scaled queries of half a block. -/
noncomputable abbrev asks (y : FVec Ideal (Sh 512 1024) .f32) (g : Vec Ideal S1x1024 .f32) (w : Vec Ideal S1024x1024 .bf16) : FVec Ideal (Sh 512 1024) .bf16 :=
  queries dot_S512x1024_S1024x1024_S512x1024_1_0_0_1_n_n_wf bitsLt_bf16_f32
    (truncf .bf16 (rows reduces_S512x1024_S512 shapeCasts_S512_S512x1 broadcasts_S512x1_S512x1024 broadcasts_S1x1024_S512x1024 y g) bitsLt_bf16_f32) w

section Stages
variable (x1 : Vec Ideal S1x1024 .f32) (x2 : Vec Ideal S1024x1024 .bf16)
variable (y : FVec Ideal S512x1024 .f32) (h : FVec Ideal S512x1024 .bf16) (w : Vec Ideal S1024x1024 .bf16) (k v k' v' : Vec Ideal S1x256x256 .bf16)

theorem mix_upper (x b w a w') : (k0_pay3 x b w a w' : FVec Ideal S512x1024 .f32) = mixing x b a w w' := by
  unfold k0_pay3
  simp only [shapeCast_self]
  rfl

theorem mix_lower (x b w a w') : (k0_pay4 x b w a w' : FVec Ideal S512x1024 .f32) = mixing x b a w w' := by
  unfold k0_pay4
  simp only [shapeCast_self]
  rfl

theorem asks_upper : k0_pay5 y x1 x2 = asks y x1 x2 := by
  unfold k0_pay5
  simp only [shapeCast_self]
  rfl

theorem asks_lower : k0_pay6 y x1 x2 = asks y x1 x2 := by
  unfold k0_pay6
  simp only [shapeCast_self]
  rfl

theorem upper0 : k0_pay16 (k0_pay7 h k) v = one h 0 slices_S512x1024_o0_0_S512x256 k v := rfl
theorem upper1 : k0_pay17 (k0_pay8 h k) v = one h 256 slices_S512x1024_o0_256_S512x256 k v := rfl
theorem lower0 : k0_pay20 (k0_pay11 h k) v = one h 0 slices_S512x1024_o0_0_S512x256 k v := rfl

/-- The rows from the heads. -/
noncomputable abbrev ending (y : FVec Ideal (Sh 512 1024) .f32) (a b c d : FVec Ideal (Sh 512 256) .bf16) (w : Vec Ideal S1024x1024 .bf16) : FVec Ideal (Sh 512 1024) .f32 :=
  outward dot_S512x1024_S1024x1024_S512x1024_1_0_0_1_n_n_wf concatenates_S512x256_S512x256_S512x256_S512x256_S512x1024_d1 y ![a, b, c, d] w

theorem upper_end (a b : FVec Ideal S512x256 .bf16) :
    k0_pay19 y (k0_pay10 h k') a b (k0_pay18 (k0_pay9 h k)) v v' w
      = ending y a b (one h 512 slices_S512x1024_o0_512_S512x256 k v) (one h 768 slices_S512x1024_o0_768_S512x256 k' v') w := by
  unfold k0_pay19
  simp only [shapeCast_self]
  rfl

theorem lower_end (a : FVec Ideal S512x256 .bf16) (k'' v'' : Vec Ideal S1x256x256 .bf16) :
    k0_pay23 y (k0_pay13 h k) (k0_pay15 (k0_pay14 h) k') a (k0_pay21 (k0_pay12 h k'')) (k0_pay22 (k0_pay12 h k'')) v'' v v' w
      = ending y a (one h 256 slices_S512x1024_o0_256_S512x256 k'' v'') (one h 512 slices_S512x1024_o0_512_S512x256 k v)
        (one h 768 slices_S512x1024_o0_768_S512x256 k' v') w := by
  unfold k0_pay23
  simp only [shapeCast_self]
  rfl

end Stages

theorem part_eq (y x1 x2 x3 x4 x5) : part y x1 x2 x3 x4 x5
    = ending y (one (asks y (View.ld x1 r0_6) (View.ld x2 r0_7)) 0 slices_S512x1024_o0_0_S512x256 (View.ld x3 r0_8) (View.ld x4 r0_12))
      (one (asks y (View.ld x1 r0_6) (View.ld x2 r0_7)) 256 slices_S512x1024_o0_256_S512x256 (View.ld x3 r0_9) (View.ld x4 r0_13))
      (one (asks y (View.ld x1 r0_6) (View.ld x2 r0_7)) 512 slices_S512x1024_o0_512_S512x256 (View.ld x3 r0_10) (View.ld x4 r0_14))
      (one (asks y (View.ld x1 r0_6) (View.ld x2 r0_7)) 768 slices_S512x1024_o0_768_S512x256 (View.ld x3 r0_11) (View.ld x4 r0_15)) (View.ld x5 r0_7) := rfl

theorem out_eq (x1 : Vec Ideal S1x1024 .f32) (x2 : Vec Ideal S1024x1024 .bf16) (x3 : Vec Ideal S1x1024x256 .bf16)
    (x4 : Vec Ideal S1x256x1024 .bf16) (x5 : Vec Ideal S1024x1024 .bf16) :
    out0_9 x0 u u' n x1 x2 x3 x4 x5 = View.canon [⟨r0_4, shapeCast S1x512x1024 (part (lower x0 u u' n) x1 x2 x3 x4 x5) shapeCasts_S512x1024_S1x512x1024⟩,
      ⟨r0_0, shapeCast S1x512x1024 (part (upper x0 u u' n) x1 x2 x3 x4 x5) shapeCasts_S512x1024_S1x512x1024⟩] := by
  unfold_out out0_9
  rw [mix_upper, mix_lower, asks_upper, asks_lower, upper0, upper1, lower0, upper_end, lower_end, part_eq, part_eq]
  rfl

theorem point (t : Fin cfg0.N) (y : S1x1024x1024.Idx) (s : Fin 2048) (hs : s.val = 1024 * (half t).val + (y 1).val) :
    out0_9 (bX m c t) (bB m c t) (bA m c t) (bW m c t) (bG m c t) (bQ m c t) (bK m c t) (bV m c t) (bO m c t) y
      = crossed (mixed (fun e => aX m c (ix3 (batch t) s e)) (fun e => aB m c (ix3 (batch t) s e)) (fun e => aA m c (ix3 (batch t) s e)) (fun j l => aW m c (ix2 j l)))
         (fun e => aG m c (ix1 e)) (fun i j => aQ m c (ix2 i j)) (fun i e => aK m c (ix3 (batch t) i e))
        (fun i e => aV m c (ix3 (batch t) i e)) (fun i j => aO m c (ix2 i j)) (y 2) := by
  rw [out_eq]
  canon_tiles x h
  · obtain ⟨x0, r, e, rfl⟩ := three (a := 1) (b := 512) (n := 1024) x
    obtain rfl : x0 = 0 := Subsingleton.elim _ _
    have e2 : y 2 = e := Fin.ext h2
    have hs' : s.val = 1024 * (half t).val + (⟨512 + r, by omega⟩ : Fin 1024).val := by rw [hs, h1]; rfl
    rw [e2]
    refine (ValueIdx.shapeCast_ab_1ab_apply _ _ 0 r e).trans (part_at m c t _ _ r (fun e => lower_at m c t r s hs' e) e)
  · obtain ⟨x0, r, e, rfl⟩ := three (a := 1) (b := 512) (n := 1024) x
    obtain rfl : x0 = 0 := Subsingleton.elim _ _
    have e2 : y 2 = e := Fin.ext h2
    have hs' : s.val = 1024 * (half t).val + (⟨r, by omega⟩ : Fin 1024).val := by rw [hs, h1]; rfl
    rw [e2]
    refine (ValueIdx.shapeCast_ab_1ab_apply _ _ 0 r e).trans (part_at m c t _ _ r (fun e => upper_at m c t r s hs' e) e)

theorem final : (dats m 0 c).arrAt 9 (cfgs 0).N
    = fun i => crossed (mixed (fun e => aX m c (ix3 (i 0) (i 1) e)) (fun e => aB m c (ix3 (i 0) (i 1) e)) (fun e => aA m c (ix3 (i 0) (i 1) e)) (fun j l => aW m c (ix2 j l)))
         (fun e => aG m c (ix1 e)) (fun j l => aQ m c (ix2 j l)) (fun j e => aK m c (ix3 (i 0) j e))
        (fun j e => aV m c (ix3 (i 0) j e)) (fun j l => aO m c (ix2 j l)) (i 2) := by
  refine (dats m 0 c).arrAt_eq_of_covers 9 _ (by decide +kernel) fun t _ y => ?_
  blk_simp
  rw [after0_9]
  refine (point m c t y ((win0_9.blk t).view.emb y 1) ?_).trans ?_
  · unfold half
    idx_vars y
    blk_simp [idx t]
    omega
  · unfold batch
    have h0 : (win0_9.blk t).view.emb y 0 = grid0.coords t 0 := by
      idx_vars y
      apply Fin.ext
      blk_simp [idx t]
    have h1 : (win0_9.blk t).view.emb y 2 = y 2 := by
      idx_vars y
      apply Fin.ext
      blk_simp [idx t]
    rw [h0, h1]

end Cert.Layer.Mix
-- ==== Proof.Layer.FfnRef.lean ====
/-
  The feed-forward references' results: the layer's value, without and with the final norm.
-/
module

public import Idealize.ShloMosaic.Lib.Pipeline.ValueKit
public import proofs.«01_k».proof.Proof.Gen.FfnFinalRefIdeal.Run
public import proofs.«01_k».proof.Proof.Gen.FfnRefIdeal.Run
public import proofs.«01_k».proof.Proof.Layer.FeedForward

@[expose] public section
set_option maxRecDepth 16384

namespace Cert.Layer
open Idealize.ShloMosaic Cert.Fox Cert.FfnFinalRefIdeal Cert.FfnFinalRefIdeal.Gen

/-- The norm of every token. -/
noncomputable def norm (x : FVec Ideal S32x2048x1024 .f32) (g : FVec Ideal S1024 .f32) : FVec Ideal S32x2048x1024 .f32 :=
  mulf (mulf x (broadcastInDim S32x2048x1024 ![0, 1, 2] bcast_S32x2048x1_S32x2048x1024_0_1_2 (Host.rsqrt (addf (Host.divf
    (broadcastInDim S32x2048x1 ![0, 1] bcast_S32x2048_S32x2048x1_0_1 (Host.reduceAdd (mulf x x) (constant S_ .f32 0x00000000#32) reducesTo_S32x2048x1024_S32x2048_d2 h_S_))
    (broadcastInDim S32x2048x1 ![] bcast_S_S32x2048x1 (constant S_ .f32 0x44800000#32))) (broadcastInDim S32x2048x1 ![] bcast_S_S32x2048x1 (constant S_ .f32 0x358637BD#32))))))
    (broadcastInDim S32x2048x1024 ![0, 1, 2] bcast_S1x1x1024_S32x2048x1024_0_1_2 (broadcastInDim S1x1x1024 ![2] bcast_S1024_S1x1x1024_2 g))

theorem norm_at (x g) (b : Fin 32) (t : Fin 2048) (e : Fin 1024) : norm x g (ix3 b t e) = normed x g b t e := by
  unfold norm
  pointwise
  rfl

/-- The product with the joined weights. -/
noncomputable def joined (h : FVec Ideal S32x2048x1024 .f32) (w : FVec Ideal S1024x5632 .f32) : FVec Ideal S32x2048x5632 .f32 :=
  Host.dotGeneral dot_S32x2048x1024_S1024x5632_S32x2048x5632_2_0_01_1_n_n none h w

theorem joined_at (h w) (b : Fin 32) (t : Fin 2048) (j : Fin 5632) : joined h w (ix3 b t j) = ∑ c : Fin 1024, h (ix3 b t c) * w (ix2 c j) := by
  unfold joined
  pointwise

noncomputable def gate (p : FVec Ideal S32x2048x5632 .f32) : FVec Ideal S32x2048x2816 .f32 :=
  extractStridedSlice S32x2048x2816 ![0, 0, 0] p slices_S32x2048x5632_S32x2048x2816_0_0_0

/-- The gated lanes of the joined product p. -/
noncomputable def silued (p : FVec Ideal S32x2048x5632 .f32) : FVec Ideal S32x2048x2816 .f32 :=
  mulf (mulf (gate p) (Host.divf (broadcastInDim S32x2048x2816 ![] bcast_S_S32x2048x2816 (constant S_ .f32 0x3F800000#32))
    (addf (broadcastInDim S32x2048x2816 ![] bcast_S_S32x2048x2816 (constant S_ .f32 0x3F800000#32)) (Host.exp (Host.negf (gate p))))))
    (extractStridedSlice S32x2048x2816 ![0, 0, 2816] p slices_S32x2048x5632_S32x2048x2816_0_0_2816)

theorem silued_at (p) (b : Fin 32) (t : Fin 2048) (j : Fin 2816) :
    silued p (ix3 b t j) = p (ix3 b t ⟨j, by omega⟩) * Ideal.logistic (p (ix3 b t ⟨j, by omega⟩)) * p (ix3 b t ⟨2816 + j, by omega⟩) := by
  have hg : gate p (ix3 b t j) = p (ix3 b t ⟨j, by omega⟩) := by
    unfold gate
    pointwise
  unfold silued Ideal.logistic
  pointwise
  rw [hg]

/-- The layer with its residual. -/
noncomputable def layer (x : FVec Ideal S32x2048x1024 .f32) (g : FVec Ideal S1024 .f32) (w : FVec Ideal S1024x5632 .f32) (d : FVec Ideal S2816x1024 .f32) :
    FVec Ideal S32x2048x1024 .f32 :=
  addf x (Host.dotGeneral dot_S32x2048x2816_S2816x1024_S32x2048x1024_2_0_01_1_n_n none (silued (joined (norm x g) w)) d)

theorem layer_at (x g w d) (b : Fin 32) (t : Fin 2048) (e : Fin 1024) : layer x g w d (ix3 b t e) = feed x g w d b t e := by
  unfold layer feed
  pointwise
  simp only [silued_at, joined_at, norm_at]
  rfl

theorem layer_eq (m : (ℓ : Loc nD τ sig) → Buf (Elt Ideal) ℓ) (c : Dev nD) :
    Cert.FfnFinalRefIdeal.Value.res_out0 m c = norm (layer (m ((c.tc : Thread nD τ).loc main_arg0)) (m ((c.tc : Thread nD τ).loc main_arg1))
      (m ((c.tc : Thread nD τ).loc main_arg2)) (m ((c.tc : Thread nD τ).loc main_arg3))) (m ((c.tc : Thread nD τ).loc main_arg4)) := rfl

theorem final_value (x g w d f) : norm (layer x g w d) f = fun i => feedNormed x g w d f (i 0) (i 1) (i 2) := by
  funext i
  obtain ⟨b, t, e, rfl⟩ := three (a := 32) (b := 2048) (n := 1024) i
  rw [norm_at]
  unfold normed
  simp only [layer_at]
  rfl

theorem first_value (x g w d) : layer x g w d = fun i => feed x g w d (i 0) (i 1) (i 2) := by
  funext i
  obtain ⟨b, t, e, rfl⟩ := three (a := 32) (b := 2048) (n := 1024) i
  exact layer_at ..

end Cert.Layer
-- ==== Proof.Layer.CrossRef.lean ====
/-
  The memory cross-attention references' results: the layer's value.
-/
module

public import Idealize.ShloMosaic.Lib.Pipeline.ValueKit
public import proofs.«01_k».proof.Proof.Gen.XattnRefIdeal.Run
public import proofs.«01_k».proof.Proof.Gen.MixXattnRefIdeal.Run
public import proofs.«01_k».proof.Proof.Fox.RefValue
public import proofs.«01_k».proof.Proof.Layer.FfnRef
public import proofs.«01_k».proof.Proof.Layer.Cross

@[expose] public section
set_option maxRecDepth 16384

namespace Cert.Layer.CrossRef
open Idealize.ShloMosaic Cert.Fox Cert.Layer Cert.XattnRefIdeal Cert.XattnRefIdeal.Gen

/-- A square weight's product with every token. -/
noncomputable def through (h : FVec Ideal S32x2048x1024 .f32) (w : FVec Ideal S1024x1024 .f32) : FVec Ideal S32x2048x1024 .f32 :=
  Host.dotGeneral dot_S32x2048x1024_S1024x1024_S32x2048x1024_2_0_01_1_n_n none h w

theorem through_at (h w) (b : Fin 32) (t : Fin 2048) (e : Fin 1024) : through h w (ix3 b t e) = ∑ c : Fin 1024, h (ix3 b t c) * w (ix2 c e) := by
  unfold through
  pointwise

/-- The scaled queries by head. -/
noncomputable def asked (p : FVec Ideal S32x2048x1024 .f32) : FVec Ideal S32x2048x4x256 .f32 :=
  mulf (shapeCast _ p shapeCasts_S32x2048x1024_S32x2048x4x256) (broadcastInDim S32x2048x4x256 ![] bcast_S_S32x2048x4x256 (constant S_ .f32 0x3D800000#32))

theorem asked_at (p) (b : Fin 32) (t : Fin 2048) (o : Fin 4) (d : Fin 256) :
    asked p (ix4 b t o d) = p (ix3 b t (lane o d)) * Ideal.ofBits .f32 0x3D800000#32 := by
  have e : lane o d = ⟨o * 256 + d, by omega⟩ := Fin.ext (by show 256 * o.val + d.val = o.val * 256 + d.val; ring)
  rw [e]
  unfold asked
  pointwise

/-- The memory's keys or values by head. -/
noncomputable def held (k : FVec Ideal S32x256x1024 .f32) : FVec Ideal S32x256x4x256 .f32 := shapeCast _ k shapeCasts_S32x256x1024_S32x256x4x256

theorem held_at (k) (b : Fin 32) (i : Fin 256) (o : Fin 4) (d : Fin 256) : held k (ix4 b i o d) = k (ix3 b i (lane o d)) := by
  have e : lane o d = ⟨o * 256 + d, by omega⟩ := Fin.ext (by show 256 * o.val + d.val = o.val * 256 + d.val; ring)
  rw [e]
  unfold held
  pointwise

noncomputable def scored (q : FVec Ideal S32x2048x4x256 .f32) (k : FVec Ideal S32x256x4x256 .f32) : FVec Ideal S32x4x2048x256 .f32 :=
  Host.dotGeneral dot_S32x2048x4x256_S32x256x4x256_S32x4x2048x256_3_3_1_1_02_02 none q k

theorem scored_at (q k) (b : Fin 32) (o : Fin 4) (t : Fin 2048) (i : Fin 256) :
    scored q k (ix4 b o t i) = ∑ d : Fin 256, q (ix4 b t o d) * k (ix4 b i o d) := by
  unfold scored
  pointwise

noncomputable def peak (s : FVec Ideal S32x4x2048x256 .f32) : FVec Ideal S32x4x2048 .f32 :=
  Host.reduce FloatOps.maximumf s (constant S_ .f32 0xFF800000#32) reducesTo_S32x4x2048x256_S32x4x2048_d3 h_S_

theorem peak_at (s : FVec Ideal S32x4x2048x256 .f32) (b : Fin 32) (o : Fin 4) (t : Fin 2048) :
    peak s (ix3 b o t) = Finset.univ.sup fun i : Fin 256 => s (ix4 b o t i) := by
  unfold peak
  exact reduce_max (a := 32) (b := 4) (c := 2048) (n := 256) s reducesTo_S32x4x2048x256_S32x4x2048_d3 b o t

noncomputable def lowered (s : FVec Ideal S32x4x2048x256 .f32) (r : FVec Ideal S32x4x2048 .f32) : FVec Ideal S32x4x2048x256 .f32 :=
  Host.exp (subf s (broadcastInDim S32x4x2048x256 ![0, 1, 2, 3] bcast_S32x4x2048x1_S32x4x2048x256_0_1_2_3 (broadcastInDim S32x4x2048x1 ![0, 1, 2] bcast_S32x4x2048_S32x4x2048x1_0_1_2
    (maximumf (broadcastInDim S32x4x2048 ![] bcast_S_S32x4x2048 (constant S_ .f32 0xFF800000#32)) r))))

theorem lowered_at (s r) (b : Fin 32) (o : Fin 4) (t : Fin 2048) (i : Fin 256) :
    lowered s r (ix4 b o t i) = Ideal.exp (s (ix4 b o t i) - r (ix3 b o t)) := by
  unfold lowered
  pointwise
  rw [ofBits_negInf, max_eq_right bot_le]

/-- The softmax of lowered scores. -/
noncomputable def divided (p : FVec Ideal S32x4x2048x256 .f32) : FVec Ideal S32x4x2048x256 .f32 :=
  Host.divf p (broadcastInDim S32x4x2048x256 ![0, 1, 2, 3] bcast_S32x4x2048x1_S32x4x2048x256_0_1_2_3 (broadcastInDim S32x4x2048x1 ![0, 1, 2] bcast_S32x4x2048_S32x4x2048x1_0_1_2
    (Host.reduceAdd p (constant S_ .f32 0x00000000#32) reducesTo_S32x4x2048x256_S32x4x2048_d3 h_S_)))

theorem divided_at (p) (b : Fin 32) (o : Fin 4) (t : Fin 2048) (i : Fin 256) :
    divided p (ix4 b o t i) = Ideal.div (p (ix4 b o t i)) (∑ j : Fin 256, p (ix4 b o t j)) := by
  unfold divided
  pointwise

noncomputable def spread (s : FVec Ideal S32x4x2048x256 .f32) : FVec Ideal S32x4x2048x256 .f32 := divided (lowered s (peak s))

theorem spread_eq (s) (b : Fin 32) (o : Fin 4) (t : Fin 2048) (i : Fin 256) : spread s (ix4 b o t i) = soft (fun i => s (ix4 b o t i)) i := by
  unfold spread
  rw [divided_at]
  simp only [lowered_at, peak_at]
  rfl

/-- The averaged values, with the heads side by side. -/
noncomputable def recalled (v : FVec Ideal S32x256x4x256 .f32) (p : FVec Ideal S32x4x2048x256 .f32) : FVec Ideal S32x4x256x2048 .f32 :=
  Host.dotGeneral dot_S32x256x4x256_S32x4x2048x256_S32x4x256x2048_1_3_3_2_02_01 none v p

theorem recalled_at (v p) (b : Fin 32) (o : Fin 4) (d : Fin 256) (t : Fin 2048) :
    recalled v p (ix4 b o d t) = ∑ i : Fin 256, v (ix4 b i o d) * p (ix4 b o t i) := by
  unfold recalled
  pointwise

noncomputable def beside (x : FVec Ideal S32x4x256x2048 .f32) : FVec Ideal S32x2048x1024 .f32 :=
  shapeCast _ (transpose S32x2048x4x256 [0, 3, 1, 2] x transposes_S32x4x256x2048_S32x2048x4x256_0_3_1_2) shapeCasts_S32x2048x4x256_S32x2048x1024

theorem beside_at (x) (b : Fin 32) (t : Fin 2048) (e : Fin 1024) : beside x (ix3 b t e) = x (ix4 b ⟨e / 256, by omega⟩ ⟨e % 256, by omega⟩ t) := by
  unfold beside
  pointwise

/-- The layer with its residual. -/
noncomputable def attended (x : FVec Ideal S32x2048x1024 .f32) (g : FVec Ideal S1024 .f32) (wq : FVec Ideal S1024x1024 .f32) (k v : FVec Ideal S32x256x1024 .f32)
    (wo : FVec Ideal S1024x1024 .f32) : FVec Ideal S32x2048x1024 .f32 :=
  addf x (through (beside (recalled (held v) (spread (scored (asked (through (norm x g) wq)) (held k))))) wo)

theorem attended_at (x g wq k v wo) (b : Fin 32) (t : Fin 2048) (e : Fin 1024) : attended x g wq k v wo (ix3 b t e)
    = crossed (fun e => x (ix3 b t e)) (fun e => g (ix1 e)) (fun i j => wq (ix2 i j)) (fun i e => k (ix3 b i e)) (fun i e => v (ix3 b i e)) (fun i j => wo (ix2 i j)) e := by
  unfold attended crossed
  rw [addf_apply, through_at]
  refine congrArg (x (ix3 b t e) + ·) (Finset.sum_congr rfl fun j _ => congrArg (· * wo (ix2 j e)) ?_)
  rw [beside_at, recalled_at]
  unfold recall
  refine Finset.sum_congr rfl fun i _ => ?_
  have : lane ⟨j / 256, by omega⟩ ⟨j % 256, by omega⟩ = j := Fin.ext (by show 256 * (j.val / 256) + j.val % 256 = j.val; omega)
  rw [held_at, this, spread_eq, mul_comm]
  refine congrArg (· * v (ix3 b i j)) (congrArg (soft · i) (funext fun i => ?_))
  rw [scored_at]
  unfold near
  refine Finset.sum_congr rfl fun d _ => ?_
  rw [asked_at, held_at, through_at]
  simp only [norm_at]
  rfl

/-- The first layer's tokens with the mixers' outputs. -/
noncomputable def joinedMix (x : FVec Ideal S32x2048x1024 .f32) (b a : FVec Ideal Cert.MixXattnRefIdeal.S32x2048x512 .f32) (w : FVec Ideal S1024x1024 .f32) :
    FVec Ideal S32x2048x1024 .f32 :=
  addf x (through (concatenate S32x2048x1024 2 [⟨Cert.MixXattnRefIdeal.S32x2048x512, b⟩, ⟨Cert.MixXattnRefIdeal.S32x2048x512, a⟩]
    Cert.MixXattnRefIdeal.Gen.concatenates_S32x2048x512_S32x2048x512_S32x2048x1024_d2) w)

theorem joinedMix_at (x b a w) (n : Fin 32) (t : Fin 2048) (e : Fin 1024) : joinedMix x b a w (ix3 n t e)
    = mixed (fun e => x (ix3 n t e)) (fun e => b (ix3 n t e)) (fun e => a (ix3 n t e)) (fun i j => w (ix2 i j)) e := by
  unfold joinedMix mixed
  rw [addf_apply, through_at]
  refine congrArg (x (ix3 n t e) + ·) (Finset.sum_congr rfl fun j _ => congrArg (· * w (ix2 j e)) ?_)
  pointwise

theorem value_eq (m : (ℓ : Loc nD τ sig) → Buf (Elt Ideal) ℓ) (c : Dev nD) :
    Cert.XattnRefIdeal.Value.res_out0 m c = attended (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) (m ((c.tc : Thread nD τ).loc main_arg5)) := rfl

theorem value (x g wq k v wo) : attended x g wq k v wo = fun i => crossed (fun e => x (ix3 (i 0) (i 1) e)) (fun e => g (ix1 e)) (fun j l => wq (ix2 j l))
    (fun j e => k (ix3 (i 0) j e)) (fun j e => v (ix3 (i 0) j e)) (fun j l => wo (ix2 j l)) (i 2) := by
  funext i
  obtain ⟨b, t, e, rfl⟩ := three (a := 32) (b := 2048) (n := 1024) i
  exact attended_at ..

theorem mix_value (x b a w g wq k v wo) : attended (joinedMix x b a w) g wq k v wo
    = fun i => crossed (mixed (fun e => x (ix3 (i 0) (i 1) e)) (fun e => b (ix3 (i 0) (i 1) e)) (fun e => a (ix3 (i 0) (i 1) e)) (fun j l => w (ix2 j l)))
      (fun e => g (ix1 e)) (fun j l => wq (ix2 j l)) (fun j e => k (ix3 (i 0) j e)) (fun j e => v (ix3 (i 0) j e)) (fun j l => wo (ix2 j l)) (i 2) := by
  funext i
  obtain ⟨n, t, e, rfl⟩ := three (a := 32) (b := 2048) (n := 1024) i
  refine (attended_at ..).trans ?_
  simp only [joinedMix_at]
  rfl

end Cert.Layer.CrossRef

namespace Cert.Layer.CrossRef
open Idealize.ShloMosaic Cert.Fox Cert.Layer Cert.MixXattnRefIdeal Cert.MixXattnRefIdeal.Gen

theorem mix_eq (m : (ℓ : Loc nD τ sig) → Buf (Elt Ideal) ℓ) (c : Dev nD) :
    Cert.MixXattnRefIdeal.Value.res_out0 m c = attended (joinedMix (m ((c.tc : Thread nD τ).loc main_arg0)) (m ((c.tc : Thread nD τ).loc main_arg1))
      (m ((c.tc : Thread nD τ).loc main_arg2)) (m ((c.tc : Thread nD τ).loc main_arg3))) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := rfl

end Cert.Layer.CrossRef
-- ==== Proof.Layer.MemKv.lean ====
/-
  The memory's keys and values: the call's two output arrays, for both layers.
-/
module

public import Idealize.ShloMosaic.Lib.Pipeline.ValueKit
public import proofs.«01_k».proof.Proof.Gen.MemKvIdeal.Value
public import proofs.«01_k».proof.Proof.Layer.FeedForward

@[expose] public section
set_option maxRecDepth 16384

namespace Cert.Layer
open Idealize.ShloMosaic Cert.Fox

/-- A key's lane and a value's lane in the joined product. -/
abbrev keyLane (e : Fin 1024) : Fin 2048 := ⟨e, by omega⟩
abbrev valueLane (e : Fin 1024) : Fin 2048 := ⟨1024 + e, by omega⟩

/-- Lane j of the memory's row i of batch b, normed for layer l and through the layer's joined weights. -/
noncomputable def project (x : FVec Ideal (⟨3, ![32, 256, 1024]⟩ : Shape) .f32) (g : FVec Ideal (Sh 2 1024) .f32) (w : FVec Ideal (⟨3, ![2, 1024, 2048]⟩ : Shape) .f32)
    (l : Fin 2) (b : Fin 32) (i : Fin 256) (j : Fin 2048) : EReal :=
  ∑ c : Fin 1024, rms (fun e : Fin 1024 => x (ix3 b i e)) (fun e => g (ix2 l e)) c * w (ix3 l c j)

theorem quad {a b c n : Nat} (i : (⟨4, ![a, b, c, n]⟩ : Shape).Idx) : ∃ (x : Fin a) (y : Fin b) (z : Fin c) (e : Fin n), i = ix4 x y z e :=
  ⟨i 0, i 1, i 2, i 3, by funext k; fin_cases k <;> rfl⟩

end Cert.Layer

namespace Cert.Layer.Memory
open Idealize.ShloMosaic Cert.Fox Cert.Layer Cert.MemKvIdeal Cert.MemKvIdeal.Gen

variable (m : (ℓ : Loc nD τ sig) → Buf (Elt Ideal) ℓ) (c : Dev nD)

/-- The argument arrays. -/
noncomputable abbrev aM : FVec Ideal S32x256x1024 .f32 := m ((c.tc : Thread nD τ).loc main_arg0)
noncomputable abbrev aG : FVec Ideal S2x1024 .f32 := m ((c.tc : Thread nD τ).loc main_arg1)
noncomputable abbrev aW : FVec Ideal S2x1024x2048 .f32 := m ((c.tc : Thread nD τ).loc main_arg2)

theorem idx : ∀ t : Fin cfg0.N, win0_0.index t = ![(grid0.coords t 1).val, 0, 0]
    ∧ win0_1.index t = ![(grid0.coords t 0).val, 0, 0] ∧ win0_2.index t = ![(grid0.coords t 0).val, 0, 0]
    ∧ win0_3.index t = ![(grid0.coords t 0).val, (grid0.coords t 1).val, 0, 0]
    ∧ win0_4.index t = ![(grid0.coords t 0).val, (grid0.coords t 1).val, 0, 0] :=
  (by decide +kernel : ∀ t : Fin grid0.N, _)

/-- What the host lines before the launch put into the call's operands. -/
theorem entry_g : V m c main_v0 = (shapeCast S2x1x1024 (aG m c) shapeCasts_S2x1024_S2x1x1024 : FVec Ideal S2x1x1024 .f32) := by
  unfold V
  simp only [hostOps0]
  after_results
  rfl

theorem entry_w : V m c main_v1 = (truncf .bf16 (aW m c) bitsLt_bf16_f32 : FVec Ideal S2x1024x2048 .bf16) := by
  unfold V
  simp only [hostOps0]
  after_results

theorem g_at (l : Fin 2) (e : Fin 1024) : (V m c main_v0 : FVec Ideal S2x1x1024 .f32) (ix3 l 0 e) = aG m c (ix2 l e) := by
  rw [entry_g]
  pointwise

theorem w_at (i) : (V m c main_v1 : FVec Ideal S2x1024x2048 .bf16) i = aW m c i := by
  rw [entry_w]
  rfl

/-- An instance's layer and batch. -/
def depth (t : Fin cfg0.N) : Fin 2 := grid0.coords t 0
def batch (t : Fin cfg0.N) : Fin 32 := grid0.coords t 1

/-- The blocks of an instance. -/
noncomputable abbrev bM (t : Fin cfg0.N) : Vec Ideal S1x256x1024 .f32 := iblk m c 0 t
noncomputable abbrev bG (t : Fin cfg0.N) : Vec Ideal S1x1x1024 .f32 := iblk m c 1 t
noncomputable abbrev bW (t : Fin cfg0.N) : Vec Ideal S1x1024x2048 .bf16 := iblk m c 2 t

theorem bM_at (t : Fin cfg0.N) (i : Fin 256) (e : Fin 1024) : bM m c t (ix3 0 i e) = aM m c (ix3 (batch t) i e) := by
  unfold batch
  blk_ext [iblk, V, idx t]

theorem bG_at (t : Fin cfg0.N) (e : Fin 1024) : bG m c t (ix3 0 0 e) = aG m c (ix2 (depth t) e) := by
  refine Eq.trans ?_ (g_at m c _ e)
  unfold depth
  blk_ext [iblk, V, idx t]

theorem bW_at (t : Fin cfg0.N) (i : Fin 1024) (j : Fin 2048) : bW m c t (ix3 0 i j) = aW m c (ix3 (depth t) i j) := by
  refine Eq.trans ?_ (w_at m c _)
  unfold depth
  blk_ext [iblk, V, idx t]

/-- The body's product. -/
noncomputable def product (x0 : Vec Ideal S1x256x1024 .f32) (x1 : Vec Ideal S1x1x1024 .f32) (x2 : Vec Ideal S1x1024x2048 .bf16) : FVec Ideal (Sh 256 2048) .f32 :=
  mm dot_S256x1024_S1024x2048_S256x2048_1_0_0_1_n_n_wf (truncf .bf16 (rows reduces_S256x1024_S256 shapeCasts_S256_S256x1 broadcasts_S256x1_S256x1024
    broadcasts_S1x1024_S256x1024 (shapeCast S256x1024 x0 shapeCasts_S1x256x1024_S256x1024) (shapeCast S1x1024 x1 shapeCasts_S1x1x1024_S1x1024)) bitsLt_bf16_f32)
    (shapeCast S1024x2048 x2 shapeCasts_S1x1024x2048_S1024x2048)

theorem product_at (x0 x1 x2) (i : Fin 256) (j : Fin 2048) : product x0 x1 x2 (ix2 i j)
    = ∑ c : Fin 1024, rms (fun e : Fin 1024 => x0 (ix3 0 i e)) (fun e => x1 (ix3 0 0 e)) c * x2 (ix3 0 c j) := by
  have h0 : ∀ e, shapeCast S256x1024 x0 shapeCasts_S1x256x1024_S256x1024 (ix2 i e) = x0 (ix3 0 i e) := fun e => ValueIdx.shapeCast_1ab_ab_apply x0 _ i e
  have h1 : ∀ e, shapeCast S1x1024 x1 shapeCasts_S1x1x1024_S1x1024 (ix2 0 e) = x1 (ix3 0 0 e) := fun e => ValueIdx.shapeCast_1ab_ab_apply x1 _ 0 e
  have h2 : ∀ k, shapeCast S1024x2048 x2 shapeCasts_S1x1024x2048_S1024x2048 (ix2 k j) = x2 (ix3 0 k j) := fun k => ValueIdx.shapeCast_1ab_ab_apply x2 _ k j
  unfold product
  rw [mm_at]
  refine Finset.sum_congr rfl fun k _ => ?_
  rw [h2]
  refine congrArg (· * x2 (ix3 0 k j)) ?_
  refine (rows_at _ _ _ _ _ _ i k).trans ?_
  simp only [h0, h1]

theorem product_eq (v0 v2 v17) : k0_pay1 v0 v2 v17 = product v0 v2 v17 := rfl

theorem block (t : Fin cfg0.N) (i : Fin 256) (j : Fin 2048) :
    product (View.ld (bM m c t) r0_0) (View.ld (bG m c t) r0_1) (View.ld (bW m c t) r0_2) (ix2 i j)
      = project (aM m c) (aG m c) (aW m c) (depth t) (batch t) i j := by
  have h0 : ∀ e, View.ld (bM m c t) r0_0 (ix3 0 i e) = aM m c (ix3 (batch t) i e) := fun e => by
    rw [← bM_at m c t]
    pointwise
  have h1 : ∀ e, View.ld (bG m c t) r0_1 (ix3 0 0 e) = aG m c (ix2 (depth t) e) := fun e => by
    rw [← bG_at m c t]
    pointwise
  have h2 : ∀ k, View.ld (bW m c t) r0_2 (ix3 0 k j) = aW m c (ix3 (depth t) k j) := fun k => by
    rw [← bW_at m c t]
    pointwise
  rw [product_at]
  simp only [h0, h1, h2]
  rfl

/-- The two stores of a product. -/
noncomputable def flipped (p : FVec Ideal (Sh 256 2048) .f32) : FVec Ideal S1x1x1024x256 .bf16 :=
  shapeCast S1x1x1024x256 (truncf .bf16 (transpose S1024x256 [1, 0] (extractStridedSlice S256x1024 ![0, 0] p slices_S256x2048_o0_0_S256x1024)
    transposes_S256x1024_p1_0_S1024x256) bitsLt_bf16_f32 : FVec Ideal S1024x256 .bf16) shapeCasts_S1024x256_S1x1x1024x256

noncomputable def straight (p : FVec Ideal (Sh 256 2048) .f32) : FVec Ideal S1x1x256x1024 .bf16 :=
  shapeCast S1x1x256x1024 (truncf .bf16 (extractStridedSlice S256x1024 ![0, 1024] p slices_S256x2048_o0_1024_S256x1024)
    bitsLt_bf16_f32 : FVec Ideal S256x1024 .bf16) shapeCasts_S256x1024_S1x1x256x1024

theorem flipped_at (p) (e : Fin 1024) (i : Fin 256) : flipped p (ix4 0 0 e i) = p (ix2 i ⟨e, by omega⟩) := by
  unfold flipped
  pointwise

theorem straight_at (p) (i : Fin 256) (e : Fin 1024) : straight p (ix4 0 0 i e) = p (ix2 i ⟨1024 + e, by omega⟩) := by
  unfold straight
  pointwise

theorem keys_eq (x0 x1 x2) : out0_3 x0 x1 x2 = View.canon [⟨r0_3, flipped (product (View.ld x0 r0_0) (View.ld x1 r0_1) (View.ld x2 r0_2))⟩] := by
  unfold out0_3 k0_pay2
  rw [product_eq]
  rfl

theorem vals_eq (x0 x1 x2) : out0_4 x0 x1 x2 = View.canon [⟨r0_4, straight (product (View.ld x0 r0_0) (View.ld x1 r0_1) (View.ld x2 r0_2))⟩] := by
  unfold out0_4 k0_pay3
  rw [product_eq]
  rfl

theorem keys_point (t : Fin cfg0.N) (y : S1x1x1024x256.Idx) :
    out0_3 (bM m c t) (bG m c t) (bW m c t) y = project (aM m c) (aG m c) (aW m c) (depth t) (batch t) (y 3) (keyLane (y 2)) := by
  rw [keys_eq]
  canon_tiles x h
  obtain ⟨x0, x1, e, i, rfl⟩ := quad (a := 1) (b := 1) (c := 1024) (n := 256) x
  obtain rfl : x0 = 0 := Subsingleton.elim _ _
  obtain rfl : x1 = 0 := Subsingleton.elim _ _
  obtain e2 : y 2 = e := Fin.ext h2
  obtain e3 : y 3 = i := Fin.ext h3
  rw [e2, e3]
  exact (flipped_at _ e i).trans (block m c t i _)

theorem vals_point (t : Fin cfg0.N) (y : S1x1x256x1024.Idx) :
    out0_4 (bM m c t) (bG m c t) (bW m c t) y
      = project (aM m c) (aG m c) (aW m c) (depth t) (batch t) (y 2) (valueLane (y 3)) := by
  rw [vals_eq]
  canon_tiles x h
  obtain ⟨x0, x1, i, e, rfl⟩ := quad (a := 1) (b := 1) (c := 256) (n := 1024) x
  obtain rfl : x0 = 0 := Subsingleton.elim _ _
  obtain rfl : x1 = 0 := Subsingleton.elim _ _
  obtain e2 : y 2 = i := Fin.ext h2
  obtain e3 : y 3 = e := Fin.ext h3
  rw [e2, e3]
  exact (straight_at _ i e).trans (block m c t i _)

/-- The keys, transposed. -/
theorem keys_final : (dats m 0 c).arrAt 3 (cfgs 0).N
    = fun i => project (aM m c) (aG m c) (aW m c) (i 0) (i 1) (i 3) (keyLane (i 2)) := by
  refine (dats m 0 c).arrAt_eq_of_covers 3 _ (by decide +kernel) fun t _ y => ?_
  blk_simp
  rw [after0_3]
  refine (keys_point m c t y).trans ?_
  unfold batch depth
  have h0 : (win0_3.blk t).view.emb y 0 = grid0.coords t 0 := by
    idx_vars y
    apply Fin.ext
    blk_simp [idx t]
  have h1 : (win0_3.blk t).view.emb y 1 = grid0.coords t 1 := by
    idx_vars y
    apply Fin.ext
    blk_simp [idx t]
  have h2 : (win0_3.blk t).view.emb y 2 = y 2 := by
    idx_vars y
    apply Fin.ext
    blk_simp [idx t]
  have h3 : (win0_3.blk t).view.emb y 3 = y 3 := by
    idx_vars y
    apply Fin.ext
    blk_simp [idx t]
  rw [h0, h1, h2, h3]

/-- The values. -/
theorem vals_final : (dats m 0 c).arrAt 4 (cfgs 0).N
    = fun i => project (aM m c) (aG m c) (aW m c) (i 0) (i 1) (i 2) (valueLane (i 3)) := by
  refine (dats m 0 c).arrAt_eq_of_covers 4 _ (by decide +kernel) fun t _ y => ?_
  blk_simp
  rw [after0_4]
  refine (vals_point m c t y).trans ?_
  unfold batch depth
  have h0 : (win0_4.blk t).view.emb y 0 = grid0.coords t 0 := by
    idx_vars y
    apply Fin.ext
    blk_simp [idx t]
  have h1 : (win0_4.blk t).view.emb y 1 = grid0.coords t 1 := by
    idx_vars y
    apply Fin.ext
    blk_simp [idx t]
  have h2 : (win0_4.blk t).view.emb y 2 = y 2 := by
    idx_vars y
    apply Fin.ext
    blk_simp [idx t]
  have h3 : (win0_4.blk t).view.emb y 3 = y 3 := by
    idx_vars y
    apply Fin.ext
    blk_simp [idx t]
  rw [h0, h1, h2, h3]

end Cert.Layer.Memory
-- ==== Proof.Layer.MemKvRef.lean ====
/-
  The reference's keys and values of the memory.
-/
module

public import Idealize.ShloMosaic.Lib.Pipeline.ValueKit
public import proofs.«01_k».proof.Proof.Gen.MemKvRefIdeal.Run
public import proofs.«01_k».proof.Proof.Layer.MemKv

@[expose] public section
set_option maxRecDepth 16384

namespace Cert.Layer.MemoryRef
open Idealize.ShloMosaic Cert.Fox Cert.Layer Cert.MemKvRefIdeal Cert.MemKvRefIdeal.Gen

/-- The norm of every row of the memory. -/
noncomputable def normal (x : FVec Ideal S32x256x1024 .f32) (g : FVec Ideal S1024 .f32) : FVec Ideal S32x256x1024 .f32 :=
  mulf (mulf x (broadcastInDim S32x256x1024 ![0, 1, 2] bcast_S32x256x1_S32x256x1024_0_1_2 (Host.rsqrt (addf (Host.divf
    (broadcastInDim S32x256x1 ![0, 1] bcast_S32x256_S32x256x1_0_1 (Host.reduceAdd (mulf x x) (constant S_ .f32 0x00000000#32) reducesTo_S32x256x1024_S32x256_d2 h_S_))
    (broadcastInDim S32x256x1 ![] bcast_S_S32x256x1 (constant S_ .f32 0x44800000#32))) (broadcastInDim S32x256x1 ![] bcast_S_S32x256x1 (constant S_ .f32 0x358637BD#32))))))
    (broadcastInDim S32x256x1024 ![0, 1, 2] bcast_S1x1x1024_S32x256x1024_0_1_2 (broadcastInDim S1x1x1024 ![2] bcast_S1024_S1x1x1024_2 g))

theorem normal_at (x g) (b : Fin 32) (i : Fin 256) (e : Fin 1024) : normal x g (ix3 b i e) = rms (fun e : Fin 1024 => x (ix3 b i e)) (fun e => g (ix1 e)) e := by
  unfold normal
  pointwise
  rfl

noncomputable def joint (h : FVec Ideal S32x256x1024 .f32) (w : FVec Ideal S1024x2048 .f32) : FVec Ideal S32x256x2048 .f32 :=
  Host.dotGeneral dot_S32x256x1024_S1024x2048_S32x256x2048_2_0_01_1_n_n none h w

theorem joint_at (h w) (b : Fin 32) (i : Fin 256) (j : Fin 2048) : joint h w (ix3 b i j) = ∑ c : Fin 1024, h (ix3 b i c) * w (ix2 c j) := by
  unfold joint
  pointwise

/-- The gains and weights of the two layers. -/
noncomputable def gain0 (g : FVec Ideal S2x1024 .f32) : FVec Ideal S1024 .f32 := shapeCast _ (extractStridedSlice S1x1024 ![0, 0] g slices_S2x1024_S1x1024_0_0) shapeCasts_S1x1024_S1024
noncomputable def gain1 (g : FVec Ideal S2x1024 .f32) : FVec Ideal S1024 .f32 := shapeCast _ (extractStridedSlice S1x1024 ![1, 0] g slices_S2x1024_S1x1024_1_0) shapeCasts_S1x1024_S1024
noncomputable def weight0 (w : FVec Ideal S2x1024x2048 .f32) : FVec Ideal S1024x2048 .f32 :=
  shapeCast _ (extractStridedSlice S1x1024x2048 ![0, 0, 0] w slices_S2x1024x2048_S1x1024x2048_0_0_0) shapeCasts_S1x1024x2048_S1024x2048
noncomputable def weight1 (w : FVec Ideal S2x1024x2048 .f32) : FVec Ideal S1024x2048 .f32 :=
  shapeCast _ (extractStridedSlice S1x1024x2048 ![1, 0, 0] w slices_S2x1024x2048_S1x1024x2048_1_0_0) shapeCasts_S1x1024x2048_S1024x2048

theorem gain0_at (g) (e : Fin 1024) : gain0 g (ix1 e) = g (ix2 0 e) := by
  unfold gain0
  pointwise

theorem gain1_at (g) (e : Fin 1024) : gain1 g (ix1 e) = g (ix2 1 e) := by
  unfold gain1
  pointwise

theorem weight0_at (w) (i : Fin 1024) (j : Fin 2048) : weight0 w (ix2 i j) = w (ix3 0 i j) := by
  unfold weight0
  pointwise

theorem weight1_at (w) (i : Fin 1024) (j : Fin 2048) : weight1 w (ix2 i j) = w (ix3 1 i j) := by
  unfold weight1
  pointwise

noncomputable def layer0 (x : FVec Ideal S32x256x1024 .f32) (g : FVec Ideal S2x1024 .f32) (w : FVec Ideal S2x1024x2048 .f32) : FVec Ideal S32x256x2048 .f32 :=
  joint (normal x (gain0 g)) (weight0 w)
noncomputable def layer1 (x : FVec Ideal S32x256x1024 .f32) (g : FVec Ideal S2x1024 .f32) (w : FVec Ideal S2x1024x2048 .f32) : FVec Ideal S32x256x2048 .f32 :=
  joint (normal x (gain1 g)) (weight1 w)

theorem layer0_at (x g w) (b : Fin 32) (i : Fin 256) (j : Fin 2048) : layer0 x g w (ix3 b i j) = project x g w 0 b i j := by
  unfold layer0
  rw [joint_at]
  simp only [normal_at, gain0_at, weight0_at]
  rfl

theorem layer1_at (x g w) (b : Fin 32) (i : Fin 256) (j : Fin 2048) : layer1 x g w (ix3 b i j) = project x g w 1 b i j := by
  unfold layer1
  rw [joint_at]
  simp only [normal_at, gain1_at, weight1_at]
  rfl

/-- The stacked keys, transposed, and values of two products. -/
noncomputable def keys (p q : FVec Ideal S32x256x2048 .f32) : FVec Ideal S2x32x1024x256 .bf16 :=
  truncf .bf16 (concatenate S2x32x1024x256 0
    [⟨S1x32x1024x256, (broadcastInDim S1x32x1024x256 ![1, 2, 3] bcast_S32x1024x256_S1x32x1024x256_1_2_3 (transpose S32x1024x256 [0, 2, 1]
      (extractStridedSlice S32x256x1024 ![0, 0, 0] p slices_S32x256x2048_S32x256x1024_0_0_0) transposes_S32x256x1024_S32x1024x256_0_2_1))⟩,
    ⟨S1x32x1024x256, (broadcastInDim S1x32x1024x256 ![1, 2, 3] bcast_S32x1024x256_S1x32x1024x256_1_2_3 (transpose S32x1024x256 [0, 2, 1]
      (extractStridedSlice S32x256x1024 ![0, 0, 0] q slices_S32x256x2048_S32x256x1024_0_0_0) transposes_S32x256x1024_S32x1024x256_0_2_1))⟩]
    concatenates_S1x32x1024x256_S1x32x1024x256_S2x32x1024x256_d0) bitsLt_bf16_f32

noncomputable def vals (p q : FVec Ideal S32x256x2048 .f32) : FVec Ideal S2x32x256x1024 .bf16 :=
  truncf .bf16 (concatenate S2x32x256x1024 0
    [⟨S1x32x256x1024, (broadcastInDim S1x32x256x1024 ![1, 2, 3] bcast_S32x256x1024_S1x32x256x1024_1_2_3
      (extractStridedSlice S32x256x1024 ![0, 0, 1024] p slices_S32x256x2048_S32x256x1024_0_0_1024))⟩,
    ⟨S1x32x256x1024, (broadcastInDim S1x32x256x1024 ![1, 2, 3] bcast_S32x256x1024_S1x32x256x1024_1_2_3
      (extractStridedSlice S32x256x1024 ![0, 0, 1024] q slices_S32x256x2048_S32x256x1024_0_0_1024))⟩]
    concatenates_S1x32x256x1024_S1x32x256x1024_S2x32x256x1024_d0) bitsLt_bf16_f32

theorem keys0_at (p q) (b : Fin 32) (e : Fin 1024) (i : Fin 256) : keys p q (ix4 0 b e i) = p (ix3 b i (keyLane e)) := by
  unfold keys
  pointwise

theorem keys1_at (p q) (b : Fin 32) (e : Fin 1024) (i : Fin 256) : keys p q (ix4 1 b e i) = q (ix3 b i (keyLane e)) := by
  unfold keys
  pointwise

theorem vals0_at (p q) (b : Fin 32) (i : Fin 256) (e : Fin 1024) : vals p q (ix4 0 b i e) = p (ix3 b i (valueLane e)) := by
  unfold vals
  pointwise

theorem vals1_at (p q) (b : Fin 32) (i : Fin 256) (e : Fin 1024) : vals p q (ix4 1 b i e) = q (ix3 b i (valueLane e)) := by
  unfold vals
  pointwise

theorem keys_value (x g w) : keys (layer0 x g w) (layer1 x g w) = fun i => project x g w (i 0) (i 1) (i 3) (keyLane (i 2)) := by
  funext i
  obtain ⟨l, b, e, j, rfl⟩ := quad (a := 2) (b := 32) (c := 1024) (n := 256) i
  match l with
  | 0 => exact (keys0_at ..).trans (layer0_at ..)
  | 1 => exact (keys1_at ..).trans (layer1_at ..)

theorem vals_value (x g w) : vals (layer0 x g w) (layer1 x g w) = fun i => project x g w (i 0) (i 1) (i 2) (valueLane (i 3)) := by
  funext i
  obtain ⟨l, b, j, e, rfl⟩ := quad (a := 2) (b := 32) (c := 256) (n := 1024) i
  match l with
  | 0 => exact (vals0_at ..).trans (layer0_at ..)
  | 1 => exact (vals1_at ..).trans (layer1_at ..)

end Cert.Layer.MemoryRef
-- ==== Proof.Layer.ConvBody.lean ====
/-
  The convolution layer's numbers: the gated projection of a row, the taps, the norm of a row and the projection out; and what the
  call's operations on blocks are worth at an index.
-/
module

public import Idealize.ShloMosaic.Lib.Pipeline.ValueKit
public import proofs.«01_k».proof.Proof.Gen.ConvIdeal.Skeleton
public import proofs.«01_k».proof.Proof.Layer.Norm

@[expose] public section
set_option maxRecDepth 16384

namespace Cert.Layer

/-- The projection in of a row, with its bias. -/
noncomputable def linear (x g : Fin 1024 → EReal) (w : Fin 1024 → Fin 2048 → EReal) (b : Fin 2048 → EReal) (j : Fin 2048) : EReal :=
  (∑ e, rms x g e * w e j) + b j

/-- The lane of the first half of the projection. -/
def firstHalf (d : Fin 1024) : Fin 2048 := ⟨d.val, by omega⟩

/-- The lane of the second half of the projection. -/
def secondHalf (d : Fin 1024) : Fin 2048 := ⟨1024 + d.val, by omega⟩

/-- The gated projection: the first half times the logistic of the second. -/
noncomputable def glued (x g : Fin 1024 → EReal) (w : Fin 1024 → Fin 2048 → EReal) (b : Fin 2048 → EReal) (d : Fin 1024) : EReal :=
  linear x g w b (firstHalf d) * Idealize.ShloMosaic.Ideal.logistic (linear x g w b (secondHalf d))

/-- The mean of a row. -/
noncomputable def mean {n : Nat} (v : Fin n → EReal) : EReal :=
  Idealize.ShloMosaic.Ideal.div (∑ c, v c) (Idealize.ShloMosaic.Ideal.ofBits .f32 0x44800000#32)

/-- The row with its mean taken off and scaled to unit variance, with gain and bias. -/
noncomputable def centred {n : Nat} (v g b : Fin n → EReal) (e : Fin n) : EReal :=
  (v e - mean v) * scale (fun e => v e - mean v) * g e + b e

/-- A number times its logistic. -/
noncomputable def swish (v : EReal) : EReal := v * Idealize.ShloMosaic.Ideal.logistic v

/-- What the layer adds to a lane. -/
noncomputable def fused (v g b : Fin 1024 → EReal) (w : Fin 1024 → Fin 1024 → EReal) (o : Fin 1024 → EReal) (d : Fin 1024) : EReal :=
  (∑ e, swish (centred v g b e) * w e d) + o d

/-- The rows put off by 30, zero before the first. -/
noncomputable def delayed (z : Fin 2048 → Fin 1024 → EReal) (n : Nat) (d : Fin 1024) : EReal :=
  if h : 30 ≤ n ∧ n - 30 < 2048 then z ⟨n - 30, h.2⟩ d else 0

/-- A row of the module's value with its residual: the gated projections of the last 31 rows weighed channel by channel, normed, and fused. -/
noncomputable def rolled (x : Fin 2048 → Fin 1024 → EReal) (g : Fin 1024 → EReal) (w : Fin 1024 → Fin 2048 → EReal) (b : Fin 2048 → EReal) (k : Fin 31 → Fin 1024 → EReal)
    (o lg lb : Fin 1024 → EReal) (v : Fin 1024 → Fin 1024 → EReal) (q : Fin 1024 → EReal) (s : Fin 2048) (d : Fin 1024) : EReal :=
  x s d + fused (fun e => (∑ j : Fin 31, k j e * delayed (fun s => glued (x s) g w b) (s.val + j.val) e) + o e) lg lb v q d

end Cert.Layer

namespace Cert.Layer.Conv
open Idealize.ShloMosaic Cert.Fox Cert.Layer Cert.ConvIdeal Cert.ConvIdeal.Gen

/-- The lane of a tile and a lane in it. -/
def lane (a : Fin 8) (l : Fin 128) : Fin 1024 := ⟨a.val * 128 + l.val, by omega⟩

/-- The tile of a lane. -/
def tile (e : Fin 1024) : Fin 8 := ⟨e.val / 128, by omega⟩

/-- The place of a lane in its tile. -/
def spot (e : Fin 1024) : Fin 128 := ⟨e.val % 128, by omega⟩

theorem lane_tile (e : Fin 1024) : lane (tile e) (spot e) = e := Fin.ext (by show e.val / 128 * 128 + e.val % 128 = e.val; omega)

theorem tap8_at (v67 : FVec Ideal S1x8x128 .f32) (v69 : FVec Ideal S256x8x128 .f32) (r : Fin 256) (a : Fin 8) (l : Fin 128) :
    k0_pay8 v67 v69 (ix3 r a l) = v67 (ix3 0 a l) * v69 (ix3 r a l) := by
  unfold k0_pay8
  pointwise

theorem tap9_at (v73 : FVec Ideal S1x8x128 .f32) (a : Fin 8) (l : Fin 128) :
    k0_pay9 v73 (ix2 a l) = v73 (ix3 0 a l) := by
  unfold k0_pay9
  pointwise

theorem tap10_at (v72 : FVec Ideal S256x8x128 .f32) (v74 : FVec Ideal S8x128 .f32) (v75 : FVec Ideal S256x8x128 .f32) (v80 : FVec Ideal S1x8x128 .f32) (v82 : FVec Ideal S256x8x128 .f32) (v87 : FVec Ideal S1x8x128 .f32) (v89 : FVec Ideal S256x8x128 .f32) (v94 : FVec Ideal S1x8x128 .f32) (v96 : FVec Ideal S256x8x128 .f32) (v101 : FVec Ideal S1x8x128 .f32) (v103 : FVec Ideal S256x8x128 .f32) (r : Fin 256) (a : Fin 8) (l : Fin 128) :
    k0_pay10 v72 v74 v75 v80 v82 v87 v89 v94 v96 v101 v103 (ix3 r a l) = v72 (ix3 r a l) + v74 (ix2 a l) * v75 (ix3 r a l) + v80 (ix3 0 a l) * v82 (ix3 r a l) + v87 (ix3 0 a l) * v89 (ix3 r a l) + v94 (ix3 0 a l) * v96 (ix3 r a l) + v101 (ix3 0 a l) * v103 (ix3 r a l) := by
  unfold k0_pay10
  pointwise

theorem tap11_at (v107 : FVec Ideal S256x8x128 .f32) (v108 : FVec Ideal S1x8x128 .f32) (v110 : FVec Ideal S256x8x128 .f32) (v115 : FVec Ideal S1x8x128 .f32) (v117 : FVec Ideal S256x8x128 .f32) (v122 : FVec Ideal S1x8x128 .f32) (v124 : FVec Ideal S256x8x128 .f32) (v129 : FVec Ideal S1x8x128 .f32) (v131 : FVec Ideal S256x8x128 .f32) (r : Fin 256) (a : Fin 8) (l : Fin 128) :
    k0_pay11 v107 v108 v110 v115 v117 v122 v124 v129 v131 (ix3 r a l) = v107 (ix3 r a l) + v108 (ix3 0 a l) * v110 (ix3 r a l) + v115 (ix3 0 a l) * v117 (ix3 r a l) + v122 (ix3 0 a l) * v124 (ix3 r a l) + v129 (ix3 0 a l) * v131 (ix3 r a l) := by
  unfold k0_pay11
  pointwise

theorem tap12_at (v136 : FVec Ideal S1x8x128 .f32) (a : Fin 8) (l : Fin 128) :
    k0_pay12 v136 (ix2 a l) = v136 (ix3 0 a l) := by
  unfold k0_pay12
  pointwise

theorem tap13_at (v135 : FVec Ideal S256x8x128 .f32) (v137 : FVec Ideal S8x128 .f32) (v138 : FVec Ideal S256x8x128 .f32) (v143 : FVec Ideal S1x8x128 .f32) (v145 : FVec Ideal S256x8x128 .f32) (v150 : FVec Ideal S1x8x128 .f32) (v152 : FVec Ideal S256x8x128 .f32) (v157 : FVec Ideal S1x8x128 .f32) (v159 : FVec Ideal S256x8x128 .f32) (v164 : FVec Ideal S1x8x128 .f32) (v166 : FVec Ideal S256x8x128 .f32) (r : Fin 256) (a : Fin 8) (l : Fin 128) :
    k0_pay13 v135 v137 v138 v143 v145 v150 v152 v157 v159 v164 v166 (ix3 r a l) = v135 (ix3 r a l) + v137 (ix2 a l) * v138 (ix3 r a l) + v143 (ix3 0 a l) * v145 (ix3 r a l) + v150 (ix3 0 a l) * v152 (ix3 r a l) + v157 (ix3 0 a l) * v159 (ix3 r a l) + v164 (ix3 0 a l) * v166 (ix3 r a l) := by
  unfold k0_pay13
  pointwise

theorem tap14_at (v170 : FVec Ideal S256x8x128 .f32) (v171 : FVec Ideal S1x8x128 .f32) (v173 : FVec Ideal S256x8x128 .f32) (v178 : FVec Ideal S1x8x128 .f32) (v180 : FVec Ideal S256x8x128 .f32) (v185 : FVec Ideal S1x8x128 .f32) (v187 : FVec Ideal S256x8x128 .f32) (v192 : FVec Ideal S1x8x128 .f32) (v194 : FVec Ideal S256x8x128 .f32) (r : Fin 256) (a : Fin 8) (l : Fin 128) :
    k0_pay14 v170 v171 v173 v178 v180 v185 v187 v192 v194 (ix3 r a l) = v170 (ix3 r a l) + v171 (ix3 0 a l) * v173 (ix3 r a l) + v178 (ix3 0 a l) * v180 (ix3 r a l) + v185 (ix3 0 a l) * v187 (ix3 r a l) + v192 (ix3 0 a l) * v194 (ix3 r a l) := by
  unfold k0_pay14
  pointwise

theorem tap15_at (v199 : FVec Ideal S1x8x128 .f32) (r : Fin 256) (a : Fin 8) (l : Fin 128) :
    k0_pay15 v199 (ix3 r a l) = v199 (ix3 0 a l) := by
  unfold k0_pay15
  pointwise

theorem tap16_at (v198 : FVec Ideal S256x8x128 .f32) (v201 : FVec Ideal S256x8x128 .f32) (v203 : FVec Ideal S256x8x128 .f32) (v206 : FVec Ideal S1x8x128 .f32) (v208 : FVec Ideal S256x8x128 .f32) (v213 : FVec Ideal S1x8x128 .f32) (v215 : FVec Ideal S256x8x128 .f32) (v220 : FVec Ideal S1x8x128 .f32) (v222 : FVec Ideal S256x8x128 .f32) (v227 : FVec Ideal S1x8x128 .f32) (v229 : FVec Ideal S256x8x128 .f32) (r : Fin 256) (a : Fin 8) (l : Fin 128) :
    k0_pay16 v198 v201 v203 v206 v208 v213 v215 v220 v222 v227 v229 (ix3 r a l) = v198 (ix3 r a l) + v203 (ix3 r a l) * v201 (ix3 r a l) + v206 (ix3 0 a l) * v208 (ix3 r a l) + v213 (ix3 0 a l) * v215 (ix3 r a l) + v220 (ix3 0 a l) * v222 (ix3 r a l) + v227 (ix3 0 a l) * v229 (ix3 r a l) := by
  unfold k0_pay16
  pointwise

theorem tap17_at (v234 : FVec Ideal S1x8x128 .f32) (a : Fin 8) (l : Fin 128) :
    k0_pay17 v234 (ix2 a l) = v234 (ix3 0 a l) := by
  unfold k0_pay17
  pointwise

theorem tap18_at (v233 : FVec Ideal S256x8x128 .f32) (v235 : FVec Ideal S8x128 .f32) (v236 : FVec Ideal S256x8x128 .f32) (v241 : FVec Ideal S1x8x128 .f32) (v243 : FVec Ideal S256x8x128 .f32) (v248 : FVec Ideal S1x8x128 .f32) (v250 : FVec Ideal S256x8x128 .f32) (v255 : FVec Ideal S1x8x128 .f32) (v257 : FVec Ideal S256x8x128 .f32) (v262 : FVec Ideal S1x8x128 .f32) (v264 : FVec Ideal S256x8x128 .f32) (r : Fin 256) (a : Fin 8) (l : Fin 128) :
    k0_pay18 v233 v235 v236 v241 v243 v248 v250 v255 v257 v262 v264 (ix3 r a l) = v233 (ix3 r a l) + v235 (ix2 a l) * v236 (ix3 r a l) + v241 (ix3 0 a l) * v243 (ix3 r a l) + v248 (ix3 0 a l) * v250 (ix3 r a l) + v255 (ix3 0 a l) * v257 (ix3 r a l) + v262 (ix3 0 a l) * v264 (ix3 r a l) := by
  unfold k0_pay18
  pointwise

theorem tap24_at (v327 : FVec Ideal S1x8x128 .f32) (v329 : FVec Ideal S256x8x128 .f32) (v333 : FVec Ideal S1x8x128 .f32) (v335 : FVec Ideal S256x8x128 .f32) (r : Fin 256) (a : Fin 8) (l : Fin 128) :
    k0_pay24 v327 v329 v333 v335 (ix3 r a l) = v327 (ix3 0 a l) * v329 (ix3 r a l) + v333 (ix3 0 a l) * v335 (ix3 r a l) := by
  unfold k0_pay24
  pointwise

theorem tap25_at (v340 : FVec Ideal S1x8x128 .f32) (a : Fin 8) (l : Fin 128) :
    k0_pay25 v340 (ix2 a l) = v340 (ix3 0 a l) := by
  unfold k0_pay25
  pointwise

theorem tap26_at (v339 : FVec Ideal S256x8x128 .f32) (v341 : FVec Ideal S8x128 .f32) (v342 : FVec Ideal S256x8x128 .f32) (v347 : FVec Ideal S1x8x128 .f32) (v349 : FVec Ideal S256x8x128 .f32) (v354 : FVec Ideal S1x8x128 .f32) (v356 : FVec Ideal S256x8x128 .f32) (v361 : FVec Ideal S1x8x128 .f32) (v363 : FVec Ideal S256x8x128 .f32) (v368 : FVec Ideal S1x8x128 .f32) (v370 : FVec Ideal S256x8x128 .f32) (r : Fin 256) (a : Fin 8) (l : Fin 128) :
    k0_pay26 v339 v341 v342 v347 v349 v354 v356 v361 v363 v368 v370 (ix3 r a l) = v339 (ix3 r a l) + v341 (ix2 a l) * v342 (ix3 r a l) + v347 (ix3 0 a l) * v349 (ix3 r a l) + v354 (ix3 0 a l) * v356 (ix3 r a l) + v361 (ix3 0 a l) * v363 (ix3 r a l) + v368 (ix3 0 a l) * v370 (ix3 r a l) := by
  unfold k0_pay26
  pointwise

theorem tap27_at (v374 : FVec Ideal S256x8x128 .f32) (v375 : FVec Ideal S1x8x128 .f32) (v377 : FVec Ideal S256x8x128 .f32) (v382 : FVec Ideal S1x8x128 .f32) (v384 : FVec Ideal S256x8x128 .f32) (v389 : FVec Ideal S1x8x128 .f32) (v391 : FVec Ideal S256x8x128 .f32) (v396 : FVec Ideal S1x8x128 .f32) (v398 : FVec Ideal S256x8x128 .f32) (r : Fin 256) (a : Fin 8) (l : Fin 128) :
    k0_pay27 v374 v375 v377 v382 v384 v389 v391 v396 v398 (ix3 r a l) = v374 (ix3 r a l) + v375 (ix3 0 a l) * v377 (ix3 r a l) + v382 (ix3 0 a l) * v384 (ix3 r a l) + v389 (ix3 0 a l) * v391 (ix3 r a l) + v396 (ix3 0 a l) * v398 (ix3 r a l) := by
  unfold k0_pay27
  pointwise

theorem tap28_at (v403 : FVec Ideal S1x8x128 .f32) (a : Fin 8) (l : Fin 128) :
    k0_pay28 v403 (ix2 a l) = v403 (ix3 0 a l) := by
  unfold k0_pay28
  pointwise

theorem tap29_at (v402 : FVec Ideal S256x8x128 .f32) (v404 : FVec Ideal S8x128 .f32) (v405 : FVec Ideal S256x8x128 .f32) (v410 : FVec Ideal S1x8x128 .f32) (v412 : FVec Ideal S256x8x128 .f32) (v417 : FVec Ideal S1x8x128 .f32) (v419 : FVec Ideal S256x8x128 .f32) (v424 : FVec Ideal S1x8x128 .f32) (v426 : FVec Ideal S256x8x128 .f32) (v431 : FVec Ideal S1x8x128 .f32) (v433 : FVec Ideal S256x8x128 .f32) (r : Fin 256) (a : Fin 8) (l : Fin 128) :
    k0_pay29 v402 v404 v405 v410 v412 v417 v419 v424 v426 v431 v433 (ix3 r a l) = v402 (ix3 r a l) + v404 (ix2 a l) * v405 (ix3 r a l) + v410 (ix3 0 a l) * v412 (ix3 r a l) + v417 (ix3 0 a l) * v419 (ix3 r a l) + v424 (ix3 0 a l) * v426 (ix3 r a l) + v431 (ix3 0 a l) * v433 (ix3 r a l) := by
  unfold k0_pay29
  pointwise

theorem tap30_at (v437 : FVec Ideal S256x8x128 .f32) (v438 : FVec Ideal S1x8x128 .f32) (v440 : FVec Ideal S256x8x128 .f32) (v445 : FVec Ideal S1x8x128 .f32) (v447 : FVec Ideal S256x8x128 .f32) (v452 : FVec Ideal S1x8x128 .f32) (v454 : FVec Ideal S256x8x128 .f32) (v459 : FVec Ideal S1x8x128 .f32) (v461 : FVec Ideal S256x8x128 .f32) (r : Fin 256) (a : Fin 8) (l : Fin 128) :
    k0_pay30 v437 v438 v440 v445 v447 v452 v454 v459 v461 (ix3 r a l) = v437 (ix3 r a l) + v438 (ix3 0 a l) * v440 (ix3 r a l) + v445 (ix3 0 a l) * v447 (ix3 r a l) + v452 (ix3 0 a l) * v454 (ix3 r a l) + v459 (ix3 0 a l) * v461 (ix3 r a l) := by
  unfold k0_pay30
  pointwise

theorem tap31_at (v466 : FVec Ideal S1x8x128 .f32) (v468 : FVec Ideal S256x8x128 .f32) (r : Fin 256) (a : Fin 8) (l : Fin 128) :
    k0_pay31 v466 v468 (ix3 r a l) = v466 (ix3 0 a l) * v468 (ix3 r a l) := by
  unfold k0_pay31
  pointwise

theorem tap32_at (v465 : FVec Ideal S256x8x128 .f32) (v471 : FVec Ideal S256x8x128 .f32) (v473 : FVec Ideal S1x8x128 .f32) (v475 : FVec Ideal S256x8x128 .f32) (v480 : FVec Ideal S1x8x128 .f32) (v482 : FVec Ideal S256x8x128 .f32) (v487 : FVec Ideal S1x8x128 .f32) (v489 : FVec Ideal S256x8x128 .f32) (v494 : FVec Ideal S1x8x128 .f32) (v496 : FVec Ideal S256x8x128 .f32) (r : Fin 256) (a : Fin 8) (l : Fin 128) :
    k0_pay32 v465 v471 v473 v475 v480 v482 v487 v489 v494 v496 (ix3 r a l) = v465 (ix3 r a l) + v471 (ix3 r a l) + v473 (ix3 0 a l) * v475 (ix3 r a l) + v480 (ix3 0 a l) * v482 (ix3 r a l) + v487 (ix3 0 a l) * v489 (ix3 r a l) + v494 (ix3 0 a l) * v496 (ix3 r a l) := by
  unfold k0_pay32
  pointwise

theorem tap33_at (v501 : FVec Ideal S1x8x128 .f32) (a : Fin 8) (l : Fin 128) :
    k0_pay33 v501 (ix2 a l) = v501 (ix3 0 a l) := by
  unfold k0_pay33
  pointwise

theorem tap34_at (v500 : FVec Ideal S256x8x128 .f32) (v502 : FVec Ideal S8x128 .f32) (v503 : FVec Ideal S256x8x128 .f32) (v508 : FVec Ideal S1x8x128 .f32) (v510 : FVec Ideal S256x8x128 .f32) (v515 : FVec Ideal S1x8x128 .f32) (v517 : FVec Ideal S256x8x128 .f32) (v522 : FVec Ideal S1x8x128 .f32) (v524 : FVec Ideal S256x8x128 .f32) (v529 : FVec Ideal S1x8x128 .f32) (v531 : FVec Ideal S256x8x128 .f32) (r : Fin 256) (a : Fin 8) (l : Fin 128) :
    k0_pay34 v500 v502 v503 v508 v510 v515 v517 v522 v524 v529 v531 (ix3 r a l) = v500 (ix3 r a l) + v502 (ix2 a l) * v503 (ix3 r a l) + v508 (ix3 0 a l) * v510 (ix3 r a l) + v515 (ix3 0 a l) * v517 (ix3 r a l) + v522 (ix3 0 a l) * v524 (ix3 r a l) + v529 (ix3 0 a l) * v531 (ix3 r a l) := by
  unfold k0_pay34
  pointwise

/-- The gated projection of a block's rows, by tiles of lanes. -/
noncomputable def tiles (y : FVec Ideal S256x1024 .f32) (g : FVec Ideal S1x1024 .f32) (w : FVec Ideal S1024x2048 .bf16) (b : FVec Ideal S1x2048 .f32) : FVec Ideal S256x2048 .f32 :=
  addf (matmul dot_S256x1024_S1024x2048_S256x2048_1_0_0_1_n_n none (truncf .bf16 (rows reduces_S256x1024_S256 shapeCasts_S256_S256x1 broadcasts_S256x1_S256x1024 broadcasts_S1x1024_S256x1024 y g) bitsLt_bf16_f32) w
    (constant S256x2048 .f32 0x00000000#32)) (broadcastTo S256x2048 b broadcasts_S1x2048_S256x2048)

theorem tiles_at (y g w b) (r : Fin 256) (j : Fin 2048) : tiles y g w b (ix2 r j) =
    linear (fun e => y (ix2 r e)) (fun e => g (ix2 0 e)) (fun e j => w (ix2 e j)) (fun j => b (ix2 0 j)) j := by
  unfold tiles
  pointwise
  simp only [rows_at]
  rfl

/-- The gate over the projection, by tiles of lanes. -/
noncomputable def gate (p : FVec Ideal S256x2048 .f32) : FVec Ideal S256x8x128 .f32 :=
  shapeCast S256x8x128 (mulf (extractStridedSlice S256x1024 ![0, 0] p slices_S256x2048_o0_0_S256x1024)
    (logistic (extractStridedSlice S256x1024 ![0, 1024] p slices_S256x2048_o0_1024_S256x1024))) shapeCasts_S256x1024_S256x8x128

theorem gate_at (p) (r : Fin 256) (a : Fin 8) (l : Fin 128) : gate p (ix3 r a l) = p (ix2 r (firstHalf (lane a l))) * Ideal.logistic (p (ix2 r (secondHalf (lane a l)))) := by
  unfold gate
  pointwise
  rfl

theorem lower_eq (x : FVec Ideal S1x512x1024 .f32) (g w b) : k0_pay5 x g w b = gate (tiles (extractStridedSlice S256x1024 ![0, 0] (k0_pay3 x) slices_S512x1024_o0_0_S256x1024) g w b) := by
  unfold k0_pay5
  simp only [shapeCast_self]
  rfl

theorem upper_eq (x : FVec Ideal S1x512x1024 .f32) (g w b) : k0_pay7 (k0_pay6 x) g w b = gate (tiles (extractStridedSlice S256x1024 ![256, 0] (k0_pay3 x) slices_S512x1024_o256_0_S256x1024) g w b) := by
  unfold k0_pay7 k0_pay6
  simp only [shapeCast_self]
  rfl

theorem lower_at (x : FVec Ideal S1x512x1024 .f32) (g : FVec Ideal S1x1024 .f32) (w : FVec Ideal S1024x2048 .bf16) (b : FVec Ideal S1x2048 .f32) (r : Fin 256) (a : Fin 8) (l : Fin 128) : k0_pay5 (F := Ideal) x g w b (ix3 r a l) =
    glued (fun e => x (ix3 0 ⟨r.val, by omega⟩ e)) (fun e => g (ix2 0 e)) (fun e j => w (ix2 e j)) (fun j => b (ix2 0 j)) (lane a l) := by
  rw [lower_eq, gate_at, tiles_at, tiles_at]
  have e : ∀ e : Fin 1024, extractStridedSlice S256x1024 ![0, 0] (k0_pay3 x) slices_S512x1024_o0_0_S256x1024 (ix2 r e) = x (ix3 0 ⟨r.val, by omega⟩ e) := fun e => by
    unfold k0_pay3
    pointwise
  simp only [e]
  rfl

theorem upper_at (x : FVec Ideal S1x512x1024 .f32) (g : FVec Ideal S1x1024 .f32) (w : FVec Ideal S1024x2048 .bf16) (b : FVec Ideal S1x2048 .f32) (r : Fin 256) (a : Fin 8) (l : Fin 128) : k0_pay7 (F := Ideal) (k0_pay6 x) g w b (ix3 r a l) =
    glued (fun e => x (ix3 0 ⟨256 + r.val, by omega⟩ e)) (fun e => g (ix2 0 e)) (fun e j => w (ix2 e j)) (fun j => b (ix2 0 j)) (lane a l) := by
  rw [upper_eq, gate_at, tiles_at, tiles_at]
  have e : ∀ e : Fin 1024, extractStridedSlice S256x1024 ![256, 0] (k0_pay3 x) slices_S512x1024_o256_0_S256x1024 (ix2 r e) = x (ix3 0 ⟨256 + r.val, by omega⟩ e) := fun e => by
    unfold k0_pay3
    pointwise
  simp only [e]
  rfl

/-- The norm of a block's rows about their means. -/
noncomputable def about (v : FVec Ideal S256x1024 .f32) : FVec Ideal S256x1024 .f32 :=
  subf v (broadcastTo S256x1024 (divf (shapeCast S256x1 (multiReduction .add [1] S256 v 0x00000000#32 reduces_S256x1024_S256 (.inl rfl) rfl) shapeCasts_S256_S256x1)
    (broadcast S256x1 (Scalar.ofBits .f32 0x44800000#32))) broadcasts_S256x1_S256x1024)

theorem about_at (v) (r : Fin 256) (e : Fin 1024) : about v (ix2 r e) = v (ix2 r e) - mean fun e : Fin 1024 => v (ix2 r e) := by
  unfold about
  rw [subf_apply, spread_at (a := 256) (n := 1024), divf_apply, column_at (a := 256), rowSum_at (a := 256) (n := 1024)]
  rfl

/-- The layer's norm of a block's rows. -/
noncomputable def level (v : FVec Ideal S256x1024 .f32) (g b : FVec Ideal S1x1024 .f32) : FVec Ideal S256x1024 .f32 :=
  addf (rows reduces_S256x1024_S256 shapeCasts_S256_S256x1 broadcasts_S256x1_S256x1024 broadcasts_S1x1024_S256x1024 (about v) g) (broadcastTo S256x1024 b broadcasts_S1x1024_S256x1024)

theorem level_at (v g b) (r : Fin 256) (e : Fin 1024) : level v g b (ix2 r e) = centred (fun e => v (ix2 r e)) (fun e => g (ix2 0 e)) (fun e => b (ix2 0 e)) e := by
  unfold level
  rw [addf_apply, rows_at, repeat_at (a := 256) (n := 1024)]
  simp only [about_at]
  rfl

/-- The taps' block as rows of lanes, with the bias. -/
noncomputable def flat (y : FVec Ideal S256x8x128 .f32) (o : FVec Ideal S1x1024 .f32) : FVec Ideal S256x1024 .f32 :=
  addf (shapeCast S256x1024 y shapeCasts_S256x8x128_S256x1024) (broadcastTo S256x1024 o broadcasts_S1x1024_S256x1024)

theorem flat_at (y o) (r : Fin 256) (e : Fin 1024) : flat y o (ix2 r e) = y (ix3 r (tile e) (spot e)) + o (ix2 0 e) := by
  unfold flat
  pointwise
  rfl

/-- The layer's output rows. -/
noncomputable def outward (x v : FVec Ideal S256x1024 .f32) (g b : FVec Ideal S1x1024 .f32) (w : FVec Ideal S1024x1024 .bf16) (o : FVec Ideal S1x1024 .f32) : FVec Ideal S256x1024 .f32 :=
  addf (addf x (matmul dot_S256x1024_S1024x1024_S256x1024_1_0_0_1_n_n none (truncf .bf16 (mulf (level v g b) (logistic (level v g b))) bitsLt_bf16_f32) w
    (constant S256x1024 .f32 0x00000000#32))) (broadcastTo S256x1024 o broadcasts_S1x1024_S256x1024)

theorem outward_at (x v g b w o) (r : Fin 256) (d : Fin 1024) : outward x v g b w o (ix2 r d) =
    x (ix2 r d) + fused (fun e => v (ix2 r e)) (fun e => g (ix2 0 e)) (fun e => b (ix2 0 e)) (fun e d => w (ix2 e d)) (fun d => o (ix2 0 d)) d := by
  unfold outward
  pointwise
  simp only [level_at]
  rw [add_assoc]
  rfl

/-- One more tap. -/
noncomputable def more (y : FVec Ideal S256x8x128 .f32) (w : FVec Ideal S1x8x128 .f32) (z : FVec Ideal S256x8x128 .f32) : FVec Ideal S256x8x128 .f32 :=
  addf y (mulf (broadcastTo S256x8x128 (shapeCast S1x8x128 (shapeCast S8x128 w shapeCasts_S1x8x128_S8x128) shapeCasts_S8x128_S1x8x128) broadcasts_S1x8x128_S256x8x128) z)

theorem more_at (y w z) (r : Fin 256) (a : Fin 8) (l : Fin 128) : more y w z (ix3 r a l) = y (ix3 r a l) + w (ix3 0 a l) * z (ix3 r a l) := by
  unfold more
  pointwise

theorem first_eq (x : FVec Ideal S1x512x1024 .f32) (y : FVec Ideal S256x8x128 .f32) (w1 : FVec Ideal S1x8x128 .f32) (z1 : FVec Ideal S256x8x128 .f32) (w2 : FVec Ideal S1x8x128 .f32) (z2 : FVec Ideal S256x8x128 .f32) (o g b : FVec Ideal S1x1024 .f32) (w q) :
    k0_pay23 (k0_pay3 x) (k0_pay19 g) (k0_pay20 b) (k0_pay21 y w1 z1 w2 z2 o) (k0_pay22 y w1 z1 w2 z2 o) w q =
      shapeCast S1x256x1024 (outward (extractStridedSlice S256x1024 ![0, 0] (k0_pay3 x) slices_S512x1024_o0_0_S256x1024) (flat (more (more y w1 z1) w2 z2) o) g b w q) shapeCasts_S256x1024_S1x256x1024 := by
  unfold k0_pay23 k0_pay19 k0_pay20 k0_pay22 k0_pay21
  simp only [shapeCast_self]
  rfl

theorem second_eq (x : FVec Ideal S1x512x1024 .f32) (y : FVec Ideal S256x8x128 .f32) (w1 : FVec Ideal S1x8x128 .f32) (z1 : FVec Ideal S256x8x128 .f32) (o g b : FVec Ideal S1x1024 .f32) (w q) :
    k0_pay1 (k0_pay35 (k0_pay3 x)) (k0_pay36 y w1 z1 o g b) (k0_pay37 w) (constant S256x1024 .f32 0x00000000#32) q =
      shapeCast S1x256x1024 (outward (extractStridedSlice S256x1024 ![256, 0] (k0_pay3 x) slices_S512x1024_o256_0_S256x1024) (flat (more y w1 z1) o) g b w q) shapeCasts_S256x1024_S1x256x1024 := by
  unfold k0_pay1 k0_pay35 k0_pay36 k0_pay37
  simp only [shapeCast_self]
  rfl

end Cert.Layer.Conv
-- ==== Proof.Layer.Conv.lean ====
/-
  The convolution call's output array: the layer's value.
-/
module

public import Idealize.ShloMosaic.Lib.Pipeline.ValueKit
public import Idealize.ShloMosaic.Lib.WritesUnit
public import proofs.«01_k».proof.Proof.Gen.ConvIdeal.Value
public import proofs.«01_k».proof.Proof.Layer.ConvBody

@[expose] public section
set_option maxRecDepth 16384

namespace Cert.Layer.Conv
open Idealize.ShloMosaic Cert.Fox Cert.Layer Cert.ConvIdeal Cert.ConvIdeal.Gen

/-- The scratch's row of a number: the halo, the lower half of the block, the upper half. -/
noncomputable def content (h : FVec Ideal S32x8x128 .f32) (lo hi : FVec Ideal S256x8x128 .f32) (n : Nat) (a : Fin 8) (l : Fin 128) : EReal :=
  if h1 : n < 32 then h (ix3 ⟨n, h1⟩ a l) else if h2 : n < 288 then lo (ix3 ⟨n - 32, by omega⟩ a l)
  else if h3 : n < 544 then hi (ix3 ⟨n - 288, by omega⟩ a l) else 0

/-- The window of 256 rows from a row on. -/
noncomputable def window (h : FVec Ideal S32x8x128 .f32) (lo hi : FVec Ideal S256x8x128 .f32) (o : Nat) : FVec Ideal S256x8x128 .f32 :=
  fun i => content h lo hi (o + (i 0).val) (i 1) (i 2)

/-- The first rows of a scratch. -/
noncomputable def top (s : FVec Ideal S544x8x128 .f32) : FVec Ideal S32x8x128 .f32 :=
  fun i => s (ix3 (⟨(i 0).val, Nat.lt_trans (show (i 0).val < 32 from (i 0).isLt) (by decide)⟩ : Fin 544) (i 1) (i 2))

section Scratch
variable {sg : RefSig} {κ : Kind} {sp : Space} (v : View sg κ sp S544x8x128 .f32) (f : v.ty.Contents (Elt Ideal))

theorem read_pieces (hi lo : FVec Ideal S256x8x128 .f32) (L : List (View.Piece (Elt Ideal) S544x8x128 .f32)) (h : FVec Ideal S32x8x128 .f32)
    (n : Fin 544) (a : Fin 8) (l : Fin 128) (hL : ∀ k : n.val < 32, v.read (Elt Ideal) (v.writes (Elt Ideal) f L) (ix3 n a l) = h (ix3 ⟨n.val, k⟩ a l)) :
    v.read (Elt Ideal) (v.writes (Elt Ideal) f
      (⟨Rect.unit ![288, 0, 0] S256x8x128.size inb_S544x8x128_S256x8x128_288_0_0, hi⟩ :: ⟨Rect.unit ![32, 0, 0] S256x8x128.size inb_S544x8x128_S256x8x128_32_0_0, lo⟩ :: L)) (ix3 n a l)
      = content h lo hi n.val a l := by
  unfold content
  by_cases h1 : n.val < 32
  · rw [dif_pos h1]
    refine (View.read_writes_cons_unit_of_not_mem (off := ![288, 0, 0]) (off' := ![288, 0, 0]) (size := S256x8x128.size) v f _ hi _ _ rfl 0 (Or.inl (by show n.val < 288; omega))).trans ?_
    refine (View.read_writes_cons_unit_of_not_mem (off := ![32, 0, 0]) (off' := ![32, 0, 0]) (size := S256x8x128.size) v f _ lo _ _ rfl 0 (Or.inl (by show n.val < 32; omega))).trans ?_
    exact hL h1
  · rw [dif_neg h1]
    by_cases h2 : n.val < 288
    · rw [dif_pos h2]
      refine (View.read_writes_cons_unit_of_not_mem (off := ![288, 0, 0]) (off' := ![288, 0, 0]) (size := S256x8x128.size) v f _ hi _ _ rfl 0 (Or.inl (by show n.val < 288; omega))).trans ?_
      refine View.read_writes_cons_unit_of_mem (off := ![32, 0, 0]) (off' := ![32, 0, 0]) (size := S256x8x128.size) v f _ lo _ _ (ix3 (⟨n.val - 32, by omega⟩ : Fin 256) a l) rfl fun ax => ?_
      match ax with
      | ⟨0, _⟩ => show n.val = 32 + (n.val - 32); omega
      | ⟨1, _⟩ => show a.val = 0 + a.val; omega
      | ⟨2, _⟩ => show l.val = 0 + l.val; omega
    · rw [dif_neg h2, dif_pos n.isLt]
      refine View.read_writes_cons_unit_of_mem (off := ![288, 0, 0]) (off' := ![288, 0, 0]) (size := S256x8x128.size) v f _ hi _ _ (ix3 (⟨n.val - 288, by omega⟩ : Fin 256) a l) rfl fun ax => ?_
      match ax with
      | ⟨0, _⟩ => show n.val = 288 + (n.val - 288); omega
      | ⟨1, _⟩ => show a.val = 0 + a.val; omega
      | ⟨2, _⟩ => show l.val = 0 + l.val; omega

theorem read_halo (h : FVec Ideal S32x8x128 .f32) (L : List (View.Piece (Elt Ideal) S544x8x128 .f32)) (n : Fin 544) (a : Fin 8) (l : Fin 128) (k : n.val < 32) :
    v.read (Elt Ideal) (v.writes (Elt Ideal) f (⟨Rect.unit ![0, 0, 0] S32x8x128.size inb_S544x8x128_S32x8x128_0_0_0, h⟩ :: L)) (ix3 n a l) = h (ix3 ⟨n.val, k⟩ a l) := by
  refine View.read_writes_cons_unit_of_mem (off := ![0, 0, 0]) (off' := ![0, 0, 0]) (size := S32x8x128.size) v f _ h _ _ (ix3 (⟨n.val, k⟩ : Fin 32) a l) rfl fun ax => ?_
  match ax with
  | ⟨0, _⟩ => show n.val = 0 + n.val; omega
  | ⟨1, _⟩ => show a.val = 0 + a.val; omega
  | ⟨2, _⟩ => show l.val = 0 + l.val; omega

theorem place (o k : Nat) (inb : ∀ a, (![o, 0, 0] : Fin 3 → Nat) a + (⟨3, ![k, 8, 128]⟩ : Shape).size a ≤ S544x8x128.size a) (r : Fin k) (a : Fin 8) (l : Fin 128) :
    (Rect.unit (s := S544x8x128) ![o, 0, 0] (⟨3, ![k, 8, 128]⟩ : Shape).size inb).idx (ix3 r a l)
      = ix3 (⟨o + r.val, lt_of_lt_of_le (Nat.add_lt_add_left r.isLt o) (inb 0)⟩ : Fin 544) a l := by
  funext ax
  refine Fin.ext ?_
  match ax with
  | ⟨0, _⟩ => show o + 1 * r.val = o + r.val; omega
  | ⟨1, _⟩ => show 0 + 1 * a.val = a.val; omega
  | ⟨2, _⟩ => show 0 + 1 * l.val = l.val; omega

/-- A load over a scratch written in its lower and upper halves reads the window. -/
theorem load_halves (o : Nat) (inb) (hi lo : FVec Ideal S256x8x128 .f32) :
    v.readAt (Elt Ideal) (Rect.unit (s := S544x8x128) ![o, 0, 0] S256x8x128.size inb).toLoadRect (v.writes (Elt Ideal) f
      [⟨Rect.unit ![288, 0, 0] S256x8x128.size inb_S544x8x128_S256x8x128_288_0_0, hi⟩, ⟨Rect.unit ![32, 0, 0] S256x8x128.size inb_S544x8x128_S256x8x128_32_0_0, lo⟩])
      = window (top (v.read (Elt Ideal) f)) lo hi o := by
  funext i
  obtain ⟨r, a, l, rfl⟩ := three (a := 256) (b := 8) (n := 128) i
  refine (congrArg _ (place o 256 inb r a l)).trans ?_
  exact read_pieces v f hi lo [] (top (v.read (Elt Ideal) f)) _ a l fun k => rfl

/-- The same where the halves hold all of the load. -/
theorem load_covered (h : FVec Ideal S32x8x128 .f32) (o : Nat) (inb) (hi lo : FVec Ideal S256x8x128 .f32) (ho : 32 ≤ o) :
    View.readCov (Val := Elt Ideal) v [⟨Rect.unit ![288, 0, 0] S256x8x128.size inb_S544x8x128_S256x8x128_288_0_0, hi⟩, ⟨Rect.unit ![32, 0, 0] S256x8x128.size inb_S544x8x128_S256x8x128_32_0_0, lo⟩]
      (Rect.unit (s := S544x8x128) ![o, 0, 0] S256x8x128.size inb).toLoadRect = window h lo hi o := by
  rw [View.readCov_eq_canon', ← View.read_writes_junk_eq_canon v]
  funext i
  obtain ⟨r, a, l, rfl⟩ := three (a := 256) (b := 8) (n := 128) i
  refine (congrArg _ (place o 256 inb r a l)).trans ?_
  exact read_pieces v v.junk hi lo [] h _ a l fun k => absurd k (by show ¬ o + r.val < 32; omega)

/-- The same with the halo written too. -/
theorem load_all (h : FVec Ideal S32x8x128 .f32) (o : Nat) (inb) (hi lo : FVec Ideal S256x8x128 .f32) :
    View.readCov (Val := Elt Ideal) v [⟨Rect.unit ![288, 0, 0] S256x8x128.size inb_S544x8x128_S256x8x128_288_0_0, hi⟩, ⟨Rect.unit ![32, 0, 0] S256x8x128.size inb_S544x8x128_S256x8x128_32_0_0, lo⟩,
      ⟨Rect.unit ![0, 0, 0] S32x8x128.size inb_S544x8x128_S32x8x128_0_0_0, h⟩]
      (Rect.unit (s := S544x8x128) ![o, 0, 0] S256x8x128.size inb).toLoadRect = window h lo hi o := by
  rw [View.readCov_eq_canon', ← View.read_writes_junk_eq_canon v]
  funext i
  obtain ⟨r, a, l, rfl⟩ := three (a := 256) (b := 8) (n := 128) i
  refine (congrArg _ (place o 256 inb r a l)).trans ?_
  exact read_pieces v v.junk hi lo _ h ⟨o + r.val, lt_of_lt_of_le (Nat.add_lt_add_left r.isLt o) (inb 0)⟩ a l fun k => read_halo v v.junk h [] _ a l k

/-- The last rows of the upper half. -/
theorem load_last (hi lo : FVec Ideal S256x8x128 .f32) (L : List (View.Piece (Elt Ideal) S544x8x128 .f32)) (n : Fin 32) (a : Fin 8) (l : Fin 128) :
    View.readCov (Val := Elt Ideal) v (⟨Rect.unit ![288, 0, 0] S256x8x128.size inb_S544x8x128_S256x8x128_288_0_0, hi⟩ :: ⟨Rect.unit ![32, 0, 0] S256x8x128.size inb_S544x8x128_S256x8x128_32_0_0, lo⟩ :: L)
      (Rect.unit (s := S544x8x128) ![512, 0, 0] S32x8x128.size inb_S544x8x128_S32x8x128_512_0_0).toLoadRect (ix3 n a l) = hi (ix3 ⟨224 + n.val, by omega⟩ a l) := by
  rw [View.readCov_eq_canon', ← View.read_writes_junk_eq_canon v]
  refine (congrArg _ (place 512 32 inb_S544x8x128_S32x8x128_512_0_0 n a l)).trans ?_
  refine (read_pieces v v.junk hi lo L (fun _ => 0) (⟨512 + n.val, by omega⟩ : Fin 544) a l fun k => absurd k (by show ¬ 512 + n.val < 32; omega)).trans ?_
  unfold content
  rw [dif_neg (by show ¬ 512 + n.val < 32; omega), dif_neg (by show ¬ 512 + n.val < 288; omega), dif_pos (by show 512 + n.val < 544; omega)]
  exact congrArg (fun t : Fin 256 => hi (ix3 t a l)) (Fin.ext (by show 512 + n.val - 288 = 224 + n.val; omega))

end Scratch

theorem window_at (h lo hi) (o : Nat) (r : Fin 256) (a : Fin 8) (l : Fin 128) : window h lo hi o (ix3 r a l) = content h lo hi (o + r.val) a l := rfl

theorem weight_place (o : Nat) (inb : ∀ a, (![o, 0, 0] : Fin 3 → Nat) a + S1x8x128.size a ≤ S31x8x128.size a) (a : Fin 8) (l : Fin 128) :
    (Rect.unit (s := S31x8x128) ![o, 0, 0] S1x8x128.size inb).idx (ix3 0 a l) = ix3 (⟨o, inb 0⟩ : Fin 31) a l := by
  funext ax
  refine Fin.ext ?_
  match ax with
  | ⟨0, _⟩ => show o + 1 * 0 = o; omega
  | ⟨1, _⟩ => show 0 + 1 * a.val = a.val; omega
  | ⟨2, _⟩ => show 0 + 1 * l.val = l.val; omega

theorem sum31 (f : Fin 31 → EReal) : ∑ j, f j = f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 := by
  simp only [Fin.sum_univ_castSucc, Finset.univ_eq_empty, Finset.sum_empty, zero_add]
  rfl

theorem conv2 (w : Fin 31 → EReal) (y : Nat → EReal) (r : Nat) : ∑ j : Fin 31, w j * y (2 + j.val + r) = w ⟨0, by decide⟩ * y (2 + r) + w ⟨1, by decide⟩ * y (3 + r) + w ⟨2, by decide⟩ * y (4 + r) + w ⟨3, by decide⟩ * y (5 + r) + w ⟨4, by decide⟩ * y (6 + r) + w ⟨5, by decide⟩ * y (7 + r) + w ⟨6, by decide⟩ * y (8 + r) + w ⟨7, by decide⟩ * y (9 + r) + w ⟨8, by decide⟩ * y (10 + r) + w ⟨9, by decide⟩ * y (11 + r) + w ⟨10, by decide⟩ * y (12 + r) + w ⟨11, by decide⟩ * y (13 + r) + w ⟨12, by decide⟩ * y (14 + r) + w ⟨13, by decide⟩ * y (15 + r) + w ⟨14, by decide⟩ * y (16 + r) + w ⟨15, by decide⟩ * y (17 + r) + w ⟨16, by decide⟩ * y (18 + r) + w ⟨17, by decide⟩ * y (19 + r) + w ⟨18, by decide⟩ * y (20 + r) + w ⟨19, by decide⟩ * y (21 + r) + w ⟨20, by decide⟩ * y (22 + r) + w ⟨21, by decide⟩ * y (23 + r) + w ⟨22, by decide⟩ * y (24 + r) + w ⟨23, by decide⟩ * y (25 + r) + w ⟨24, by decide⟩ * y (26 + r) + w ⟨25, by decide⟩ * y (27 + r) + w ⟨26, by decide⟩ * y (28 + r) + w ⟨27, by decide⟩ * y (29 + r) + w ⟨28, by decide⟩ * y (30 + r) + w ⟨29, by decide⟩ * y (31 + r) + w ⟨30, by decide⟩ * y (32 + r) :=
  sum31 _

theorem conv258 (w : Fin 31 → EReal) (y : Nat → EReal) (r : Nat) : ∑ j : Fin 31, w j * y (258 + j.val + r) = w ⟨0, by decide⟩ * y (258 + r) + w ⟨1, by decide⟩ * y (259 + r) + w ⟨2, by decide⟩ * y (260 + r) + w ⟨3, by decide⟩ * y (261 + r) + w ⟨4, by decide⟩ * y (262 + r) + w ⟨5, by decide⟩ * y (263 + r) + w ⟨6, by decide⟩ * y (264 + r) + w ⟨7, by decide⟩ * y (265 + r) + w ⟨8, by decide⟩ * y (266 + r) + w ⟨9, by decide⟩ * y (267 + r) + w ⟨10, by decide⟩ * y (268 + r) + w ⟨11, by decide⟩ * y (269 + r) + w ⟨12, by decide⟩ * y (270 + r) + w ⟨13, by decide⟩ * y (271 + r) + w ⟨14, by decide⟩ * y (272 + r) + w ⟨15, by decide⟩ * y (273 + r) + w ⟨16, by decide⟩ * y (274 + r) + w ⟨17, by decide⟩ * y (275 + r) + w ⟨18, by decide⟩ * y (276 + r) + w ⟨19, by decide⟩ * y (277 + r) + w ⟨20, by decide⟩ * y (278 + r) + w ⟨21, by decide⟩ * y (279 + r) + w ⟨22, by decide⟩ * y (280 + r) + w ⟨23, by decide⟩ * y (281 + r) + w ⟨24, by decide⟩ * y (282 + r) + w ⟨25, by decide⟩ * y (283 + r) + w ⟨26, by decide⟩ * y (284 + r) + w ⟨27, by decide⟩ * y (285 + r) + w ⟨28, by decide⟩ * y (286 + r) + w ⟨29, by decide⟩ * y (287 + r) + w ⟨30, by decide⟩ * y (288 + r) :=
  sum31 _

theorem lower_rows (x : FVec Ideal S1x512x1024 .f32) (r : Fin 256) (d : Fin 1024) :
    extractStridedSlice S256x1024 ![0, 0] (k0_pay3 x) slices_S512x1024_o0_0_S256x1024 (ix2 r d) = x (ix3 0 ⟨r.val, by omega⟩ d) := by
  unfold k0_pay3
  pointwise

theorem upper_rows (s : Fin 512) (h : ¬ s.val < 256) (x : FVec Ideal S1x512x1024 .f32) (d : Fin 1024) :
    extractStridedSlice S256x1024 ![256, 0] (k0_pay3 x) slices_S512x1024_o256_0_S256x1024 (ix2 (⟨s.val - 256, by omega⟩ : Fin 256) d) = x (ix3 0 s d) := by
  have e : ∀ r : Fin 256, extractStridedSlice S256x1024 ![256, 0] (k0_pay3 x) slices_S512x1024_o256_0_S256x1024 (ix2 r d) = x (ix3 0 ⟨256 + r.val, by omega⟩ d) := fun r => by
    unfold k0_pay3
    pointwise
  exact (e _).trans (congrArg (fun t : Fin 512 => x (ix3 0 t d)) (Fin.ext (by show 256 + (s.val - 256) = s.val; omega)))

theorem read_two {sg : RefSig} {κ : Kind} {sp : Space} (v : View sg κ sp S1x512x1024 .f32) (f : v.ty.Contents (Elt Ideal)) (p q : FVec Ideal S1x256x1024 .f32) (s : Fin 512) (d : Fin 1024) :
    v.read (Elt Ideal) (v.writes (Elt Ideal) f [⟨Rect.unit ![0, 256, 0] S1x256x1024.size inb_S1x512x1024_S1x256x1024_0_256_0, p⟩,
      ⟨Rect.unit ![0, 0, 0] S1x256x1024.size inb_S1x512x1024_S1x256x1024_0_0_0, q⟩]) (ix3 0 s d)
      = if h : s.val < 256 then q (ix3 0 ⟨s.val, h⟩ d) else p (ix3 0 ⟨s.val - 256, by omega⟩ d) := by
  by_cases h : s.val < 256
  · rw [dif_pos h]
    refine (View.read_writes_cons_unit_of_not_mem (off := ![0, 256, 0]) (off' := ![0, 256, 0]) (size := S1x256x1024.size) v f _ p _ _ rfl 1 (Or.inl (by show s.val < 256; omega))).trans ?_
    refine View.read_writes_cons_unit_of_mem (off := ![0, 0, 0]) (off' := ![0, 0, 0]) (size := S1x256x1024.size) v f _ q _ _ (ix3 (0 : Fin 1) (⟨s.val, h⟩ : Fin 256) d) rfl fun ax => ?_
    match ax with
    | ⟨0, _⟩ => rfl
    | ⟨1, _⟩ => show s.val = 0 + s.val; omega
    | ⟨2, _⟩ => show d.val = 0 + d.val; omega
  · rw [dif_neg h]
    refine View.read_writes_cons_unit_of_mem (off := ![0, 256, 0]) (off' := ![0, 256, 0]) (size := S1x256x1024.size) v f _ p _ _ (ix3 (0 : Fin 1) (⟨s.val - 256, by omega⟩ : Fin 256) d) rfl fun ax => ?_
    match ax with
    | ⟨0, _⟩ => rfl
    | ⟨1, _⟩ => show s.val = 256 + (s.val - 256); omega
    | ⟨2, _⟩ => show d.val = 0 + d.val; omega

/-- A row of the output: its taps read the rows from a first row on. -/
noncomputable def chunk (x : FVec Ideal S1x512x1024 .f32) (w : FVec Ideal S31x8x128 .f32) (o g b : FVec Ideal S1x1024 .f32) (v : FVec Ideal S1024x1024 .bf16) (q : FVec Ideal S1x1024 .f32)
    (y : Nat → Fin 8 → Fin 128 → EReal) (n : Nat) (r : Fin 256) (s : Fin 512) (d : Fin 1024) : EReal :=
  x (ix3 0 s d) + fused (fun e => (∑ j : Fin 31, w (ix3 j (tile e) (spot e)) * y (n + j.val + r.val) (tile e) (spot e)) + o (ix2 0 e))
    (fun e => g (ix2 0 e)) (fun e => b (ix2 0 e)) (fun e d => v (ix2 e d)) (fun d => q (ix2 0 d)) d

theorem outA_at (c i arg2 harg2 arg3 harg3 arg4 harg4 arg5 harg5 arg6 harg6 arg7 harg7 arg8 harg8 arg9 harg9 arg10 harg10 arg11 harg11 arg12 harg12 arg13 harg13 hc0) (x0 : FVec Ideal S1x512x1024 .f32) (x1 : FVec Ideal S1x1024 .f32) (x2 : FVec Ideal S1024x2048 .bf16) (x3 : FVec Ideal S1x2048 .f32) (x4 : FVec Ideal S31x8x128 .f32) (x5 x6 x7 : FVec Ideal S1x1024 .f32) (x8 : FVec Ideal S1024x1024 .bf16) (x9 : FVec Ideal S1x1024 .f32) (s : Fin 512) (d : Fin 1024) :
    out0_A_10 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 (ix3 0 s d) = if h : s.val < 256
      then chunk x0 x4 x5 x6 x7 x8 x9 (content (k0_pay4 (F := Ideal)) (k0_pay5 (F := Ideal) x0 x1 x2 x3) (k0_pay7 (F := Ideal) (k0_pay6 x0) x1 x2 x3)) 2 ⟨s.val, h⟩ s d
      else chunk x0 x4 x5 x6 x7 x8 x9 (content (k0_pay4 (F := Ideal)) (k0_pay5 (F := Ideal) x0 x1 x2 x3) (k0_pay7 (F := Ideal) (k0_pay6 x0) x1 x2 x3)) 258 ⟨s.val - 256, by omega⟩ s d := by
  frame_open
  simp -index only [load_all]
  simp (disch := decide) only [View.ld_unit_lit', View.readAt_eq_ld, Memref.IsWhole.read_unread]
  refine (read_two _ _ _ _ s d).trans ?_
  by_cases h : s.val < 256
  · rw [dif_pos h, dif_pos h]
    refine (congrFun (first_eq x0 _ _ _ _ _ x5 x6 x7 x8 x9) _).trans ?_
    refine (ValueIdx.shapeCast_ab_1ab_apply _ _ 0 (⟨s.val, h⟩ : Fin 256) d).trans ?_
    refine (outward_at _ _ _ _ _ _ _ d).trans ?_
    simp only [flat_at, more_at, tap8_at, tap9_at, tap10_at, tap11_at, tap12_at, tap13_at, tap14_at, tap15_at, tap16_at, tap17_at, tap18_at, tap24_at, tap25_at, tap26_at, tap27_at, tap28_at, tap29_at, tap30_at, tap31_at, tap32_at, tap33_at, tap34_at, window_at, View.ld, lower_rows]
    simp -index only [weight_place]
    refine congrArg₂ _ rfl ?_
    refine congrArg (fun v => fused v _ _ _ _ d) (funext fun e => ?_)
    refine congrArg (· + _) ?_
    exact (conv2 (fun j => x4 (ix3 j (tile e) (spot e))) (fun n => content (k0_pay4 (F := Ideal)) (k0_pay5 (F := Ideal) x0 x1 x2 x3) (k0_pay7 (F := Ideal) (k0_pay6 x0) x1 x2 x3) n (tile e) (spot e)) s.val).symm
  · rw [dif_neg h, dif_neg h]
    refine (congrFun (second_eq x0 _ _ _ x5 x6 x7 x8 x9) _).trans ?_
    refine (ValueIdx.shapeCast_ab_1ab_apply _ _ 0 (⟨s.val - 256, by omega⟩ : Fin 256) d).trans ?_
    refine (outward_at _ _ _ _ _ _ _ d).trans ?_
    simp only [flat_at, more_at, tap8_at, tap9_at, tap10_at, tap11_at, tap12_at, tap13_at, tap14_at, tap15_at, tap16_at, tap17_at, tap18_at, tap24_at, tap25_at, tap26_at, tap27_at, tap28_at, tap29_at, tap30_at, tap31_at, tap32_at, tap33_at, tap34_at, window_at, View.ld, upper_rows s h]
    simp -index only [weight_place]
    refine congrArg₂ _ rfl ?_
    refine congrArg (fun v => fused v _ _ _ _ d) (funext fun e => ?_)
    refine congrArg (· + _) ?_
    exact (conv258 (fun j => x4 (ix3 j (tile e) (spot e))) (fun n => content (k0_pay4 (F := Ideal)) (k0_pay5 (F := Ideal) x0 x1 x2 x3) (k0_pay7 (F := Ideal) (k0_pay6 x0) x1 x2 x3) n (tile e) (spot e)) (s.val - 256)).symm

theorem outB_at (c i arg2 harg2 arg3 harg3 arg4 harg4 arg5 harg5 arg6 harg6 arg7 harg7 arg8 harg8 arg9 harg9 arg10 harg10 arg11 harg11 arg12 harg12 arg13 harg13 hc0) (x0 : FVec Ideal S1x512x1024 .f32) (x1 : FVec Ideal S1x1024 .f32) (x2 : FVec Ideal S1024x2048 .bf16) (x3 : FVec Ideal S1x2048 .f32) (x4 : FVec Ideal S31x8x128 .f32) (x5 x6 x7 : FVec Ideal S1x1024 .f32) (x8 : FVec Ideal S1024x1024 .bf16) (x9 : FVec Ideal S1x1024 .f32) (xs0 : FVec Ideal S544x8x128 .f32) (s : Fin 512) (d : Fin 1024) :
    out0_B_10 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0 (ix3 0 s d) = if h : s.val < 256
      then chunk x0 x4 x5 x6 x7 x8 x9 (content (top xs0) (k0_pay5 (F := Ideal) x0 x1 x2 x3) (k0_pay7 (F := Ideal) (k0_pay6 x0) x1 x2 x3)) 2 ⟨s.val, h⟩ s d
      else chunk x0 x4 x5 x6 x7 x8 x9 (content (top xs0) (k0_pay5 (F := Ideal) x0 x1 x2 x3) (k0_pay7 (F := Ideal) (k0_pay6 x0) x1 x2 x3)) 258 ⟨s.val - 256, by omega⟩ s d := by
  frame_open
  simp -index only [load_halves, Memref.IsWhole.read_unread]
  simp (disch := decide) only [load_covered _ (top xs0)]
  simp (disch := decide) only [View.ld_unit_lit', View.readAt_eq_ld, Memref.IsWhole.read_unread]
  refine (read_two _ _ _ _ s d).trans ?_
  by_cases h : s.val < 256
  · rw [dif_pos h, dif_pos h]
    refine (congrFun (first_eq x0 _ _ _ _ _ x5 x6 x7 x8 x9) _).trans ?_
    refine (ValueIdx.shapeCast_ab_1ab_apply _ _ 0 (⟨s.val, h⟩ : Fin 256) d).trans ?_
    refine (outward_at _ _ _ _ _ _ _ d).trans ?_
    simp only [flat_at, more_at, tap8_at, tap9_at, tap10_at, tap11_at, tap12_at, tap13_at, tap14_at, tap15_at, tap16_at, tap17_at, tap18_at, tap24_at, tap25_at, tap26_at, tap27_at, tap28_at, tap29_at, tap30_at, tap31_at, tap32_at, tap33_at, tap34_at, window_at, View.ld, lower_rows]
    simp -index only [weight_place]
    refine congrArg₂ _ rfl ?_
    refine congrArg (fun v => fused v _ _ _ _ d) (funext fun e => ?_)
    refine congrArg (· + _) ?_
    exact (conv2 (fun j => x4 (ix3 j (tile e) (spot e))) (fun n => content (top xs0) (k0_pay5 (F := Ideal) x0 x1 x2 x3) (k0_pay7 (F := Ideal) (k0_pay6 x0) x1 x2 x3) n (tile e) (spot e)) s.val).symm
  · rw [dif_neg h, dif_neg h]
    refine (congrFun (second_eq x0 _ _ _ x5 x6 x7 x8 x9) _).trans ?_
    refine (ValueIdx.shapeCast_ab_1ab_apply _ _ 0 (⟨s.val - 256, by omega⟩ : Fin 256) d).trans ?_
    refine (outward_at _ _ _ _ _ _ _ d).trans ?_
    simp only [flat_at, more_at, tap8_at, tap9_at, tap10_at, tap11_at, tap12_at, tap13_at, tap14_at, tap15_at, tap16_at, tap17_at, tap18_at, tap24_at, tap25_at, tap26_at, tap27_at, tap28_at, tap29_at, tap30_at, tap31_at, tap32_at, tap33_at, tap34_at, window_at, View.ld, upper_rows s h]
    simp -index only [weight_place]
    refine congrArg₂ _ rfl ?_
    refine congrArg (fun v => fused v _ _ _ _ d) (funext fun e => ?_)
    refine congrArg (· + _) ?_
    exact (conv258 (fun j => x4 (ix3 j (tile e) (spot e))) (fun n => content (top xs0) (k0_pay5 (F := Ideal) x0 x1 x2 x3) (k0_pay7 (F := Ideal) (k0_pay6 x0) x1 x2 x3) n (tile e) (spot e)) (s.val - 256)).symm

theorem leftA_at (c i arg2 harg2 arg3 harg3 arg4 harg4 arg5 harg5 arg6 harg6 arg7 harg7 arg8 harg8 arg9 harg9 arg10 harg10 arg11 harg11 arg12 harg12 arg13 harg13 hc0) (x0 : FVec Ideal S1x512x1024 .f32) (x1 : FVec Ideal S1x1024 .f32) (x2 : FVec Ideal S1024x2048 .bf16) (x3 : FVec Ideal S1x2048 .f32) (x4 : FVec Ideal S31x8x128 .f32) (x5 x6 x7 : FVec Ideal S1x1024 .f32) (x8 : FVec Ideal S1024x1024 .bf16) (x9 : FVec Ideal S1x1024 .f32) (n : Fin 32) (a : Fin 8) (l : Fin 128) :
    sout0_A_0 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 (ix3 ⟨n.val, by omega⟩ a l) = k0_pay7 (F := Ideal) (k0_pay6 x0) x1 x2 x3 (ix3 ⟨224 + n.val, by omega⟩ a l) := by
  frame_open
  simp (disch := decide) only [View.ld_unit_lit', View.readAt_eq_ld, Memref.IsWhole.read_unread]
  refine (read_halo _ _ _ _ (⟨n.val, by omega⟩ : Fin 544) a l n.isLt).trans ?_
  unfold k0_pay2
  simp only [shapeCast_self]
  exact load_last _ _ _ _ n a l

theorem leftB_at (c i arg2 harg2 arg3 harg3 arg4 harg4 arg5 harg5 arg6 harg6 arg7 harg7 arg8 harg8 arg9 harg9 arg10 harg10 arg11 harg11 arg12 harg12 arg13 harg13 hc0) (x0 : FVec Ideal S1x512x1024 .f32) (x1 : FVec Ideal S1x1024 .f32) (x2 : FVec Ideal S1024x2048 .bf16) (x3 : FVec Ideal S1x2048 .f32) (x4 : FVec Ideal S31x8x128 .f32) (x5 x6 x7 : FVec Ideal S1x1024 .f32) (x8 : FVec Ideal S1024x1024 .bf16) (x9 : FVec Ideal S1x1024 .f32) (xs0 : FVec Ideal S544x8x128 .f32) (n : Fin 32) (a : Fin 8) (l : Fin 128) :
    sout0_B_0 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0 (ix3 ⟨n.val, by omega⟩ a l) = k0_pay7 (F := Ideal) (k0_pay6 x0) x1 x2 x3 (ix3 ⟨224 + n.val, by omega⟩ a l) := by
  frame_open
  simp (disch := decide) only [View.ld_unit_lit', View.readAt_eq_ld, Memref.IsWhole.read_unread]
  refine (read_halo _ _ _ _ (⟨n.val, by omega⟩ : Fin 544) a l n.isLt).trans ?_
  unfold k0_pay2
  simp only [shapeCast_self]
  exact load_last _ _ _ _ n a l

variable (m : (ℓ : Loc nD τ sig) → Buf (Elt Ideal) ℓ) (c : Dev nD)

/-- The argument arrays. -/
noncomputable abbrev aX : FVec Ideal S32x2048x1024 .f32 := m ((c.tc : Thread nD τ).loc main_arg0)
noncomputable abbrev aG : FVec Ideal S1024 .f32 := m ((c.tc : Thread nD τ).loc main_arg1)
noncomputable abbrev aI : FVec Ideal S1024x2048 .f32 := m ((c.tc : Thread nD τ).loc main_arg2)
noncomputable abbrev aJ : FVec Ideal S2048 .f32 := m ((c.tc : Thread nD τ).loc main_arg3)
noncomputable abbrev aW : FVec Ideal S31x1024 .f32 := m ((c.tc : Thread nD τ).loc main_arg4)
noncomputable abbrev aB : FVec Ideal S1024 .f32 := m ((c.tc : Thread nD τ).loc main_arg5)
noncomputable abbrev aL : FVec Ideal S1024 .f32 := m ((c.tc : Thread nD τ).loc main_arg6)
noncomputable abbrev aM : FVec Ideal S1024 .f32 := m ((c.tc : Thread nD τ).loc main_arg7)
noncomputable abbrev aO : FVec Ideal S1024x1024 .f32 := m ((c.tc : Thread nD τ).loc main_arg8)
noncomputable abbrev aP : FVec Ideal S1024 .f32 := m ((c.tc : Thread nD τ).loc main_arg9)

theorem idx : ∀ t : Fin cfg0.N, win0_0.index t = ![(grid0.coords t 0).val, (grid0.coords t 1).val, 0]
    ∧ win0_1.index t = ![0, 0] ∧ win0_2.index t = ![0, 0] ∧ win0_3.index t = ![0, 0] ∧ win0_4.index t = ![0, 0, 0] ∧ win0_5.index t = ![0, 0]
    ∧ win0_6.index t = ![0, 0] ∧ win0_7.index t = ![0, 0] ∧ win0_8.index t = ![0, 0] ∧ win0_9.index t = ![0, 0]
    ∧ win0_10.index t = ![(grid0.coords t 0).val, (grid0.coords t 1).val, 0] :=
  (by decide +kernel : ∀ t : Fin grid0.N, _)

/-- An instance's batch and its quarter of the tokens. -/
def batch (t : Fin cfg0.N) : Fin 32 := grid0.coords t 0
def quarter (t : Fin cfg0.N) : Fin 4 := grid0.coords t 1

theorem order : ∀ t : Fin cfg0.N, t.val = 4 * (batch t).val + (quarter t).val :=
  (by decide +kernel : ∀ t : Fin grid0.N, t.val = 4 * (grid0.coords t 0).val + (grid0.coords t 1).val)

/-- What the host lines before the launch put into the call's operands. -/
theorem entry_g : V m c main_v0 = (shapeCast S1x1024 (aG m c) shapeCasts_S1024_S1x1024 : FVec Ideal S1x1024 .f32) := by
  unfold V
  simp only [hostOps0]
  after_results
  rfl

theorem entry_i : V m c main_v1 = (truncf .bf16 (aI m c) bitsLt_bf16_f32 : FVec Ideal S1024x2048 .bf16) := by
  unfold V
  simp only [hostOps0]
  after_results

theorem entry_j : V m c main_v2 = (shapeCast S1x2048 (aJ m c) shapeCasts_S2048_S1x2048 : FVec Ideal S1x2048 .f32) := by
  unfold V
  simp only [hostOps0]
  after_results
  rfl

theorem entry_b : V m c main_v3 = (shapeCast S1x1024 (aB m c) shapeCasts_S1024_S1x1024 : FVec Ideal S1x1024 .f32) := by
  unfold V
  simp only [hostOps0]
  after_results
  rfl

theorem entry_l : V m c main_v4 = (shapeCast S1x1024 (aL m c) shapeCasts_S1024_S1x1024 : FVec Ideal S1x1024 .f32) := by
  unfold V
  simp only [hostOps0]
  after_results
  rfl

theorem entry_m : V m c main_v5 = (shapeCast S1x1024 (aM m c) shapeCasts_S1024_S1x1024 : FVec Ideal S1x1024 .f32) := by
  unfold V
  simp only [hostOps0]
  after_results
  rfl

theorem entry_o : V m c main_v6 = (truncf .bf16 (aO m c) bitsLt_bf16_f32 : FVec Ideal S1024x1024 .bf16) := by
  unfold V
  simp only [hostOps0]
  after_results

theorem entry_p : V m c main_v7 = (shapeCast S1x1024 (aP m c) shapeCasts_S1024_S1x1024 : FVec Ideal S1x1024 .f32) := by
  unfold V
  simp only [hostOps0]
  after_results
  rfl

theorem entry_w : V m c main_v8 = (shapeCast S31x8x128 (aW m c) shapeCasts_S31x1024_S31x8x128 : FVec Ideal S31x8x128 .f32) := by
  unfold V
  simp only [hostOps0]
  after_results
  rfl

theorem line_at (x : FVec Ideal S1024 .f32) (e : Fin 1024) : (shapeCast S1x1024 x shapeCasts_S1024_S1x1024 : FVec Ideal S1x1024 .f32) (ix2 0 e) = x (ix1 e) := by
  pointwise

theorem j_at (e : Fin 2048) : (V m c main_v2 : FVec Ideal S1x2048 .f32) (ix2 0 e) = aJ m c (ix1 e) := by
  rw [entry_j]
  pointwise

theorem w_at (j : Fin 31) (a : Fin 8) (l : Fin 128) : (V m c main_v8 : FVec Ideal S31x8x128 .f32) (ix3 j a l) = aW m c (ix2 j (lane a l)) := by
  rw [entry_w]
  unfold lane
  pointwise

theorem i_at (i) : (V m c main_v1 : FVec Ideal S1024x2048 .bf16) i = aI m c i := by
  rw [entry_i]
  rfl

theorem o_at (i) : (V m c main_v6 : FVec Ideal S1024x1024 .bf16) i = aO m c i := by
  rw [entry_o]
  rfl

/-- The blocks of an instance. -/
noncomputable abbrev bX (t : Fin cfg0.N) : FVec Ideal S1x512x1024 .f32 := iblk m c 0 t
noncomputable abbrev bG (t : Fin cfg0.N) : FVec Ideal S1x1024 .f32 := iblk m c 1 t
noncomputable abbrev bI (t : Fin cfg0.N) : FVec Ideal S1024x2048 .bf16 := iblk m c 2 t
noncomputable abbrev bJ (t : Fin cfg0.N) : FVec Ideal S1x2048 .f32 := iblk m c 3 t
noncomputable abbrev bW (t : Fin cfg0.N) : FVec Ideal S31x8x128 .f32 := iblk m c 4 t
noncomputable abbrev bB (t : Fin cfg0.N) : FVec Ideal S1x1024 .f32 := iblk m c 5 t
noncomputable abbrev bL (t : Fin cfg0.N) : FVec Ideal S1x1024 .f32 := iblk m c 6 t
noncomputable abbrev bM (t : Fin cfg0.N) : FVec Ideal S1x1024 .f32 := iblk m c 7 t
noncomputable abbrev bO (t : Fin cfg0.N) : FVec Ideal S1024x1024 .bf16 := iblk m c 8 t
noncomputable abbrev bP (t : Fin cfg0.N) : FVec Ideal S1x1024 .f32 := iblk m c 9 t

theorem bX_at (t : Fin cfg0.N) (r : Fin 512) (e : Fin 1024) (s : Fin 2048) (hs : s.val = 512 * (quarter t).val + r) :
    bX m c t (ix3 0 r e) = aX m c (ix3 (batch t) s e) := by
  have hs : s.val = 512 * (grid0.coords t 1).val + r := hs
  unfold batch
  blk_ext [iblk, V, idx t]

theorem bG_at (t : Fin cfg0.N) (e : Fin 1024) : bG m c t (ix2 0 e) = aG m c (ix1 e) := by
  refine Eq.trans ?_ ((congrFun (entry_g m c) _).trans (line_at _ e))
  blk_ext [iblk, V, idx t]

theorem bI_at (t : Fin cfg0.N) (i : Fin 1024) (j : Fin 2048) : bI m c t (ix2 i j) = aI m c (ix2 i j) := by
  refine Eq.trans ?_ (i_at m c _)
  blk_ext [iblk, V, idx t]

theorem bJ_at (t : Fin cfg0.N) (e : Fin 2048) : bJ m c t (ix2 0 e) = aJ m c (ix1 e) := by
  refine Eq.trans ?_ (j_at m c e)
  blk_ext [iblk, V, idx t]

theorem bW_at (t : Fin cfg0.N) (j : Fin 31) (a : Fin 8) (l : Fin 128) : bW m c t (ix3 j a l) = aW m c (ix2 j (lane a l)) := by
  refine Eq.trans ?_ (w_at m c j a l)
  blk_ext [iblk, V, idx t]

theorem bB_at (t : Fin cfg0.N) (e : Fin 1024) : bB m c t (ix2 0 e) = aB m c (ix1 e) := by
  refine Eq.trans ?_ ((congrFun (entry_b m c) _).trans (line_at _ e))
  blk_ext [iblk, V, idx t]

theorem bL_at (t : Fin cfg0.N) (e : Fin 1024) : bL m c t (ix2 0 e) = aL m c (ix1 e) := by
  refine Eq.trans ?_ ((congrFun (entry_l m c) _).trans (line_at _ e))
  blk_ext [iblk, V, idx t]

theorem bM_at (t : Fin cfg0.N) (e : Fin 1024) : bM m c t (ix2 0 e) = aM m c (ix1 e) := by
  refine Eq.trans ?_ ((congrFun (entry_m m c) _).trans (line_at _ e))
  blk_ext [iblk, V, idx t]

theorem bO_at (t : Fin cfg0.N) (i j : Fin 1024) : bO m c t (ix2 i j) = aO m c (ix2 i j) := by
  refine Eq.trans ?_ (o_at m c _)
  blk_ext [iblk, V, idx t]

theorem bP_at (t : Fin cfg0.N) (e : Fin 1024) : bP m c t (ix2 0 e) = aP m c (ix1 e) := by
  refine Eq.trans ?_ ((congrFun (entry_p m c) _).trans (line_at _ e))
  blk_ext [iblk, V, idx t]

/-- A batch's gated projections, row by row. -/
noncomputable def glue (b : Fin 32) (s : Fin 2048) : Fin 1024 → EReal :=
  glued (fun e => aX m c (ix3 b s e)) (fun e => aG m c (ix1 e)) (fun e j => aI m c (ix2 e j)) (fun j => aJ m c (ix1 j))

noncomputable abbrev loT (t : Fin cfg0.N) : FVec Ideal S256x8x128 .f32 := k0_pay5 (F := Ideal) (bX m c t) (bG m c t) (bI m c t) (bJ m c t)
noncomputable abbrev hiT (t : Fin cfg0.N) : FVec Ideal S256x8x128 .f32 := k0_pay7 (F := Ideal) (k0_pay6 (bX m c t)) (bG m c t) (bI m c t) (bJ m c t)

theorem loT_at (t : Fin cfg0.N) (r : Fin 256) (a : Fin 8) (l : Fin 128) (s : Fin 2048) (hs : s.val = 512 * (quarter t).val + r.val) :
    loT m c t (ix3 r a l) = glue m c (batch t) s (lane a l) := by
  refine (lower_at _ _ _ _ r a l).trans ?_
  unfold glue
  rw [funext (bG_at m c t), funext (bJ_at m c t), funext fun i => funext (bI_at m c t i), funext fun e => bX_at m c t ⟨r.val, by omega⟩ e s hs]

theorem hiT_at (t : Fin cfg0.N) (r : Fin 256) (a : Fin 8) (l : Fin 128) (s : Fin 2048) (hs : s.val = 512 * (quarter t).val + 256 + r.val) :
    hiT m c t (ix3 r a l) = glue m c (batch t) s (lane a l) := by
  refine (upper_at _ _ _ _ r a l).trans ?_
  unfold glue
  rw [funext (bG_at m c t), funext (bJ_at m c t), funext fun i => funext (bI_at m c t i), funext fun e => bX_at m c t ⟨256 + r.val, by omega⟩ e s (by show s.val = _ + (256 + r.val); omega)]

theorem fst_of {α β : Type} {p : α × β} {a : α} {b : β} (h : p = (a, b)) : p.1 = a := congrArg Prod.fst h
theorem snd_of {α β : Type} {p : α × β} {a : α} {b : β} (h : p = (a, b)) : p.2 = b := congrArg Prod.snd h

/-- What an instance leaves in the scratch for the next: its last 32 rows. -/
theorem left_at (t : Fin cfg0.N) (n : Fin 32) (a : Fin 8) (l : Fin 128) (s : Fin 2048) (hs : s.val = 512 * (quarter t).val + 480 + n.val) :
    (outsAt0 m c t.val t.isLt).2 (ix3 (⟨n.val, by omega⟩ : Fin 544) a l) = glue m c (batch t) s (lane a l) := by
  refine Eq.trans ?_ (hiT_at m c t ⟨224 + n.val, by omega⟩ a l s (by show s.val = _ + (224 + n.val); omega))
  by_cases h0 : t.val % 4 = 0
  · refine (congrFun (snd_of (outsAt0_A m c t h0)) _).trans ?_
    exact leftA_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) n a l
  · refine (congrFun (snd_of (outsAt0_B m c t h0)) _).trans ?_
    exact leftB_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2 n a l

/-- The scratch's rows from its second on are the batch's, put off by 30, if the halo's are. -/
theorem content_at (t : Fin cfg0.N) (h : FVec Ideal S32x8x128 .f32)
    (hh : ∀ (n : Fin 32) (a : Fin 8) (l : Fin 128), 2 ≤ n.val → h (ix3 n a l) = delayed (glue m c (batch t)) (512 * (quarter t).val + n.val - 2) (lane a l))
    (k : Nat) (hk : k < 542) (a : Fin 8) (l : Fin 128) :
    content h (loT m c t) (hiT m c t) (2 + k) a l = delayed (glue m c (batch t)) (512 * (quarter t).val + k) (lane a l) := by
  have hq := (quarter t).isLt
  unfold content
  by_cases h1 : 2 + k < 32
  · rw [dif_pos h1, hh _ a l (by show 2 ≤ 2 + k; omega)]
    exact congrArg (fun n => delayed _ n _) (by show 512 * (quarter t).val + (2 + k) - 2 = _; omega)
  · have hd : 30 ≤ 512 * (quarter t).val + k ∧ 512 * (quarter t).val + k - 30 < 2048 := by omega
    rw [dif_neg h1]
    unfold delayed
    rw [dif_pos hd]
    by_cases h2 : 2 + k < 288
    · rw [dif_pos h2]
      exact loT_at m c t _ a l _ (by show 512 * (quarter t).val + k - 30 = _ + (2 + k - 32); omega)
    · have h3 : 2 + k < 544 := by omega
      rw [dif_neg h2, dif_pos h3]
      exact hiT_at m c t _ a l _ (by show 512 * (quarter t).val + k - 30 = _ + 256 + (2 + k - 288); omega)

/-- The halo of a batch's first quarter, and of the others. -/
theorem haloA (t : Fin cfg0.N) (h0 : t.val % 4 = 0) (n : Fin 32) (a : Fin 8) (l : Fin 128) (_ : 2 ≤ n.val) :
    k0_pay4 (F := Ideal) (ix3 n a l) = delayed (glue m c (batch t)) (512 * (quarter t).val + n.val - 2) (lane a l) := by
  have hq := (quarter t).isLt
  have ht := order t
  unfold delayed
  rw [dif_neg (by omega)]
  unfold k0_pay4
  simp only [shapeCast_self]
  pointwise

theorem haloB (t : Fin cfg0.N) (h0 : ¬ t.val % 4 = 0) (n : Fin 32) (a : Fin 8) (l : Fin 128) (h2 : 2 ≤ n.val) :
    top (outsAt0 m c (t.val - 1) (Nat.lt_of_le_of_lt (Nat.sub_le _ _) t.isLt)).2 (ix3 n a l) = delayed (glue m c (batch t)) (512 * (quarter t).val + n.val - 2) (lane a l) := by
  have hq := (quarter t).isLt
  have ht := order t
  have hp := order ⟨t.val - 1, Nat.lt_of_le_of_lt (Nat.sub_le _ _) t.isLt⟩
  have hp' : t.val - 1 = 4 * (batch ⟨t.val - 1, Nat.lt_of_le_of_lt (Nat.sub_le _ _) t.isLt⟩).val + (quarter ⟨t.val - 1, Nat.lt_of_le_of_lt (Nat.sub_le _ _) t.isLt⟩).val := hp
  have hq' := (quarter ⟨t.val - 1, Nat.lt_of_le_of_lt (Nat.sub_le _ _) t.isLt⟩).isLt
  have eb : batch ⟨t.val - 1, Nat.lt_of_le_of_lt (Nat.sub_le _ _) t.isLt⟩ = batch t := Fin.ext (by omega)
  unfold delayed
  rw [dif_pos (by omega), ← eb]
  exact left_at m c ⟨t.val - 1, Nat.lt_of_le_of_lt (Nat.sub_le _ _) t.isLt⟩ n a l _ (by show 512 * (quarter t).val + n.val - 2 - 30 = _; omega)

/-- The module's value on the argument arrays. -/
noncomputable def result (b : Fin 32) (s : Fin 2048) (d : Fin 1024) : EReal :=
  rolled (fun s e => aX m c (ix3 b s e)) (fun e => aG m c (ix1 e)) (fun e j => aI m c (ix2 e j)) (fun j => aJ m c (ix1 j)) (fun j e => aW m c (ix2 j e))
    (fun e => aB m c (ix1 e)) (fun e => aL m c (ix1 e)) (fun e => aM m c (ix1 e)) (fun e d => aO m c (ix2 e d)) (fun d => aP m c (ix1 d)) s d

theorem chunk_at (t : Fin cfg0.N) (h : FVec Ideal S32x8x128 .f32)
    (hh : ∀ (n : Fin 32) (a : Fin 8) (l : Fin 128), 2 ≤ n.val → h (ix3 n a l) = delayed (glue m c (batch t)) (512 * (quarter t).val + n.val - 2) (lane a l))
    (n : Nat) (r : Fin 256) (s : Fin 512) (d : Fin 1024) (hn : n + r.val = 2 + s.val) (p : Fin 2048) (hp : p.val = 512 * (quarter t).val + s.val) :
    chunk (bX m c t) (bW m c t) (bB m c t) (bL m c t) (bM m c t) (bO m c t) (bP m c t) (content h (loT m c t) (hiT m c t)) n r s d = result m c (batch t) p d := by
  unfold chunk result rolled
  have es : ∀ (j : Fin 31) (e : Fin 1024), bW m c t (ix3 j (tile e) (spot e)) * content h (loT m c t) (hiT m c t) (n + j.val + r.val) (tile e) (spot e)
      = aW m c (ix2 j e) * delayed (glue m c (batch t)) (p.val + j.val) e := fun j e => by
    have en : n + j.val + r.val = 2 + (s.val + j.val) := by omega
    rw [en, content_at m c t h hh _ (by omega), bW_at, lane_tile]
    exact congrArg (fun n => _ * delayed _ n _) (by omega)
  simp only [es, bB_at]
  rw [bX_at m c t s d p hp, funext (bL_at m c t), funext (bM_at m c t), funext fun i => funext (bO_at m c t i), funext (bP_at m c t)]
  rfl

theorem point (t : Fin cfg0.N) (s : Fin 512) (d : Fin 1024) (p : Fin 2048) (hp : p.val = 512 * (quarter t).val + s.val) :
    (outsAt0 m c t.val t.isLt).1 (ix3 0 s d) = result m c (batch t) p d := by
  by_cases h0 : t.val % 4 = 0
  · refine (congrFun (fst_of (outsAt0_A m c t h0)) _).trans ?_
    refine (outA_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) s d).trans ?_
    by_cases h : s.val < 256
    · rw [dif_pos h]
      exact chunk_at m c t _ (haloA m c t h0) _ _ s d (by show 2 + s.val = _; omega) p hp
    · rw [dif_neg h]
      exact chunk_at m c t _ (haloA m c t h0) _ _ s d (by show 258 + (s.val - 256) = _; omega) p hp
  · refine (congrFun (fst_of (outsAt0_B m c t h0)) _).trans ?_
    refine (outB_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2 s d).trans ?_
    by_cases h : s.val < 256
    · rw [dif_pos h]
      exact chunk_at m c t _ (haloB m c t h0) _ _ s d (by show 2 + s.val = _; omega) p hp
    · rw [dif_neg h]
      exact chunk_at m c t _ (haloB m c t h0) _ _ s d (by show 258 + (s.val - 256) = _; omega) p hp

theorem final : (dats m 0 c).arrAt 10 (cfgs 0).N = fun i => result m c (i 0) (i 1) (i 2) := by
  refine (dats m 0 c).arrAt_eq_of_covers 10 _ (by decide +kernel) fun t _ y => ?_
  blk_simp
  rw [after0_10]
  obtain ⟨y0, s, d, rfl⟩ := three (a := 1) (b := 512) (n := 1024) y
  obtain rfl : y0 = 0 := Subsingleton.elim _ _
  refine (point m c t s d ((win0_10.blk t).view.emb (ix3 0 s d) 1) ?_).trans ?_
  · unfold quarter
    blk_simp [idx t]
    omega
  · unfold batch
    have h0 : (win0_10.blk t).view.emb (ix3 0 s d) 0 = grid0.coords t 0 := by
      apply Fin.ext
      blk_simp [idx t]
      exact Nat.add_zero _
    have h1 : (win0_10.blk t).view.emb (ix3 0 s d) 2 = d := by
      apply Fin.ext
      blk_simp [idx t]
    rw [h0, h1]

end Cert.Layer.Conv
-- ==== Proof.Layer.ConvRef.lean ====
/-
  The reference's convolution module, row by row.
-/
module

public import Idealize.ShloMosaic.Lib.Pipeline.ValueKit
public import Idealize.ShloMosaic.Lib.KernelVsHost
public import proofs.«01_k».proof.Proof.Gen.ConvRefIdeal.Run
public import proofs.«01_k».proof.Proof.Layer.ConvBody

@[expose] public section
set_option maxRecDepth 16384

namespace Cert.Layer.ConvRef
open Idealize.ShloMosaic Cert.Fox Cert.Layer Cert.ConvRefIdeal Cert.ConvRefIdeal.Gen Cert.ConvRefIdeal.Value

/-- A tensor's rows. -/
noncomputable abbrev row (x : FVec Ideal S32x2048x1024 .f32) (b : Fin 32) (s : Fin 2048) : Fin 1024 → EReal := fun e => x (ix3 b s e)

/-- A row scaled to unit mean square, without a gain. -/
noncomputable def level (x : FVec Ideal S32x2048x1024 .f32) : FVec Ideal S32x2048x1024 .f32 :=
  mulf x (broadcastInDim S32x2048x1024 ![0, 1, 2] bcast_S32x2048x1_S32x2048x1024_0_1_2 (Host.rsqrt (addf (Host.divf
    (broadcastInDim S32x2048x1 ![0, 1] bcast_S32x2048_S32x2048x1_0_1 (Host.reduceAdd (mulf x x) (constant S_ .f32 0x00000000#32) reducesTo_S32x2048x1024_S32x2048_d2 h_S_))
    (broadcastInDim S32x2048x1 ![] bcast_S_S32x2048x1 (constant S_ .f32 0x44800000#32))) (broadcastInDim S32x2048x1 ![] bcast_S_S32x2048x1 (constant S_ .f32 0x358637BD#32)))))

theorem level_at (x) (b : Fin 32) (s : Fin 2048) (e : Fin 1024) : level x (ix3 b s e) = x (ix3 b s e) * scale (row x b s) := by
  unfold level
  pointwise
  rfl

/-- A vector on every row. -/
noncomputable def line (g : FVec Ideal S1024 .f32) : FVec Ideal S32x2048x1024 .f32 :=
  broadcastInDim S32x2048x1024 ![0, 1, 2] bcast_S1x1x1024_S32x2048x1024_0_1_2 (broadcastInDim S1x1x1024 ![2] bcast_S1024_S1x1x1024_2 g)

theorem line_at (g) (b : Fin 32) (s : Fin 2048) (e : Fin 1024) : line g (ix3 b s e) = g (ix1 e) := by
  unfold line
  pointwise

/-- The projection of the normed rows. -/
noncomputable def projected (x : FVec Ideal S32x2048x1024 .f32) (g : FVec Ideal S1024 .f32) (w : FVec Ideal S1024x2048 .f32) (b : FVec Ideal S2048 .f32) : FVec Ideal S32x2048x2048 .f32 :=
  addf (Host.dotGeneral dot_S32x2048x1024_S1024x2048_S32x2048x2048_2_0_01_1_n_n none (mulf (level x) (line g)) w)
    (broadcastInDim S32x2048x2048 ![0, 1, 2] bcast_S1x1x2048_S32x2048x2048_0_1_2 (broadcastInDim S1x1x2048 ![2] bcast_S2048_S1x1x2048_2 b))

theorem projected_at (x g w v) (b : Fin 32) (s : Fin 2048) (j : Fin 2048) : projected x g w v (ix3 b s j)
    = linear (row x b s) (fun e => g (ix1 e)) (fun e j => w (ix2 e j)) (fun j => v (ix1 j)) j := by
  unfold projected
  pointwise
  simp only [level_at, line_at]
  rfl

/-- The logistic of a tensor. -/
noncomputable def logistics (y : FVec Ideal S32x2048x1024 .f32) : FVec Ideal S32x2048x1024 .f32 :=
  Host.divf (broadcastInDim S32x2048x1024 ![] bcast_S_S32x2048x1024 (constant S_ .f32 0x3F800000#32))
    (addf (broadcastInDim S32x2048x1024 ![] bcast_S_S32x2048x1024 (constant S_ .f32 0x3F800000#32)) (Host.exp (Host.negf y)))

theorem logistics_at (y) (b : Fin 32) (s : Fin 2048) (e : Fin 1024) : logistics y (ix3 b s e) = Ideal.logistic (y (ix3 b s e)) := by
  unfold logistics Ideal.logistic
  pointwise

/-- The gated projection. -/
noncomputable def gate (p : FVec Ideal S32x2048x2048 .f32) : FVec Ideal S32x2048x1024 .f32 :=
  mulf (extractStridedSlice S32x2048x1024 ![0, 0, 0] p slices_S32x2048x2048_S32x2048x1024_0_0_0) (logistics (extractStridedSlice S32x2048x1024 ![0, 0, 1024] p slices_S32x2048x2048_S32x2048x1024_0_0_1024))

theorem gate_at (p) (b : Fin 32) (s : Fin 2048) (e : Fin 1024) : gate p (ix3 b s e) = p (ix3 b s (firstHalf e)) * Ideal.logistic (p (ix3 b s (secondHalf e))) := by
  unfold gate
  refine congrArg₂ (· * ·) ?_ ((logistics_at _ b s e).trans (congrArg Ideal.logistic ?_))
  · unfold firstHalf
    pointwise
  · unfold secondHalf
    pointwise

/-- Thirty rows of zeros before the rows. -/
noncomputable def padded (y : FVec Ideal S32x2048x1024 .f32) : FVec Ideal S32x2078x1024 .f32 :=
  pad S32x2078x1024 ![0, 30, 0] ![0, 0, 0] ![0, 0, 0] y (sitofp .f32 (constantI S_ 32 0#32)) pads_S32x2048x1024_S32x2078x1024_000_3000_000 h_S_

theorem padded_at (y) (b : Fin 32) (n : Fin 2078) (e : Fin 1024) : padded y (ix3 b n e) = delayed (row y b) n.val e := by
  unfold padded delayed
  by_cases h : 30 ≤ n.val ∧ n.val - 30 < 2048
  · rw [dif_pos h]
    refine pad_apply_of_inside _ _ _ y _ _ _ _ (ix3 b (⟨n.val - 30, h.2⟩ : Fin 2048) e) fun a => ?_
    match a with
    | ⟨0, _⟩ => show b.val = 0 + b.val * 1; omega
    | ⟨1, _⟩ => show n.val = 30 + (n.val - 30) * 1; omega
    | ⟨2, _⟩ => show e.val = 0 + e.val * 1; omega
  · rw [dif_neg h]
    refine (pad_apply_of_not_inside _ _ _ y _ _ _ _ (1 : Fin 3) fun hn => h ?_).trans ?_
    · obtain ⟨h1, h2, h3⟩ := hn
      exact ⟨h1, by omega⟩
    · show (((0#32 : BitVec 32).toInt : ℝ) : EReal) = 0
      norm_num

/-- One more tap: rows from a row of the padded rows on, weighed by a row of the weights. -/
noncomputable def tap (o : Nat) (y : FVec Ideal S32x2048x1024 .f32) (p : FVec Ideal S32x2078x1024 .f32) (w : FVec Ideal S31x1024 .f32)
    (hp : S32x2078x1024.Slices ![0, o, 0] S32x2048x1024) (hw : S31x1024.Slices ![o, 0] S1x1024) : FVec Ideal S32x2048x1024 .f32 :=
  addf y (mulf (extractStridedSlice S32x2048x1024 ![0, o, 0] p hp) (line (shapeCast S1024 (extractStridedSlice S1x1024 ![o, 0] w hw) shapeCasts_S1x1024_S1024)))

theorem tap_at (o : Nat) (y p w hp hw) (ho : o < 31) (b : Fin 32) (s : Fin 2048) (e : Fin 1024) :
    tap o y p w hp hw (ix3 b s e) = y (ix3 b s e) + w (ix2 ⟨o, ho⟩ e) * p (ix3 b ⟨s.val + o, by omega⟩ e) := by
  unfold tap
  show y (ix3 b s e) + _ * _ = _
  rw [mul_comm]
  refine congrArg (y (ix3 b s e) + ·) (congrArg₂ (· * ·) ?_ ?_)
  · refine (line_at _ b s e).trans ?_
    have h1 : ∀ z : FVec Ideal S1x1024 .f32, shapeCast S1024 z shapeCasts_S1x1024_S1024 (ix1 e) = z (ix2 0 e) := fun z => by pointwise
    refine (h1 _).trans (congrArg w (funext fun ax => Fin.ext ?_))
    match ax with
    | ⟨0, _⟩ => show o + 0 = o; omega
    | ⟨1, _⟩ => show 0 + e.val = e.val; omega
  · refine congrArg p (funext fun ax => Fin.ext ?_)
    match ax with
    | ⟨0, _⟩ => show 0 + b.val = b.val; omega
    | ⟨1, _⟩ => show o + s.val = s.val + o; omega
    | ⟨2, _⟩ => show 0 + e.val = e.val; omega

/-- The taps, ten or eleven at a time. -/
noncomputable def tapsA (y : FVec Ideal S32x2048x1024 .f32) (p : FVec Ideal S32x2078x1024 .f32) (w : FVec Ideal S31x1024 .f32) : FVec Ideal S32x2048x1024 .f32 :=
  tap 9 (tap 8 (tap 7 (tap 6 (tap 5 (tap 4 (tap 3 (tap 2 (tap 1 (tap 0 y p w slices_S32x2078x1024_S32x2048x1024_0_0_0 slices_S31x1024_S1x1024_0_0) p w slices_S32x2078x1024_S32x2048x1024_0_1_0 slices_S31x1024_S1x1024_1_0) p w slices_S32x2078x1024_S32x2048x1024_0_2_0 slices_S31x1024_S1x1024_2_0) p w slices_S32x2078x1024_S32x2048x1024_0_3_0 slices_S31x1024_S1x1024_3_0) p w slices_S32x2078x1024_S32x2048x1024_0_4_0 slices_S31x1024_S1x1024_4_0) p w slices_S32x2078x1024_S32x2048x1024_0_5_0 slices_S31x1024_S1x1024_5_0) p w slices_S32x2078x1024_S32x2048x1024_0_6_0 slices_S31x1024_S1x1024_6_0) p w slices_S32x2078x1024_S32x2048x1024_0_7_0 slices_S31x1024_S1x1024_7_0) p w slices_S32x2078x1024_S32x2048x1024_0_8_0 slices_S31x1024_S1x1024_8_0) p w slices_S32x2078x1024_S32x2048x1024_0_9_0 slices_S31x1024_S1x1024_9_0
noncomputable def tapsB (y : FVec Ideal S32x2048x1024 .f32) (p : FVec Ideal S32x2078x1024 .f32) (w : FVec Ideal S31x1024 .f32) : FVec Ideal S32x2048x1024 .f32 :=
  tap 20 (tap 19 (tap 18 (tap 17 (tap 16 (tap 15 (tap 14 (tap 13 (tap 12 (tap 11 (tap 10 y p w slices_S32x2078x1024_S32x2048x1024_0_10_0 slices_S31x1024_S1x1024_10_0) p w slices_S32x2078x1024_S32x2048x1024_0_11_0 slices_S31x1024_S1x1024_11_0) p w slices_S32x2078x1024_S32x2048x1024_0_12_0 slices_S31x1024_S1x1024_12_0) p w slices_S32x2078x1024_S32x2048x1024_0_13_0 slices_S31x1024_S1x1024_13_0) p w slices_S32x2078x1024_S32x2048x1024_0_14_0 slices_S31x1024_S1x1024_14_0) p w slices_S32x2078x1024_S32x2048x1024_0_15_0 slices_S31x1024_S1x1024_15_0) p w slices_S32x2078x1024_S32x2048x1024_0_16_0 slices_S31x1024_S1x1024_16_0) p w slices_S32x2078x1024_S32x2048x1024_0_17_0 slices_S31x1024_S1x1024_17_0) p w slices_S32x2078x1024_S32x2048x1024_0_18_0 slices_S31x1024_S1x1024_18_0) p w slices_S32x2078x1024_S32x2048x1024_0_19_0 slices_S31x1024_S1x1024_19_0) p w slices_S32x2078x1024_S32x2048x1024_0_20_0 slices_S31x1024_S1x1024_20_0
noncomputable def tapsC (y : FVec Ideal S32x2048x1024 .f32) (p : FVec Ideal S32x2078x1024 .f32) (w : FVec Ideal S31x1024 .f32) : FVec Ideal S32x2048x1024 .f32 :=
  tap 30 (tap 29 (tap 28 (tap 27 (tap 26 (tap 25 (tap 24 (tap 23 (tap 22 (tap 21 y p w slices_S32x2078x1024_S32x2048x1024_0_21_0 slices_S31x1024_S1x1024_21_0) p w slices_S32x2078x1024_S32x2048x1024_0_22_0 slices_S31x1024_S1x1024_22_0) p w slices_S32x2078x1024_S32x2048x1024_0_23_0 slices_S31x1024_S1x1024_23_0) p w slices_S32x2078x1024_S32x2048x1024_0_24_0 slices_S31x1024_S1x1024_24_0) p w slices_S32x2078x1024_S32x2048x1024_0_25_0 slices_S31x1024_S1x1024_25_0) p w slices_S32x2078x1024_S32x2048x1024_0_26_0 slices_S31x1024_S1x1024_26_0) p w slices_S32x2078x1024_S32x2048x1024_0_27_0 slices_S31x1024_S1x1024_27_0) p w slices_S32x2078x1024_S32x2048x1024_0_28_0 slices_S31x1024_S1x1024_28_0) p w slices_S32x2078x1024_S32x2048x1024_0_29_0 slices_S31x1024_S1x1024_29_0) p w slices_S32x2078x1024_S32x2048x1024_0_30_0 slices_S31x1024_S1x1024_30_0

theorem tapsA_at (y p w) (b : Fin 32) (s : Fin 2048) (e : Fin 1024) : tapsA y p w (ix3 b s e)
    = y (ix3 b s e) + w (ix2 ⟨0, by decide⟩ e) * p (ix3 b ⟨s.val + 0, by omega⟩ e) + w (ix2 ⟨1, by decide⟩ e) * p (ix3 b ⟨s.val + 1, by omega⟩ e) + w (ix2 ⟨2, by decide⟩ e) * p (ix3 b ⟨s.val + 2, by omega⟩ e) + w (ix2 ⟨3, by decide⟩ e) * p (ix3 b ⟨s.val + 3, by omega⟩ e) + w (ix2 ⟨4, by decide⟩ e) * p (ix3 b ⟨s.val + 4, by omega⟩ e) + w (ix2 ⟨5, by decide⟩ e) * p (ix3 b ⟨s.val + 5, by omega⟩ e) + w (ix2 ⟨6, by decide⟩ e) * p (ix3 b ⟨s.val + 6, by omega⟩ e) + w (ix2 ⟨7, by decide⟩ e) * p (ix3 b ⟨s.val + 7, by omega⟩ e) + w (ix2 ⟨8, by decide⟩ e) * p (ix3 b ⟨s.val + 8, by omega⟩ e) + w (ix2 ⟨9, by decide⟩ e) * p (ix3 b ⟨s.val + 9, by omega⟩ e) := by
  unfold tapsA
  rw [tap_at 9 _ _ _ _ _ (by decide), tap_at 8 _ _ _ _ _ (by decide), tap_at 7 _ _ _ _ _ (by decide), tap_at 6 _ _ _ _ _ (by decide), tap_at 5 _ _ _ _ _ (by decide), tap_at 4 _ _ _ _ _ (by decide), tap_at 3 _ _ _ _ _ (by decide), tap_at 2 _ _ _ _ _ (by decide), tap_at 1 _ _ _ _ _ (by decide), tap_at 0 _ _ _ _ _ (by decide)]

theorem tapsB_at (y p w) (b : Fin 32) (s : Fin 2048) (e : Fin 1024) : tapsB y p w (ix3 b s e)
    = y (ix3 b s e) + w (ix2 ⟨10, by decide⟩ e) * p (ix3 b ⟨s.val + 10, by omega⟩ e) + w (ix2 ⟨11, by decide⟩ e) * p (ix3 b ⟨s.val + 11, by omega⟩ e) + w (ix2 ⟨12, by decide⟩ e) * p (ix3 b ⟨s.val + 12, by omega⟩ e) + w (ix2 ⟨13, by decide⟩ e) * p (ix3 b ⟨s.val + 13, by omega⟩ e) + w (ix2 ⟨14, by decide⟩ e) * p (ix3 b ⟨s.val + 14, by omega⟩ e) + w (ix2 ⟨15, by decide⟩ e) * p (ix3 b ⟨s.val + 15, by omega⟩ e) + w (ix2 ⟨16, by decide⟩ e) * p (ix3 b ⟨s.val + 16, by omega⟩ e) + w (ix2 ⟨17, by decide⟩ e) * p (ix3 b ⟨s.val + 17, by omega⟩ e) + w (ix2 ⟨18, by decide⟩ e) * p (ix3 b ⟨s.val + 18, by omega⟩ e) + w (ix2 ⟨19, by decide⟩ e) * p (ix3 b ⟨s.val + 19, by omega⟩ e) + w (ix2 ⟨20, by decide⟩ e) * p (ix3 b ⟨s.val + 20, by omega⟩ e) := by
  unfold tapsB
  rw [tap_at 20 _ _ _ _ _ (by decide), tap_at 19 _ _ _ _ _ (by decide), tap_at 18 _ _ _ _ _ (by decide), tap_at 17 _ _ _ _ _ (by decide), tap_at 16 _ _ _ _ _ (by decide), tap_at 15 _ _ _ _ _ (by decide), tap_at 14 _ _ _ _ _ (by decide), tap_at 13 _ _ _ _ _ (by decide), tap_at 12 _ _ _ _ _ (by decide), tap_at 11 _ _ _ _ _ (by decide), tap_at 10 _ _ _ _ _ (by decide)]

theorem tapsC_at (y p w) (b : Fin 32) (s : Fin 2048) (e : Fin 1024) : tapsC y p w (ix3 b s e)
    = y (ix3 b s e) + w (ix2 ⟨21, by decide⟩ e) * p (ix3 b ⟨s.val + 21, by omega⟩ e) + w (ix2 ⟨22, by decide⟩ e) * p (ix3 b ⟨s.val + 22, by omega⟩ e) + w (ix2 ⟨23, by decide⟩ e) * p (ix3 b ⟨s.val + 23, by omega⟩ e) + w (ix2 ⟨24, by decide⟩ e) * p (ix3 b ⟨s.val + 24, by omega⟩ e) + w (ix2 ⟨25, by decide⟩ e) * p (ix3 b ⟨s.val + 25, by omega⟩ e) + w (ix2 ⟨26, by decide⟩ e) * p (ix3 b ⟨s.val + 26, by omega⟩ e) + w (ix2 ⟨27, by decide⟩ e) * p (ix3 b ⟨s.val + 27, by omega⟩ e) + w (ix2 ⟨28, by decide⟩ e) * p (ix3 b ⟨s.val + 28, by omega⟩ e) + w (ix2 ⟨29, by decide⟩ e) * p (ix3 b ⟨s.val + 29, by omega⟩ e) + w (ix2 ⟨30, by decide⟩ e) * p (ix3 b ⟨s.val + 30, by omega⟩ e) := by
  unfold tapsC
  rw [tap_at 30 _ _ _ _ _ (by decide), tap_at 29 _ _ _ _ _ (by decide), tap_at 28 _ _ _ _ _ (by decide), tap_at 27 _ _ _ _ _ (by decide), tap_at 26 _ _ _ _ _ (by decide), tap_at 25 _ _ _ _ _ (by decide), tap_at 24 _ _ _ _ _ (by decide), tap_at 23 _ _ _ _ _ (by decide), tap_at 22 _ _ _ _ _ (by decide), tap_at 21 _ _ _ _ _ (by decide)]

/-- The convolution of the padded rows, with its bias. -/
noncomputable def convolved (p : FVec Ideal S32x2078x1024 .f32) (w : FVec Ideal S31x1024 .f32) (o : FVec Ideal S1024 .f32) : FVec Ideal S32x2048x1024 .f32 :=
  addf (tapsC (tapsB (tapsA (broadcastInDim S32x2048x1024 ![] bcast_S_S32x2048x1024 (constant S_ .f32 0x00000000#32)) p w) p w) p w) (line o)

theorem nought_at (b : Fin 32) (s : Fin 2048) (e : Fin 1024) : (broadcastInDim S32x2048x1024 ![] bcast_S_S32x2048x1024 (constant S_ .f32 0x00000000#32) : FVec Ideal S32x2048x1024 .f32) (ix3 b s e) = 0 := by
  pointwise

theorem sum31 (f : Fin 31 → EReal) : ∑ j, f j = f ⟨0, by decide⟩ + f ⟨1, by decide⟩ + f ⟨2, by decide⟩ + f ⟨3, by decide⟩ + f ⟨4, by decide⟩ + f ⟨5, by decide⟩ + f ⟨6, by decide⟩ + f ⟨7, by decide⟩ + f ⟨8, by decide⟩ + f ⟨9, by decide⟩ + f ⟨10, by decide⟩ + f ⟨11, by decide⟩ + f ⟨12, by decide⟩ + f ⟨13, by decide⟩ + f ⟨14, by decide⟩ + f ⟨15, by decide⟩ + f ⟨16, by decide⟩ + f ⟨17, by decide⟩ + f ⟨18, by decide⟩ + f ⟨19, by decide⟩ + f ⟨20, by decide⟩ + f ⟨21, by decide⟩ + f ⟨22, by decide⟩ + f ⟨23, by decide⟩ + f ⟨24, by decide⟩ + f ⟨25, by decide⟩ + f ⟨26, by decide⟩ + f ⟨27, by decide⟩ + f ⟨28, by decide⟩ + f ⟨29, by decide⟩ + f ⟨30, by decide⟩ := by
  simp only [Fin.sum_univ_castSucc, Finset.univ_eq_empty, Finset.sum_empty, zero_add]
  rfl

theorem convolved_at (p w o) (b : Fin 32) (s : Fin 2048) (e : Fin 1024) : convolved p w o (ix3 b s e)
    = (∑ j : Fin 31, w (ix2 j e) * p (ix3 b ⟨s.val + j.val, by omega⟩ e)) + o (ix1 e) := by
  unfold convolved
  refine congrArg₂ (· + ·) ?_ (line_at o b s e)
  rw [tapsC_at, tapsB_at, tapsA_at, nought_at, zero_add, sum31]

/-- The rows with their means taken off. -/
noncomputable def about (y : FVec Ideal S32x2048x1024 .f32) : FVec Ideal S32x2048x1024 .f32 :=
  subf y (broadcastInDim S32x2048x1024 ![0, 1, 2] bcast_S32x2048x1_S32x2048x1024_0_1_2 (Host.divf (broadcastInDim S32x2048x1 ![0, 1] bcast_S32x2048_S32x2048x1_0_1
    (Host.reduceAdd y (constant S_ .f32 0x00000000#32) reducesTo_S32x2048x1024_S32x2048_d2 h_S_)) (broadcastInDim S32x2048x1 ![] bcast_S_S32x2048x1 (constant S_ .f32 0x44800000#32))))

theorem about_at (y) (b : Fin 32) (s : Fin 2048) (e : Fin 1024) : about y (ix3 b s e) = y (ix3 b s e) - mean (row y b s) := by
  unfold about
  pointwise
  rfl

/-- The rows normed about their means. -/
noncomputable def normal (y : FVec Ideal S32x2048x1024 .f32) (g v : FVec Ideal S1024 .f32) : FVec Ideal S32x2048x1024 .f32 :=
  addf (mulf (level (about y)) (line g)) (line v)

theorem normal_at (y g v) (b : Fin 32) (s : Fin 2048) (e : Fin 1024) : normal y g v (ix3 b s e) = centred (row y b s) (fun e => g (ix1 e)) (fun e => v (ix1 e)) e := by
  unfold normal centred
  refine congrArg₂ (· + ·) (congrArg₂ (· * ·) ((level_at _ b s e).trans ?_) (line_at g b s e)) (line_at v b s e)
  rw [about_at, show row (about y) b s = fun e => y (ix3 b s e) - mean (row y b s) from funext fun e => about_at y b s e]

/-- The module's end with its residual, from the normed rows. -/
noncomputable def ended (x y : FVec Ideal S32x2048x1024 .f32) (w : FVec Ideal S1024x1024 .f32) (q : FVec Ideal S1024 .f32) : FVec Ideal S32x2048x1024 .f32 :=
  addf x (addf (Host.dotGeneral dot_S32x2048x1024_S1024x1024_S32x2048x1024_2_0_01_1_n_n none (mulf y (logistics y)) w) (line q))

theorem ended_at (x y w q) (b : Fin 32) (s : Fin 2048) (d : Fin 1024) : ended x y w q (ix3 b s d)
    = x (ix3 b s d) + ((∑ e : Fin 1024, swish (y (ix3 b s e)) * w (ix2 e d)) + q (ix1 d)) := by
  unfold ended
  pointwise
  simp only [logistics_at, line_at]
  rfl

/-- The module with its residual. -/
noncomputable def module (x : FVec Ideal S32x2048x1024 .f32) (g : FVec Ideal S1024 .f32) (wi : FVec Ideal S1024x2048 .f32) (bi : FVec Ideal S2048 .f32) (k : FVec Ideal S31x1024 .f32)
    (o lg lb : FVec Ideal S1024 .f32) (w : FVec Ideal S1024x1024 .f32) (q : FVec Ideal S1024 .f32) : FVec Ideal S32x2048x1024 .f32 :=
  ended x (normal (convolved (padded (gate (projected x g wi bi))) k o) lg lb) w q

theorem module_at (x g wi bi k o lg lb w q) (b : Fin 32) (s : Fin 2048) (d : Fin 1024) : module x g wi bi k o lg lb w q (ix3 b s d)
    = rolled (fun s e => x (ix3 b s e)) (fun e => g (ix1 e)) (fun e j => wi (ix2 e j)) (fun j => bi (ix1 j)) (fun j e => k (ix2 j e))
      (fun e => o (ix1 e)) (fun e => lg (ix1 e)) (fun e => lb (ix1 e)) (fun e d => w (ix2 e d)) (fun d => q (ix1 d)) s d := by
  unfold module
  rw [ended_at]
  have hz : row (gate (projected x g wi bi)) b = fun s => glued (fun e => x (ix3 b s e)) (fun e => g (ix1 e)) (fun e j => wi (ix2 e j)) (fun j => bi (ix1 j)) :=
    funext fun s => funext fun e => by
      show gate _ (ix3 b s e) = _
      rw [gate_at, projected_at, projected_at]
      rfl
  have hc : row (convolved (padded (gate (projected x g wi bi))) k o) b s = fun e => (∑ j : Fin 31, k (ix2 j e)
      * delayed (fun s => glued (fun e => x (ix3 b s e)) (fun e => g (ix1 e)) (fun e j => wi (ix2 e j)) (fun j => bi (ix1 j))) (s.val + j.val) e) + o (ix1 e) :=
    funext fun e => by
      show convolved _ k o (ix3 b s e) = _
      rw [convolved_at]
      refine congrArg (· + o (ix1 e)) (Finset.sum_congr rfl fun j _ => congrArg (k (ix2 j e) * ·) ?_)
      rw [padded_at, hz]
  simp only [normal_at]
  rw [hc]
  rfl

theorem value (x g wi bi k o lg lb w q) : module x g wi bi k o lg lb w q = fun i => rolled (fun s e => x (ix3 (i 0) s e)) (fun e => g (ix1 e)) (fun e j => wi (ix2 e j)) (fun j => bi (ix1 j))
    (fun j e => k (ix2 j e)) (fun e => o (ix1 e)) (fun e => lg (ix1 e)) (fun e => lb (ix1 e)) (fun e d => w (ix2 e d)) (fun d => q (ix1 d)) (i 1) (i 2) := by
  funext i
  obtain ⟨b, s, e, rfl⟩ := three (a := 32) (b := 2048) (n := 1024) i
  exact module_at ..

section Terms
variable (m : (ℓ : Loc nD τ sig) → Buf (Elt Ideal) ℓ) (c : Dev nD)

/-- The reference's named values at the launch. -/
theorem v16_eq : res_main_v16 (StableHlo.launchContents m c) = projected (m ((c.tc : Thread nD τ).loc main_arg0)) (m ((c.tc : Thread nD τ).loc main_arg1)) (m ((c.tc : Thread nD τ).loc main_arg2)) (m ((c.tc : Thread nD τ).loc main_arg3)) := rfl

theorem v26_eq : res_main_v26 (StableHlo.launchContents m c) = padded (gate (projected (m ((c.tc : Thread nD τ).loc main_arg0)) (m ((c.tc : Thread nD τ).loc main_arg1)) (m ((c.tc : Thread nD τ).loc main_arg2)) (m ((c.tc : Thread nD τ).loc main_arg3)))) := by
  unfold res_main_v26
  rw [v16_eq]
  rfl

theorem v97_eq : res_main_v97 (StableHlo.launchContents m c) = tapsA (broadcastInDim S32x2048x1024 ![] bcast_S_S32x2048x1024 (constant S_ .f32 0x00000000#32)) (res_main_v26 (StableHlo.launchContents m c)) (m ((c.tc : Thread nD τ).loc main_arg4)) := rfl

theorem v174_eq : res_main_v174 (StableHlo.launchContents m c) = tapsB (res_main_v97 (StableHlo.launchContents m c)) (res_main_v26 (StableHlo.launchContents m c)) (m ((c.tc : Thread nD τ).loc main_arg4)) := rfl

theorem v247_eq : res_main_v247 (StableHlo.launchContents m c) = convolved (padded (gate (projected (m ((c.tc : Thread nD τ).loc main_arg0)) (m ((c.tc : Thread nD τ).loc main_arg1)) (m ((c.tc : Thread nD τ).loc main_arg2)) (m ((c.tc : Thread nD τ).loc main_arg3))))) (m ((c.tc : Thread nD τ).loc main_arg4)) (m ((c.tc : Thread nD τ).loc main_arg5)) := by
  rw [← v26_eq]
  unfold convolved
  rw [← v97_eq, ← v174_eq]
  rfl

theorem v253_eq : res_main_v253 (StableHlo.launchContents m c) = about (res_main_v247 (StableHlo.launchContents m c)) := rfl

theorem v269_eq : res_main_v269 (StableHlo.launchContents m c) = normal (res_main_v247 (StableHlo.launchContents m c)) (m ((c.tc : Thread nD τ).loc main_arg6)) (m ((c.tc : Thread nD τ).loc main_arg7)) := by
  unfold res_main_v269 normal
  rw [v253_eq]
  rfl

theorem result_eq : ended (m ((c.tc : Thread nD τ).loc main_arg0)) (res_main_v269 (StableHlo.launchContents m c)) (m ((c.tc : Thread nD τ).loc main_arg8)) (m ((c.tc : Thread nD τ).loc main_arg9))
    = module (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold module
  rw [← v247_eq, ← v269_eq]

end Terms

end Cert.Layer.ConvRef
-- ==== Proof.Layer.EvenScan.lean ====
/-
  Running sums: the doubling scan of a block of rows, and the host's windowed sum.
-/
module

public import Idealize.ShloMosaic.Lib.Pipeline.ValueKit
public import Idealize.ShloMosaic.Lib.KernelVsHost
public import proofs.«01_k».proof.Proof.Gen.EvenInIdeal.Skeleton
public import proofs.«01_k».proof.Proof.Layer.Norm

@[expose] public section
set_option maxRecDepth 16384

namespace Cert.Layer.EvenIn
open Idealize.ShloMosaic Cert.Fox Cert.Layer Cert.EvenInIdeal Cert.EvenInIdeal.Gen

/-- The sum of the last `n` entries up to `r`. -/
noncomputable def back (f : Nat → EReal) (n r : Nat) : EReal := ∑ i ∈ Finset.range n, if i ≤ r then f (r - i) else 0

theorem back_one (f : Nat → EReal) (r : Nat) : back f 1 r = f r := by
  simp [back]

theorem back_double (f : Nat → EReal) (n r : Nat) : back f n r + (if n ≤ r then back f n (r - n) else 0) = back f (n + n) r := by
  unfold back
  rw [Finset.sum_range_add]
  congr 1
  by_cases h : n ≤ r
  · rw [if_pos h]
    refine Finset.sum_congr rfl fun i _ => ?_
    by_cases h2 : i ≤ r - n
    · rw [if_pos h2, if_pos (by omega), Nat.sub_sub]
    · rw [if_neg h2, if_neg (by omega)]
  · rw [if_neg h]
    exact (Finset.sum_eq_zero fun i _ => if_neg (by omega)).symm

theorem back_all (f : Nat → EReal) {n r : Nat} (h : r < n) : back f n r = ∑ i ∈ Finset.range (r + 1), f i := by
  unfold back
  rw [← Finset.sum_filter, ← Finset.sum_range_reflect f (r + 1)]
  refine Finset.sum_congr ?_ fun i _ => ?_
  · ext i
    simp only [Finset.mem_filter, Finset.mem_range]
    omega
  · exact congrArg f (by omega)

/-- One doubling step: each row plus the row `s` above it. -/
noncomputable def later (s : BitVec 32) (x : FVec Ideal S1024x128 .f32) : FVec Ideal S1024x128 .f32 :=
  addf x (select (cmpi .sge (iota .tc S1024x128 32 [0] iota_S1024x128_d0_w32) (broadcast S1024x128 s))
    (dynamicRotate 0 s none x rotates_S1024x128_d0) (broadcast S1024x128 (Scalar.ofBits .f32 0x00000000#32)))

theorem later_at (n : Nat) (hn : n < 1024) (x : FVec Ideal S1024x128 .f32) (r : Fin 1024) (l : Fin 128) :
    later (BitVec.ofNat 32 n) x (ix2 r l)
      = x (ix2 r l) + if n ≤ r.val then x (ix2 (⟨r.val - n, Nat.lt_of_le_of_lt (Nat.sub_le _ _) r.isLt⟩ : Fin 1024) l) else 0 := by
  have hr : dynamicRotate 0 (BitVec.ofNat 32 n) none x rotates_S1024x128_d0 (ix2 r l)
      = x (ix2 (⟨(r.val + 1024 - n) % 1024, Nat.mod_lt _ (by decide)⟩ : Fin 1024) l) := by
    refine dynamicRotate_apply _ _ _ _ _ _ fun b => ?_
    match b with
    | ⟨0, _⟩ =>
      show (r.val + 1024 - n) % 1024 = (r.val + 1024 - (BitVec.ofNat 32 n).toNat % 1024) % 1024
      rw [BitVec.toNat_ofNat, Nat.mod_eq_of_lt (show n < 2 ^ 32 by omega), Nat.mod_eq_of_lt hn]
    | ⟨1, _⟩ => rfl
  have h0 : Ideal.ofBits .f32 0x00000000#32 = 0 := by simp [Ideal.ofBits, Ideal.ieee]
  have hi : iota .tc S1024x128 32 [0] iota_S1024x128_d0_w32 (ix2 r l) = BitVec.ofNat 32 r.val := by pointwise
  show x (ix2 r l) + Scalar.select (IntOp.cmpi CmpIPredicate.sge (iota .tc S1024x128 32 [0] iota_S1024x128_d0_w32 (ix2 r l)) (BitVec.ofNat 32 n))
    (dynamicRotate 0 (BitVec.ofNat 32 n) none x rotates_S1024x128_d0 (ix2 r l)) (Ideal.ofBits .f32 0x00000000#32) = _
  rw [hi]
  rw [hr, h0]
  congr 1
  unfold Scalar.select
  have hc := WordCmp.cmpi_sge_ofNat_eq_one_iff (a := r.val) (b := n) (w := 32) (by omega) (by omega)
  refine (if_congr hc rfl rfl).trans ?_
  by_cases h : n ≤ r.val
  · rw [if_pos h, if_pos h]
    refine congrArg x ?_
    have : (r.val + 1024 - n) % 1024 = r.val - n := by omega
    exact congrArg (fun a => ix2 a l) (Fin.ext this)
  · rw [if_neg h, if_neg h]

theorem later_back (n : Nat) (hn : n < 1024) (f : Nat → EReal) (x : FVec Ideal S1024x128 .f32) (l : Fin 128)
    (hx : ∀ r : Fin 1024, x (ix2 r l) = back f n r.val) (r : Fin 1024) :
    later (BitVec.ofNat 32 n) x (ix2 r l) = back f (n + n) r.val := by
  rw [later_at n hn, hx r, ← back_double]
  congr 1
  by_cases h : n ≤ r.val
  · rw [if_pos h, if_pos h, hx]
  · rw [if_neg h, if_neg h]

/-- The doubling scan. -/
noncomputable def scan (x : FVec Ideal S1024x128 .f32) : FVec Ideal S1024x128 .f32 :=
  later 512#32 (later 256#32 (later 128#32 (later 64#32 (later 32#32 (later 16#32 (later 8#32 (later 4#32 (later 2#32 (later 1#32 x)))))))))

theorem scan_at (x : FVec Ideal S1024x128 .f32) (f : Nat → EReal) (l : Fin 128) (hx : ∀ r : Fin 1024, x (ix2 r l) = f r.val) (r : Fin 1024) :
    scan x (ix2 r l) = ∑ i ∈ Finset.range (r.val + 1), f i := by
  have h1 := later_back 1 (by decide) f x l fun r => (hx r).trans (back_one f r.val).symm
  have h2 := later_back 2 (by decide) f _ l h1
  have h4 := later_back 4 (by decide) f _ l h2
  have h8 := later_back 8 (by decide) f _ l h4
  have h16 := later_back 16 (by decide) f _ l h8
  have h32 := later_back 32 (by decide) f _ l h16
  have h64 := later_back 64 (by decide) f _ l h32
  have h128 := later_back 128 (by decide) f _ l h64
  have h256 := later_back 256 (by decide) f _ l h128
  have h512 := later_back 512 (by decide) f _ l h256
  exact (h512 r).trans (back_all f r.isLt)

theorem foldl_sum {n : Nat} (f : Fin n → EReal) : (List.finRange n).foldl (fun r i => r + f i) 0 = ∑ i, f i := by
  rw [Fin.sum_univ_def, List.sum_eq_foldl, List.foldl_map]

/-- The window of the host's running sum. -/
abbrev Win : Shape := ⟨3, ![1, 2048, 1]⟩

theorem sum_win (f : Win.Idx → EReal) : ∑ n : Fin Win.numel, f (Win.rowMajor.symm n) = ∑ k : Fin 2048, f (ix3 (0 : Fin 1) k (0 : Fin 1)) := by
  rw [Equiv.sum_comp Win.rowMajor.symm f]
  symm
  refine Fintype.sum_equiv ⟨fun k => ix3 (0 : Fin 1) k (0 : Fin 1), fun i => i 1, fun _ => rfl, fun i => ?_⟩ _ _ fun _ => rfl
  obtain ⟨a, k, b, rfl⟩ := three (a := 1) (b := 2048) (n := 1) i
  rw [Subsingleton.elim a 0, Subsingleton.elim b 0]
  rfl

end Cert.Layer.EvenIn
-- ==== Proof.Layer.EvenBody.lean ====
/-
  The numbers of the layer's input part: gated halves, running sums, the mixing of rows; and what the call's operations on blocks
  are worth at an index.
-/
module

public import Idealize.ShloMosaic.Lib.Pipeline.ValueKit
public import proofs.«01_k».proof.Proof.Gen.EvenInIdeal.Skeleton
public import proofs.«01_k».proof.Proof.Layer.Norm
public import proofs.«01_k».proof.Proof.Layer.EvenScan

@[expose] public section
set_option maxRecDepth 16384

namespace Cert.Layer.EvenIn
open Idealize.ShloMosaic Cert.Fox Cert.Layer Cert.EvenInIdeal Cert.EvenInIdeal.Gen

/-- The tanh form of the gelu. -/
noncomputable def gelu (z : EReal) : EReal :=
  z * (Ideal.ofBits .f32 0x3F000000#32 * (Ideal.ofBits .f32 0x3F800000#32
    + Ideal.tanh (Ideal.ofBits .f32 0x3F4C422A#32 * (z + Ideal.ofBits .f32 0x3D372713#32 * (z * (z * z))))))

/-- The mean of 512 numbers. -/
noncomputable def mean512 (v : Fin 512 → EReal) : EReal := Ideal.div (∑ c, v c) (Ideal.ofBits .f32 0x44000000#32)

/-- A row of 512 centred and scaled, with gain and bias. -/
noncomputable def normed (v g b : Fin 512 → EReal) (e : Fin 512) : EReal :=
  (v e - mean512 v) * Ideal.rsqrt (mean512 (fun e => (v e - mean512 v) * (v e - mean512 v)) + Ideal.ofBits .f32 0x358637BD#32) * g e + b e

/-- The softplus. -/
noncomputable def soft (n : EReal) : EReal := max n 0 + Ideal.log1p (Ideal.exp (0 - max n (-n)))

section Block
variable (h : FVec Ideal S1024x1024 .bf16)

theorem h_at (x : FVec Ideal S1x1024x1024 .f32) (g : FVec Ideal S1x1024 .f32) (r e : Fin 1024) :
    k0_pay7 (F := Ideal) x g (ix2 r e) = rms (fun e => x (ix3 0 r e)) (fun e => g (ix2 0 e)) e := by
  refine (rows_at reduces_S1024x1024_S1024 shapeCasts_S1024_S1024x1 broadcasts_S1024x1_S1024x1024 broadcasts_S1x1024_S1024x1024
    (shapeCast S1024x1024 x shapeCasts_S1x1024x1024_S1024x1024) (shapeCast S1x1024 g shapeCasts_S1x1024_S1x1024) r e).trans ?_
  pointwise

theorem q_at (w : FVec Ideal S512x1024 .bf16) (j : Fin 512) (r : Fin 1024) :
    k0_pay26 (F := Ideal) h w (ix3 0 j r)
      = (∑ e : Fin 1024, h (ix2 r e) * w (ix2 j e)) * Named.named (F := Ideal) Cert.EvenInIdeal.κ "scale" (φ := .f32) 0x3E38AA3B#32 := by
  pointwise [k0_pay26]
  exact congrArg (· * _) (Finset.sum_congr rfl fun e _ => mul_comm _ _)

theorem k_at (w : FVec Ideal S1024x512 .bf16) (r : Fin 1024) (j : Fin 512) :
    k0_pay27 (F := Ideal) h w (ix3 0 r j) = ∑ e : Fin 1024, h (ix2 r e) * w (ix2 e j) := by
  pointwise [k0_pay27]

theorem v_at (w : FVec Ideal S512x1024 .bf16) (j : Fin 512) (r : Fin 1024) :
    k0_pay28 (F := Ideal) h w (ix3 0 j r) = ∑ e : Fin 1024, h (ix2 r e) * w (ix2 j e) := by
  pointwise [k0_pay28]
  exact Finset.sum_congr rfl fun e _ => mul_comm _ _

theorem z_at (w : FVec Ideal S1024x1024 .bf16) (r j : Fin 1024) :
    k0_pay22 (F := Ideal) h w (ix2 r j) = gelu (∑ e : Fin 1024, h (ix2 r e) * w (ix2 e j)) := by
  pointwise [k0_pay22, gelu]

theorem u_at (w : FVec Ideal S1024x1024 .bf16) (r : Fin 1024) (L : Fin 512) :
    k0_pay23 (F := Ideal) h w (ix2 r L) = k0_pay22 (F := Ideal) h w (ix2 r (⟨L.val, by omega⟩ : Fin 1024)) := by
  pointwise [k0_pay23]

theorem g_at (w : FVec Ideal S1024x1024 .bf16) (lg lb : FVec Ideal S1x512 .f32) (r : Fin 1024) (L : Fin 512) :
    k0_pay24 (F := Ideal) h w lg lb (ix2 r L)
      = normed (fun L => k0_pay22 (F := Ideal) h w (ix2 r (⟨512 + L.val, by omega⟩ : Fin 1024))) (fun L => lg (ix2 0 L)) (fun L => lb (ix2 0 L)) L := by
  generalize hz : k0_pay22 (F := Ideal) h w = z
  pointwise [k0_pay24, hz, normed, mean512]

theorem f_at (x : FVec Ideal S1x1024x1024 .f32) (g : FVec Ideal S1x1024 .f32) (w : FVec Ideal S1024x128 .bf16) (b : FVec Ideal S1x128 .f32) (r : Fin 1024) (l : Fin 128) :
    k0_pay8 (F := Ideal) x g w b (ix2 r l) = 0 - ((∑ e : Fin 1024, k0_pay7 (F := Ideal) x g (ix2 r e) * w (ix2 e l)) + b (ix2 0 l)) := by
  generalize hz : k0_pay7 (F := Ideal) x g = z
  pointwise [k0_pay8, hz]

/-- The logs of the forget gates, entry by entry. -/
noncomputable def logs (v30 : FVec Ideal S1024x128 .f32) (v33 : IVec S1024x128 1) (v35 v38 : FVec Ideal S1024x128 .f32) : FVec Ideal S1024x128 .f32 :=
  subf (broadcast S1024x128 (Scalar.ofBits .f32 0x00000000#32)) (select v33 v35 (addf v30 (log1p (exp v38))))

theorem logs_at (x : FVec Ideal S1x1024x1024 .f32) (g : FVec Ideal S1x1024 .f32) (w : FVec Ideal S1024x128 .bf16) (b : FVec Ideal S1x128 .f32) (r : Fin 1024) (l : Fin 128) :
    logs (k0_pay9 (F := Ideal) x g w b) (k0_pay11 (F := Ideal) x g w b) (k0_pay12 (F := Ideal) x g w b) (k0_pay13 (F := Ideal) x g w b) (ix2 r l)
      = 0 - soft (k0_pay8 (F := Ideal) x g w b (ix2 r l)) := by
  unfold logs k0_pay9 k0_pay11 k0_pay12 k0_pay13 k0_pay10 soft
  generalize k0_pay8 (F := Ideal) x g w b = z
  pointwise
  rw [if_neg (not_not.mpr rfl)]
  rfl

/-- The running sums of a block on a row of sums before it. -/
theorem running (v30 : FVec Ideal S1024x128 .f32) (v33 : IVec S1024x128 1) (v35 v38 : FVec Ideal S1024x128 .f32) (c : FVec Ideal S1x128 .f32) :
    k0_pay18 (F := Ideal) (iota .tc S1024x128 32 [0] iota_S1024x128_d0_w32) (k0_pay14 v30 v33 v35 v38) k0_pay15 (k0_pay16 v30 v33 v35 v38) (k0_pay17 (F := Ideal)) c
      = addf (scan (logs v30 v33 v35 v38)) (broadcastTo S1024x128 c broadcasts_S1x128_S1024x128) := by
  rfl

theorem lower_at (w : FVec Ideal S1x128x128 .f32) (r k : Fin 128) :
    k0_pay30 (F := Ideal) w (ix2 r k) = if k.val ≤ r.val then w (ix3 0 r k) else 0 := by
  pointwise [k0_pay30, k0_pay29]
  exact if_congr (WordCmp.cmpi_sge_ofNat_eq_one_iff (a := r.val) (b := k.val) (w := 32) (by omega) (by omega)) rfl rfl

theorem half_at (r : Fin 128) (l : Fin 256) : k0_pay39 (ix2 r l) = if l.val % 128 < 64 then 1#1 else 0#1 := by
  have e : k0_pay39 (ix2 r l) = k0_pay39 (ix2 (0 : Fin 128) l) := by
    pointwise [k0_pay39]
  rw [e]
  revert l
  pointwise [k0_pay39]
  have hd : ∀ l : Fin 256, IntOp.cmpi CmpIPredicate.slt
      (Scalar.select (IntOp.andi (IntOp.xori (IntOp.cmpi CmpIPredicate.slt (IntOp.remsi ArithUnit.vector (BitVec.ofNat 32 l.val)
        (Scalar.select (Scalar.cmpi CmpIPredicate.eq 128#32 0#32) 1#32 128#32)) 0#32)
        (Scalar.cmpi CmpIPredicate.slt (Scalar.select (Scalar.cmpi CmpIPredicate.eq 128#32 0#32) 1#32 128#32) 0#32))
        (IntOp.cmpi CmpIPredicate.ne (IntOp.remsi ArithUnit.vector (BitVec.ofNat 32 l.val)
        (Scalar.select (Scalar.cmpi CmpIPredicate.eq 128#32 0#32) 1#32 128#32)) 0#32))
        (IntOp.addi (IntOp.remsi ArithUnit.vector (BitVec.ofNat 32 l.val)
        (Scalar.select (Scalar.cmpi CmpIPredicate.eq 128#32 0#32) 1#32 128#32)) (Scalar.select (Scalar.cmpi CmpIPredicate.eq 128#32 0#32) 1#32 128#32))
        (IntOp.remsi ArithUnit.vector (BitVec.ofNat 32 l.val) (Scalar.select (Scalar.cmpi CmpIPredicate.eq 128#32 0#32) 1#32 128#32)))
      64#32 = if l.val % 128 < 64 then 1#1 else 0#1 := by decide +kernel
  exact fun l _ => hd l

/-- Two groups' rows mixed at once: the lanes of the first group take the first weights. -/
noncomputable def pair (m : IVec S128x256 1) (a b wa wb : FVec Ideal S128x128 .bf16) : FVec Ideal S128x256 .f32 :=
  select m
    (matmul dot_S128x128_S128x256_S128x256_1_0_0_1_n_n none wa (concatenate S128x256 1 [⟨S128x128, a⟩, ⟨S128x128, b⟩] concatenates_S128x128_S128x128_S128x256_d1) (constant S128x256 .f32 0x00000000#32))
    (matmul dot_S128x128_S128x256_S128x256_1_0_0_1_n_n none wb (concatenate S128x256 1 [⟨S128x128, a⟩, ⟨S128x128, b⟩] concatenates_S128x128_S128x128_S128x256_d1) (constant S128x256 .f32 0x00000000#32))

theorem pair_lo (a b wa wb : FVec Ideal S128x128 .bf16) (r l : Fin 128) :
    extractStridedSlice S128x128 ![0, 0] (pair k0_pay39 a b wa wb) slices_S128x256_o0_0_S128x128 (ix2 r l)
      = ∑ k : Fin 128, (if l.val < 64 then wa else wb) (ix2 r k) * a (ix2 k l) := by
  pointwise [pair]
  rw [half_at]
  unfold Scalar.select
  by_cases h : l.val < 64
  · have h2 : (l.val) % 128 < 64 := by omega
    rw [if_pos h2, if_pos h]
    rfl
  · have h2 : ¬(l.val) % 128 < 64 := by omega
    rw [if_neg h2, if_neg h]
    rfl

theorem pair_hi (a b wa wb : FVec Ideal S128x128 .bf16) (r l : Fin 128) :
    extractStridedSlice S128x128 ![0, 128] (pair k0_pay39 a b wa wb) slices_S128x256_o0_128_S128x128 (ix2 r l)
      = ∑ k : Fin 128, (if l.val < 64 then wa else wb) (ix2 r k) * b (ix2 k l) := by
  pointwise [pair]
  rw [half_at]
  unfold Scalar.select
  by_cases h : l.val < 64
  · have h2 : (128 + l.val) % 128 < 64 := by omega
    rw [if_pos h2, if_pos h]
    rfl
  · have h2 : ¬(128 + l.val) % 128 < 64 := by omega
    rw [if_neg h2, if_neg h]
    rfl

/-- A block of 128 rows of the gated product, from its four lots of 128 lanes. -/
noncomputable def chunk (u b : FVec Ideal S128x512 .f32) (e0 e1 e2 e3 : FVec Ideal S128x128 .f32) : FVec Ideal S1x128x512 .bf16 :=
  shapeCast S1x128x512 (truncf .bf16 (mulf u (addf (concatenate S128x512 1 [⟨S128x128, e0⟩, ⟨S128x128, e1⟩, ⟨S128x128, e2⟩, ⟨S128x128, e3⟩]
    concatenates_S128x128_S128x128_S128x128_S128x128_S128x512_d1) b)) bitsLt_bf16_f32) shapeCasts_S128x512_S1x128x512

theorem chunk_at (u b : FVec Ideal S128x512 .f32) (e0 e1 e2 e3 : FVec Ideal S128x128 .f32) (r : Fin 128) (G : Fin 512 → EReal)
    (h0 : ∀ l : Fin 128, e0 (ix2 r l) = G ⟨128 * 0 + l.val, by omega⟩) (h1 : ∀ l : Fin 128, e1 (ix2 r l) = G ⟨128 * 1 + l.val, by omega⟩)
    (h2 : ∀ l : Fin 128, e2 (ix2 r l) = G ⟨128 * 2 + l.val, by omega⟩) (h3 : ∀ l : Fin 128, e3 (ix2 r l) = G ⟨128 * 3 + l.val, by omega⟩) (L : Fin 512) :
    chunk u b e0 e1 e2 e3 (ix3 0 r L) = u (ix2 r L) * (G L + b (ix2 r L)) := by
  pointwise [chunk]
  refine congrArg (fun a => u (ix2 r L) * (a + b (ix2 r L))) ?_
  by_cases c0 : L.val < 128
  · rw [dif_pos c0, h0]
    exact congrArg G (Fin.ext (by show 128 * 0 + L.val = L.val; omega))
  · rw [dif_neg c0]
    by_cases c1 : L.val - 128 < 128
    · rw [dif_pos c1, h1]
      exact congrArg G (Fin.ext (by show 128 * 1 + (L.val - 128) = L.val; omega))
    · rw [dif_neg c1]
      by_cases c2 : L.val - 128 - 128 < 128
      · rw [dif_pos c2, h2]
        exact congrArg G (Fin.ext (by show 128 * 2 + (L.val - 128 - 128) = L.val; omega))
      · rw [dif_neg c2, h3]
        exact congrArg G (Fin.ext (by show 128 * 3 + (L.val - 128 - 128 - 128) = L.val; omega))

theorem cut_at {α : Type} (v : S1024x512.Idx → α) (o p : Nat) (h : S1024x512.Slices ![o, p] S128x128) (ho : o + 128 ≤ 1024) (hp : p + 128 ≤ 512) (k l : Fin 128) :
    extractStridedSlice S128x128 ![o, p] v h (ix2 k l) = v (ix2 (⟨o + k.val, by omega⟩ : Fin 1024) (⟨p + l.val, by omega⟩ : Fin 512)) := by
  refine congrArg v (funext fun ax => Fin.ext ?_)
  match ax with
  | ⟨0, _⟩ => rfl
  | ⟨1, _⟩ => rfl

theorem band_at {α : Type} (v : S1024x512.Idx → α) (o : Nat) (h : S1024x512.Slices ![o, 0] S128x512) (ho : o + 128 ≤ 1024) (k : Fin 128) (l : Fin 512) :
    extractStridedSlice S128x512 ![o, 0] v h (ix2 k l) = v (ix2 (⟨o + k.val, by omega⟩ : Fin 1024) l) := by
  refine congrArg v (funext fun ax => Fin.ext ?_)
  match ax with
  | ⟨0, _⟩ => rfl
  | ⟨1, _⟩ => exact Nat.zero_add _

/-- A row of the mix of 128 rows from a row on: each lane by its group's weights. -/
noncomputable def mixAt (v : FVec Ideal S1024x512 .bf16) (w : Fin 8 → FVec Ideal S128x128 .bf16) (o : Nat) (ho : o + 128 ≤ 1024) (r : Fin 128) (L : Fin 512) : EReal :=
  ∑ k : Fin 128, w ⟨L.val / 64, by omega⟩ (ix2 r k) * v (ix2 (⟨o + k.val, by omega⟩ : Fin 1024) L)

theorem pick (w : Fin 8 → FVec Ideal S128x128 .bf16) (i : Fin 4) (l : Fin 128) :
    (if l.val < 64 then w ⟨2 * i.val, by omega⟩ else w ⟨2 * i.val + 1, by omega⟩) = w ⟨(128 * i.val + l.val) / 64, by omega⟩ := by
  by_cases h : l.val < 64
  · rw [if_pos h]
    exact congrArg w (Fin.ext (by show 2 * i.val = (128 * i.val + l.val) / 64; omega))
  · rw [if_neg h]
    exact congrArg w (Fin.ext (by show 2 * i.val + 1 = (128 * i.val + l.val) / 64; omega))

/-- The first of two blocks mixed at once. -/
noncomputable def firstOf (o o2 p : Nat) (v : FVec Ideal S1024x512 .bf16) (wa wb : FVec Ideal S128x128 .bf16) (h : S1024x512.Slices ![o, p] S128x128) (h2 : S1024x512.Slices ![o2, p] S128x128) :
    FVec Ideal S128x128 .f32 :=
  extractStridedSlice S128x128 ![0, 0] (pair k0_pay39 (extractStridedSlice S128x128 ![o, p] v h) (extractStridedSlice S128x128 ![o2, p] v h2) wa wb) slices_S128x256_o0_0_S128x128

/-- The second of two blocks mixed at once. -/
noncomputable def secondOf (o o2 p : Nat) (v : FVec Ideal S1024x512 .bf16) (wa wb : FVec Ideal S128x128 .bf16) (h : S1024x512.Slices ![o, p] S128x128) (h2 : S1024x512.Slices ![o2, p] S128x128) :
    FVec Ideal S128x128 .f32 :=
  extractStridedSlice S128x128 ![0, 128] (pair k0_pay39 (extractStridedSlice S128x128 ![o, p] v h) (extractStridedSlice S128x128 ![o2, p] v h2) wa wb) slices_S128x256_o0_128_S128x128

theorem firstOf_at (o o2 : Nat) (v : FVec Ideal S1024x512 .bf16) (w : Fin 8 → FVec Ideal S128x128 .bf16) (i : Fin 4) (ho : o + 128 ≤ 1024) (h h2) (r l : Fin 128) :
    firstOf o o2 (128 * i.val) v (w ⟨2 * i.val, by omega⟩) (w ⟨2 * i.val + 1, by omega⟩) h h2 (ix2 r l) = mixAt v w o ho r ⟨128 * i.val + l.val, by omega⟩ := by
  refine (pair_lo _ _ _ _ r l).trans (Finset.sum_congr rfl fun k _ => ?_)
  rw [pick, cut_at v o _ h ho (by omega)]

theorem secondOf_at (o o2 : Nat) (v : FVec Ideal S1024x512 .bf16) (w : Fin 8 → FVec Ideal S128x128 .bf16) (i : Fin 4) (ho : o2 + 128 ≤ 1024) (h h2) (r l : Fin 128) :
    secondOf o o2 (128 * i.val) v (w ⟨2 * i.val, by omega⟩) (w ⟨2 * i.val + 1, by omega⟩) h h2 (ix2 r l) = mixAt v w o2 ho r ⟨128 * i.val + l.val, by omega⟩ := by
  refine (pair_hi _ _ _ _ r l).trans (Finset.sum_congr rfl fun k _ => ?_)
  rw [pick, cut_at v o2 _ h2 ho (by omega)]

/-- The gated product of a block of 128 rows. -/
noncomputable def gatedAt (u : FVec Ideal S1024x512 .f32) (v : FVec Ideal S1024x512 .bf16) (b : FVec Ideal S128x512 .f32) (w : Fin 8 → FVec Ideal S128x128 .bf16) (o : Nat) (ho : o + 128 ≤ 1024)
    (r : Fin 128) (L : Fin 512) : EReal :=
  u (ix2 (⟨o + r.val, by omega⟩ : Fin 1024) L) * (mixAt v w o ho r L + b (ix2 r L))

section Stores
variable (u : FVec Ideal S1024x512 .f32) (v : FVec Ideal S1024x512 .bf16) (b : FVec Ideal S128x512 .f32) (w0 w1 w2 w3 w4 w5 w6 w7 : FVec Ideal S128x128 .bf16)

theorem store0 (r : Fin 128) (L : Fin 512) :
    k0_pay50 (F := Ideal) u v w6 w7 k0_pay39 b (k0_pay42 v w0 w1) (k0_pay45 v w2 w3) (k0_pay48 v w4 w5) (ix3 0 r L)
      = gatedAt u v b ![w0, w1, w2, w3, w4, w5, w6, w7] 0 (by decide) r L := by
  have e : k0_pay50 (F := Ideal) u v w6 w7 k0_pay39 b (k0_pay42 v w0 w1) (k0_pay45 v w2 w3) (k0_pay48 v w4 w5)
      = chunk (extractStridedSlice S128x512 ![0, 0] u slices_S1024x512_o0_0_S128x512) b
      (firstOf 0 128 (128 * 0) v w0 w1 slices_S1024x512_o0_0_S128x128 slices_S1024x512_o128_0_S128x128)
      (firstOf 0 128 (128 * 1) v w2 w3 slices_S1024x512_o0_128_S128x128 slices_S1024x512_o128_128_S128x128)
      (firstOf 0 128 (128 * 2) v w4 w5 slices_S1024x512_o0_256_S128x128 slices_S1024x512_o128_256_S128x128)
      (firstOf 0 128 (128 * 3) v w6 w7 slices_S1024x512_o0_384_S128x128 slices_S1024x512_o128_384_S128x128) := rfl
  rw [e]
  refine (chunk_at _ b _ _ _ _ r (mixAt v ![w0, w1, w2, w3, w4, w5, w6, w7] 0 (by decide) r)
    (fun l => firstOf_at 0 128 v ![w0, w1, w2, w3, w4, w5, w6, w7] 0 (by decide) slices_S1024x512_o0_0_S128x128 slices_S1024x512_o128_0_S128x128 r l)
    (fun l => firstOf_at 0 128 v ![w0, w1, w2, w3, w4, w5, w6, w7] 1 (by decide) slices_S1024x512_o0_128_S128x128 slices_S1024x512_o128_128_S128x128 r l)
    (fun l => firstOf_at 0 128 v ![w0, w1, w2, w3, w4, w5, w6, w7] 2 (by decide) slices_S1024x512_o0_256_S128x128 slices_S1024x512_o128_256_S128x128 r l)
    (fun l => firstOf_at 0 128 v ![w0, w1, w2, w3, w4, w5, w6, w7] 3 (by decide) slices_S1024x512_o0_384_S128x128 slices_S1024x512_o128_384_S128x128 r l) L).trans ?_
  rw [band_at u 0 _ (by decide)]
  rfl

theorem store128 (r : Fin 128) (L : Fin 512) :
    k0_pay51 (F := Ideal) u v w6 w7 k0_pay39 b (k0_pay43 v w0 w1) (k0_pay46 v w2 w3) (k0_pay47 v w4 w5) (ix3 0 r L)
      = gatedAt u v b ![w0, w1, w2, w3, w4, w5, w6, w7] 128 (by decide) r L := by
  have e : k0_pay51 (F := Ideal) u v w6 w7 k0_pay39 b (k0_pay43 v w0 w1) (k0_pay46 v w2 w3) (k0_pay47 v w4 w5)
      = chunk (extractStridedSlice S128x512 ![128, 0] u slices_S1024x512_o128_0_S128x512) b
      (secondOf 0 128 (128 * 0) v w0 w1 slices_S1024x512_o0_0_S128x128 slices_S1024x512_o128_0_S128x128)
      (secondOf 0 128 (128 * 1) v w2 w3 slices_S1024x512_o0_128_S128x128 slices_S1024x512_o128_128_S128x128)
      (secondOf 0 128 (128 * 2) v w4 w5 slices_S1024x512_o0_256_S128x128 slices_S1024x512_o128_256_S128x128)
      (secondOf 0 128 (128 * 3) v w6 w7 slices_S1024x512_o0_384_S128x128 slices_S1024x512_o128_384_S128x128) := rfl
  rw [e]
  refine (chunk_at _ b _ _ _ _ r (mixAt v ![w0, w1, w2, w3, w4, w5, w6, w7] 128 (by decide) r)
    (fun l => secondOf_at 0 128 v ![w0, w1, w2, w3, w4, w5, w6, w7] 0 (by decide) slices_S1024x512_o0_0_S128x128 slices_S1024x512_o128_0_S128x128 r l)
    (fun l => secondOf_at 0 128 v ![w0, w1, w2, w3, w4, w5, w6, w7] 1 (by decide) slices_S1024x512_o0_128_S128x128 slices_S1024x512_o128_128_S128x128 r l)
    (fun l => secondOf_at 0 128 v ![w0, w1, w2, w3, w4, w5, w6, w7] 2 (by decide) slices_S1024x512_o0_256_S128x128 slices_S1024x512_o128_256_S128x128 r l)
    (fun l => secondOf_at 0 128 v ![w0, w1, w2, w3, w4, w5, w6, w7] 3 (by decide) slices_S1024x512_o0_384_S128x128 slices_S1024x512_o128_384_S128x128 r l) L).trans ?_
  rw [band_at u 128 _ (by decide)]
  rfl

theorem store256 (r : Fin 128) (L : Fin 512) :
    k0_pay62 (F := Ideal) u v w5 w6 w7 k0_pay39 b (k0_pay53 v w0 w1 k0_pay39) (k0_pay56 v w2 w3 k0_pay39) (k0_pay58 v) (k0_pay59 v w4) (ix3 0 r L)
      = gatedAt u v b ![w0, w1, w2, w3, w4, w5, w6, w7] 256 (by decide) r L := by
  have e : k0_pay62 (F := Ideal) u v w5 w6 w7 k0_pay39 b (k0_pay53 v w0 w1 k0_pay39) (k0_pay56 v w2 w3 k0_pay39) (k0_pay58 v) (k0_pay59 v w4)
      = chunk (extractStridedSlice S128x512 ![256, 0] u slices_S1024x512_o256_0_S128x512) b
      (firstOf 256 384 (128 * 0) v w0 w1 slices_S1024x512_o256_0_S128x128 slices_S1024x512_o384_0_S128x128)
      (firstOf 256 384 (128 * 1) v w2 w3 slices_S1024x512_o256_128_S128x128 slices_S1024x512_o384_128_S128x128)
      (firstOf 256 384 (128 * 2) v w4 w5 slices_S1024x512_o256_256_S128x128 slices_S1024x512_o384_256_S128x128)
      (firstOf 256 384 (128 * 3) v w6 w7 slices_S1024x512_o256_384_S128x128 slices_S1024x512_o384_384_S128x128) := rfl
  rw [e]
  refine (chunk_at _ b _ _ _ _ r (mixAt v ![w0, w1, w2, w3, w4, w5, w6, w7] 256 (by decide) r)
    (fun l => firstOf_at 256 384 v ![w0, w1, w2, w3, w4, w5, w6, w7] 0 (by decide) slices_S1024x512_o256_0_S128x128 slices_S1024x512_o384_0_S128x128 r l)
    (fun l => firstOf_at 256 384 v ![w0, w1, w2, w3, w4, w5, w6, w7] 1 (by decide) slices_S1024x512_o256_128_S128x128 slices_S1024x512_o384_128_S128x128 r l)
    (fun l => firstOf_at 256 384 v ![w0, w1, w2, w3, w4, w5, w6, w7] 2 (by decide) slices_S1024x512_o256_256_S128x128 slices_S1024x512_o384_256_S128x128 r l)
    (fun l => firstOf_at 256 384 v ![w0, w1, w2, w3, w4, w5, w6, w7] 3 (by decide) slices_S1024x512_o256_384_S128x128 slices_S1024x512_o384_384_S128x128 r l) L).trans ?_
  rw [band_at u 256 _ (by decide)]
  rfl

theorem store384 (r : Fin 128) (L : Fin 512) :
    k0_pay63 (F := Ideal) u v w5 w6 w7 k0_pay39 b (k0_pay54 v w0 w1 k0_pay39) (k0_pay57 v w2 w3 k0_pay39) (k0_pay58 v) (k0_pay59 v w4) (ix3 0 r L)
      = gatedAt u v b ![w0, w1, w2, w3, w4, w5, w6, w7] 384 (by decide) r L := by
  have e : k0_pay63 (F := Ideal) u v w5 w6 w7 k0_pay39 b (k0_pay54 v w0 w1 k0_pay39) (k0_pay57 v w2 w3 k0_pay39) (k0_pay58 v) (k0_pay59 v w4)
      = chunk (extractStridedSlice S128x512 ![384, 0] u slices_S1024x512_o384_0_S128x512) b
      (secondOf 256 384 (128 * 0) v w0 w1 slices_S1024x512_o256_0_S128x128 slices_S1024x512_o384_0_S128x128)
      (secondOf 256 384 (128 * 1) v w2 w3 slices_S1024x512_o256_128_S128x128 slices_S1024x512_o384_128_S128x128)
      (secondOf 256 384 (128 * 2) v w4 w5 slices_S1024x512_o256_256_S128x128 slices_S1024x512_o384_256_S128x128)
      (secondOf 256 384 (128 * 3) v w6 w7 slices_S1024x512_o256_384_S128x128 slices_S1024x512_o384_384_S128x128) := rfl
  rw [e]
  refine (chunk_at _ b _ _ _ _ r (mixAt v ![w0, w1, w2, w3, w4, w5, w6, w7] 384 (by decide) r)
    (fun l => secondOf_at 256 384 v ![w0, w1, w2, w3, w4, w5, w6, w7] 0 (by decide) slices_S1024x512_o256_0_S128x128 slices_S1024x512_o384_0_S128x128 r l)
    (fun l => secondOf_at 256 384 v ![w0, w1, w2, w3, w4, w5, w6, w7] 1 (by decide) slices_S1024x512_o256_128_S128x128 slices_S1024x512_o384_128_S128x128 r l)
    (fun l => secondOf_at 256 384 v ![w0, w1, w2, w3, w4, w5, w6, w7] 2 (by decide) slices_S1024x512_o256_256_S128x128 slices_S1024x512_o384_256_S128x128 r l)
    (fun l => secondOf_at 256 384 v ![w0, w1, w2, w3, w4, w5, w6, w7] 3 (by decide) slices_S1024x512_o256_384_S128x128 slices_S1024x512_o384_384_S128x128 r l) L).trans ?_
  rw [band_at u 384 _ (by decide)]
  rfl

theorem store512 (r : Fin 128) (L : Fin 512) :
    k0_pay73 (F := Ideal) u v w4 w5 w6 w7 k0_pay39 b (k0_pay65 v w0 w1 k0_pay39) (k0_pay68 v w2 w3 k0_pay39) (k0_pay70 v) (ix3 0 r L)
      = gatedAt u v b ![w0, w1, w2, w3, w4, w5, w6, w7] 512 (by decide) r L := by
  have e : k0_pay73 (F := Ideal) u v w4 w5 w6 w7 k0_pay39 b (k0_pay65 v w0 w1 k0_pay39) (k0_pay68 v w2 w3 k0_pay39) (k0_pay70 v)
      = chunk (extractStridedSlice S128x512 ![512, 0] u slices_S1024x512_o512_0_S128x512) b
      (firstOf 512 640 (128 * 0) v w0 w1 slices_S1024x512_o512_0_S128x128 slices_S1024x512_o640_0_S128x128)
      (firstOf 512 640 (128 * 1) v w2 w3 slices_S1024x512_o512_128_S128x128 slices_S1024x512_o640_128_S128x128)
      (firstOf 512 640 (128 * 2) v w4 w5 slices_S1024x512_o512_256_S128x128 slices_S1024x512_o640_256_S128x128)
      (firstOf 512 640 (128 * 3) v w6 w7 slices_S1024x512_o512_384_S128x128 slices_S1024x512_o640_384_S128x128) := rfl
  rw [e]
  refine (chunk_at _ b _ _ _ _ r (mixAt v ![w0, w1, w2, w3, w4, w5, w6, w7] 512 (by decide) r)
    (fun l => firstOf_at 512 640 v ![w0, w1, w2, w3, w4, w5, w6, w7] 0 (by decide) slices_S1024x512_o512_0_S128x128 slices_S1024x512_o640_0_S128x128 r l)
    (fun l => firstOf_at 512 640 v ![w0, w1, w2, w3, w4, w5, w6, w7] 1 (by decide) slices_S1024x512_o512_128_S128x128 slices_S1024x512_o640_128_S128x128 r l)
    (fun l => firstOf_at 512 640 v ![w0, w1, w2, w3, w4, w5, w6, w7] 2 (by decide) slices_S1024x512_o512_256_S128x128 slices_S1024x512_o640_256_S128x128 r l)
    (fun l => firstOf_at 512 640 v ![w0, w1, w2, w3, w4, w5, w6, w7] 3 (by decide) slices_S1024x512_o512_384_S128x128 slices_S1024x512_o640_384_S128x128 r l) L).trans ?_
  rw [band_at u 512 _ (by decide)]
  rfl

theorem store640 (r : Fin 128) (L : Fin 512) :
    k0_pay74 (F := Ideal) u v w4 w5 w6 w7 k0_pay39 b (k0_pay66 v w0 w1 k0_pay39) (k0_pay69 v w2 w3 k0_pay39) (k0_pay70 v) (ix3 0 r L)
      = gatedAt u v b ![w0, w1, w2, w3, w4, w5, w6, w7] 640 (by decide) r L := by
  have e : k0_pay74 (F := Ideal) u v w4 w5 w6 w7 k0_pay39 b (k0_pay66 v w0 w1 k0_pay39) (k0_pay69 v w2 w3 k0_pay39) (k0_pay70 v)
      = chunk (extractStridedSlice S128x512 ![640, 0] u slices_S1024x512_o640_0_S128x512) b
      (secondOf 512 640 (128 * 0) v w0 w1 slices_S1024x512_o512_0_S128x128 slices_S1024x512_o640_0_S128x128)
      (secondOf 512 640 (128 * 1) v w2 w3 slices_S1024x512_o512_128_S128x128 slices_S1024x512_o640_128_S128x128)
      (secondOf 512 640 (128 * 2) v w4 w5 slices_S1024x512_o512_256_S128x128 slices_S1024x512_o640_256_S128x128)
      (secondOf 512 640 (128 * 3) v w6 w7 slices_S1024x512_o512_384_S128x128 slices_S1024x512_o640_384_S128x128) := rfl
  rw [e]
  refine (chunk_at _ b _ _ _ _ r (mixAt v ![w0, w1, w2, w3, w4, w5, w6, w7] 640 (by decide) r)
    (fun l => secondOf_at 512 640 v ![w0, w1, w2, w3, w4, w5, w6, w7] 0 (by decide) slices_S1024x512_o512_0_S128x128 slices_S1024x512_o640_0_S128x128 r l)
    (fun l => secondOf_at 512 640 v ![w0, w1, w2, w3, w4, w5, w6, w7] 1 (by decide) slices_S1024x512_o512_128_S128x128 slices_S1024x512_o640_128_S128x128 r l)
    (fun l => secondOf_at 512 640 v ![w0, w1, w2, w3, w4, w5, w6, w7] 2 (by decide) slices_S1024x512_o512_256_S128x128 slices_S1024x512_o640_256_S128x128 r l)
    (fun l => secondOf_at 512 640 v ![w0, w1, w2, w3, w4, w5, w6, w7] 3 (by decide) slices_S1024x512_o512_384_S128x128 slices_S1024x512_o640_384_S128x128 r l) L).trans ?_
  rw [band_at u 640 _ (by decide)]
  rfl

theorem store768 (r : Fin 128) (L : Fin 512) :
    k0_pay4 (F := Ideal) u v w4 w5 w6 w7 k0_pay39 b (k0_pay76 v w0 w1 k0_pay39) (k0_pay79 v w2) (k0_pay80 v w3) (ix3 0 r L)
      = gatedAt u v b ![w0, w1, w2, w3, w4, w5, w6, w7] 768 (by decide) r L := by
  have e : k0_pay4 (F := Ideal) u v w4 w5 w6 w7 k0_pay39 b (k0_pay76 v w0 w1 k0_pay39) (k0_pay79 v w2) (k0_pay80 v w3)
      = chunk (extractStridedSlice S128x512 ![768, 0] u slices_S1024x512_o768_0_S128x512) b
      (firstOf 768 896 (128 * 0) v w0 w1 slices_S1024x512_o768_0_S128x128 slices_S1024x512_o896_0_S128x128)
      (firstOf 768 896 (128 * 1) v w2 w3 slices_S1024x512_o768_128_S128x128 slices_S1024x512_o896_128_S128x128)
      (firstOf 768 896 (128 * 2) v w4 w5 slices_S1024x512_o768_256_S128x128 slices_S1024x512_o896_256_S128x128)
      (firstOf 768 896 (128 * 3) v w6 w7 slices_S1024x512_o768_384_S128x128 slices_S1024x512_o896_384_S128x128) := rfl
  rw [e]
  refine (chunk_at _ b _ _ _ _ r (mixAt v ![w0, w1, w2, w3, w4, w5, w6, w7] 768 (by decide) r)
    (fun l => firstOf_at 768 896 v ![w0, w1, w2, w3, w4, w5, w6, w7] 0 (by decide) slices_S1024x512_o768_0_S128x128 slices_S1024x512_o896_0_S128x128 r l)
    (fun l => firstOf_at 768 896 v ![w0, w1, w2, w3, w4, w5, w6, w7] 1 (by decide) slices_S1024x512_o768_128_S128x128 slices_S1024x512_o896_128_S128x128 r l)
    (fun l => firstOf_at 768 896 v ![w0, w1, w2, w3, w4, w5, w6, w7] 2 (by decide) slices_S1024x512_o768_256_S128x128 slices_S1024x512_o896_256_S128x128 r l)
    (fun l => firstOf_at 768 896 v ![w0, w1, w2, w3, w4, w5, w6, w7] 3 (by decide) slices_S1024x512_o768_384_S128x128 slices_S1024x512_o896_384_S128x128 r l) L).trans ?_
  rw [band_at u 768 _ (by decide)]
  rfl

theorem store896 (r : Fin 128) (L : Fin 512) :
    k0_pay5 (F := Ideal) u v w4 w5 w6 w7 k0_pay39 b (k0_pay77 v w0 w1 k0_pay39) (k0_pay79 v w2) (k0_pay80 v w3) (ix3 0 r L)
      = gatedAt u v b ![w0, w1, w2, w3, w4, w5, w6, w7] 896 (by decide) r L := by
  have e : k0_pay5 (F := Ideal) u v w4 w5 w6 w7 k0_pay39 b (k0_pay77 v w0 w1 k0_pay39) (k0_pay79 v w2) (k0_pay80 v w3)
      = chunk (extractStridedSlice S128x512 ![896, 0] u slices_S1024x512_o896_0_S128x512) b
      (secondOf 768 896 (128 * 0) v w0 w1 slices_S1024x512_o768_0_S128x128 slices_S1024x512_o896_0_S128x128)
      (secondOf 768 896 (128 * 1) v w2 w3 slices_S1024x512_o768_128_S128x128 slices_S1024x512_o896_128_S128x128)
      (secondOf 768 896 (128 * 2) v w4 w5 slices_S1024x512_o768_256_S128x128 slices_S1024x512_o896_256_S128x128)
      (secondOf 768 896 (128 * 3) v w6 w7 slices_S1024x512_o768_384_S128x128 slices_S1024x512_o896_384_S128x128) := rfl
  rw [e]
  refine (chunk_at _ b _ _ _ _ r (mixAt v ![w0, w1, w2, w3, w4, w5, w6, w7] 896 (by decide) r)
    (fun l => secondOf_at 768 896 v ![w0, w1, w2, w3, w4, w5, w6, w7] 0 (by decide) slices_S1024x512_o768_0_S128x128 slices_S1024x512_o896_0_S128x128 r l)
    (fun l => secondOf_at 768 896 v ![w0, w1, w2, w3, w4, w5, w6, w7] 1 (by decide) slices_S1024x512_o768_128_S128x128 slices_S1024x512_o896_128_S128x128 r l)
    (fun l => secondOf_at 768 896 v ![w0, w1, w2, w3, w4, w5, w6, w7] 2 (by decide) slices_S1024x512_o768_256_S128x128 slices_S1024x512_o896_256_S128x128 r l)
    (fun l => secondOf_at 768 896 v ![w0, w1, w2, w3, w4, w5, w6, w7] 3 (by decide) slices_S1024x512_o768_384_S128x128 slices_S1024x512_o896_384_S128x128 r l) L).trans ?_
  rw [band_at u 896 _ (by decide)]
  rfl

end Stores

end Block

end Cert.Layer.EvenIn
-- ==== Proof.Layer.EvenOut.lean ====
/-
  What one point of the input part's call leaves in its outputs and in its carried sums.
-/
module

public import Idealize.ShloMosaic.Lib.Pipeline.ValueKit
public import Idealize.ShloMosaic.Lib.WritesUnit
public import proofs.«01_k».proof.Proof.Gen.EvenInIdeal.Value
public import proofs.«01_k».proof.Proof.Layer.EvenBody

@[expose] public section
set_option maxRecDepth 16384

namespace Cert.Layer.EvenIn
open Idealize.ShloMosaic Cert.Fox Cert.Layer Cert.EvenInIdeal Cert.EvenInIdeal.Gen

/-- One group's weights. -/
noncomputable def slab (x : FVec Ideal S8x128x128 .f32) (g : Fin 8) : FVec Ideal S1x128x128 .f32 := fun i => x (ix3 g (i 1) (i 2))

/-- The first row of the carried sums. -/
noncomputable def head (x : FVec Ideal S8x128 .f32) : FVec Ideal S1x128 .f32 := fun i => x (ix2 0 (i 1))

/-- No sums before the first block. -/
noncomputable def zeros : FVec Ideal S1x128 .f32 := fun _ => 0

theorem slab_place (g : Nat) (inb : ∀ a, (![g, 0, 0] : Fin 3 → Nat) a + S1x128x128.size a ≤ S8x128x128.size a) (r k : Fin 128) :
    (Rect.unit (s := S8x128x128) ![g, 0, 0] S1x128x128.size inb).idx (ix3 0 r k) = ix3 (⟨g, inb 0⟩ : Fin 8) r k := by
  funext ax
  refine Fin.ext ?_
  match ax with
  | ⟨0, _⟩ => show g + 1 * 0 = g; omega
  | ⟨1, _⟩ => show 0 + 1 * r.val = r.val; omega
  | ⟨2, _⟩ => show 0 + 1 * k.val = k.val; omega

theorem ld_slab (x : FVec Ideal S8x128x128 .f32) (g : Nat) (inb) :
    View.ld (Val := Elt Ideal) (e' := .f32) x (Rect.unit (s := S8x128x128) ![g, 0, 0] S1x128x128.size inb) = slab x ⟨g, inb 0⟩ := by
  funext i
  obtain ⟨a, r, k, rfl⟩ := three (a := 1) (b := 128) (n := 128) i
  rw [Subsingleton.elim a 0]
  exact congrArg x (slab_place g inb r k)

theorem ld_head (x : FVec Ideal S8x128 .f32) (inb) :
    View.ld (Val := Elt Ideal) (e' := .f32) x (Rect.unit (s := S8x128) ![0, 0] S1x128.size inb) = head x := by
  funext i
  refine congrArg x (funext fun ax => Fin.ext ?_)
  match ax with
  | ⟨0, _⟩ => show 0 + 1 * (i 0).val = 0; have h1 : (i 0).val < 1 := (i 0).isLt; omega
  | ⟨1, _⟩ => show 0 + 1 * (i 1).val = (i 1).val; omega

section Reads
variable {sg : RefSig} {κ : Kind} {sp : Space}

theorem read_whole {a b d : Nat} {e : EltTy} (v : View sg κ sp (⟨3, ![a, b, d]⟩ : Shape) e) (f : v.ty.Contents (Elt Ideal)) (inb) (p) (L) (i : (⟨3, ![a, b, d]⟩ : Shape).Idx) :
    v.read (Elt Ideal) (v.writes (Elt Ideal) f (⟨Rect.unit ![0, 0, 0] (⟨3, ![a, b, d]⟩ : Shape).size inb, p⟩ :: L)) i = p i := by
  refine View.read_writes_cons_unit_of_mem (off := ![0, 0, 0]) (off' := ![0, 0, 0]) (size := (⟨3, ![a, b, d]⟩ : Shape).size) v f _ p _ _ i rfl fun ax => ?_
  match ax with
  | ⟨0, _⟩ => exact (Nat.zero_add _).symm
  | ⟨1, _⟩ => exact (Nat.zero_add _).symm
  | ⟨2, _⟩ => exact (Nat.zero_add _).symm

theorem read_flat {a b : Nat} {e : EltTy} (v : View sg κ sp (⟨2, ![a, b]⟩ : Shape) e) (f : v.ty.Contents (Elt Ideal)) (inb) (p) (L) (i : (⟨2, ![a, b]⟩ : Shape).Idx) :
    v.read (Elt Ideal) (v.writes (Elt Ideal) f (⟨Rect.unit ![0, 0] (⟨2, ![a, b]⟩ : Shape).size inb, p⟩ :: L)) i = p i := by
  refine View.read_writes_cons_unit_of_mem (off := ![0, 0]) (off' := ![0, 0]) (size := (⟨2, ![a, b]⟩ : Shape).size) v f _ p _ _ i rfl fun ax => ?_
  match ax with
  | ⟨0, _⟩ => exact (Nat.zero_add _).symm
  | ⟨1, _⟩ => exact (Nat.zero_add _).symm

/-- The carried sums read right after they were cleared. -/
theorem load_cleared (v : View sg κ sp S8x128 .f32) (inb inb') :
    View.readCov (Val := Elt Ideal) v [⟨Rect.unit ![0, 0] S8x128.size inb, k0_pay6 (F := Ideal)⟩] (Rect.unit (s := S8x128) ![0, 0] S1x128.size inb').toLoadRect = zeros := by
  rw [View.readCov_eq_canon', ← View.read_writes_junk_eq_canon v]
  funext i
  refine (read_flat (a := 8) (b := 128) v v.junk inb (k0_pay6 (F := Ideal)) [] _).trans ?_
  have h0 : Ideal.ofBits .f32 0x00000000#32 = 0 := by simp [Ideal.ofBits, Ideal.ieee]
  exact h0

theorem read_eight (v : View sg κ sp S1x1024x512 .bf16) (f : v.ty.Contents (Elt Ideal)) (p0 p1 p2 p3 p4 p5 p6 p7 : FVec Ideal S1x128x512 .bf16) (G : Fin 1024 → Fin 512 → EReal)
    (h0 : ∀ r : Fin 128, ∀ L : Fin 512, p0 (ix3 0 r L) = G ⟨0 + r.val, by omega⟩ L)
    (h1 : ∀ r : Fin 128, ∀ L : Fin 512, p1 (ix3 0 r L) = G ⟨128 + r.val, by omega⟩ L)
    (h2 : ∀ r : Fin 128, ∀ L : Fin 512, p2 (ix3 0 r L) = G ⟨256 + r.val, by omega⟩ L)
    (h3 : ∀ r : Fin 128, ∀ L : Fin 512, p3 (ix3 0 r L) = G ⟨384 + r.val, by omega⟩ L)
    (h4 : ∀ r : Fin 128, ∀ L : Fin 512, p4 (ix3 0 r L) = G ⟨512 + r.val, by omega⟩ L)
    (h5 : ∀ r : Fin 128, ∀ L : Fin 512, p5 (ix3 0 r L) = G ⟨640 + r.val, by omega⟩ L)
    (h6 : ∀ r : Fin 128, ∀ L : Fin 512, p6 (ix3 0 r L) = G ⟨768 + r.val, by omega⟩ L)
    (h7 : ∀ r : Fin 128, ∀ L : Fin 512, p7 (ix3 0 r L) = G ⟨896 + r.val, by omega⟩ L)
    (s : Fin 1024) (L : Fin 512) :
    v.read (Elt Ideal) (v.writes (Elt Ideal) f [⟨Rect.unit ![0, 896, 0] S1x128x512.size inb_S1x1024x512_S1x128x512_0_896_0, p7⟩,
      ⟨Rect.unit ![0, 768, 0] S1x128x512.size inb_S1x1024x512_S1x128x512_0_768_0, p6⟩,
      ⟨Rect.unit ![0, 640, 0] S1x128x512.size inb_S1x1024x512_S1x128x512_0_640_0, p5⟩,
      ⟨Rect.unit ![0, 512, 0] S1x128x512.size inb_S1x1024x512_S1x128x512_0_512_0, p4⟩,
      ⟨Rect.unit ![0, 384, 0] S1x128x512.size inb_S1x1024x512_S1x128x512_0_384_0, p3⟩,
      ⟨Rect.unit ![0, 256, 0] S1x128x512.size inb_S1x1024x512_S1x128x512_0_256_0, p2⟩,
      ⟨Rect.unit ![0, 128, 0] S1x128x512.size inb_S1x1024x512_S1x128x512_0_128_0, p1⟩,
      ⟨Rect.unit ![0, 0, 0] S1x128x512.size inb_S1x1024x512_S1x128x512_0_0_0, p0⟩]) (ix3 0 s L) = G s L := by
  by_cases c7 : 896 ≤ s.val
  · refine (View.read_writes_cons_unit_of_mem (off := ![0, 896, 0]) (off' := ![0, 896, 0]) (size := S1x128x512.size) v f _ p7 _ _ (ix3 (0 : Fin 1) (⟨s.val - 896, by omega⟩ : Fin 128) L) rfl fun ax => ?_).trans ?_
    · match ax with
      | ⟨0, _⟩ => rfl
      | ⟨1, _⟩ => show s.val = 896 + (s.val - 896); omega
      | ⟨2, _⟩ => show L.val = 0 + L.val; omega
    · refine (h7 _ L).trans ?_
      exact congrArg (fun a => G a L) (Fin.ext (by show 896 + (s.val - 896) = s.val; omega))
  refine (View.read_writes_cons_unit_of_not_mem (off := ![0, 896, 0]) (off' := ![0, 896, 0]) (size := S1x128x512.size) v f _ p7 _ _ rfl 1 (Or.inl (by show s.val < 896; omega))).trans ?_
  by_cases c6 : 768 ≤ s.val
  · refine (View.read_writes_cons_unit_of_mem (off := ![0, 768, 0]) (off' := ![0, 768, 0]) (size := S1x128x512.size) v f _ p6 _ _ (ix3 (0 : Fin 1) (⟨s.val - 768, by omega⟩ : Fin 128) L) rfl fun ax => ?_).trans ?_
    · match ax with
      | ⟨0, _⟩ => rfl
      | ⟨1, _⟩ => show s.val = 768 + (s.val - 768); omega
      | ⟨2, _⟩ => show L.val = 0 + L.val; omega
    · refine (h6 _ L).trans ?_
      exact congrArg (fun a => G a L) (Fin.ext (by show 768 + (s.val - 768) = s.val; omega))
  refine (View.read_writes_cons_unit_of_not_mem (off := ![0, 768, 0]) (off' := ![0, 768, 0]) (size := S1x128x512.size) v f _ p6 _ _ rfl 1 (Or.inl (by show s.val < 768; omega))).trans ?_
  by_cases c5 : 640 ≤ s.val
  · refine (View.read_writes_cons_unit_of_mem (off := ![0, 640, 0]) (off' := ![0, 640, 0]) (size := S1x128x512.size) v f _ p5 _ _ (ix3 (0 : Fin 1) (⟨s.val - 640, by omega⟩ : Fin 128) L) rfl fun ax => ?_).trans ?_
    · match ax with
      | ⟨0, _⟩ => rfl
      | ⟨1, _⟩ => show s.val = 640 + (s.val - 640); omega
      | ⟨2, _⟩ => show L.val = 0 + L.val; omega
    · refine (h5 _ L).trans ?_
      exact congrArg (fun a => G a L) (Fin.ext (by show 640 + (s.val - 640) = s.val; omega))
  refine (View.read_writes_cons_unit_of_not_mem (off := ![0, 640, 0]) (off' := ![0, 640, 0]) (size := S1x128x512.size) v f _ p5 _ _ rfl 1 (Or.inl (by show s.val < 640; omega))).trans ?_
  by_cases c4 : 512 ≤ s.val
  · refine (View.read_writes_cons_unit_of_mem (off := ![0, 512, 0]) (off' := ![0, 512, 0]) (size := S1x128x512.size) v f _ p4 _ _ (ix3 (0 : Fin 1) (⟨s.val - 512, by omega⟩ : Fin 128) L) rfl fun ax => ?_).trans ?_
    · match ax with
      | ⟨0, _⟩ => rfl
      | ⟨1, _⟩ => show s.val = 512 + (s.val - 512); omega
      | ⟨2, _⟩ => show L.val = 0 + L.val; omega
    · refine (h4 _ L).trans ?_
      exact congrArg (fun a => G a L) (Fin.ext (by show 512 + (s.val - 512) = s.val; omega))
  refine (View.read_writes_cons_unit_of_not_mem (off := ![0, 512, 0]) (off' := ![0, 512, 0]) (size := S1x128x512.size) v f _ p4 _ _ rfl 1 (Or.inl (by show s.val < 512; omega))).trans ?_
  by_cases c3 : 384 ≤ s.val
  · refine (View.read_writes_cons_unit_of_mem (off := ![0, 384, 0]) (off' := ![0, 384, 0]) (size := S1x128x512.size) v f _ p3 _ _ (ix3 (0 : Fin 1) (⟨s.val - 384, by omega⟩ : Fin 128) L) rfl fun ax => ?_).trans ?_
    · match ax with
      | ⟨0, _⟩ => rfl
      | ⟨1, _⟩ => show s.val = 384 + (s.val - 384); omega
      | ⟨2, _⟩ => show L.val = 0 + L.val; omega
    · refine (h3 _ L).trans ?_
      exact congrArg (fun a => G a L) (Fin.ext (by show 384 + (s.val - 384) = s.val; omega))
  refine (View.read_writes_cons_unit_of_not_mem (off := ![0, 384, 0]) (off' := ![0, 384, 0]) (size := S1x128x512.size) v f _ p3 _ _ rfl 1 (Or.inl (by show s.val < 384; omega))).trans ?_
  by_cases c2 : 256 ≤ s.val
  · refine (View.read_writes_cons_unit_of_mem (off := ![0, 256, 0]) (off' := ![0, 256, 0]) (size := S1x128x512.size) v f _ p2 _ _ (ix3 (0 : Fin 1) (⟨s.val - 256, by omega⟩ : Fin 128) L) rfl fun ax => ?_).trans ?_
    · match ax with
      | ⟨0, _⟩ => rfl
      | ⟨1, _⟩ => show s.val = 256 + (s.val - 256); omega
      | ⟨2, _⟩ => show L.val = 0 + L.val; omega
    · refine (h2 _ L).trans ?_
      exact congrArg (fun a => G a L) (Fin.ext (by show 256 + (s.val - 256) = s.val; omega))
  refine (View.read_writes_cons_unit_of_not_mem (off := ![0, 256, 0]) (off' := ![0, 256, 0]) (size := S1x128x512.size) v f _ p2 _ _ rfl 1 (Or.inl (by show s.val < 256; omega))).trans ?_
  by_cases c1 : 128 ≤ s.val
  · refine (View.read_writes_cons_unit_of_mem (off := ![0, 128, 0]) (off' := ![0, 128, 0]) (size := S1x128x512.size) v f _ p1 _ _ (ix3 (0 : Fin 1) (⟨s.val - 128, by omega⟩ : Fin 128) L) rfl fun ax => ?_).trans ?_
    · match ax with
      | ⟨0, _⟩ => rfl
      | ⟨1, _⟩ => show s.val = 128 + (s.val - 128); omega
      | ⟨2, _⟩ => show L.val = 0 + L.val; omega
    · refine (h1 _ L).trans ?_
      exact congrArg (fun a => G a L) (Fin.ext (by show 128 + (s.val - 128) = s.val; omega))
  refine (View.read_writes_cons_unit_of_not_mem (off := ![0, 128, 0]) (off' := ![0, 128, 0]) (size := S1x128x512.size) v f _ p1 _ _ rfl 1 (Or.inl (by show s.val < 128; omega))).trans ?_
  refine (View.read_writes_cons_unit_of_mem (off := ![0, 0, 0]) (off' := ![0, 0, 0]) (size := S1x128x512.size) v f _ p0 _ _ (ix3 (0 : Fin 1) (⟨s.val - 0, by omega⟩ : Fin 128) L) rfl fun ax => ?_).trans ?_
  · match ax with
    | ⟨0, _⟩ => rfl
    | ⟨1, _⟩ => show s.val = 0 + (s.val - 0); omega
    | ⟨2, _⟩ => show L.val = 0 + L.val; omega
  · refine (h0 _ L).trans ?_
    exact congrArg (fun a => G a L) (Fin.ext (by show 0 + (s.val - 0) = s.val; omega))

end Reads

/-- The gated product of a block at a row, its groups' weights and biases taken at the row's place in its 128. -/
noncomputable def gatedFull (u : FVec Ideal S1024x512 .f32) (v : FVec Ideal S1024x512 .bf16) (b : FVec Ideal S128x512 .f32) (w : Fin 8 → FVec Ideal S128x128 .bf16) (s : Fin 1024) (L : Fin 512) : EReal :=
  u (ix2 s L) * ((∑ k : Fin 128, w ⟨L.val / 64, by omega⟩ (ix2 (⟨s.val % 128, by omega⟩ : Fin 128) k) * v (ix2 (⟨128 * (s.val / 128) + k.val, by omega⟩ : Fin 1024) L))
    + b (ix2 (⟨s.val % 128, by omega⟩ : Fin 128) L))

theorem rebase (u : FVec Ideal S1024x512 .f32) (v : FVec Ideal S1024x512 .bf16) (b : FVec Ideal S128x512 .f32) (w : Fin 8 → FVec Ideal S128x128 .bf16) (o : Nat) (ho : o + 128 ≤ 1024) (hd : o % 128 = 0)
    (r : Fin 128) (L : Fin 512) : gatedAt u v b w o ho r L = gatedFull u v b w ⟨o + r.val, by omega⟩ L := by
  have e1 : (⟨(o + r.val) % 128, by omega⟩ : Fin 128) = r := Fin.ext (by show (o + r.val) % 128 = r.val; omega)
  have e2 : ∀ k : Fin 128, (⟨128 * ((o + r.val) / 128) + k.val, by omega⟩ : Fin 1024) = ⟨o + k.val, by omega⟩ :=
    fun k => Fin.ext (by show 128 * ((o + r.val) / 128) + k.val = o + k.val; omega)
  unfold gatedAt gatedFull mixAt
  simp only [e1, e2]

theorem family (x : FVec Ideal S8x128x128 .f32) : ![k0_pay30 (F := Ideal) (View.ld (Val := Elt Ideal) (e' := .f32) x (Rect.unit (s := S8x128x128) ![0, 0, 0] S1x128x128.size inb_S8x128x128_S1x128x128_0_0_0)),
    k0_pay31 (F := Ideal) k0_pay29 (View.ld (Val := Elt Ideal) (e' := .f32) x (Rect.unit (s := S8x128x128) ![1, 0, 0] S1x128x128.size inb_S8x128x128_S1x128x128_1_0_0)),
    k0_pay32 (F := Ideal) k0_pay29 (View.ld (Val := Elt Ideal) (e' := .f32) x (Rect.unit (s := S8x128x128) ![2, 0, 0] S1x128x128.size inb_S8x128x128_S1x128x128_2_0_0)),
    k0_pay33 (F := Ideal) k0_pay29 (View.ld (Val := Elt Ideal) (e' := .f32) x (Rect.unit (s := S8x128x128) ![3, 0, 0] S1x128x128.size inb_S8x128x128_S1x128x128_3_0_0)),
    k0_pay34 (F := Ideal) k0_pay29 (View.ld (Val := Elt Ideal) (e' := .f32) x (Rect.unit (s := S8x128x128) ![4, 0, 0] S1x128x128.size inb_S8x128x128_S1x128x128_4_0_0)),
    k0_pay35 (F := Ideal) k0_pay29 (View.ld (Val := Elt Ideal) (e' := .f32) x (Rect.unit (s := S8x128x128) ![5, 0, 0] S1x128x128.size inb_S8x128x128_S1x128x128_5_0_0)),
    k0_pay36 (F := Ideal) k0_pay29 (View.ld (Val := Elt Ideal) (e' := .f32) x (Rect.unit (s := S8x128x128) ![6, 0, 0] S1x128x128.size inb_S8x128x128_S1x128x128_6_0_0)),
    k0_pay38 (F := Ideal) (k0_pay37 k0_pay29 (View.ld (Val := Elt Ideal) (e' := .f32) x (Rect.unit (s := S8x128x128) ![7, 0, 0] S1x128x128.size inb_S8x128x128_S1x128x128_7_0_0)))]
    = fun g => k0_pay30 (F := Ideal) (slab x g) := by
  funext g
  match g with
  | ⟨0, _⟩ => exact congrArg (k0_pay30 (F := Ideal)) (ld_slab x 0 inb_S8x128x128_S1x128x128_0_0_0)
  | ⟨1, _⟩ => exact congrArg (k0_pay30 (F := Ideal)) (ld_slab x 1 inb_S8x128x128_S1x128x128_1_0_0)
  | ⟨2, _⟩ => exact congrArg (k0_pay30 (F := Ideal)) (ld_slab x 2 inb_S8x128x128_S1x128x128_2_0_0)
  | ⟨3, _⟩ => exact congrArg (k0_pay30 (F := Ideal)) (ld_slab x 3 inb_S8x128x128_S1x128x128_3_0_0)
  | ⟨4, _⟩ => exact congrArg (k0_pay30 (F := Ideal)) (ld_slab x 4 inb_S8x128x128_S1x128x128_4_0_0)
  | ⟨5, _⟩ => exact congrArg (k0_pay30 (F := Ideal)) (ld_slab x 5 inb_S8x128x128_S1x128x128_5_0_0)
  | ⟨6, _⟩ => exact congrArg (k0_pay30 (F := Ideal)) (ld_slab x 6 inb_S8x128x128_S1x128x128_6_0_0)
  | ⟨7, _⟩ => exact congrArg (k0_pay30 (F := Ideal)) (ld_slab x 7 inb_S8x128x128_S1x128x128_7_0_0)

/-- A block's running sums from the sums before it. -/
noncomputable def sums (x0 : FVec Ideal S1x1024x1024 .f32) (x1 : FVec Ideal S1x1024 .f32) (x5 : FVec Ideal S1024x128 .bf16) (x6 : FVec Ideal S1x128 .f32) (c : FVec Ideal S1x128 .f32) : FVec Ideal S1024x128 .f32 :=
  addf (scan (logs (k0_pay9 (F := Ideal) x0 x1 x5 x6) (k0_pay11 (F := Ideal) x0 x1 x5 x6) (k0_pay12 (F := Ideal) x0 x1 x5 x6) (k0_pay13 (F := Ideal) x0 x1 x5 x6)))
    (broadcastTo S1024x128 c broadcasts_S1x128_S1024x128)

theorem last_at (v30 : FVec Ideal S1024x128 .f32) (v33 : IVec S1024x128 1) (v35 v38 : FVec Ideal S1024x128 .f32) (c : FVec Ideal S1x128 .f32) (a : Fin 8) (l : Fin 128) :
    k0_pay19 (F := Ideal) (iota .tc S1024x128 32 [0] iota_S1024x128_d0_w32) (k0_pay14 v30 v33 v35 v38) k0_pay15 (k0_pay16 v30 v33 v35 v38) (k0_pay17 (F := Ideal)) c (ix2 a l)
      = addf (scan (logs v30 v33 v35 v38)) (broadcastTo S1024x128 c broadcasts_S1x128_S1024x128) (ix2 (⟨1023, by decide⟩ : Fin 1024) l) := by
  rw [← running]
  unfold k0_pay19
  generalize k0_pay18 (F := Ideal) (iota .tc S1024x128 32 [0] iota_S1024x128_d0_w32) (k0_pay14 v30 v33 v35 v38) k0_pay15 (k0_pay16 v30 v33 v35 v38) (k0_pay17 (F := Ideal)) c = z
  pointwise

theorem cum_at (v30 : FVec Ideal S1024x128 .f32) (v33 : IVec S1024x128 1) (v35 v38 : FVec Ideal S1024x128 .f32) (c : FVec Ideal S1x128 .f32) (r : Fin 1024) (l : Fin 128) :
    k0_pay21 (k0_pay20 (F := Ideal) (iota .tc S1024x128 32 [0] iota_S1024x128_d0_w32) (k0_pay14 v30 v33 v35 v38) k0_pay15 (k0_pay16 v30 v33 v35 v38) (k0_pay17 (F := Ideal)) c) (ix3 0 r l)
      = addf (scan (logs v30 v33 v35 v38)) (broadcastTo S1024x128 c broadcasts_S1x128_S1024x128) (ix2 r l) * Named.named (F := Ideal) Cert.EvenInIdeal.κ "log2_e" (φ := .f32) 0x3FB8AA3B#32 := by
  rw [← running]
  unfold k0_pay21 k0_pay20
  generalize k0_pay18 (F := Ideal) (iota .tc S1024x128 32 [0] iota_S1024x128_d0_w32) (k0_pay14 v30 v33 v35 v38) k0_pay15 (k0_pay16 v30 v33 v35 v38) (k0_pay17 (F := Ideal)) c = z
  pointwise

theorem outA12 (c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0) (x0 : FVec Ideal S1x1024x1024 .f32) (x1 : FVec Ideal S1x1024 .f32) (x2 : FVec Ideal S512x1024 .bf16) (x3 : FVec Ideal S1024x512 .bf16) (x4 : FVec Ideal S512x1024 .bf16) (x5 : FVec Ideal S1024x128 .bf16) (x6 : FVec Ideal S1x128 .f32) (x7 : FVec Ideal S1024x1024 .bf16) (x8 x9 : FVec Ideal S1x512 .f32) (x10 : FVec Ideal S8x128x128 .f32) (x11 : FVec Ideal S128x512 .f32) (j : Fin 512) (r : Fin 1024) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 (ix3 0 j r) = k0_pay26 (F := Ideal) (k0_pay7 x0 x1) x2 (ix3 0 j r) := by
  frame_open
  simp (disch := decide) only [load_cleared, View.ld_unit_lit', View.readAt_eq_ld, Memref.IsWhole.read_unread]
  exact read_whole _ _ _ _ _ _

theorem outA13 (c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0) (x0 : FVec Ideal S1x1024x1024 .f32) (x1 : FVec Ideal S1x1024 .f32) (x2 : FVec Ideal S512x1024 .bf16) (x3 : FVec Ideal S1024x512 .bf16) (x4 : FVec Ideal S512x1024 .bf16) (x5 : FVec Ideal S1024x128 .bf16) (x6 : FVec Ideal S1x128 .f32) (x7 : FVec Ideal S1024x1024 .bf16) (x8 x9 : FVec Ideal S1x512 .f32) (x10 : FVec Ideal S8x128x128 .f32) (x11 : FVec Ideal S128x512 .f32) (j : Fin 1024) (r : Fin 512) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 (ix3 0 j r) = k0_pay27 (F := Ideal) (k0_pay7 x0 x1) x3 (ix3 0 j r) := by
  frame_open
  simp (disch := decide) only [load_cleared, View.ld_unit_lit', View.readAt_eq_ld, Memref.IsWhole.read_unread]
  exact read_whole _ _ _ _ _ _

theorem outA14 (c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0) (x0 : FVec Ideal S1x1024x1024 .f32) (x1 : FVec Ideal S1x1024 .f32) (x2 : FVec Ideal S512x1024 .bf16) (x3 : FVec Ideal S1024x512 .bf16) (x4 : FVec Ideal S512x1024 .bf16) (x5 : FVec Ideal S1024x128 .bf16) (x6 : FVec Ideal S1x128 .f32) (x7 : FVec Ideal S1024x1024 .bf16) (x8 x9 : FVec Ideal S1x512 .f32) (x10 : FVec Ideal S8x128x128 .f32) (x11 : FVec Ideal S128x512 .f32) (j : Fin 512) (r : Fin 1024) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 (ix3 0 j r) = k0_pay28 (F := Ideal) (k0_pay7 x0 x1) x4 (ix3 0 j r) := by
  frame_open
  simp (disch := decide) only [load_cleared, View.ld_unit_lit', View.readAt_eq_ld, Memref.IsWhole.read_unread]
  exact read_whole _ _ _ _ _ _

theorem outA15 (c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0) (x0 : FVec Ideal S1x1024x1024 .f32) (x1 : FVec Ideal S1x1024 .f32) (x2 : FVec Ideal S512x1024 .bf16) (x3 : FVec Ideal S1024x512 .bf16) (x4 : FVec Ideal S512x1024 .bf16) (x5 : FVec Ideal S1024x128 .bf16) (x6 : FVec Ideal S1x128 .f32) (x7 : FVec Ideal S1024x1024 .bf16) (x8 x9 : FVec Ideal S1x512 .f32) (x10 : FVec Ideal S8x128x128 .f32) (x11 : FVec Ideal S128x512 .f32) (r : Fin 1024) (l : Fin 128) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 (ix3 0 r l) = sums x0 x1 x5 x6 zeros (ix2 r l) * Named.named (F := Ideal) Cert.EvenInIdeal.κ "log2_e" (φ := .f32) 0x3FB8AA3B#32 := by
  frame_open
  simp (disch := decide) only [load_cleared, View.ld_unit_lit', View.readAt_eq_ld, Memref.IsWhole.read_unread]
  refine (read_whole _ _ _ _ _ _).trans ?_
  exact (cum_at _ _ _ _ _ r l).trans (congrArg (fun h => sums x0 x1 x5 x6 h (ix2 r l) * _) (load_cleared arg19.view inb_S8x128_S8x128_0_0 inb_S8x128_S1x128_0_0))

theorem leftA (c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0) (x0 : FVec Ideal S1x1024x1024 .f32) (x1 : FVec Ideal S1x1024 .f32) (x2 : FVec Ideal S512x1024 .bf16) (x3 : FVec Ideal S1024x512 .bf16) (x4 : FVec Ideal S512x1024 .bf16) (x5 : FVec Ideal S1024x128 .bf16) (x6 : FVec Ideal S1x128 .f32) (x7 : FVec Ideal S1024x1024 .bf16) (x8 x9 : FVec Ideal S1x512 .f32) (x10 : FVec Ideal S8x128x128 .f32) (x11 : FVec Ideal S128x512 .f32) (a : Fin 8) (l : Fin 128) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 (ix2 a l) = sums x0 x1 x5 x6 zeros (ix2 (⟨1023, by decide⟩ : Fin 1024) l) := by
  frame_open
  simp (disch := decide) only [load_cleared, View.ld_unit_lit', View.readAt_eq_ld, Memref.IsWhole.read_unread]
  refine (read_flat _ _ _ _ _ _).trans ?_
  exact (last_at _ _ _ _ _ a l).trans (congrArg (fun h => sums x0 x1 x5 x6 h (ix2 (⟨1023, by decide⟩ : Fin 1024) l)) (load_cleared arg19.view inb_S8x128_S8x128_0_0 inb_S8x128_S1x128_0_0))

theorem outB12 (c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0) (x0 : FVec Ideal S1x1024x1024 .f32) (x1 : FVec Ideal S1x1024 .f32) (x2 : FVec Ideal S512x1024 .bf16) (x3 : FVec Ideal S1024x512 .bf16) (x4 : FVec Ideal S512x1024 .bf16) (x5 : FVec Ideal S1024x128 .bf16) (x6 : FVec Ideal S1x128 .f32) (x7 : FVec Ideal S1024x1024 .bf16) (x8 x9 : FVec Ideal S1x512 .f32) (x10 : FVec Ideal S8x128x128 .f32) (x11 : FVec Ideal S128x512 .f32) (xs0 : FVec Ideal S8x128 .f32) (j : Fin 512) (r : Fin 1024) :
    out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0 (ix3 0 j r) = k0_pay26 (F := Ideal) (k0_pay7 x0 x1) x2 (ix3 0 j r) := by
  frame_open
  simp (disch := decide) only [load_cleared, View.ld_unit_lit', View.readAt_eq_ld, Memref.IsWhole.read_unread]
  exact read_whole _ _ _ _ _ _

theorem outB13 (c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0) (x0 : FVec Ideal S1x1024x1024 .f32) (x1 : FVec Ideal S1x1024 .f32) (x2 : FVec Ideal S512x1024 .bf16) (x3 : FVec Ideal S1024x512 .bf16) (x4 : FVec Ideal S512x1024 .bf16) (x5 : FVec Ideal S1024x128 .bf16) (x6 : FVec Ideal S1x128 .f32) (x7 : FVec Ideal S1024x1024 .bf16) (x8 x9 : FVec Ideal S1x512 .f32) (x10 : FVec Ideal S8x128x128 .f32) (x11 : FVec Ideal S128x512 .f32) (xs0 : FVec Ideal S8x128 .f32) (j : Fin 1024) (r : Fin 512) :
    out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0 (ix3 0 j r) = k0_pay27 (F := Ideal) (k0_pay7 x0 x1) x3 (ix3 0 j r) := by
  frame_open
  simp (disch := decide) only [load_cleared, View.ld_unit_lit', View.readAt_eq_ld, Memref.IsWhole.read_unread]
  exact read_whole _ _ _ _ _ _

theorem outB14 (c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0) (x0 : FVec Ideal S1x1024x1024 .f32) (x1 : FVec Ideal S1x1024 .f32) (x2 : FVec Ideal S512x1024 .bf16) (x3 : FVec Ideal S1024x512 .bf16) (x4 : FVec Ideal S512x1024 .bf16) (x5 : FVec Ideal S1024x128 .bf16) (x6 : FVec Ideal S1x128 .f32) (x7 : FVec Ideal S1024x1024 .bf16) (x8 x9 : FVec Ideal S1x512 .f32) (x10 : FVec Ideal S8x128x128 .f32) (x11 : FVec Ideal S128x512 .f32) (xs0 : FVec Ideal S8x128 .f32) (j : Fin 512) (r : Fin 1024) :
    out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0 (ix3 0 j r) = k0_pay28 (F := Ideal) (k0_pay7 x0 x1) x4 (ix3 0 j r) := by
  frame_open
  simp (disch := decide) only [load_cleared, View.ld_unit_lit', View.readAt_eq_ld, Memref.IsWhole.read_unread]
  exact read_whole _ _ _ _ _ _

theorem outB15 (c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0) (x0 : FVec Ideal S1x1024x1024 .f32) (x1 : FVec Ideal S1x1024 .f32) (x2 : FVec Ideal S512x1024 .bf16) (x3 : FVec Ideal S1024x512 .bf16) (x4 : FVec Ideal S512x1024 .bf16) (x5 : FVec Ideal S1024x128 .bf16) (x6 : FVec Ideal S1x128 .f32) (x7 : FVec Ideal S1024x1024 .bf16) (x8 x9 : FVec Ideal S1x512 .f32) (x10 : FVec Ideal S8x128x128 .f32) (x11 : FVec Ideal S128x512 .f32) (xs0 : FVec Ideal S8x128 .f32) (r : Fin 1024) (l : Fin 128) :
    out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0 (ix3 0 r l) = sums x0 x1 x5 x6 (head xs0) (ix2 r l) * Named.named (F := Ideal) Cert.EvenInIdeal.κ "log2_e" (φ := .f32) 0x3FB8AA3B#32 := by
  frame_open
  simp (disch := decide) only [load_cleared, View.ld_unit_lit', View.readAt_eq_ld, Memref.IsWhole.read_unread]
  refine (read_whole _ _ _ _ _ _).trans ?_
  exact (cum_at _ _ _ _ _ r l).trans (congrArg (fun h => sums x0 x1 x5 x6 h (ix2 r l) * _) (ld_head xs0 inb_S8x128_S1x128_0_0))

theorem leftB (c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0) (x0 : FVec Ideal S1x1024x1024 .f32) (x1 : FVec Ideal S1x1024 .f32) (x2 : FVec Ideal S512x1024 .bf16) (x3 : FVec Ideal S1024x512 .bf16) (x4 : FVec Ideal S512x1024 .bf16) (x5 : FVec Ideal S1024x128 .bf16) (x6 : FVec Ideal S1x128 .f32) (x7 : FVec Ideal S1024x1024 .bf16) (x8 x9 : FVec Ideal S1x512 .f32) (x10 : FVec Ideal S8x128x128 .f32) (x11 : FVec Ideal S128x512 .f32) (xs0 : FVec Ideal S8x128 .f32) (a : Fin 8) (l : Fin 128) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0 (ix2 a l) = sums x0 x1 x5 x6 (head xs0) (ix2 (⟨1023, by decide⟩ : Fin 1024) l) := by
  frame_open
  simp (disch := decide) only [load_cleared, View.ld_unit_lit', View.readAt_eq_ld, Memref.IsWhole.read_unread]
  refine (read_flat _ _ _ _ _ _).trans ?_
  exact (last_at _ _ _ _ _ a l).trans (congrArg (fun h => sums x0 x1 x5 x6 h (ix2 (⟨1023, by decide⟩ : Fin 1024) l)) (ld_head xs0 inb_S8x128_S1x128_0_0))

end Cert.Layer.EvenIn
-- ==== Proof.Layer.EvenGate.lean ====
/-
  What one point of the input part's call leaves in its gated output.
-/
module

public import Idealize.ShloMosaic.Lib.Pipeline.ValueKit
public import Idealize.ShloMosaic.Lib.WritesUnit
public import proofs.«01_k».proof.Proof.Gen.EvenInIdeal.Value
public import proofs.«01_k».proof.Proof.Layer.EvenOut

@[expose] public section
set_option maxRecDepth 16384

namespace Cert.Layer.EvenIn
open Idealize.ShloMosaic Cert.Fox Cert.Layer Cert.EvenInIdeal Cert.EvenInIdeal.Gen

theorem outA16 (c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0) (x0 : FVec Ideal S1x1024x1024 .f32) (x1 : FVec Ideal S1x1024 .f32) (x2 : FVec Ideal S512x1024 .bf16) (x3 : FVec Ideal S1024x512 .bf16) (x4 : FVec Ideal S512x1024 .bf16) (x5 : FVec Ideal S1024x128 .bf16) (x6 : FVec Ideal S1x128 .f32) (x7 : FVec Ideal S1024x1024 .bf16) (x8 x9 : FVec Ideal S1x512 .f32) (x10 : FVec Ideal S8x128x128 .f32) (x11 : FVec Ideal S128x512 .f32) (s : Fin 1024) (L : Fin 512) :
    out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 (ix3 0 s L) = gatedFull (k0_pay23 (F := Ideal) (k0_pay7 x0 x1) x7) (k0_pay25 (F := Ideal) (k0_pay24 (k0_pay7 x0 x1) x7 x8 x9)) (k0_pay40 x11) (fun g => k0_pay30 (F := Ideal) (slab x10 g)) s L := by
  frame_open
  simp (disch := decide) only [load_cleared, View.ld_unit_lit', View.readAt_eq_ld, Memref.IsWhole.read_unread]
  rw [← family]
  refine read_eight _ _ _ _ _ _ _ _ _ _ (gatedFull _ _ _ _)
    (fun r L => (store0 _ _ _ _ _ _ _ _ _ _ _ r L).trans (rebase _ _ _ _ 0 (by decide) (by decide) r L))
    (fun r L => (store128 _ _ _ _ _ _ _ _ _ _ _ r L).trans (rebase _ _ _ _ 128 (by decide) (by decide) r L))
    (fun r L => (store256 _ _ _ _ _ _ _ _ _ _ _ r L).trans (rebase _ _ _ _ 256 (by decide) (by decide) r L))
    (fun r L => (store384 _ _ _ _ _ _ _ _ _ _ _ r L).trans (rebase _ _ _ _ 384 (by decide) (by decide) r L))
    (fun r L => (store512 _ _ _ _ _ _ _ _ _ _ _ r L).trans (rebase _ _ _ _ 512 (by decide) (by decide) r L))
    (fun r L => (store640 _ _ _ _ _ _ _ _ _ _ _ r L).trans (rebase _ _ _ _ 640 (by decide) (by decide) r L))
    (fun r L => (store768 _ _ _ _ _ _ _ _ _ _ _ r L).trans (rebase _ _ _ _ 768 (by decide) (by decide) r L))
    (fun r L => (store896 _ _ _ _ _ _ _ _ _ _ _ r L).trans (rebase _ _ _ _ 896 (by decide) (by decide) r L)) s L

theorem outB16 (c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0) (x0 : FVec Ideal S1x1024x1024 .f32) (x1 : FVec Ideal S1x1024 .f32) (x2 : FVec Ideal S512x1024 .bf16) (x3 : FVec Ideal S1024x512 .bf16) (x4 : FVec Ideal S512x1024 .bf16) (x5 : FVec Ideal S1024x128 .bf16) (x6 : FVec Ideal S1x128 .f32) (x7 : FVec Ideal S1024x1024 .bf16) (x8 x9 : FVec Ideal S1x512 .f32) (x10 : FVec Ideal S8x128x128 .f32) (x11 : FVec Ideal S128x512 .f32) (xs0 : FVec Ideal S8x128 .f32) (s : Fin 1024) (L : Fin 512) :
    out0_B_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0 (ix3 0 s L) = gatedFull (k0_pay23 (F := Ideal) (k0_pay7 x0 x1) x7) (k0_pay25 (F := Ideal) (k0_pay24 (k0_pay7 x0 x1) x7 x8 x9)) (k0_pay40 x11) (fun g => k0_pay30 (F := Ideal) (slab x10 g)) s L := by
  frame_open
  simp (disch := decide) only [load_cleared, View.ld_unit_lit', View.readAt_eq_ld, Memref.IsWhole.read_unread]
  rw [← family]
  refine read_eight _ _ _ _ _ _ _ _ _ _ (gatedFull _ _ _ _)
    (fun r L => (store0 _ _ _ _ _ _ _ _ _ _ _ r L).trans (rebase _ _ _ _ 0 (by decide) (by decide) r L))
    (fun r L => (store128 _ _ _ _ _ _ _ _ _ _ _ r L).trans (rebase _ _ _ _ 128 (by decide) (by decide) r L))
    (fun r L => (store256 _ _ _ _ _ _ _ _ _ _ _ r L).trans (rebase _ _ _ _ 256 (by decide) (by decide) r L))
    (fun r L => (store384 _ _ _ _ _ _ _ _ _ _ _ r L).trans (rebase _ _ _ _ 384 (by decide) (by decide) r L))
    (fun r L => (store512 _ _ _ _ _ _ _ _ _ _ _ r L).trans (rebase _ _ _ _ 512 (by decide) (by decide) r L))
    (fun r L => (store640 _ _ _ _ _ _ _ _ _ _ _ r L).trans (rebase _ _ _ _ 640 (by decide) (by decide) r L))
    (fun r L => (store768 _ _ _ _ _ _ _ _ _ _ _ r L).trans (rebase _ _ _ _ 768 (by decide) (by decide) r L))
    (fun r L => (store896 _ _ _ _ _ _ _ _ _ _ _ r L).trans (rebase _ _ _ _ 896 (by decide) (by decide) r L)) s L

end Cert.Layer.EvenIn
-- ==== Proof.Layer.EvenSpec.lean ====
/-
  The layer's input part as numbers of a batch's rows: queries, keys, values, running sums of the forget gates' logs, and the gated mix.
-/
module

public import proofs.«01_k».proof.Proof.Layer.EvenBody

@[expose] public section
set_option maxRecDepth 16384

namespace Cert.Layer.EvenIn
open Idealize.ShloMosaic Cert.Fox Cert.Layer

/-- A column of the projection of a normed row. -/
noncomputable def proj (x g : Fin 1024 → EReal) (W : Fin 1024 → Fin 2568 → EReal) (j : Fin 2568) : EReal := ∑ e, rms x g e * W e j

/-- A forget gate's logit; zero past the eight heads. -/
noncomputable def logit (x g : Fin 1024 → EReal) (W : Fin 1024 → Fin 2568 → EReal) (f : Fin 8 → EReal) (l : Fin 128) : EReal :=
  if h : l.val < 8 then proj x g W ⟨1536 + l.val, by omega⟩ + f ⟨l.val, h⟩ else 0

/-- The log of the forget gate. -/
noncomputable def forget (x g : Fin 1024 → EReal) (W : Fin 1024 → Fin 2568 → EReal) (f : Fin 8 → EReal) (l : Fin 128) : EReal :=
  0 - soft (0 - logit x g W f l)

/-- A sequence of 2048 numbers, zero past its end. -/
noncomputable def ext (f : Fin 2048 → EReal) (i : Nat) : EReal := if h : i < 2048 then f ⟨i, h⟩ else 0

theorem ext_of (f : Fin 2048 → EReal) (i : Nat) (h : i < 2048) : ext f i = f ⟨i, h⟩ := dif_pos h

/-- The sum of the first numbers of a sequence, up to one. -/
noncomputable def total (f : Fin 2048 → EReal) (t : Nat) : EReal := ∑ i ∈ Finset.range (t + 1), ext f i

/-- A lane of the gelu of the gated projection. -/
noncomputable def zed (x g : Fin 1024 → EReal) (W : Fin 1024 → Fin 2568 → EReal) (j : Fin 1024) : EReal := gelu (proj x g W ⟨1544 + j.val, by omega⟩)

/-- A lane of the normed second half. -/
noncomputable def side (x g : Fin 1024 → EReal) (W : Fin 1024 → Fin 2568 → EReal) (lg lb : Fin 512 → EReal) (L : Fin 512) : EReal :=
  normed (fun L => zed x g W ⟨512 + L.val, by omega⟩) lg lb L

/-- The gated mix at a token: the first half times the second half mixed over the token's 128, lower triangle, by group. -/
noncomputable def gate (x : Fin 2048 → Fin 1024 → EReal) (g : Fin 1024 → EReal) (W : Fin 1024 → Fin 2568 → EReal) (lg lb : Fin 512 → EReal)
    (w : Fin 8 → Fin 128 → Fin 128 → EReal) (b : Fin 8 → Fin 128 → EReal) (t : Fin 2048) (L : Fin 512) : EReal :=
  zed (x t) g W ⟨L.val, by omega⟩ * ((∑ k : Fin 128, (if k.val ≤ t.val % 128 then w ⟨L.val / 64, by omega⟩ ⟨t.val % 128, by omega⟩ k else 0)
    * side (x ⟨128 * (t.val / 128) + k.val, by omega⟩) g W lg lb L) + b ⟨L.val / 64, by omega⟩ ⟨t.val % 128, by omega⟩)

/-- The scale of the queries, and the scale of the running sums. -/
noncomputable def turn : EReal := (((1 / 8) * (Real.log 2)⁻¹ : ℝ) : EReal)
noncomputable def bits : EReal := (((Real.log 2)⁻¹ : ℝ) : EReal)

section Results
variable (X : FVec Ideal ⟨3, ![32, 2048, 1024]⟩ .f32) (g : FVec Ideal ⟨1, ![1024]⟩ .f32) (W : FVec Ideal ⟨2, ![1024, 2568]⟩ .f32)
  (f : FVec Ideal ⟨1, ![8]⟩ .f32) (lg lb : FVec Ideal ⟨1, ![512]⟩ .f32) (w : FVec Ideal ⟨3, ![8, 128, 128]⟩ .f32) (bs : FVec Ideal ⟨2, ![8, 128]⟩ .f32)

/-- The five results at their indices. -/
noncomputable def outQ (b : Fin 32) (j : Fin 512) (t : Fin 2048) : EReal :=
  proj (fun e => X (ix3 b t e)) (fun e => g (ix1 e)) (fun e j => W (ix2 e j)) ⟨j.val, by omega⟩ * turn

noncomputable def outK (b : Fin 32) (t : Fin 2048) (j : Fin 512) : EReal :=
  proj (fun e => X (ix3 b t e)) (fun e => g (ix1 e)) (fun e j => W (ix2 e j)) ⟨512 + j.val, by omega⟩

noncomputable def outV (b : Fin 32) (j : Fin 512) (t : Fin 2048) : EReal :=
  proj (fun e => X (ix3 b t e)) (fun e => g (ix1 e)) (fun e j => W (ix2 e j)) ⟨1024 + j.val, by omega⟩

noncomputable def outC (b : Fin 32) (t : Fin 2048) (l : Fin 128) : EReal :=
  total (fun s => forget (fun e => X (ix3 b s e)) (fun e => g (ix1 e)) (fun e j => W (ix2 e j)) (fun i => f (ix1 i)) l) t.val * bits

noncomputable def outA (b : Fin 32) (t : Fin 2048) (L : Fin 512) : EReal :=
  gate (fun s e => X (ix3 b s e)) (fun e => g (ix1 e)) (fun e j => W (ix2 e j)) (fun i => lg (ix1 i)) (fun i => lb (ix1 i))
    (fun g r k => w (ix3 g r k)) (fun g r => bs (ix2 g r)) t L

end Results

end Cert.Layer.EvenIn
-- ==== Proof.Layer.EvenIn.lean ====
/-
  The input part's call: its five output arrays.
-/
module

public import Idealize.ShloMosaic.Lib.Pipeline.ValueKit
public import Idealize.ShloMosaic.Lib.KernelVsHost
public import proofs.«01_k».proof.Proof.Gen.EvenInIdeal.Value
public import proofs.«01_k».proof.Proof.Layer.EvenOut
public import proofs.«01_k».proof.Proof.Layer.EvenGate
public import proofs.«01_k».proof.Proof.Layer.EvenSpec

@[expose] public section
set_option maxRecDepth 16384

namespace Cert.Layer.EvenIn
open Idealize.ShloMosaic Cert.Fox Cert.Layer Cert.EvenInIdeal Cert.EvenInIdeal.Gen

variable (m : (ℓ : Loc nD τ sig) → Buf (Elt Ideal) ℓ) (c : Dev nD)

/-- The argument arrays. -/
noncomputable abbrev aX : FVec Ideal S32x2048x1024 .f32 := m ((c.tc : Thread nD τ).loc main_arg0)
noncomputable abbrev aG : FVec Ideal S1024 .f32 := m ((c.tc : Thread nD τ).loc main_arg1)
noncomputable abbrev aW : FVec Ideal S1024x2568 .f32 := m ((c.tc : Thread nD τ).loc main_arg2)
noncomputable abbrev aF : FVec Ideal S8 .f32 := m ((c.tc : Thread nD τ).loc main_arg3)
noncomputable abbrev aL : FVec Ideal S512 .f32 := m ((c.tc : Thread nD τ).loc main_arg4)
noncomputable abbrev aM : FVec Ideal S512 .f32 := m ((c.tc : Thread nD τ).loc main_arg5)
noncomputable abbrev aS : FVec Ideal S8x128x128 .f32 := m ((c.tc : Thread nD τ).loc main_arg6)
noncomputable abbrev aB : FVec Ideal S8x128 .f32 := m ((c.tc : Thread nD τ).loc main_arg7)

theorem idx : ∀ t : Fin cfg0.N, win0_0.index t = ![(grid0.coords t 0).val, (grid0.coords t 1).val, 0]
    ∧ win0_1.index t = ![0, 0] ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0] ∧ win0_10.index t = ![0, 0, 0] ∧ win0_11.index t = ![0, 0]
    ∧ win0_12.index t = ![(grid0.coords t 0).val, 0, (grid0.coords t 1).val] ∧ win0_13.index t = ![(grid0.coords t 0).val, (grid0.coords t 1).val, 0]
    ∧ win0_14.index t = ![(grid0.coords t 0).val, 0, (grid0.coords t 1).val] ∧ win0_15.index t = ![(grid0.coords t 0).val, (grid0.coords t 1).val, 0]
    ∧ win0_16.index t = ![(grid0.coords t 0).val, (grid0.coords t 1).val, 0] :=
  (by decide +kernel : ∀ t : Fin grid0.N, _)

/-- An instance's batch and its half of the tokens. -/
def batch (t : Fin cfg0.N) : Fin 32 := grid0.coords t 0
def half (t : Fin cfg0.N) : Fin 2 := grid0.coords t 1

theorem order : ∀ t : Fin cfg0.N, t.val = 2 * (batch t).val + (half t).val :=
  (by decide +kernel : ∀ t : Fin grid0.N, t.val = 2 * (grid0.coords t 0).val + (grid0.coords t 1).val)

/-- What the host lines before the launch put into the call's operands. -/
theorem entry_g : V m c main_v7 = (shapeCast S1x1024 (aG m c) shapeCasts_S1024_S1x1024 : FVec Ideal S1x1024 .f32) := by
  unfold V
  simp only [hostOps0, hostOps0_1, hostOps0_2, hostOps0_3, hostOps0_4, List.flatten_cons, List.flatten_nil, List.append_nil, List.cons_append, List.nil_append]
  after_results
  rfl

theorem entry_q : V m c main_v10 = (truncf .bf16 (transpose S512x1024 [1, 0] (extractStridedSlice S1024x512 ![0, 0] (aW m c) slices_S1024x2568_S1024x512_0_0) transposes_S1024x512_S512x1024_1_0) bitsLt_bf16_f32 : FVec Ideal S512x1024 .bf16) := by
  unfold V
  simp only [hostOps0, hostOps0_1, hostOps0_2, hostOps0_3, hostOps0_4, List.flatten_cons, List.flatten_nil, List.append_nil, List.cons_append, List.nil_append]
  after_results

theorem entry_k : V m c main_v12 = (truncf .bf16 (extractStridedSlice S1024x512 ![0, 512] (aW m c) slices_S1024x2568_S1024x512_0_512) bitsLt_bf16_f32 : FVec Ideal S1024x512 .bf16) := by
  unfold V
  simp only [hostOps0, hostOps0_1, hostOps0_2, hostOps0_3, hostOps0_4, List.flatten_cons, List.flatten_nil, List.append_nil, List.cons_append, List.nil_append]
  after_results

theorem entry_v : V m c main_v15 = (truncf .bf16 (transpose S512x1024 [1, 0] (extractStridedSlice S1024x512 ![0, 1024] (aW m c) slices_S1024x2568_S1024x512_0_1024) transposes_S1024x512_S512x1024_1_0) bitsLt_bf16_f32 : FVec Ideal S512x1024 .bf16) := by
  unfold V
  simp only [hostOps0, hostOps0_1, hostOps0_2, hostOps0_3, hostOps0_4, List.flatten_cons, List.flatten_nil, List.append_nil, List.cons_append, List.nil_append]
  after_results

theorem entry_f : V m c main_v16 = (truncf .bf16 (pad S1024x128 ![0, 0] ![0, 120] ![0, 0] (extractStridedSlice S1024x8 ![0, 1536] (aW m c) slices_S1024x2568_S1024x8_0_1536) (sitofp .f32 (constantI S_ 32 0#32) : FVec Ideal S_ .f32) pads_S1024x8_S1024x128_000_01200 h_S_) bitsLt_bf16_f32 : FVec Ideal S1024x128 .bf16) := by
  unfold V
  simp only [hostOps0, hostOps0_1, hostOps0_2, hostOps0_3, hostOps0_4, List.flatten_cons, List.flatten_nil, List.append_nil, List.cons_append, List.nil_append]
  after_results
  rfl

theorem entry_o : V m c main_v3 = (shapeCast S1x128 (pad S128 ![0] ![120] ![0] (aF m c) (sitofp .f32 (constantI S_ 32 0#32) : FVec Ideal S_ .f32) pads_S8_S128_01200 h_S_) shapeCasts_S128_S1x128 : FVec Ideal S1x128 .f32) := by
  unfold V
  simp only [hostOps0, hostOps0_1, hostOps0_2, hostOps0_3, hostOps0_4, List.flatten_cons, List.flatten_nil, List.append_nil, List.cons_append, List.nil_append]
  after_results
  rfl

theorem entry_z : V m c main_v18 = (truncf .bf16 (extractStridedSlice S1024x1024 ![0, 1544] (aW m c) slices_S1024x2568_S1024x1024_0_1544) bitsLt_bf16_f32 : FVec Ideal S1024x1024 .bf16) := by
  unfold V
  simp only [hostOps0, hostOps0_1, hostOps0_2, hostOps0_3, hostOps0_4, List.flatten_cons, List.flatten_nil, List.append_nil, List.cons_append, List.nil_append]
  after_results

theorem entry_l : V m c main_v19 = (shapeCast S1x512 (aL m c) shapeCasts_S512_S1x512 : FVec Ideal S1x512 .f32) := by
  unfold V
  simp only [hostOps0, hostOps0_1, hostOps0_2, hostOps0_3, hostOps0_4, List.flatten_cons, List.flatten_nil, List.append_nil, List.cons_append, List.nil_append]
  after_results
  rfl

theorem entry_m : V m c main_v20 = (shapeCast S1x512 (aM m c) shapeCasts_S512_S1x512 : FVec Ideal S1x512 .f32) := by
  unfold V
  simp only [hostOps0, hostOps0_1, hostOps0_2, hostOps0_3, hostOps0_4, List.flatten_cons, List.flatten_nil, List.append_nil, List.cons_append, List.nil_append]
  after_results
  rfl

theorem entry_b : V m c main_v6 = (shapeCast S128x512 (broadcastInDim S128x8x64 ![0, 1] bcast_S128x8_S128x8x64_0_1 (transpose S128x8 [1, 0] (aB m c) transposes_S8x128_S128x8_1_0)) shapeCasts_S128x8x64_S128x512 : FVec Ideal S128x512 .f32) := by
  unfold V
  simp only [hostOps0, hostOps0_1, hostOps0_2, hostOps0_3, hostOps0_4, List.flatten_cons, List.flatten_nil, List.append_nil, List.cons_append, List.nil_append]
  after_results
  rfl

theorem line_at (x : FVec Ideal S1024 .f32) (e : Fin 1024) : (shapeCast S1x1024 x shapeCasts_S1024_S1x1024 : FVec Ideal S1x1024 .f32) (ix2 0 e) = x (ix1 e) := by
  pointwise

theorem short_at (x : FVec Ideal S512 .f32) (e : Fin 512) : (shapeCast S1x512 x shapeCasts_S512_S1x512 : FVec Ideal S1x512 .f32) (ix2 0 e) = x (ix1 e) := by
  pointwise

theorem nought : (sitofp .f32 (constantI S_ 32 0#32) : FVec Ideal S_ .f32) (Shape.Idx.first h_S_) = 0 := by
  show (((0#32 : BitVec 32).toInt : ℝ) : EReal) = 0
  norm_num

theorem q_entry (j : Fin 512) (e : Fin 1024) : (V m c main_v10 : FVec Ideal S512x1024 .bf16) (ix2 j e) = aW m c (ix2 e ⟨j.val, by omega⟩) := by
  rw [entry_q]
  pointwise

theorem k_entry (e : Fin 1024) (j : Fin 512) : (V m c main_v12 : FVec Ideal S1024x512 .bf16) (ix2 e j) = aW m c (ix2 e ⟨512 + j.val, by omega⟩) := by
  rw [entry_k]
  pointwise

theorem v_entry (j : Fin 512) (e : Fin 1024) : (V m c main_v15 : FVec Ideal S512x1024 .bf16) (ix2 j e) = aW m c (ix2 e ⟨1024 + j.val, by omega⟩) := by
  rw [entry_v]
  pointwise

theorem z_entry (e j : Fin 1024) : (V m c main_v18 : FVec Ideal S1024x1024 .bf16) (ix2 e j) = aW m c (ix2 e ⟨1544 + j.val, by omega⟩) := by
  rw [entry_z]
  pointwise

theorem f_entry (e : Fin 1024) (l : Fin 128) : (V m c main_v16 : FVec Ideal S1024x128 .bf16) (ix2 e l)
    = if h : l.val < 8 then aW m c (ix2 e ⟨1536 + l.val, by omega⟩) else 0 := by
  rw [entry_f]
  by_cases h : l.val < 8
  · rw [dif_pos h]
    refine (pad_apply_of_inside ![0, 0] ![0, 120] ![0, 0] _ _ pads_S1024x8_S1024x128_000_01200 _ _ (ix2 e (⟨l.val, h⟩ : Fin 8)) fun a => ?_).trans ?_
    · match a with
      | ⟨0, _⟩ => show e.val = 0 + e.val * 1; omega
      | ⟨1, _⟩ => show l.val = 0 + l.val * 1; omega
    · pointwise
  · rw [dif_neg h]
    refine (pad_apply_of_not_inside (s := S1024x8) ![0, 0] ![0, 120] ![0, 0] _ _ pads_S1024x8_S1024x128_000_01200 _ _ (1 : Fin 2) ?_).trans nought
    show ¬(0 ≤ l.val ∧ (l.val - 0) % 1 = 0 ∧ (l.val - 0) / 1 < 8)
    omega

theorem o_entry (l : Fin 128) : (V m c main_v3 : FVec Ideal S1x128 .f32) (ix2 0 l) = if h : l.val < 8 then aF m c (ix1 ⟨l.val, h⟩) else 0 := by
  rw [entry_o]
  refine Eq.trans (b := ((pad S128 ![0] ![120] ![0] (aF m c) (sitofp .f32 (constantI S_ 32 0#32) : FVec Ideal S_ .f32) pads_S8_S128_01200 h_S_ : FVec Ideal S128 .f32)) (ix1 l)) (by generalize (pad S128 ![0] ![120] ![0] (aF m c) (sitofp .f32 (constantI S_ 32 0#32) : FVec Ideal S_ .f32) pads_S8_S128_01200 h_S_ : FVec Ideal S128 .f32) = z; pointwise) ?_
  by_cases h : l.val < 8
  · rw [dif_pos h]
    refine pad_apply_of_inside ![0] ![120] ![0] _ _ pads_S8_S128_01200 _ _ (ix1 (⟨l.val, h⟩ : Fin 8)) fun a => ?_
    match a with
    | ⟨0, _⟩ => show l.val = 0 + l.val * 1; omega
  · rw [dif_neg h]
    refine (pad_apply_of_not_inside (s := S8) ![0] ![120] ![0] _ _ pads_S8_S128_01200 _ _ (0 : Fin 1) ?_).trans nought
    show ¬(0 ≤ l.val ∧ (l.val - 0) % 1 = 0 ∧ (l.val - 0) / 1 < 8)
    omega

theorem b_entry (r : Fin 128) (L : Fin 512) : (V m c main_v6 : FVec Ideal S128x512 .f32) (ix2 r L) = aB m c (ix2 ⟨L.val / 64, by omega⟩ r) := by
  rw [entry_b]
  pointwise

/-- The blocks of an instance. -/
noncomputable abbrev b0 (t : Fin cfg0.N) : FVec Ideal S1x1024x1024 .f32 := iblk m c 0 t
noncomputable abbrev b1 (t : Fin cfg0.N) : FVec Ideal S1x1024 .f32 := iblk m c 1 t
noncomputable abbrev b2 (t : Fin cfg0.N) : FVec Ideal S512x1024 .bf16 := iblk m c 2 t
noncomputable abbrev b3 (t : Fin cfg0.N) : FVec Ideal S1024x512 .bf16 := iblk m c 3 t
noncomputable abbrev b4 (t : Fin cfg0.N) : FVec Ideal S512x1024 .bf16 := iblk m c 4 t
noncomputable abbrev b5 (t : Fin cfg0.N) : FVec Ideal S1024x128 .bf16 := iblk m c 5 t
noncomputable abbrev b6 (t : Fin cfg0.N) : FVec Ideal S1x128 .f32 := iblk m c 6 t
noncomputable abbrev b7 (t : Fin cfg0.N) : FVec Ideal S1024x1024 .bf16 := iblk m c 7 t
noncomputable abbrev b8 (t : Fin cfg0.N) : FVec Ideal S1x512 .f32 := iblk m c 8 t
noncomputable abbrev b9 (t : Fin cfg0.N) : FVec Ideal S1x512 .f32 := iblk m c 9 t
noncomputable abbrev b10 (t : Fin cfg0.N) : FVec Ideal S8x128x128 .f32 := iblk m c 10 t
noncomputable abbrev b11 (t : Fin cfg0.N) : FVec Ideal S128x512 .f32 := iblk m c 11 t

theorem b0_at (t : Fin cfg0.N) (r : Fin 1024) (e : Fin 1024) (s : Fin 2048) (hs : s.val = 1024 * (half t).val + r) :
    b0 m c t (ix3 0 r e) = aX m c (ix3 (batch t) s e) := by
  have hs : s.val = 1024 * (grid0.coords t 1).val + r := hs
  unfold batch
  blk_ext [iblk, V, idx t]

theorem b1_at (t : Fin cfg0.N) (e : Fin 1024) : b1 m c t (ix2 0 e) = aG m c (ix1 e) := by
  refine Eq.trans ?_ ((congrFun (entry_g m c) _).trans (line_at _ e))
  blk_ext [iblk, V, idx t]

theorem b2_at (t : Fin cfg0.N) (j : Fin 512) (e : Fin 1024) : b2 m c t (ix2 j e) = aW m c (ix2 e ⟨j.val, by omega⟩) := by
  refine Eq.trans ?_ (q_entry m c j e)
  blk_ext [iblk, V, idx t]

theorem b3_at (t : Fin cfg0.N) (e : Fin 1024) (j : Fin 512) : b3 m c t (ix2 e j) = aW m c (ix2 e ⟨512 + j.val, by omega⟩) := by
  refine Eq.trans ?_ (k_entry m c e j)
  blk_ext [iblk, V, idx t]

theorem b4_at (t : Fin cfg0.N) (j : Fin 512) (e : Fin 1024) : b4 m c t (ix2 j e) = aW m c (ix2 e ⟨1024 + j.val, by omega⟩) := by
  refine Eq.trans ?_ (v_entry m c j e)
  blk_ext [iblk, V, idx t]

theorem b5_at (t : Fin cfg0.N) (e : Fin 1024) (l : Fin 128) : b5 m c t (ix2 e l) = if h : l.val < 8 then aW m c (ix2 e ⟨1536 + l.val, by omega⟩) else 0 := by
  refine Eq.trans ?_ (f_entry m c e l)
  blk_ext [iblk, V, idx t]

theorem b6_at (t : Fin cfg0.N) (l : Fin 128) : b6 m c t (ix2 0 l) = if h : l.val < 8 then aF m c (ix1 ⟨l.val, h⟩) else 0 := by
  refine Eq.trans ?_ (o_entry m c l)
  blk_ext [iblk, V, idx t]

theorem b7_at (t : Fin cfg0.N) (e j : Fin 1024) : b7 m c t (ix2 e j) = aW m c (ix2 e ⟨1544 + j.val, by omega⟩) := by
  refine Eq.trans ?_ (z_entry m c e j)
  blk_ext [iblk, V, idx t]

theorem b8_at (t : Fin cfg0.N) (e : Fin 512) : b8 m c t (ix2 0 e) = aL m c (ix1 e) := by
  refine Eq.trans ?_ ((congrFun (entry_l m c) _).trans (short_at _ e))
  blk_ext [iblk, V, idx t]

theorem b9_at (t : Fin cfg0.N) (e : Fin 512) : b9 m c t (ix2 0 e) = aM m c (ix1 e) := by
  refine Eq.trans ?_ ((congrFun (entry_m m c) _).trans (short_at _ e))
  blk_ext [iblk, V, idx t]

theorem b10_at (t : Fin cfg0.N) (g : Fin 8) (r k : Fin 128) : b10 m c t (ix3 g r k) = aS m c (ix3 g r k) := by
  blk_ext [iblk, V, idx t]

theorem b11_at (t : Fin cfg0.N) (r : Fin 128) (L : Fin 512) : b11 m c t (ix2 r L) = aB m c (ix2 ⟨L.val / 64, by omega⟩ r) := by
  refine Eq.trans ?_ (b_entry m c r L)
  blk_ext [iblk, V, idx t]

/-- The argument's rows, gains and weights by index. -/
noncomputable abbrev row (b : Fin 32) (s : Fin 2048) : Fin 1024 → EReal := fun e => aX m c (ix3 b s e)
noncomputable abbrev gain : Fin 1024 → EReal := fun e => aG m c (ix1 e)
noncomputable abbrev wts : Fin 1024 → Fin 2568 → EReal := fun e j => aW m c (ix2 e j)
noncomputable abbrev fbias : Fin 8 → EReal := fun i => aF m c (ix1 i)

section Point
variable (t : Fin cfg0.N) (r : Fin 1024) (s : Fin 2048) (hs : s.val = 1024 * (half t).val + r.val)
include hs

theorem row_at (e : Fin 1024) : k0_pay7 (F := Ideal) (b0 m c t) (b1 m c t) (ix2 r e) = rms (row m c (batch t) s) (gain m c) e :=
  (h_at _ _ r e).trans (congrArg₂ (fun x g => rms x g e) (funext fun e => b0_at m c t r e s hs) (funext fun e => b1_at m c t e))

theorem proj_at (w : Fin 1024 → EReal) (j : Fin 2568) (hw : ∀ e, w e = aW m c (ix2 e j)) :
    ∑ e : Fin 1024, k0_pay7 (F := Ideal) (b0 m c t) (b1 m c t) (ix2 r e) * w e = proj (row m c (batch t) s) (gain m c) (wts m c) j :=
  Finset.sum_congr rfl fun e _ => congrArg₂ (· * ·) (row_at m c t r s hs e) (hw e)

theorem q_block (j : Fin 512) : k0_pay26 (F := Ideal) (k0_pay7 (b0 m c t) (b1 m c t)) (b2 m c t) (ix3 0 j r) = outQ (aX m c) (aG m c) (aW m c) (batch t) j s := by
  refine (q_at _ _ j r).trans (congrArg₂ (· * ·) (proj_at m c t r s hs _ _ fun e => b2_at m c t j e) ?_)
  exact IdealRules.named_const.ideal_named_scalar _ _ _ _ rfl

theorem k_block (j : Fin 512) : k0_pay27 (F := Ideal) (k0_pay7 (b0 m c t) (b1 m c t)) (b3 m c t) (ix3 0 r j) = outK (aX m c) (aG m c) (aW m c) (batch t) s j :=
  (k_at _ _ r j).trans (proj_at m c t r s hs _ _ fun e => b3_at m c t e j)

theorem v_block (j : Fin 512) : k0_pay28 (F := Ideal) (k0_pay7 (b0 m c t) (b1 m c t)) (b4 m c t) (ix3 0 j r) = outV (aX m c) (aG m c) (aW m c) (batch t) j s :=
  (v_at _ _ j r).trans (proj_at m c t r s hs _ _ fun e => b4_at m c t j e)

theorem zed_block (j : Fin 1024) : k0_pay22 (F := Ideal) (k0_pay7 (b0 m c t) (b1 m c t)) (b7 m c t) (ix2 r j) = zed (row m c (batch t) s) (gain m c) (wts m c) j :=
  (z_at _ _ r j).trans (congrArg gelu (proj_at m c t r s hs _ _ fun e => b7_at m c t e j))

theorem side_block (L : Fin 512) : k0_pay24 (F := Ideal) (k0_pay7 (b0 m c t) (b1 m c t)) (b7 m c t) (b8 m c t) (b9 m c t) (ix2 r L)
    = side (row m c (batch t) s) (gain m c) (wts m c) (fun i => aL m c (ix1 i)) (fun i => aM m c (ix1 i)) L := by
  refine (g_at _ _ _ _ r L).trans ?_
  unfold side
  rw [show (fun L : Fin 512 => k0_pay22 (F := Ideal) (k0_pay7 (b0 m c t) (b1 m c t)) (b7 m c t) (ix2 r (⟨512 + L.val, by omega⟩ : Fin 1024)))
      = fun L => zed (row m c (batch t) s) (gain m c) (wts m c) ⟨512 + L.val, by omega⟩ from funext fun L => zed_block m c t r s hs _,
    show (fun L => b8 m c t (ix2 0 L)) = fun i => aL m c (ix1 i) from funext fun L => b8_at m c t L,
    show (fun L => b9 m c t (ix2 0 L)) = fun i => aM m c (ix1 i) from funext fun L => b9_at m c t L]

theorem log_block (l : Fin 128) : logs (k0_pay9 (F := Ideal) (b0 m c t) (b1 m c t) (b5 m c t) (b6 m c t)) (k0_pay11 (F := Ideal) (b0 m c t) (b1 m c t) (b5 m c t) (b6 m c t))
    (k0_pay12 (F := Ideal) (b0 m c t) (b1 m c t) (b5 m c t) (b6 m c t)) (k0_pay13 (F := Ideal) (b0 m c t) (b1 m c t) (b5 m c t) (b6 m c t)) (ix2 r l)
      = forget (row m c (batch t) s) (gain m c) (wts m c) (fbias m c) l := by
  refine (logs_at _ _ _ _ r l).trans ?_
  rw [f_at]
  unfold forget
  refine congrArg (fun z => 0 - soft (0 - z)) ?_
  unfold logit
  by_cases h : l.val < 8
  · rw [dif_pos h, b6_at, dif_pos h]
    refine congrArg (· + _) (proj_at m c t r s hs _ _ fun e => ?_)
    rw [b5_at, dif_pos h]
  · rw [dif_neg h, b6_at, dif_neg h, add_zero]
    refine Finset.sum_eq_zero fun e _ => ?_
    rw [b5_at, dif_neg h, mul_zero]

theorem gate_block (L : Fin 512) : gatedFull (k0_pay23 (F := Ideal) (k0_pay7 (b0 m c t) (b1 m c t)) (b7 m c t))
    (k0_pay25 (F := Ideal) (k0_pay24 (k0_pay7 (b0 m c t) (b1 m c t)) (b7 m c t) (b8 m c t) (b9 m c t))) (k0_pay40 (b11 m c t))
    (fun g => k0_pay30 (F := Ideal) (slab (b10 m c t) g)) r L
      = outA (aX m c) (aG m c) (aW m c) (aL m c) (aM m c) (aS m c) (aB m c) (batch t) s L := by
  have hm : s.val % 128 = r.val % 128 := by omega
  unfold gatedFull outA gate
  refine congrArg₂ (· * ·) ((u_at _ _ r L).trans (zed_block m c t r s hs _)) (congrArg₂ (· + ·) (Finset.sum_congr rfl fun k _ => congrArg₂ (· * ·) ?_ ?_) ?_)
  · simp only [hm]
    refine (lower_at _ _ _).trans ?_
    exact congrArg (fun z => if k.val ≤ r.val % 128 then z else 0) (b10_at m c t _ _ _)
  · refine side_block m c t _ _ ?_ L
    show 128 * (s.val / 128) + k.val = 1024 * (half t).val + (128 * (r.val / 128) + k.val)
    omega
  · simp only [hm]
    refine Eq.trans ?_ (b11_at m c t _ L)
    pointwise [k0_pay40]

end Point

/-- A batch's logs of the forget gates of one lane. -/
noncomputable abbrev logsOf (b : Fin 32) (l : Fin 128) : Nat → EReal := ext fun s => forget (row m c b s) (gain m c) (wts m c) (fbias m c) l

theorem sums_at (t : Fin cfg0.N) (r : Fin 1024) (l : Fin 128) (p : FVec Ideal S1x128 .f32) :
    sums (b0 m c t) (b1 m c t) (b5 m c t) (b6 m c t) p (ix2 r l)
      = (∑ i ∈ Finset.range (r.val + 1), logsOf m c (batch t) l (1024 * (half t).val + i)) + p (ix2 0 l) := by
  unfold sums
  refine congrArg₂ (· + ·) (scan_at _ (fun i => logsOf m c (batch t) l (1024 * (half t).val + i)) l (fun r => ?_) r) ?_
  · have hh : (half t).val < 2 := (half t).isLt
    have h : 1024 * (half t).val + r.val < 2048 := by omega
    exact (log_block m c t r ⟨1024 * (half t).val + r.val, h⟩ rfl l).trans
      (ext_of (fun s => forget (row m c (batch t) s) (gain m c) (wts m c) (fbias m c) l) _ h).symm
  · pointwise

theorem parity (t : Fin cfg0.N) (h0 : t.val % 2 = 0) : (half t).val = 0 := by
  have h := order t
  have h2 : (half t).val < 2 := (half t).isLt
  omega

theorem odd (t : Fin cfg0.N) (h0 : ¬t.val % 2 = 0) : (half t).val = 1 := by
  have h := order t
  have h2 : (half t).val < 2 := (half t).isLt
  omega

theorem fst_of {α β : Type} {p : α × β} {a : α} {b : β} (h : p = (a, b)) : p.1 = a := congrArg Prod.fst h
theorem snd_of {α β : Type} {p : α × β} {a : α} {b : β} (h : p = (a, b)) : p.2 = b := congrArg Prod.snd h

/-- What a batch's first instance leaves for its second: the sums of its 1024 logs. -/
theorem left_first (t : Fin cfg0.N) (h0 : t.val % 2 = 0) (l : Fin 128) :
    (outsAt0 m c t.val t.isLt).2.2.2.2.2 (ix2 0 l) = ∑ i ∈ Finset.range 1024, logsOf m c (batch t) l i := by
  refine (congrFun (snd_of (snd_of (snd_of (snd_of (snd_of (outsAt0_A m c t h0)))))) _).trans ?_
  refine (leftA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) 0 l).trans ?_
  refine (sums_at m c t _ l _).trans ?_
  rw [parity t h0]
  refine (add_zero _).trans (Finset.sum_congr rfl fun i _ => ?_)
  rw [Nat.mul_zero, Nat.zero_add]

theorem whole_first (t : Fin cfg0.N) (h0 : t.val % 2 = 0) (r : Fin 1024) (l : Fin 128) (s : Fin 2048) (hs : s.val = 1024 * (half t).val + r.val) :
    sums (b0 m c t) (b1 m c t) (b5 m c t) (b6 m c t) zeros (ix2 r l) = ∑ i ∈ Finset.range (s.val + 1), logsOf m c (batch t) l i := by
  refine (sums_at m c t r l _).trans ?_
  rw [hs, parity t h0]
  refine (add_zero _).trans ?_
  simp only [Nat.mul_zero, Nat.zero_add]

theorem whole_second (t : Fin cfg0.N) (h0 : ¬t.val % 2 = 0) (r : Fin 1024) (l : Fin 128) (s : Fin 2048) (hs : s.val = 1024 * (half t).val + r.val) :
    sums (b0 m c t) (b1 m c t) (b5 m c t) (b6 m c t) (head (outsAt0 m c (t.val - 1) (Nat.lt_of_le_of_lt (Nat.sub_le _ _) t.isLt)).2.2.2.2.2) (ix2 r l)
      = ∑ i ∈ Finset.range (s.val + 1), logsOf m c (batch t) l i := by
  have ht := odd t h0
  have hb : batch ⟨t.val - 1, Nat.lt_of_le_of_lt (Nat.sub_le _ _) t.isLt⟩ = batch t := by
    have o1 := order t
    have o2 := order ⟨t.val - 1, Nat.lt_of_le_of_lt (Nat.sub_le _ _) t.isLt⟩
    have o3 : (⟨t.val - 1, Nat.lt_of_le_of_lt (Nat.sub_le _ _) t.isLt⟩ : Fin cfg0.N).val = t.val - 1 := rfl
    have h2 : (half ⟨t.val - 1, Nat.lt_of_le_of_lt (Nat.sub_le _ _) t.isLt⟩).val < 2 := Fin.isLt _
    exact Fin.ext (by omega)
  refine (sums_at m c t r l _).trans ?_
  rw [hs, ht]
  have hl : head (outsAt0 m c (t.val - 1) (Nat.lt_of_le_of_lt (Nat.sub_le _ _) t.isLt)).2.2.2.2.2 (ix2 0 l) = ∑ i ∈ Finset.range 1024, logsOf m c (batch t) l i :=
    (left_first m c ⟨t.val - 1, Nat.lt_of_le_of_lt (Nat.sub_le _ _) t.isLt⟩ (by show (t.val - 1) % 2 = 0; omega) l).trans (by rw [hb])
  rw [hl, add_comm, Nat.mul_one, Nat.add_assoc]
  exact (Finset.sum_range_add _ 1024 (r.val + 1)).symm

theorem point12 (t : Fin cfg0.N) (j : Fin 512) (r : Fin 1024) (s : Fin 2048) (hs : s.val = 1024 * (half t).val + r.val) :
    (outsAt0 m c t.val t.isLt).1 (ix3 0 j r) = outQ (aX m c) (aG m c) (aW m c) (batch t) j s := by
  by_cases h0 : t.val % 2 = 0
  · refine (congrFun (fst_of (outsAt0_A m c t h0)) _).trans ?_
    exact (outA12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) j r).trans (q_block m c t r s hs j)
  · refine (congrFun (fst_of (outsAt0_B m c t h0)) _).trans ?_
    exact (outB12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.2 j r).trans (q_block m c t r s hs j)

theorem point13 (t : Fin cfg0.N) (r : Fin 1024) (j : Fin 512) (s : Fin 2048) (hs : s.val = 1024 * (half t).val + r.val) :
    (outsAt0 m c t.val t.isLt).2.1 (ix3 0 r j) = outK (aX m c) (aG m c) (aW m c) (batch t) s j := by
  by_cases h0 : t.val % 2 = 0
  · refine (congrFun (fst_of (snd_of (outsAt0_A m c t h0))) _).trans ?_
    exact (outA13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r j).trans (k_block m c t r s hs j)
  · refine (congrFun (fst_of (snd_of (outsAt0_B m c t h0))) _).trans ?_
    exact (outB13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.2 r j).trans (k_block m c t r s hs j)

theorem point14 (t : Fin cfg0.N) (j : Fin 512) (r : Fin 1024) (s : Fin 2048) (hs : s.val = 1024 * (half t).val + r.val) :
    (outsAt0 m c t.val t.isLt).2.2.1 (ix3 0 j r) = outV (aX m c) (aG m c) (aW m c) (batch t) j s := by
  by_cases h0 : t.val % 2 = 0
  · refine (congrFun (fst_of (snd_of (snd_of (outsAt0_A m c t h0)))) _).trans ?_
    exact (outA14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) j r).trans (v_block m c t r s hs j)
  · refine (congrFun (fst_of (snd_of (snd_of (outsAt0_B m c t h0)))) _).trans ?_
    exact (outB14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.2 j r).trans (v_block m c t r s hs j)

theorem point15 (t : Fin cfg0.N) (r : Fin 1024) (j : Fin 128) (s : Fin 2048) (hs : s.val = 1024 * (half t).val + r.val) :
    (outsAt0 m c t.val t.isLt).2.2.2.1 (ix3 0 r j) = outC (aX m c) (aG m c) (aW m c) (aF m c) (batch t) s j := by
  by_cases h0 : t.val % 2 = 0
  · refine (congrFun (fst_of (snd_of (snd_of (snd_of (outsAt0_A m c t h0))))) _).trans ?_
    exact (outA15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r j).trans (congrArg₂ (· * ·) (whole_first m c t h0 r j s hs) (IdealRules.named_const.ideal_named_scalar _ _ _ _ rfl))
  · refine (congrFun (fst_of (snd_of (snd_of (snd_of (outsAt0_B m c t h0))))) _).trans ?_
    exact (outB15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.2 r j).trans (congrArg₂ (· * ·) (whole_second m c t h0 r j s hs) (IdealRules.named_const.ideal_named_scalar _ _ _ _ rfl))

theorem point16 (t : Fin cfg0.N) (r : Fin 1024) (j : Fin 512) (s : Fin 2048) (hs : s.val = 1024 * (half t).val + r.val) :
    (outsAt0 m c t.val t.isLt).2.2.2.2.1 (ix3 0 r j) = outA (aX m c) (aG m c) (aW m c) (aL m c) (aM m c) (aS m c) (aB m c) (batch t) s j := by
  by_cases h0 : t.val % 2 = 0
  · refine (congrFun (fst_of (snd_of (snd_of (snd_of (snd_of (outsAt0_A m c t h0)))))) _).trans ?_
    exact (outA16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r j).trans (gate_block m c t r s hs j)
  · refine (congrFun (fst_of (snd_of (snd_of (snd_of (snd_of (outsAt0_B m c t h0)))))) _).trans ?_
    exact (outB16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.2 r j).trans (gate_block m c t r s hs j)

theorem final12 : (dats m 0 c).arrAt 12 (cfgs 0).N = fun i => outQ (aX m c) (aG m c) (aW m c) (i 0) (i 1) (i 2) := by
  refine (dats m 0 c).arrAt_eq_of_covers 12 _ (by decide +kernel) fun t _ y => ?_
  blk_simp
  rw [after0_12]
  obtain ⟨y0, j, r, rfl⟩ := three (a := 1) (b := 512) (n := 1024) y
  obtain rfl : y0 = 0 := Subsingleton.elim _ _
  refine (point12 m c t j r ((win0_12.blk t).view.emb (ix3 0 j r) 2) ?_).trans ?_
  · unfold half
    blk_simp [idx t]
    omega
  · unfold batch
    have h0 : (win0_12.blk t).view.emb (ix3 0 j r) 0 = grid0.coords t 0 := by
      apply Fin.ext
      blk_simp [idx t]
      exact Nat.add_zero _
    have h1 : (win0_12.blk t).view.emb (ix3 0 j r) 1 = j := by
      apply Fin.ext
      blk_simp [idx t]
    rw [h0, h1]

theorem final13 : (dats m 0 c).arrAt 13 (cfgs 0).N = fun i => outK (aX m c) (aG m c) (aW m c) (i 0) (i 1) (i 2) := by
  refine (dats m 0 c).arrAt_eq_of_covers 13 _ (by decide +kernel) fun t _ y => ?_
  blk_simp
  rw [after0_13]
  obtain ⟨y0, r, j, rfl⟩ := three (a := 1) (b := 1024) (n := 512) y
  obtain rfl : y0 = 0 := Subsingleton.elim _ _
  refine (point13 m c t r j ((win0_13.blk t).view.emb (ix3 0 r j) 1) ?_).trans ?_
  · unfold half
    blk_simp [idx t]
    omega
  · unfold batch
    have h0 : (win0_13.blk t).view.emb (ix3 0 r j) 0 = grid0.coords t 0 := by
      apply Fin.ext
      blk_simp [idx t]
      exact Nat.add_zero _
    have h1 : (win0_13.blk t).view.emb (ix3 0 r j) 2 = j := by
      apply Fin.ext
      blk_simp [idx t]
    rw [h0, h1]

theorem final14 : (dats m 0 c).arrAt 14 (cfgs 0).N = fun i => outV (aX m c) (aG m c) (aW m c) (i 0) (i 1) (i 2) := by
  refine (dats m 0 c).arrAt_eq_of_covers 14 _ (by decide +kernel) fun t _ y => ?_
  blk_simp
  rw [after0_14]
  obtain ⟨y0, j, r, rfl⟩ := three (a := 1) (b := 512) (n := 1024) y
  obtain rfl : y0 = 0 := Subsingleton.elim _ _
  refine (point14 m c t j r ((win0_14.blk t).view.emb (ix3 0 j r) 2) ?_).trans ?_
  · unfold half
    blk_simp [idx t]
    omega
  · unfold batch
    have h0 : (win0_14.blk t).view.emb (ix3 0 j r) 0 = grid0.coords t 0 := by
      apply Fin.ext
      blk_simp [idx t]
      exact Nat.add_zero _
    have h1 : (win0_14.blk t).view.emb (ix3 0 j r) 1 = j := by
      apply Fin.ext
      blk_simp [idx t]
    rw [h0, h1]

theorem final15 : (dats m 0 c).arrAt 15 (cfgs 0).N = fun i => outC (aX m c) (aG m c) (aW m c) (aF m c) (i 0) (i 1) (i 2) := by
  refine (dats m 0 c).arrAt_eq_of_covers 15 _ (by decide +kernel) fun t _ y => ?_
  blk_simp
  rw [after0_15]
  obtain ⟨y0, r, j, rfl⟩ := three (a := 1) (b := 1024) (n := 128) y
  obtain rfl : y0 = 0 := Subsingleton.elim _ _
  refine (point15 m c t r j ((win0_15.blk t).view.emb (ix3 0 r j) 1) ?_).trans ?_
  · unfold half
    blk_simp [idx t]
    omega
  · unfold batch
    have h0 : (win0_15.blk t).view.emb (ix3 0 r j) 0 = grid0.coords t 0 := by
      apply Fin.ext
      blk_simp [idx t]
      exact Nat.add_zero _
    have h1 : (win0_15.blk t).view.emb (ix3 0 r j) 2 = j := by
      apply Fin.ext
      blk_simp [idx t]
    rw [h0, h1]

theorem final16 : (dats m 0 c).arrAt 16 (cfgs 0).N = fun i => outA (aX m c) (aG m c) (aW m c) (aL m c) (aM m c) (aS m c) (aB m c) (i 0) (i 1) (i 2) := by
  refine (dats m 0 c).arrAt_eq_of_covers 16 _ (by decide +kernel) fun t _ y => ?_
  blk_simp
  rw [after0_16]
  obtain ⟨y0, r, j, rfl⟩ := three (a := 1) (b := 1024) (n := 512) y
  obtain rfl : y0 = 0 := Subsingleton.elim _ _
  refine (point16 m c t r j ((win0_16.blk t).view.emb (ix3 0 r j) 1) ?_).trans ?_
  · unfold half
    blk_simp [idx t]
    omega
  · unfold batch
    have h0 : (win0_16.blk t).view.emb (ix3 0 r j) 0 = grid0.coords t 0 := by
      apply Fin.ext
      blk_simp [idx t]
      exact Nat.add_zero _
    have h1 : (win0_16.blk t).view.emb (ix3 0 r j) 2 = j := by
      apply Fin.ext
      blk_simp [idx t]
    rw [h0, h1]

end Cert.Layer.EvenIn
-- ==== Proof.Layer.EvenInRef.lean ====
/-
  The reference's input part, row by row.
-/
module

public import Idealize.ShloMosaic.Lib.Pipeline.ValueKit
public import Idealize.ShloMosaic.Lib.KernelVsHost
public import proofs.«01_k».proof.Proof.Gen.EvenInRefIdeal.Run
public import proofs.«01_k».proof.Proof.Fox.KernelValue
public import proofs.«01_k».proof.Proof.Layer.EvenSpec

@[expose] public section
set_option maxRecDepth 16384

namespace Cert.Layer.EvenInRef
open Idealize.ShloMosaic Cert.Fox Cert.Layer Cert.Layer.EvenIn Cert.EvenInRefIdeal Cert.EvenInRefIdeal.Gen Cert.EvenInRefIdeal.Value

/-- The normed rows. -/
noncomputable def norm (x : FVec Ideal S32x2048x1024 .f32) (g : FVec Ideal S1024 .f32) : FVec Ideal S32x2048x1024 .f32 :=
  mulf (mulf x (broadcastInDim S32x2048x1024 ![0, 1, 2] bcast_S32x2048x1_S32x2048x1024_0_1_2 (Host.rsqrt (addf (Host.divf
    (broadcastInDim S32x2048x1 ![0, 1] bcast_S32x2048_S32x2048x1_0_1 (Host.reduceAdd (mulf x x) (constant S_ .f32 0x00000000#32) reducesTo_S32x2048x1024_S32x2048_d2 h_S_))
    (broadcastInDim S32x2048x1 ![] bcast_S_S32x2048x1 (constant S_ .f32 0x44800000#32))) (broadcastInDim S32x2048x1 ![] bcast_S_S32x2048x1 (constant S_ .f32 0x358637BD#32))))))
    (broadcastInDim S32x2048x1024 ![0, 1, 2] bcast_S1x1x1024_S32x2048x1024_0_1_2 (broadcastInDim S1x1x1024 ![2] bcast_S1024_S1x1x1024_2 g))

theorem norm_at (x g) (b : Fin 32) (t : Fin 2048) (e : Fin 1024) : norm x g (ix3 b t e) = rms (fun e => x (ix3 b t e)) (fun e => g (ix1 e)) e := by
  unfold norm
  pointwise
  rfl

/-- The joined projection. -/
noncomputable def joined (x : FVec Ideal S32x2048x1024 .f32) (g : FVec Ideal S1024 .f32) (w : FVec Ideal S1024x2568 .f32) : FVec Ideal S32x2048x2568 .f32 :=
  Host.dotGeneral dot_S32x2048x1024_S1024x2568_S32x2048x2568_2_0_01_1_n_n none (norm x g) w

theorem joined_at (x g w) (b : Fin 32) (t : Fin 2048) (j : Fin 2568) : joined x g w (ix3 b t j)
    = proj (fun e => x (ix3 b t e)) (fun e => g (ix1 e)) (fun e j => w (ix2 e j)) j := by
  unfold joined
  pointwise
  simp only [norm_at]
  rfl

/-- The queries, keys and values. -/
noncomputable def queries (p : FVec Ideal S32x2048x2568 .f32) : FVec Ideal S32x512x2048 .bf16 :=
  transpose S32x512x2048 [0, 2, 1] (truncf .bf16 (Host.divf (mulf (extractStridedSlice S32x2048x512 ![0, 0, 0] p slices_S32x2048x2568_S32x2048x512_0_0_0)
    (broadcastInDim S32x2048x512 ![] bcast_S_S32x2048x512 (constant S_ .f32 0x3E000000#32))) (broadcastInDim S32x2048x512 ![] bcast_S_S32x2048x512 (Host.log (constant S_ .f32 0x40000000#32)))) bitsLt_bf16_f32)
    transposes_S32x2048x512_S32x512x2048_0_2_1

theorem log_pos : Real.log 2 ≠ 0 := (Real.log_pos one_lt_two).ne'

theorem queries_at (p) (b : Fin 32) (j : Fin 512) (t : Fin 2048) : queries p (ix3 b j t) = p (ix3 b t ⟨j.val, by omega⟩) * turn := by
  unfold queries
  refine Eq.trans (b := Ideal.div (p (ix3 b t ⟨j.val, by omega⟩) * Ideal.ofBits .f32 0x3E000000#32) (Ideal.log (Ideal.ofBits .f32 0x40000000#32))) (by pointwise) ?_
  rw [Fox.eighth, Fox.log_two, Ideal.div_coe log_pos, mul_assoc, ← EReal.coe_mul, one_div (Real.log 2)]
  rfl

noncomputable def keys (p : FVec Ideal S32x2048x2568 .f32) : FVec Ideal S32x2048x512 .bf16 :=
  truncf .bf16 (extractStridedSlice S32x2048x512 ![0, 0, 512] p slices_S32x2048x2568_S32x2048x512_0_0_512) bitsLt_bf16_f32

theorem keys_at (p) (b : Fin 32) (t : Fin 2048) (j : Fin 512) : keys p (ix3 b t j) = p (ix3 b t ⟨512 + j.val, by omega⟩) := by
  unfold keys
  pointwise

noncomputable def vals (p : FVec Ideal S32x2048x2568 .f32) : FVec Ideal S32x512x2048 .bf16 :=
  transpose S32x512x2048 [0, 2, 1] (truncf .bf16 (extractStridedSlice S32x2048x512 ![0, 0, 1024] p slices_S32x2048x2568_S32x2048x512_0_0_1024) bitsLt_bf16_f32)
    transposes_S32x2048x512_S32x512x2048_0_2_1

theorem vals_at (p) (b : Fin 32) (j : Fin 512) (t : Fin 2048) : vals p (ix3 b j t) = p (ix3 b t ⟨1024 + j.val, by omega⟩) := by
  unfold vals
  pointwise

/-- The forget gates' logits, padded to 128 lanes. -/
noncomputable def logits (p : FVec Ideal S32x2048x2568 .f32) (f : FVec Ideal S8 .f32) : FVec Ideal S32x2048x128 .f32 :=
  pad S32x2048x128 ![0, 0, 0] ![0, 0, 120] ![0, 0, 0] (addf (extractStridedSlice S32x2048x8 ![0, 0, 1536] p slices_S32x2048x2568_S32x2048x8_0_0_1536)
    (broadcastInDim S32x2048x8 ![0, 1, 2] bcast_S1x1x8_S32x2048x8_0_1_2 (broadcastInDim S1x1x8 ![2] bcast_S8_S1x1x8_2 f)))
    (sitofp .f32 (constantI S_ 32 0#32)) pads_S32x2048x8_S32x2048x128_000_000_01200 h_S_

theorem logits_at (x g w f) (b : Fin 32) (t : Fin 2048) (l : Fin 128) : logits (joined x g w) f (ix3 b t l)
    = EvenIn.logit (fun e => x (ix3 b t e)) (fun e => g (ix1 e)) (fun e j => w (ix2 e j)) (fun i => f (ix1 i)) l := by
  unfold logits EvenIn.logit
  by_cases h : l.val < 8
  · rw [dif_pos h, ← joined_at]
    refine (pad_apply_of_inside ![0, 0, 0] ![0, 0, 120] ![0, 0, 0] _ _ pads_S32x2048x8_S32x2048x128_000_000_01200 _ _ (ix3 b t (⟨l.val, h⟩ : Fin 8)) fun a => ?_).trans ?_
    · match a with
      | ⟨0, _⟩ => show b.val = 0 + b.val * 1; omega
      | ⟨1, _⟩ => show t.val = 0 + t.val * 1; omega
      | ⟨2, _⟩ => show l.val = 0 + l.val * 1; omega
    · generalize joined x g w = p
      pointwise
  · rw [dif_neg h]
    refine (pad_apply_of_not_inside (s := S32x2048x8) ![0, 0, 0] ![0, 0, 120] ![0, 0, 0] _ _ pads_S32x2048x8_S32x2048x128_000_000_01200 _ _ (2 : Fin 3) ?_).trans ?_
    · show ¬(0 ≤ l.val ∧ (l.val - 0) % 1 = 0 ∧ (l.val - 0) / 1 < 8)
      omega
    · show (((0#32 : BitVec 32).toInt : ℝ) : EReal) = 0
      norm_num

/-- The logs of the forget gates. -/
noncomputable def forgets (n : FVec Ideal S32x2048x128 .f32) : FVec Ideal S32x2048x128 .f32 :=
  Host.negf (select (cmpf .une (subf n (broadcastInDim S32x2048x128 ![] bcast_S_S32x2048x128 (constant S_ .f32 0x00000000#32))) (subf n (broadcastInDim S32x2048x128 ![] bcast_S_S32x2048x128 (constant S_ .f32 0x00000000#32))))
    (addf n (broadcastInDim S32x2048x128 ![] bcast_S_S32x2048x128 (constant S_ .f32 0x00000000#32)))
    (addf (maximumf n (broadcastInDim S32x2048x128 ![] bcast_S_S32x2048x128 (constant S_ .f32 0x00000000#32)))
      (Host.log1p (Host.exp (Host.negf (Host.absf (subf n (broadcastInDim S32x2048x128 ![] bcast_S_S32x2048x128 (constant S_ .f32 0x00000000#32)))))))))

theorem forgets_at (n) (b : Fin 32) (t : Fin 2048) (l : Fin 128) : forgets n (ix3 b t l) = 0 - soft (n (ix3 b t l)) := by
  unfold forgets soft
  rw [zero_sub]
  refine congrArg (fun z : EReal => -z) ?_
  pointwise
  rw [if_neg (not_not.mpr rfl), zero_sub]
  rfl

/-- The running sums along the tokens. -/
noncomputable def runs (z : FVec Ideal S32x2048x128 .f32) : FVec Ideal S32x2048x128 .f32 :=
  Host.reduceWindowAdd ![1, 2048, 1] ![1, 1, 1] ![0, 2047, 0] ![0, 0, 0] z (broadcastInDim S_ ![] bcast_S_S_ (constant S_ .f32 0x00000000#32))
    reduceWindows_S32x2048x128_S32x2048x128_w1s1p0_0_w2048s1p2047_0_w1s1p0_0 h_S_

/-- A windowed sum from zero is the sum of what its windows' places hold. -/
theorem window_at {s t u : Shape} (window strides lo hi : Fin s.rank → Nat) (x : FVec Ideal s .f32) (init : FVec Ideal u .f32)
    (h : s.ReduceWindows window strides lo hi t) (hu : 0 < u.numel) (h0 : init (Shape.Idx.first hu) = 0) (j : t.Idx) :
    Host.reduceWindowAdd window strides lo hi x init h hu j = ∑ k : (⟨s.rank, window⟩ : Shape).Idx,
      (if hin : ∀ a, lo a ≤ (j (a.cast h.1.symm)).val * strides a + (k a).val ∧ (j (a.cast h.1.symm)).val * strides a + (k a).val - lo a < s.size a
        then x (fun a => ⟨(j (a.cast h.1.symm)).val * strides a + (k a).val - lo a, (hin a).2⟩) else 0) := by
  rw [← Equiv.sum_comp (⟨s.rank, window⟩ : Shape).rowMajor.symm, ← foldl_sum, ← h0]
  show Host.reduceWindow (fun a b : EReal => a + b) window strides lo hi x (fun _ : (⟨0, ![]⟩ : Shape).Idx => init (Shape.Idx.first hu)) h (by decide) j = _
  unfold Host.reduceWindow
  refine congrArg (fun F => (List.finRange (⟨s.rank, window⟩ : Shape).numel).foldl F (init (Shape.Idx.first hu))) (funext fun r => funext fun n => congrArg (r + ·) ?_)
  congr

theorem places (f : Win.Idx → EReal) : ∑ k, f k = ∑ k : Fin 2048, f (ix3 (0 : Fin 1) k (0 : Fin 1)) :=
  (Equiv.sum_comp Win.rowMajor.symm f).symm.trans (sum_win f)

/-- What a window at a token adds at one of its places. -/
noncomputable def part (z : FVec Ideal S32x2048x128 .f32) (b : Fin 32) (t : Fin 2048) (l : Fin 128) (k : Win.Idx) : EReal :=
  if h : 2047 ≤ t.val + (k 1).val then z (ix3 b ⟨t.val + (k 1).val - 2047, by have h1 : (k 1).val < 2048 := (k 1).isLt; omega⟩ l) else 0

theorem none_yet : (broadcastInDim S_ ![] bcast_S_S_ (constant (F := Ideal) S_ .f32 0x00000000#32)) (Shape.Idx.first h_S_) = 0 := by
  show Ideal.ofBits .f32 0x00000000#32 = 0
  simp [Ideal.ofBits, Ideal.ieee]

theorem runs_at (z) (b : Fin 32) (t : Fin 2048) (l : Fin 128) : runs z (ix3 b t l) = total (fun s => z (ix3 b s l)) t.val := by
  have h1 : runs z (ix3 b t l) = ∑ k : Fin 2048, part z b t l (ix3 (0 : Fin 1) k (0 : Fin 1)) := by
    unfold runs
    refine (window_at (s := S32x2048x128) (t := S32x2048x128) (u := S_) ![1, 2048, 1] ![1, 1, 1] ![0, 2047, 0] ![0, 0, 0] z (broadcastInDim S_ ![] bcast_S_S_ (constant S_ .f32 0x00000000#32))
      reduceWindows_S32x2048x128_S32x2048x128_w1s1p0_0_w2048s1p2047_0_w1s1p0_0 h_S_ none_yet (ix3 b t l)).trans ?_
    refine (places _).trans (Finset.sum_congr rfl fun k1 _ => ?_)
    unfold part
    by_cases h : 2047 ≤ t.val + k1.val
    · rw [dif_pos (show 2047 ≤ t.val + ((ix3 (0 : Fin 1) k1 (0 : Fin 1) : Win.Idx) 1).val from h)]
      refine (dif_pos ?_).trans (congrArg z (funext fun a => Fin.ext ?_))
      · intro a
        match a with
        | ⟨0, _⟩ => show 0 ≤ b.val * 1 + 0 ∧ b.val * 1 + 0 - 0 < 32; omega
        | ⟨1, _⟩ => show 2047 ≤ t.val * 1 + k1.val ∧ t.val * 1 + k1.val - 2047 < 2048; omega
        | ⟨2, _⟩ => show 0 ≤ l.val * 1 + 0 ∧ l.val * 1 + 0 - 0 < 128; omega
      · match a with
        | ⟨0, _⟩ => show b.val * 1 + 0 - 0 = b.val; omega
        | ⟨1, _⟩ => show t.val * 1 + k1.val - 2047 = t.val + k1.val - 2047; omega
        | ⟨2, _⟩ => show l.val * 1 + 0 - 0 = l.val; omega
    · rw [dif_neg (show ¬2047 ≤ t.val + ((ix3 (0 : Fin 1) k1 (0 : Fin 1) : Win.Idx) 1).val from h)]
      refine dif_neg fun hin => h ?_
      have h2 : 2047 ≤ t.val * 1 + k1.val := (hin 1).1
      omega
  rw [h1, ← Equiv.sum_comp Fin.revPerm]
  unfold total
  rw [← back_all (ext fun s => z (ix3 b s l)) t.isLt]
  unfold back
  rw [← Fin.sum_univ_eq_sum_range (fun i => if i ≤ t.val then ext (fun s => z (ix3 b s l)) (t.val - i) else 0)]
  refine Finset.sum_congr rfl fun k _ => ?_
  unfold part
  have hk : (Fin.revPerm k).val = 2047 - k.val := by
    show 2048 - (k.val + 1) = 2047 - k.val
    omega
  by_cases h : k.val ≤ t.val
  · rw [dif_pos (show 2047 ≤ t.val + ((ix3 (0 : Fin 1) (Fin.revPerm k) (0 : Fin 1) : Win.Idx) 1).val from by show 2047 ≤ t.val + (Fin.revPerm k).val; omega), if_pos h, ext_of _ _ (by omega)]
    exact congrArg (fun s => z (ix3 b s l)) (Fin.ext (by show t.val + (Fin.revPerm k).val - 2047 = t.val - k.val; omega))
  · rw [dif_neg (show ¬2047 ≤ t.val + ((ix3 (0 : Fin 1) (Fin.revPerm k) (0 : Fin 1) : Win.Idx) 1).val from by show ¬2047 ≤ t.val + (Fin.revPerm k).val; omega), if_neg h]

/-- The running sums in units of the log of two. -/
noncomputable def cums (p : FVec Ideal S32x2048x2568 .f32) (f : FVec Ideal S8 .f32) : FVec Ideal S32x2048x128 .f32 :=
  Host.divf (runs (forgets (Host.negf (logits p f)))) (broadcastInDim S32x2048x128 ![] bcast_S_S32x2048x128 (Host.log (constant S_ .f32 0x40000000#32)))

theorem cums_at (x g w f) (b : Fin 32) (t : Fin 2048) (l : Fin 128) : cums (joined x g w) f (ix3 b t l) = outC x g w f b t l := by
  unfold cums outC
  refine Eq.trans (b := Ideal.div (runs (forgets (Host.negf (logits (joined x g w) f))) (ix3 b t l)) (Ideal.log (Ideal.ofBits .f32 0x40000000#32)))
    (by generalize runs (forgets (Host.negf (logits (joined x g w) f))) = y; pointwise) ?_
  rw [Fox.log_two, Ideal.div_coe log_pos, one_div, runs_at]
  refine congrArg₂ (· * ·) (congrArg (fun F => total F t.val) (funext fun s => (forgets_at _ b s l).trans ?_)) rfl
  unfold forget
  refine congrArg (fun z => 0 - soft z) ?_
  rw [zero_sub, ← logits_at]
  rfl

/-- The gated half's input and its gelu. -/
noncomputable def geluing (y : FVec Ideal S32x2048x1024 .f32) : FVec Ideal S32x2048x1024 .f32 :=
  mulf y (mulf (broadcastInDim S32x2048x1024 ![] bcast_S_S32x2048x1024 (constant S_ .f32 0x3F000000#32)) (addf (broadcastInDim S32x2048x1024 ![] bcast_S_S32x2048x1024 (constant S_ .f32 0x3F800000#32))
    (Host.tanh (mulf (broadcastInDim S32x2048x1024 ![] bcast_S_S32x2048x1024 (constant S_ .f32 0x3F4C422A#32)) (addf y (mulf (broadcastInDim S32x2048x1024 ![] bcast_S_S32x2048x1024 (constant S_ .f32 0x3D372713#32)) (mulf (mulf y y) y)))))))

theorem geluing_at (y) (b : Fin 32) (t : Fin 2048) (j : Fin 1024) : geluing y (ix3 b t j) = gelu (y (ix3 b t j)) := by
  unfold geluing gelu
  pointwise
  rw [mul_assoc (y (ix3 b t j)) (y (ix3 b t j)) (y (ix3 b t j))]

noncomputable def zeds (p : FVec Ideal S32x2048x2568 .f32) : FVec Ideal S32x2048x1024 .f32 :=
  geluing (extractStridedSlice S32x2048x1024 ![0, 0, 1544] p slices_S32x2048x2568_S32x2048x1024_0_0_1544)

theorem zeds_at (x g w) (b : Fin 32) (t : Fin 2048) (j : Fin 1024) : zeds (joined x g w) (ix3 b t j)
    = zed (fun e => x (ix3 b t e)) (fun e => g (ix1 e)) (fun e j => w (ix2 e j)) j := by
  unfold zeds zed
  refine (geluing_at _ b t j).trans (congrArg gelu ?_)
  rw [← joined_at]
  generalize joined x g w = p
  pointwise

/-- Rows of 512 about their means, and normed. -/
noncomputable def about (v : FVec Ideal S32x2048x512 .f32) : FVec Ideal S32x2048x512 .f32 :=
  subf v (broadcastInDim S32x2048x512 ![0, 1, 2] bcast_S32x2048x1_S32x2048x512_0_1_2 (Host.divf (broadcastInDim S32x2048x1 ![0, 1] bcast_S32x2048_S32x2048x1_0_1
    (Host.reduceAdd v (constant S_ .f32 0x00000000#32) reducesTo_S32x2048x512_S32x2048_d2 h_S_)) (broadcastInDim S32x2048x1 ![] bcast_S_S32x2048x1 (constant S_ .f32 0x44000000#32))))

theorem about_at (v) (b : Fin 32) (t : Fin 2048) (L : Fin 512) : about v (ix3 b t L) = v (ix3 b t L) - mean512 (fun L => v (ix3 b t L)) := by
  unfold about mean512
  pointwise

noncomputable def layered (v : FVec Ideal S32x2048x512 .f32) (lg lb : FVec Ideal S512 .f32) : FVec Ideal S32x2048x512 .f32 :=
  addf (mulf (mulf (about v) (broadcastInDim S32x2048x512 ![0, 1, 2] bcast_S32x2048x1_S32x2048x512_0_1_2 (Host.rsqrt (addf (Host.divf
    (broadcastInDim S32x2048x1 ![0, 1] bcast_S32x2048_S32x2048x1_0_1 (Host.reduceAdd (mulf (about v) (about v)) (constant S_ .f32 0x00000000#32) reducesTo_S32x2048x512_S32x2048_d2 h_S_))
    (broadcastInDim S32x2048x1 ![] bcast_S_S32x2048x1 (constant S_ .f32 0x44000000#32))) (broadcastInDim S32x2048x1 ![] bcast_S_S32x2048x1 (constant S_ .f32 0x358637BD#32))))))
    (broadcastInDim S32x2048x512 ![0, 1, 2] bcast_S1x1x512_S32x2048x512_0_1_2 (broadcastInDim S1x1x512 ![2] bcast_S512_S1x1x512_2 lg)))
    (broadcastInDim S32x2048x512 ![0, 1, 2] bcast_S1x1x512_S32x2048x512_0_1_2 (broadcastInDim S1x1x512 ![2] bcast_S512_S1x1x512_2 lb))

theorem layered_at (v lg lb) (b : Fin 32) (t : Fin 2048) (L : Fin 512) : layered v lg lb (ix3 b t L)
    = EvenIn.normed (fun L => v (ix3 b t L)) (fun i => lg (ix1 i)) (fun i => lb (ix1 i)) L := by
  unfold layered EvenIn.normed
  pointwise
  simp only [about_at]
  rfl

noncomputable def sides (y : FVec Ideal S32x2048x1024 .f32) (lg lb : FVec Ideal S512 .f32) : FVec Ideal S32x2048x512 .f32 :=
  layered (extractStridedSlice S32x2048x512 ![0, 0, 512] y slices_S32x2048x1024_S32x2048x512_0_0_512) lg lb

theorem sides_at (x g w lg lb) (b : Fin 32) (t : Fin 2048) (L : Fin 512) : sides (zeds (joined x g w)) lg lb (ix3 b t L)
    = side (fun e => x (ix3 b t e)) (fun e => g (ix1 e)) (fun e j => w (ix2 e j)) (fun i => lg (ix1 i)) (fun i => lb (ix1 i)) L := by
  unfold sides side
  refine (layered_at _ lg lb b t L).trans (congrArg (fun v => EvenIn.normed v (fun i => lg (ix1 i)) (fun i => lb (ix1 i)) L) (funext fun L => ?_))
  rw [← zeds_at]
  generalize zeds (joined x g w) = y
  pointwise

/-- The lower triangle of every group's weights. -/
noncomputable def lowers (w : FVec Ideal S8x128x128 .f32) : FVec Ideal S8x128x128 .f32 :=
  mulf w (broadcastInDim S8x128x128 ![0, 1, 2] bcast_S1x128x128_S8x128x128_0_1_2 (broadcastInDim S1x128x128 ![1, 2] bcast_S128x128_S1x128x128_1_2
    (select (cmpi .sge (addi (iotaInDim S128x128 32 0) (broadcastInDim S128x128 ![] bcast_S_S128x128 (constantI S_ 32 0#32))) (iotaInDim S128x128 32 1))
      (broadcastInDim S128x128 ![] bcast_S_S128x128 (constant S_ .f32 0x3F800000#32)) (broadcastInDim S128x128 ![] bcast_S_S128x128 (constant S_ .f32 0x00000000#32)))))

theorem lowers_at (w) (g : Fin 8) (r k : Fin 128) : lowers w (ix3 g r k) = if k.val ≤ r.val then w (ix3 g r k) else 0 := by
  unfold lowers
  pointwise
  rw [show IntOp.addi (BitVec.ofNat 32 r.val) 0#32 = BitVec.ofNat 32 r.val from BitVec.add_zero _]
  unfold Scalar.select
  exact if_congr (WordCmp.cmpi_sge_ofNat_eq_one_iff (a := r.val) (b := k.val) (w := 32) (by omega) (by omega)) rfl rfl

/-- The mix of every token's 128 with its bias, by chunk and group. -/
noncomputable def mixes (v : FVec Ideal S32x16x128x8x64 .f32) (w : FVec Ideal S8x128x128 .f32) (bs : FVec Ideal S8x128 .f32) : FVec Ideal S32x16x128x8x64 .f32 :=
  addf (transpose S32x16x128x8x64 [1, 2, 4, 0, 3] (Host.dotGeneral dot_S32x16x128x8x64_S8x128x128_S8x32x16x64x128_2_2_014_1_3_0 none v w) transposes_S8x32x16x64x128_S32x16x128x8x64_1_2_4_0_3)
    (broadcastInDim S32x16x128x8x64 ![0, 1, 2, 3, 4] bcast_S1x1x128x8x1_S32x16x128x8x64_0_1_2_3_4 (broadcastInDim S1x1x128x8x1 ![2, 3, 4] bcast_S128x8x1_S1x1x128x8x1_2_3_4
      (broadcastInDim S128x8x1 ![0, 1] bcast_S128x8_S128x8x1_0_1 (transpose S128x8 [1, 0] bs transposes_S8x128_S128x8_1_0))))

theorem mixes_at (v w bs) (b : Fin 32) (n : Fin 16) (r : Fin 128) (g : Fin 8) (d : Fin 64) : mixes v w bs (ix5 b n r g d)
    = (∑ k : Fin 128, w (ix3 g r k) * v (ix5 b n k g d)) + bs (ix2 g r) := by
  unfold mixes
  pointwise
  exact congrArg (· + bs (ix2 g r)) (Finset.sum_congr rfl fun k _ => mul_comm _ _)

theorem cut_at (v : FVec Ideal S32x2048x512 .f32) (b : Fin 32) (n : Fin 16) (r : Fin 128) (g : Fin 8) (d : Fin 64) :
    (shapeCast S32x16x128x8x64 v shapeCasts_S32x2048x512_S32x16x128x8x64 : FVec Ideal S32x16x128x8x64 .f32) (ix5 b n r g d)
      = v (ix3 b ⟨n.val * 128 + r.val, by omega⟩ ⟨g.val * 64 + d.val, by omega⟩) := by
  pointwise

theorem join_at (v : FVec Ideal S32x16x128x8x64 .f32) (b : Fin 32) (t : Fin 2048) (L : Fin 512) :
    (shapeCast S32x2048x512 v shapeCasts_S32x16x128x8x64_S32x2048x512 : FVec Ideal S32x2048x512 .f32) (ix3 b t L)
      = v (ix5 b ⟨t.val / 128, by omega⟩ ⟨t.val % 128, by omega⟩ ⟨L.val / 64, by omega⟩ ⟨L.val % 64, by omega⟩) := by
  pointwise

/-- The gated mix. -/
noncomputable def gates (y : FVec Ideal S32x2048x1024 .f32) (v : FVec Ideal S32x2048x512 .f32) (w : FVec Ideal S8x128x128 .f32) (bs : FVec Ideal S8x128 .f32) : FVec Ideal S32x2048x512 .bf16 :=
  truncf .bf16 (mulf (extractStridedSlice S32x2048x512 ![0, 0, 0] y slices_S32x2048x1024_S32x2048x512_0_0_0)
    (shapeCast S32x2048x512 (mixes (shapeCast S32x16x128x8x64 v shapeCasts_S32x2048x512_S32x16x128x8x64) (lowers w) bs) shapeCasts_S32x16x128x8x64_S32x2048x512)) bitsLt_bf16_f32

theorem gates_at (x g w lg lb ws bs) (b : Fin 32) (t : Fin 2048) (L : Fin 512) :
    gates (zeds (joined x g w)) (sides (zeds (joined x g w)) lg lb) ws bs (ix3 b t L) = outA x g w lg lb ws bs b t L := by
  unfold gates outA gate
  rw [← zeds_at]
  refine congrArg₂ (· * ·) ?_ ((join_at _ b t L).trans ((mixes_at _ _ _ _ _ _ _ _).trans (congrArg (· + _) (Finset.sum_congr rfl fun k _ => ?_))))
  · generalize zeds (joined x g w) = y
    pointwise
  · rw [lowers_at, cut_at, ← sides_at]
    have h1 : (⟨t.val / 128 * 128 + k.val, by omega⟩ : Fin 2048) = ⟨128 * (t.val / 128) + k.val, by omega⟩ := Fin.ext (by show t.val / 128 * 128 + k.val = 128 * (t.val / 128) + k.val; omega)
    have h2 : (⟨L.val / 64 * 64 + L.val % 64, by omega⟩ : Fin 512) = L := Fin.ext (by show L.val / 64 * 64 + L.val % 64 = L.val; omega)
    exact congrArg₂ (fun t L => _ * sides (zeds (joined x g w)) lg lb (ix3 b t L)) h1 h2

section Results
variable (x : FVec Ideal S32x2048x1024 .f32) (g : FVec Ideal S1024 .f32) (w : FVec Ideal S1024x2568 .f32) (f : FVec Ideal S8 .f32) (lg lb : FVec Ideal S512 .f32)
  (ws : FVec Ideal S8x128x128 .f32) (bs : FVec Ideal S8x128 .f32)

theorem value_q : queries (joined x g w) = fun i => outQ x g w (i 0) (i 1) (i 2) := by
  funext i
  obtain ⟨b, j, t, rfl⟩ := three (a := 32) (b := 512) (n := 2048) i
  exact (queries_at _ b j t).trans (congrArg (· * turn) (joined_at x g w b t _))

theorem value_k : keys (joined x g w) = fun i => outK x g w (i 0) (i 1) (i 2) := by
  funext i
  obtain ⟨b, t, j, rfl⟩ := three (a := 32) (b := 2048) (n := 512) i
  exact (keys_at _ b t j).trans (joined_at x g w b t _)

theorem value_v : vals (joined x g w) = fun i => outV x g w (i 0) (i 1) (i 2) := by
  funext i
  obtain ⟨b, j, t, rfl⟩ := three (a := 32) (b := 512) (n := 2048) i
  exact (vals_at _ b j t).trans (joined_at x g w b t _)

theorem value_c : cums (joined x g w) f = fun i => outC x g w f (i 0) (i 1) (i 2) := by
  funext i
  obtain ⟨b, t, l, rfl⟩ := three (a := 32) (b := 2048) (n := 128) i
  exact cums_at x g w f b t l

theorem value_a : gates (zeds (joined x g w)) (sides (zeds (joined x g w)) lg lb) ws bs = fun i => outA x g w lg lb ws bs (i 0) (i 1) (i 2) := by
  funext i
  obtain ⟨b, t, L, rfl⟩ := three (a := 32) (b := 2048) (n := 512) i
  exact gates_at x g w lg lb ws bs b t L

end Results

variable (m : (ℓ : Loc nD τ sig) → Buf (Elt Ideal) ℓ) (c : Dev nD)

theorem cum_eq : res_main_v88 m c = cums (joined (m ((c.tc : Thread nD τ).loc main_arg0)) (m ((c.tc : Thread nD τ).loc main_arg1)) (m ((c.tc : Thread nD τ).loc main_arg2))) (m ((c.tc : Thread nD τ).loc main_arg3)) := rfl

theorem gate_eq : res_main_v89 m c = gates (zeds (joined (m ((c.tc : Thread nD τ).loc main_arg0)) (m ((c.tc : Thread nD τ).loc main_arg1)) (m ((c.tc : Thread nD τ).loc main_arg2))))
    (sides (zeds (joined (m ((c.tc : Thread nD τ).loc main_arg0)) (m ((c.tc : Thread nD τ).loc main_arg1)) (m ((c.tc : Thread nD τ).loc main_arg2)))) (m ((c.tc : Thread nD τ).loc main_arg4)) (m ((c.tc : Thread nD τ).loc main_arg5)))
    (m ((c.tc : Thread nD τ).loc main_arg6)) (m ((c.tc : Thread nD τ).loc main_arg7)) := rfl

end Cert.Layer.EvenInRef
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_finite
public import proofs.«01_k».proof.Proof.Gen.FfnFinal
public import proofs.«01_k».proof.Proof.Gen.FfnFinal.Skeleton
public import proofs.«01_k».proof.Proof.Gen.FfnFinal.Launch
public import proofs.«01_k».proof.Proof.Gen.FfnFinal.Points
public import proofs.«01_k».proof.Proof.Gen.FfnFinal.Frame
public import proofs.«01_k».proof.Proof.Gen.FfnFinalIdeal
public import proofs.«01_k».proof.Proof.Gen.FfnFinalIdeal.Skeleton
public import proofs.«01_k».proof.Proof.Gen.FfnFinalIdeal.Launch
public import proofs.«01_k».proof.Proof.Gen.FfnFinalIdeal.Points
public import proofs.«01_k».proof.Proof.Gen.FfnFinalIdeal.Frame
public import proofs.«01_k».proof.Proof.Gen.FfnFinalIdeal.Value
public import proofs.«01_k».proof.Proof.Gen.FfnFinalRefIdeal
public import proofs.«01_k».proof.Proof.Gen.FfnFinalRefIdeal.Run
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.Xattn
public import proofs.«01_k».proof.Proof.Gen.Xattn.Skeleton
public import proofs.«01_k».proof.Proof.Gen.Xattn.Launch
public import proofs.«01_k».proof.Proof.Gen.Xattn.Points
public import proofs.«01_k».proof.Proof.Gen.Xattn.Frame
public import proofs.«01_k».proof.Proof.Gen.XattnIdeal
public import proofs.«01_k».proof.Proof.Gen.XattnIdeal.Skeleton
public import proofs.«01_k».proof.Proof.Gen.XattnIdeal.Launch
public import proofs.«01_k».proof.Proof.Gen.XattnIdeal.Points
public import proofs.«01_k».proof.Proof.Gen.XattnIdeal.Frame
public import proofs.«01_k».proof.Proof.Gen.XattnIdeal.Value
public import proofs.«01_k».proof.Proof.Gen.XattnRefIdeal
public import proofs.«01_k».proof.Proof.Gen.XattnRefIdeal.Run
public import proofs.«01_k».proof.Proof.Gen.MixXattn
public import proofs.«01_k».proof.Proof.Gen.MixXattn.Skeleton
public import proofs.«01_k».proof.Proof.Gen.MixXattn.Launch
public import proofs.«01_k».proof.Proof.Gen.MixXattn.Points
public import proofs.«01_k».proof.Proof.Gen.MixXattn.Frame
public import proofs.«01_k».proof.Proof.Gen.MixXattnIdeal
public import proofs.«01_k».proof.Proof.Gen.MixXattnIdeal.Skeleton
public import proofs.«01_k».proof.Proof.Gen.MixXattnIdeal.Launch
public import proofs.«01_k».proof.Proof.Gen.MixXattnIdeal.Points
public import proofs.«01_k».proof.Proof.Gen.MixXattnIdeal.Frame
public import proofs.«01_k».proof.Proof.Gen.MixXattnIdeal.Value
public import proofs.«01_k».proof.Proof.Gen.MixXattnRefIdeal
public import proofs.«01_k».proof.Proof.Gen.MixXattnRefIdeal.Run
public import proofs.«01_k».proof.Proof.Gen.EvenIn
public import proofs.«01_k».proof.Proof.Gen.EvenIn.Skeleton
public import proofs.«01_k».proof.Proof.Gen.EvenIn.Launch
public import proofs.«01_k».proof.Proof.Gen.EvenIn.Points
public import proofs.«01_k».proof.Proof.Gen.EvenIn.Frame
public import proofs.«01_k».proof.Proof.Gen.EvenInIdeal
public import proofs.«01_k».proof.Proof.Gen.EvenInIdeal.Skeleton
public import proofs.«01_k».proof.Proof.Gen.EvenInIdeal.Launch
public import proofs.«01_k».proof.Proof.Gen.EvenInIdeal.Points
public import proofs.«01_k».proof.Proof.Gen.EvenInIdeal.Frame
public import proofs.«01_k».proof.Proof.Gen.EvenInIdeal.Value
public import proofs.«01_k».proof.Proof.Gen.EvenInRefIdeal
public import proofs.«01_k».proof.Proof.Gen.EvenInRefIdeal.Run
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvIdeal.Value
public import proofs.«01_k».proof.Proof.Gen.MemKvRefIdeal
public import proofs.«01_k».proof.Proof.Gen.MemKvRefIdeal.Run
public import proofs.«01_k».proof.Proof.Fox.RefValue
public import proofs.«01_k».proof.Proof.Fox.Finite
public import proofs.«01_k».proof.Proof.Layer.FfnFinal
public import proofs.«01_k».proof.Proof.Layer.Ffn
public import proofs.«01_k».proof.Proof.Layer.Xattn
public import proofs.«01_k».proof.Proof.Layer.MixXattn
public import proofs.«01_k».proof.Proof.Layer.CrossRef
public import proofs.«01_k».proof.Proof.Layer.MemKv
public import proofs.«01_k».proof.Proof.Layer.MemKvRef
public import proofs.«01_k».proof.Proof.Layer.Conv
public import proofs.«01_k».proof.Proof.Layer.ConvRef
public import proofs.«01_k».proof.Proof.Layer.FfnRef
public import proofs.«01_k».proof.Proof.Layer.EvenIn
public import proofs.«01_k».proof.Proof.Layer.EvenInRef
public import Idealize.ShloMosaic.Adequacy
public import Idealize.ShloMosaic.Init

@[expose] public section

noncomputable section

namespace Cert.Proof

open Idealize.ShloMosaic Idealize.SL.Sem Cert.Kernel

theorem algebraic : haveI := Cert.KernelIdeal.Gen.facts; haveI := Cert.ReferenceIdeal.Gen.facts; haveI := Cert.Pre_finite.Gen.facts
    Cert.algebraic_KernelIdeal_ReferenceIdeal_pre_finite := by
  intro m g m' g' pre args
  refine ⟨fun c => fun i => Cert.Fox.attention (Cert.Fox.aQ m c) (Cert.Fox.aK m c) (Cert.Fox.aV m c) (Cert.Fox.aC m c) (i 0) (i 1) (i 2), ?_, ?_⟩
  · run_from Cert.KernelIdeal.Value.run_blocks m g
    obtain ⟨hq, hk, hc⟩ := Cert.Fox.of_fn _ _ _ _ (pre c)
    exact Cert.Fox.final m c hq hk hc
  · run_from Cert.ReferenceIdeal.Value.run m' g'
    obtain ⟨hq, hk, hc⟩ := Cert.Fox.of_fn _ _ _ _ (pre c)
    obtain ⟨h0, h1, h2, h3⟩ := args c
    refine (Cert.Fox.ref_eq m' c).trans ?_
    rw [h0, h1, h2, h3]
    exact Cert.Fox.ref_value _ _ _ _ hq hk hc

theorem frame_ref (m) (ρ) : θ_run (Cert.ReferenceIdeal.defs (F := Ideal)) (onTc (τ := Cert.ReferenceIdeal.τ) (Cert.ReferenceIdeal.main (F := Ideal)))
    ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2, sem_eq_zero_of_no_sems (by decide) r.2⟩)
    (Cert.ReferenceIdeal.Value.run m ρ)

theorem ffn_final : haveI := Cert.FfnFinalIdeal.Gen.facts; haveI := Cert.FfnFinalRefIdeal.Gen.facts
    Cert.algebraic_FfnFinalIdeal_FfnFinalRefIdeal := by
  intro m g m' g' _ args
  refine ⟨fun c => fun i => Cert.Layer.feedNormed (Cert.Layer.Final.aX m c) (Cert.Layer.Final.aG m c) (Cert.Layer.Final.aW m c)
    (Cert.Layer.Final.aD m c) (Cert.Layer.Final.aF m c) (i 0) (i 1) (i 2), ?_, ?_⟩
  · run_from Cert.FfnFinalIdeal.Value.run_blocks m g
    exact Cert.Layer.Final.final m c
  · run_from Cert.FfnFinalRefIdeal.Value.run m' g'
    obtain ⟨h0, h1, h2, h3, h4⟩ := args c
    refine (Cert.Layer.layer_eq m' c).trans ?_
    rw [h0, h1, h2, h3, h4]
    exact Cert.Layer.final_value _ _ _ _ _

theorem ffn : haveI := Cert.FfnIdeal.Gen.facts; haveI := Cert.FfnRefIdeal.Gen.facts
    Cert.algebraic_FfnIdeal_FfnRefIdeal := by
  intro m g m' g' _ args
  refine ⟨fun c => fun i => Cert.Layer.feed (Cert.Layer.First.aX m c) (Cert.Layer.First.aG m c) (Cert.Layer.First.aW m c)
    (Cert.Layer.First.aD m c) (i 0) (i 1) (i 2), ?_, ?_⟩
  · run_from Cert.FfnIdeal.Value.run_blocks m g
    exact Cert.Layer.First.final m c
  · run_from Cert.FfnRefIdeal.Value.run m' g'
    obtain ⟨h0, h1, h2, h3, h4⟩ := args c
    rw [h0, h1, h2, h3]
    exact Cert.Layer.first_value _ _ _ _

theorem xattn : haveI := Cert.XattnIdeal.Gen.facts; haveI := Cert.XattnRefIdeal.Gen.facts
    Cert.algebraic_XattnIdeal_XattnRefIdeal := by
  intro m g m' g' _ args
  refine ⟨fun c => Cert.Layer.CrossRef.attended (Cert.Layer.Xattn.aX m c) (Cert.Layer.Xattn.aG m c) (Cert.Layer.Xattn.aQ m c)
    (Cert.Layer.Xattn.aK m c) (Cert.Layer.Xattn.aV m c) (Cert.Layer.Xattn.aO m c), ?_, ?_⟩
  · run_from Cert.XattnIdeal.Value.run_blocks m g
    exact (Cert.Layer.Xattn.final m c).trans (Cert.Layer.CrossRef.value _ _ _ _ _ _).symm
  · run_from Cert.XattnRefIdeal.Value.run m' g'
    obtain ⟨h0, h1, h2, h3, h4, h5⟩ := args c
    refine (Cert.Layer.CrossRef.value_eq m' c).trans ?_
    rw [h0, h1, h2, h3, h4, h5]

theorem mix_xattn : haveI := Cert.MixXattnIdeal.Gen.facts; haveI := Cert.MixXattnRefIdeal.Gen.facts
    Cert.algebraic_MixXattnIdeal_MixXattnRefIdeal := by
  intro m g m' g' _ args
  refine ⟨fun c => Cert.Layer.CrossRef.attended (Cert.Layer.CrossRef.joinedMix (Cert.Layer.Mix.aX m c) (Cert.Layer.Mix.aB m c) (Cert.Layer.Mix.aA m c)
    (Cert.Layer.Mix.aW m c)) (Cert.Layer.Mix.aG m c) (Cert.Layer.Mix.aQ m c) (Cert.Layer.Mix.aK m c) (Cert.Layer.Mix.aV m c) (Cert.Layer.Mix.aO m c), ?_, ?_⟩
  · run_from Cert.MixXattnIdeal.Value.run_blocks m g
    exact (Cert.Layer.Mix.final m c).trans (Cert.Layer.CrossRef.mix_value _ _ _ _ _ _ _ _ _).symm
  · run_from Cert.MixXattnRefIdeal.Value.run m' g'
    obtain ⟨h0, h1, h2, h3, h4, h5, h6, h7, h8⟩ := args c
    refine (Cert.Layer.CrossRef.mix_eq m' c).trans ?_
    rw [h0, h1, h2, h3, h4, h5, h6, h7, h8]

theorem mem_kv : haveI := Cert.MemKvIdeal.Gen.facts; haveI := Cert.MemKvRefIdeal.Gen.facts
    Cert.algebraic_MemKvIdeal_MemKvRefIdeal := by
  intro m g m' g' _ args
  refine ⟨fun c => fun i => Cert.Layer.project (Cert.Layer.Memory.aM m c) (Cert.Layer.Memory.aG m c) (Cert.Layer.Memory.aW m c) (i 0) (i 1) (i 3) (Cert.Layer.keyLane (i 2)),
    fun c => fun i => Cert.Layer.project (Cert.Layer.Memory.aM m c) (Cert.Layer.Memory.aG m c) (Cert.Layer.Memory.aW m c) (i 0) (i 1) (i 2) (Cert.Layer.valueLane (i 3)), ?_, ?_⟩
  · run_from Cert.MemKvIdeal.Value.run_blocks m g
    · exact Cert.Layer.Memory.keys_final m c
    · exact Cert.Layer.Memory.vals_final m c
  · run_from Cert.MemKvRefIdeal.Value.run m' g'
    · obtain ⟨h0, h1, h2⟩ := args c
      rw [h0, h1, h2]
      exact Cert.Layer.MemoryRef.keys_value _ _ _
    · obtain ⟨h0, h1, h2⟩ := args c
      rw [h0, h1, h2]
      exact Cert.Layer.MemoryRef.vals_value _ _ _

theorem conv : haveI := Cert.ConvIdeal.Gen.facts; haveI := Cert.ConvRefIdeal.Gen.facts
    Cert.algebraic_ConvIdeal_ConvRefIdeal := by
  intro m g m' g' _ args
  refine ⟨fun c => fun i => Cert.Layer.Conv.result m c (i 0) (i 1) (i 2), ?_, ?_⟩
  · run_from Cert.ConvIdeal.Value.run_blocks m g
    exact Cert.Layer.Conv.final m c
  · run_from Cert.ConvRefIdeal.Value.run m' g'
    obtain ⟨h0, h1, h2, h3, h4, h5, h6, h7, h8, h9⟩ := args c
    refine (Cert.Layer.ConvRef.result_eq m' c).trans ?_
    rw [h0, h1, h2, h3, h4, h5, h6, h7, h8, h9]
    exact Cert.Layer.ConvRef.value _ _ _ _ _ _ _ _ _ _

theorem even_preserves : Cert.preserves_EvenIn_EvenInIdeal :=
  ⟨IdealRules.named_const.statement Cert.EvenInIdeal.κ "log2_e" .f32 0x3FB8AA3B#32 (((Real.log 2)⁻¹ : ℝ) : EReal) rfl,
    IdealRules.named_const.statement Cert.EvenInIdeal.κ "scale" .f32 0x3E38AA3B#32 (((1 / 8) * (Real.log 2)⁻¹ : ℝ) : EReal) rfl⟩

theorem even_in : haveI := Cert.EvenInIdeal.Gen.facts; haveI := Cert.EvenInRefIdeal.Gen.facts
    Cert.algebraic_EvenInIdeal_EvenInRefIdeal := by
  intro m g m' g' _ args
  refine ⟨fun c => fun i => Cert.Layer.EvenIn.outQ (Cert.Layer.EvenIn.aX m c) (Cert.Layer.EvenIn.aG m c) (Cert.Layer.EvenIn.aW m c) (i 0) (i 1) (i 2),
    fun c => fun i => Cert.Layer.EvenIn.outK (Cert.Layer.EvenIn.aX m c) (Cert.Layer.EvenIn.aG m c) (Cert.Layer.EvenIn.aW m c) (i 0) (i 1) (i 2),
    fun c => fun i => Cert.Layer.EvenIn.outV (Cert.Layer.EvenIn.aX m c) (Cert.Layer.EvenIn.aG m c) (Cert.Layer.EvenIn.aW m c) (i 0) (i 1) (i 2),
    fun c => fun i => Cert.Layer.EvenIn.outC (Cert.Layer.EvenIn.aX m c) (Cert.Layer.EvenIn.aG m c) (Cert.Layer.EvenIn.aW m c) (Cert.Layer.EvenIn.aF m c) (i 0) (i 1) (i 2),
    fun c => fun i => Cert.Layer.EvenIn.outA (Cert.Layer.EvenIn.aX m c) (Cert.Layer.EvenIn.aG m c) (Cert.Layer.EvenIn.aW m c) (Cert.Layer.EvenIn.aL m c) (Cert.Layer.EvenIn.aM m c) (Cert.Layer.EvenIn.aS m c) (Cert.Layer.EvenIn.aB m c) (i 0) (i 1) (i 2), ?_, ?_⟩
  · exact (θ_run Cert.EvenInIdeal.defs _ _).mono (fun r h c => ⟨(h c).1.trans (Cert.Layer.EvenIn.final12 m c), (h c).2.1.trans (Cert.Layer.EvenIn.final13 m c), (h c).2.2.1.trans (Cert.Layer.EvenIn.final14 m c),
      (h c).2.2.2.1.trans (Cert.Layer.EvenIn.final15 m c), (h c).2.2.2.2.1.trans (Cert.Layer.EvenIn.final16 m c), (h c).2.2.2.2.2⟩) (Cert.EvenInIdeal.Value.run_blocks m g)
  · refine (θ_run Cert.EvenInRefIdeal.defs _ _).mono (fun r h c => ⟨(h c).1.trans ?_, (h c).2.1.trans ?_, (h c).2.2.1.trans ?_,
      (h c).2.2.2.1.trans ?_, (h c).2.2.2.2.1.trans ?_, (h c).2.2.2.2.2⟩) (Cert.EvenInRefIdeal.Value.run m' g')
    · obtain ⟨h0, h1, h2, h3, h4, h5, h6, h7⟩ := args c
      rw [h0, h1, h2]
      exact Cert.Layer.EvenInRef.value_q _ _ _
    · obtain ⟨h0, h1, h2, h3, h4, h5, h6, h7⟩ := args c
      rw [h0, h1, h2]
      exact Cert.Layer.EvenInRef.value_k _ _ _
    · obtain ⟨h0, h1, h2, h3, h4, h5, h6, h7⟩ := args c
      rw [h0, h1, h2]
      exact Cert.Layer.EvenInRef.value_v _ _ _
    · obtain ⟨h0, h1, h2, h3, h4, h5, h6, h7⟩ := args c
      refine (Cert.Layer.EvenInRef.cum_eq m' c).trans ?_
      rw [h0, h1, h2, h3]
      exact Cert.Layer.EvenInRef.value_c _ _ _ _
    · obtain ⟨h0, h1, h2, h3, h4, h5, h6, h7⟩ := args c
      refine (Cert.Layer.EvenInRef.gate_eq m' c).trans ?_
      rw [h0, h1, h2, h4, h5, h6, h7]
      exact Cert.Layer.EvenInRef.value_a _ _ _ _ _ _ _

theorem claim : Cert.Claim := ⟨Cert.Kernel.Gen.facts, Cert.KernelIdeal.Gen.facts, Cert.ReferenceIdeal.Gen.facts,
  Cert.FfnFinal.Gen.facts, Cert.FfnFinalIdeal.Gen.facts, Cert.FfnFinalRefIdeal.Gen.facts,
  Cert.Ffn.Gen.facts, Cert.FfnIdeal.Gen.facts, Cert.FfnRefIdeal.Gen.facts,
  Cert.Xattn.Gen.facts, Cert.XattnIdeal.Gen.facts, Cert.XattnRefIdeal.Gen.facts, Cert.MixXattn.Gen.facts, Cert.MixXattnIdeal.Gen.facts, Cert.MixXattnRefIdeal.Gen.facts, Cert.MemKv.Gen.facts, Cert.MemKvIdeal.Gen.facts, Cert.MemKvRefIdeal.Gen.facts,
  Cert.Conv.Gen.facts, Cert.ConvIdeal.Gen.facts, Cert.ConvRefIdeal.Gen.facts,
  Cert.EvenIn.Gen.facts, Cert.EvenInIdeal.Gen.facts, Cert.EvenInRefIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => frame_ref m ρ, fun m ρ _ => frame_ref m ρ,
  fun m ρ _ => Cert.FfnFinal.Gen.frame m ρ, fun m ρ _ => Cert.FfnFinalIdeal.Gen.frame m ρ,
  fun m ρ _ => (θ_run Cert.FfnFinalRefIdeal.defs _ _).mono (fun r h => ⟨fun c => (h c).2, sem_eq_zero_of_no_sems (by decide) r.2⟩)
    (Cert.FfnFinalRefIdeal.Value.run m ρ),
  fun m ρ _ => Cert.Ffn.Gen.frame m ρ, fun m ρ _ => Cert.FfnIdeal.Gen.frame m ρ,
  fun m ρ _ => (θ_run Cert.FfnRefIdeal.defs _ _).mono (fun r h => ⟨fun c => (h c).2, sem_eq_zero_of_no_sems (by decide) r.2⟩)
    (Cert.FfnRefIdeal.Value.run m ρ),
  fun m ρ _ => Cert.Xattn.Gen.frame m ρ, fun m ρ _ => Cert.XattnIdeal.Gen.frame m ρ,
  fun m ρ _ => (θ_run Cert.XattnRefIdeal.defs _ _).mono (fun r h => ⟨fun c => (h c).2, sem_eq_zero_of_no_sems (by decide) r.2⟩)
    (Cert.XattnRefIdeal.Value.run m ρ),
  fun m ρ _ => Cert.MixXattn.Gen.frame m ρ, fun m ρ _ => Cert.MixXattnIdeal.Gen.frame m ρ,
  fun m ρ _ => (θ_run Cert.MixXattnRefIdeal.defs _ _).mono (fun r h => ⟨fun c => (h c).2, sem_eq_zero_of_no_sems (by decide) r.2⟩)
    (Cert.MixXattnRefIdeal.Value.run m ρ),
  fun m ρ _ => Cert.MemKv.Gen.frame m ρ, fun m ρ _ => Cert.MemKvIdeal.Gen.frame m ρ,
  fun m ρ _ => (θ_run Cert.MemKvRefIdeal.defs _ _).mono (fun r h => ⟨fun c => (h c).2.2, sem_eq_zero_of_no_sems (by decide) r.2⟩)
    (Cert.MemKvRefIdeal.Value.run m ρ),
  fun m ρ _ => Cert.Conv.Gen.frame m ρ, fun m ρ _ => Cert.ConvIdeal.Gen.frame m ρ,
  fun m ρ _ => (θ_run Cert.ConvRefIdeal.defs _ _).mono (fun r h => ⟨fun c => (h c).2, sem_eq_zero_of_no_sems (by decide) r.2⟩)
    (Cert.ConvRefIdeal.Value.run m ρ),
  fun m ρ _ => Cert.EvenIn.Gen.frame m ρ, fun m ρ _ => Cert.EvenInIdeal.Gen.frame m ρ,
  fun m ρ _ => (θ_run Cert.EvenInRefIdeal.defs _ _).mono (fun r h => ⟨fun c => (h c).2.2.2.2.2, sem_eq_zero_of_no_sems (by decide) r.2⟩)
    (Cert.EvenInRefIdeal.Value.run m ρ),
  trivial, algebraic, trivial, ffn_final, trivial, ffn, trivial, xattn, trivial, mix_xattn, trivial, mem_kv, trivial, conv, even_preserves, even_in⟩

end Cert.Proof

end
